-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Weight (m : (ℓ : Loc Cert.Weight.nD Cert.Weight.τ Cert.Weight.sig) → Buf (Elt Bits) ℓ) : Prop :=
  True

def Pre_WeightIdeal (m : (ℓ : Loc Cert.WeightIdeal.nD Cert.WeightIdeal.τ Cert.WeightIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_finite_act [hPre_finite_act : Cert.Pre_finite_act.Facts] (m : (ℓ : Loc Cert.ActIdeal.nD Cert.ActIdeal.τ Cert.ActIdeal.sig) → Buf (Elt Ideal) ℓ) : Prop :=
  ∀ c : Dev Cert.ActIdeal.nD,
    (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))) = (fun _ => 1#1)

def Pre_ActReferenceIdeal (m : (ℓ : Loc Cert.ActReferenceIdeal.nD Cert.ActReferenceIdeal.τ Cert.ActReferenceIdeal.sig) → Buf (Elt Ideal) ℓ) : Prop :=
  True

def Pre_ActReferenceIdeal_finite_act [hPre_finite_act : Cert.Pre_finite_act.Facts] (m : (ℓ : Loc Cert.ActReferenceIdeal.nD Cert.ActReferenceIdeal.τ Cert.ActReferenceIdeal.sig) → Buf (Elt Ideal) ℓ) : Prop :=
  ∀ c : Dev Cert.ActReferenceIdeal.nD,
    (Cert.Pre_finite_act.fn (F := Ideal) (m ((c.tc : Thread Cert.ActReferenceIdeal.nD Cert.ActReferenceIdeal.τ).loc Cert.ActReferenceIdeal.main_arg0)) (m ((c.tc : Thread Cert.ActReferenceIdeal.nD Cert.ActReferenceIdeal.τ).loc Cert.ActReferenceIdeal.main_arg1)) (m ((c.tc : Thread Cert.ActReferenceIdeal.nD Cert.ActReferenceIdeal.τ).loc Cert.ActReferenceIdeal.main_arg2)) (m ((c.tc : Thread Cert.ActReferenceIdeal.nD Cert.ActReferenceIdeal.τ).loc Cert.ActReferenceIdeal.main_arg3))) = (fun _ => 1#1)

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsReferenceIdeal (m : (ℓ : Loc Cert.RowsReferenceIdeal.nD Cert.RowsReferenceIdeal.τ Cert.RowsReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_ResidualReferenceIdeal (m : (ℓ : Loc Cert.ResidualReferenceIdeal.nD Cert.ResidualReferenceIdeal.τ Cert.ResidualReferenceIdeal.sig) → Buf (Elt Ideal) ℓ) : Prop :=
  True

def Pre_InRows (m : (ℓ : Loc Cert.InRows.nD Cert.InRows.τ Cert.InRows.sig) → Buf (Elt Bits) ℓ) : Prop :=
  True

def Pre_InRowsIdeal (m : (ℓ : Loc Cert.InRowsIdeal.nD Cert.InRowsIdeal.τ Cert.InRowsIdeal.sig) → Buf (Elt Ideal) ℓ) : Prop :=
  True

def Pre_InRowsReferenceIdeal (m : (ℓ : Loc Cert.InRowsReferenceIdeal.nD Cert.InRowsReferenceIdeal.τ Cert.InRowsReferenceIdeal.sig) → Buf (Elt Ideal) ℓ) : Prop :=
  True

def Pre_InWeight (m : (ℓ : Loc Cert.InWeight.nD Cert.InWeight.τ Cert.InWeight.sig) → Buf (Elt Bits) ℓ) : Prop :=
  True

def Pre_InWeightIdeal (m : (ℓ : Loc Cert.InWeightIdeal.nD Cert.InWeightIdeal.τ Cert.InWeightIdeal.sig) → Buf (Elt Ideal) ℓ) : Prop :=
  True

def Pre_InWeightReferenceIdeal (m : (ℓ : Loc Cert.InWeightReferenceIdeal.nD Cert.InWeightReferenceIdeal.τ Cert.InWeightReferenceIdeal.sig) → Buf (Elt Ideal) ℓ) : Prop :=
  True

def Pre_OddRows (m : (ℓ : Loc Cert.OddRows.nD Cert.OddRows.τ Cert.OddRows.sig) → Buf (Elt Bits) ℓ) : Prop :=
  True

def Pre_OddRowsIdeal (m : (ℓ : Loc Cert.OddRowsIdeal.nD Cert.OddRowsIdeal.τ Cert.OddRowsIdeal.sig) → Buf (Elt Ideal) ℓ) : Prop :=
  True

def Pre_OddRowsReferenceIdeal (m : (ℓ : Loc Cert.OddRowsReferenceIdeal.nD Cert.OddRowsReferenceIdeal.τ Cert.OddRowsReferenceIdeal.sig) → Buf (Elt Ideal) ℓ) : Prop :=
  True

def Pre_OddWeight (m : (ℓ : Loc Cert.OddWeight.nD Cert.OddWeight.τ Cert.OddWeight.sig) → Buf (Elt Bits) ℓ) : Prop :=
  True

def Pre_OddWeightIdeal (m : (ℓ : Loc Cert.OddWeightIdeal.nD Cert.OddWeightIdeal.τ Cert.OddWeightIdeal.sig) → Buf (Elt Ideal) ℓ) : Prop :=
  True

def Pre_OddWeightReferenceIdeal (m : (ℓ : Loc Cert.OddWeightReferenceIdeal.nD Cert.OddWeightReferenceIdeal.τ Cert.OddWeightReferenceIdeal.sig) → Buf (Elt Ideal) ℓ) : Prop :=
  True

def Pre_OutWeight (m : (ℓ : Loc Cert.OutWeight.nD Cert.OutWeight.τ Cert.OutWeight.sig) → Buf (Elt Bits) ℓ) : Prop :=
  True

def Pre_OutWeightIdeal (m : (ℓ : Loc Cert.OutWeightIdeal.nD Cert.OutWeightIdeal.τ Cert.OutWeightIdeal.sig) → Buf (Elt Ideal) ℓ) : Prop :=
  True

def Pre_OutWeightReferenceIdeal (m : (ℓ : Loc Cert.OutWeightReferenceIdeal.nD Cert.OutWeightReferenceIdeal.τ Cert.OutWeightReferenceIdeal.sig) → Buf (Elt Ideal) ℓ) : Prop :=
  True

def Pre_OutMix (m : (ℓ : Loc Cert.OutMix.nD Cert.OutMix.τ Cert.OutMix.sig) → Buf (Elt Bits) ℓ) : Prop :=
  True

def Pre_OutMixIdeal (m : (ℓ : Loc Cert.OutMixIdeal.nD Cert.OutMixIdeal.τ Cert.OutMixIdeal.sig) → Buf (Elt Ideal) ℓ) : Prop :=
  True

def Pre_OutMixReferenceIdeal (m : (ℓ : Loc Cert.OutMixReferenceIdeal.nD Cert.OutMixReferenceIdeal.τ Cert.OutMixReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_OddMix (m : (ℓ : Loc Cert.OddMix.nD Cert.OddMix.τ Cert.OddMix.sig) → Buf (Elt Bits) ℓ) : Prop :=
  True

def Pre_OddMixIdeal (m : (ℓ : Loc Cert.OddMixIdeal.nD Cert.OddMixIdeal.τ Cert.OddMixIdeal.sig) → Buf (Elt Ideal) ℓ) : Prop :=
  True

def Pre_OddMixReferenceIdeal (m : (ℓ : Loc Cert.OddMixReferenceIdeal.nD Cert.OddMixReferenceIdeal.τ Cert.OddMixReferenceIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInReferenceIdeal (m : (ℓ : Loc Cert.EvenInReferenceIdeal.nD Cert.EvenInReferenceIdeal.τ Cert.EvenInReferenceIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInReferenceIdeal (m : (ℓ : Loc Cert.OddInReferenceIdeal.nD Cert.OddInReferenceIdeal.τ Cert.OddInReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_scores [hPre_finite_scores : Cert.Pre_finite_scores.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_scores.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3))) = (fun _ => 1#1)

def Pre_AttentionReferenceIdeal (m : (ℓ : Loc Cert.AttentionReferenceIdeal.nD Cert.AttentionReferenceIdeal.τ Cert.AttentionReferenceIdeal.sig) → Buf (Elt Ideal) ℓ) : Prop :=
  True

def Pre_AttentionReferenceIdeal_finite_scores [hPre_finite_scores : Cert.Pre_finite_scores.Facts] (m : (ℓ : Loc Cert.AttentionReferenceIdeal.nD Cert.AttentionReferenceIdeal.τ Cert.AttentionReferenceIdeal.sig) → Buf (Elt Ideal) ℓ) : Prop :=
  ∀ c : Dev Cert.AttentionReferenceIdeal.nD,
    (Cert.Pre_finite_scores.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1)) (m ((c.tc : Thread Cert.AttentionReferenceIdeal.nD Cert.AttentionReferenceIdeal.τ).loc Cert.AttentionReferenceIdeal.main_arg2)) (m ((c.tc : Thread Cert.AttentionReferenceIdeal.nD Cert.AttentionReferenceIdeal.τ).loc Cert.AttentionReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Weight [hWeight : Cert.Weight.Facts] : Prop :=
  ∀ (m : (ℓ : Loc Cert.Weight.nD Cert.Weight.τ Cert.Weight.sig) → Buf (Elt Bits) ℓ) (g : Dev Cert.Weight.nD → PrngReg), Pre_Weight m →
    θ_run (Cert.Weight.defs (F := Bits)) (onTc (τ := Cert.Weight.τ) (Cert.Weight.main (F := Bits))) ⟨m, fun _ => 0, g⟩ (fun r => (∀ c : Dev Cert.Weight.nD,
      r.2.mem ((c.tc : Thread Cert.Weight.nD Cert.Weight.τ).loc Cert.Weight.main_arg0) = m ((c.tc : Thread Cert.Weight.nD Cert.Weight.τ).loc Cert.Weight.main_arg0)
      ∧ r.2.mem ((c.tc : Thread Cert.Weight.nD Cert.Weight.τ).loc Cert.Weight.main_arg1) = m ((c.tc : Thread Cert.Weight.nD Cert.Weight.τ).loc Cert.Weight.main_arg1))
      ∧ r.2.sem = fun _ => 0)

def quiescent_WeightIdeal [hWeightIdeal : Cert.WeightIdeal.Facts] : Prop :=
  ∀ (m : (ℓ : Loc Cert.WeightIdeal.nD Cert.WeightIdeal.τ Cert.WeightIdeal.sig) → Buf (Elt Ideal) ℓ) (g : Dev Cert.WeightIdeal.nD → PrngReg), Pre_WeightIdeal m →
    θ_run (Cert.WeightIdeal.defs (F := Ideal)) (onTc (τ := Cert.WeightIdeal.τ) (Cert.WeightIdeal.main (F := Ideal))) ⟨m, fun _ => 0, g⟩ (fun r => (∀ c : Dev Cert.WeightIdeal.nD,
      r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
      ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActIdeal_pre_finite_act [hActIdeal : Cert.ActIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg), Pre_ActIdeal_finite_act m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2)
      ∧ r.2.mem ((c.tc : Thread Cert.ActReferenceIdeal.nD Cert.ActReferenceIdeal.τ).loc Cert.ActReferenceIdeal.main_arg3) = m ((c.tc : Thread Cert.ActReferenceIdeal.nD Cert.ActReferenceIdeal.τ).loc Cert.ActReferenceIdeal.main_arg3))
      ∧ r.2.sem = fun _ => 0)

def quiescent_ActReferenceIdeal_pre_finite_act [hActReferenceIdeal : Cert.ActReferenceIdeal.Facts] [hPre_finite_act : Cert.Pre_finite_act.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal_finite_act m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2)
      ∧ r.2.mem ((c.tc : Thread Cert.ActReferenceIdeal.nD Cert.ActReferenceIdeal.τ).loc Cert.ActReferenceIdeal.main_arg3) = m ((c.tc : Thread Cert.ActReferenceIdeal.nD Cert.ActReferenceIdeal.τ).loc Cert.ActReferenceIdeal.main_arg3))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1)
      ∧ r.2.mem ((c.tc : Thread Cert.Rows.nD Cert.Rows.τ).loc Cert.Rows.main_arg2) = m ((c.tc : Thread Cert.Rows.nD Cert.Rows.τ).loc Cert.Rows.main_arg2)
      ∧ r.2.mem ((c.tc : Thread Cert.Rows.nD Cert.Rows.τ).loc Cert.Rows.main_arg3) = m ((c.tc : Thread Cert.Rows.nD Cert.Rows.τ).loc Cert.Rows.main_arg3)
      ∧ r.2.mem ((c.tc : Thread Cert.Rows.nD Cert.Rows.τ).loc Cert.Rows.main_arg4) = m ((c.tc : Thread Cert.Rows.nD Cert.Rows.τ).loc Cert.Rows.main_arg4)
      ∧ r.2.mem ((c.tc : Thread Cert.Rows.nD Cert.Rows.τ).loc Cert.Rows.main_arg5) = m ((c.tc : Thread Cert.Rows.nD Cert.Rows.τ).loc Cert.Rows.main_arg5)
      ∧ r.2.mem ((c.tc : Thread Cert.Rows.nD Cert.Rows.τ).loc Cert.Rows.main_arg6) = m ((c.tc : Thread Cert.Rows.nD Cert.Rows.τ).loc Cert.Rows.main_arg6))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
      ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
      ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3)
      ∧ r.2.mem ((c.tc : Thread Cert.RowsIdeal.nD Cert.RowsIdeal.τ).loc Cert.RowsIdeal.main_arg4) = m ((c.tc : Thread Cert.RowsIdeal.nD Cert.RowsIdeal.τ).loc Cert.RowsIdeal.main_arg4)
      ∧ r.2.mem ((c.tc : Thread Cert.RowsIdeal.nD Cert.RowsIdeal.τ).loc Cert.RowsIdeal.main_arg5) = m ((c.tc : Thread Cert.RowsIdeal.nD Cert.RowsIdeal.τ).loc Cert.RowsIdeal.main_arg5)
      ∧ r.2.mem ((c.tc : Thread Cert.RowsIdeal.nD Cert.RowsIdeal.τ).loc Cert.RowsIdeal.main_arg6) = m ((c.tc : Thread Cert.RowsIdeal.nD Cert.RowsIdeal.τ).loc Cert.RowsIdeal.main_arg6))
      ∧ r.2.sem = fun _ => 0)

def quiescent_RowsReferenceIdeal [hRowsReferenceIdeal : Cert.RowsReferenceIdeal.Facts] : Prop :=
  ∀ (m : (ℓ : Loc Cert.RowsReferenceIdeal.nD Cert.RowsReferenceIdeal.τ Cert.RowsReferenceIdeal.sig) → Buf (Elt Ideal) ℓ) (g : Dev Cert.RowsReferenceIdeal.nD → PrngReg), Pre_RowsReferenceIdeal m →
    θ_run (Cert.RowsReferenceIdeal.defs (F := Ideal)) (onTc (τ := Cert.RowsReferenceIdeal.τ) (Cert.RowsReferenceIdeal.main (F := Ideal))) ⟨m, fun _ => 0, g⟩ (fun r => (∀ c : Dev Cert.RowsReferenceIdeal.nD,
      r.2.mem ((c.tc : Thread Cert.RowsReferenceIdeal.nD Cert.RowsReferenceIdeal.τ).loc Cert.RowsReferenceIdeal.main_arg0) = m ((c.tc : Thread Cert.RowsReferenceIdeal.nD Cert.RowsReferenceIdeal.τ).loc Cert.RowsReferenceIdeal.main_arg0)
      ∧ r.2.mem ((c.tc : Thread Cert.RowsReferenceIdeal.nD Cert.RowsReferenceIdeal.τ).loc Cert.RowsReferenceIdeal.main_arg1) = m ((c.tc : Thread Cert.RowsReferenceIdeal.nD Cert.RowsReferenceIdeal.τ).loc Cert.RowsReferenceIdeal.main_arg1)
      ∧ r.2.mem ((c.tc : Thread Cert.RowsReferenceIdeal.nD Cert.RowsReferenceIdeal.τ).loc Cert.RowsReferenceIdeal.main_arg2) = m ((c.tc : Thread Cert.RowsReferenceIdeal.nD Cert.RowsReferenceIdeal.τ).loc Cert.RowsReferenceIdeal.main_arg2)
      ∧ r.2.mem ((c.tc : Thread Cert.RowsReferenceIdeal.nD Cert.RowsReferenceIdeal.τ).loc Cert.RowsReferenceIdeal.main_arg3) = m ((c.tc : Thread Cert.RowsReferenceIdeal.nD Cert.RowsReferenceIdeal.τ).loc Cert.RowsReferenceIdeal.main_arg3)
      ∧ r.2.mem ((c.tc : Thread Cert.RowsReferenceIdeal.nD Cert.RowsReferenceIdeal.τ).loc Cert.RowsReferenceIdeal.main_arg4) = m ((c.tc : Thread Cert.RowsReferenceIdeal.nD Cert.RowsReferenceIdeal.τ).loc Cert.RowsReferenceIdeal.main_arg4)
      ∧ r.2.mem ((c.tc : Thread Cert.RowsReferenceIdeal.nD Cert.RowsReferenceIdeal.τ).loc Cert.RowsReferenceIdeal.main_arg5) = m ((c.tc : Thread Cert.RowsReferenceIdeal.nD Cert.RowsReferenceIdeal.τ).loc Cert.RowsReferenceIdeal.main_arg5)
      ∧ r.2.mem ((c.tc : Thread Cert.RowsReferenceIdeal.nD Cert.RowsReferenceIdeal.τ).loc Cert.RowsReferenceIdeal.main_arg6) = m ((c.tc : Thread Cert.RowsReferenceIdeal.nD Cert.RowsReferenceIdeal.τ).loc Cert.RowsReferenceIdeal.main_arg6))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_ResidualReferenceIdeal [hResidualReferenceIdeal : Cert.ResidualReferenceIdeal.Facts] : Prop :=
  ∀ (m : (ℓ : Loc Cert.ResidualReferenceIdeal.nD Cert.ResidualReferenceIdeal.τ Cert.ResidualReferenceIdeal.sig) → Buf (Elt Ideal) ℓ) (g : Dev Cert.ResidualReferenceIdeal.nD → PrngReg), Pre_ResidualReferenceIdeal m →
    θ_run (Cert.ResidualReferenceIdeal.defs (F := Ideal)) (onTc (τ := Cert.ResidualReferenceIdeal.τ) (Cert.ResidualReferenceIdeal.main (F := Ideal))) ⟨m, fun _ => 0, g⟩ (fun r => (∀ c : Dev Cert.ResidualReferenceIdeal.nD,
      r.2.mem ((c.tc : Thread Cert.ResidualReferenceIdeal.nD Cert.ResidualReferenceIdeal.τ).loc Cert.ResidualReferenceIdeal.main_arg0) = m ((c.tc : Thread Cert.ResidualReferenceIdeal.nD Cert.ResidualReferenceIdeal.τ).loc Cert.ResidualReferenceIdeal.main_arg0)
      ∧ r.2.mem ((c.tc : Thread Cert.ResidualReferenceIdeal.nD Cert.ResidualReferenceIdeal.τ).loc Cert.ResidualReferenceIdeal.main_arg1) = m ((c.tc : Thread Cert.ResidualReferenceIdeal.nD Cert.ResidualReferenceIdeal.τ).loc Cert.ResidualReferenceIdeal.main_arg1)
      ∧ r.2.mem ((c.tc : Thread Cert.ResidualReferenceIdeal.nD Cert.ResidualReferenceIdeal.τ).loc Cert.ResidualReferenceIdeal.main_arg2) = m ((c.tc : Thread Cert.ResidualReferenceIdeal.nD Cert.ResidualReferenceIdeal.τ).loc Cert.ResidualReferenceIdeal.main_arg2)
      ∧ r.2.mem ((c.tc : Thread Cert.ResidualReferenceIdeal.nD Cert.ResidualReferenceIdeal.τ).loc Cert.ResidualReferenceIdeal.main_arg3) = m ((c.tc : Thread Cert.ResidualReferenceIdeal.nD Cert.ResidualReferenceIdeal.τ).loc Cert.ResidualReferenceIdeal.main_arg3))
      ∧ r.2.sem = fun _ => 0)

def quiescent_InRows [hInRows : Cert.InRows.Facts] : Prop :=
  ∀ (m : (ℓ : Loc Cert.InRows.nD Cert.InRows.τ Cert.InRows.sig) → Buf (Elt Bits) ℓ) (g : Dev Cert.InRows.nD → PrngReg), Pre_InRows m →
    θ_run (Cert.InRows.defs (F := Bits)) (onTc (τ := Cert.InRows.τ) (Cert.InRows.main (F := Bits))) ⟨m, fun _ => 0, g⟩ (fun r => (∀ c : Dev Cert.InRows.nD,
      r.2.mem ((c.tc : Thread Cert.InRows.nD Cert.InRows.τ).loc Cert.InRows.main_arg0) = m ((c.tc : Thread Cert.InRows.nD Cert.InRows.τ).loc Cert.InRows.main_arg0)
      ∧ r.2.mem ((c.tc : Thread Cert.InRows.nD Cert.InRows.τ).loc Cert.InRows.main_arg1) = m ((c.tc : Thread Cert.InRows.nD Cert.InRows.τ).loc Cert.InRows.main_arg1)
      ∧ r.2.mem ((c.tc : Thread Cert.InRows.nD Cert.InRows.τ).loc Cert.InRows.main_arg2) = m ((c.tc : Thread Cert.InRows.nD Cert.InRows.τ).loc Cert.InRows.main_arg2)
      ∧ r.2.mem ((c.tc : Thread Cert.InRows.nD Cert.InRows.τ).loc Cert.InRows.main_arg3) = m ((c.tc : Thread Cert.InRows.nD Cert.InRows.τ).loc Cert.InRows.main_arg3)
      ∧ r.2.mem ((c.tc : Thread Cert.InRows.nD Cert.InRows.τ).loc Cert.InRows.main_arg4) = m ((c.tc : Thread Cert.InRows.nD Cert.InRows.τ).loc Cert.InRows.main_arg4))
      ∧ r.2.sem = fun _ => 0)

def quiescent_InRowsIdeal [hInRowsIdeal : Cert.InRowsIdeal.Facts] : Prop :=
  ∀ (m : (ℓ : Loc Cert.InRowsIdeal.nD Cert.InRowsIdeal.τ Cert.InRowsIdeal.sig) → Buf (Elt Ideal) ℓ) (g : Dev Cert.InRowsIdeal.nD → PrngReg), Pre_InRowsIdeal m →
    θ_run (Cert.InRowsIdeal.defs (F := Ideal)) (onTc (τ := Cert.InRowsIdeal.τ) (Cert.InRowsIdeal.main (F := Ideal))) ⟨m, fun _ => 0, g⟩ (fun r => (∀ c : Dev Cert.InRowsIdeal.nD,
      r.2.mem ((c.tc : Thread Cert.InRowsIdeal.nD Cert.InRowsIdeal.τ).loc Cert.InRowsIdeal.main_arg0) = m ((c.tc : Thread Cert.InRowsIdeal.nD Cert.InRowsIdeal.τ).loc Cert.InRowsIdeal.main_arg0)
      ∧ r.2.mem ((c.tc : Thread Cert.InRowsIdeal.nD Cert.InRowsIdeal.τ).loc Cert.InRowsIdeal.main_arg1) = m ((c.tc : Thread Cert.InRowsIdeal.nD Cert.InRowsIdeal.τ).loc Cert.InRowsIdeal.main_arg1)
      ∧ r.2.mem ((c.tc : Thread Cert.InRowsIdeal.nD Cert.InRowsIdeal.τ).loc Cert.InRowsIdeal.main_arg2) = m ((c.tc : Thread Cert.InRowsIdeal.nD Cert.InRowsIdeal.τ).loc Cert.InRowsIdeal.main_arg2)
      ∧ r.2.mem ((c.tc : Thread Cert.InRowsIdeal.nD Cert.InRowsIdeal.τ).loc Cert.InRowsIdeal.main_arg3) = m ((c.tc : Thread Cert.InRowsIdeal.nD Cert.InRowsIdeal.τ).loc Cert.InRowsIdeal.main_arg3)
      ∧ r.2.mem ((c.tc : Thread Cert.InRowsIdeal.nD Cert.InRowsIdeal.τ).loc Cert.InRowsIdeal.main_arg4) = m ((c.tc : Thread Cert.InRowsIdeal.nD Cert.InRowsIdeal.τ).loc Cert.InRowsIdeal.main_arg4))
      ∧ r.2.sem = fun _ => 0)

def quiescent_InRowsReferenceIdeal [hInRowsReferenceIdeal : Cert.InRowsReferenceIdeal.Facts] : Prop :=
  ∀ (m : (ℓ : Loc Cert.InRowsReferenceIdeal.nD Cert.InRowsReferenceIdeal.τ Cert.InRowsReferenceIdeal.sig) → Buf (Elt Ideal) ℓ) (g : Dev Cert.InRowsReferenceIdeal.nD → PrngReg), Pre_InRowsReferenceIdeal m →
    θ_run (Cert.InRowsReferenceIdeal.defs (F := Ideal)) (onTc (τ := Cert.InRowsReferenceIdeal.τ) (Cert.InRowsReferenceIdeal.main (F := Ideal))) ⟨m, fun _ => 0, g⟩ (fun r => (∀ c : Dev Cert.InRowsReferenceIdeal.nD,
      r.2.mem ((c.tc : Thread Cert.InRowsReferenceIdeal.nD Cert.InRowsReferenceIdeal.τ).loc Cert.InRowsReferenceIdeal.main_arg0) = m ((c.tc : Thread Cert.InRowsReferenceIdeal.nD Cert.InRowsReferenceIdeal.τ).loc Cert.InRowsReferenceIdeal.main_arg0)
      ∧ r.2.mem ((c.tc : Thread Cert.InRowsReferenceIdeal.nD Cert.InRowsReferenceIdeal.τ).loc Cert.InRowsReferenceIdeal.main_arg1) = m ((c.tc : Thread Cert.InRowsReferenceIdeal.nD Cert.InRowsReferenceIdeal.τ).loc Cert.InRowsReferenceIdeal.main_arg1)
      ∧ r.2.mem ((c.tc : Thread Cert.InRowsReferenceIdeal.nD Cert.InRowsReferenceIdeal.τ).loc Cert.InRowsReferenceIdeal.main_arg2) = m ((c.tc : Thread Cert.InRowsReferenceIdeal.nD Cert.InRowsReferenceIdeal.τ).loc Cert.InRowsReferenceIdeal.main_arg2)
      ∧ r.2.mem ((c.tc : Thread Cert.InRowsReferenceIdeal.nD Cert.InRowsReferenceIdeal.τ).loc Cert.InRowsReferenceIdeal.main_arg3) = m ((c.tc : Thread Cert.InRowsReferenceIdeal.nD Cert.InRowsReferenceIdeal.τ).loc Cert.InRowsReferenceIdeal.main_arg3)
      ∧ r.2.mem ((c.tc : Thread Cert.InRowsReferenceIdeal.nD Cert.InRowsReferenceIdeal.τ).loc Cert.InRowsReferenceIdeal.main_arg4) = m ((c.tc : Thread Cert.InRowsReferenceIdeal.nD Cert.InRowsReferenceIdeal.τ).loc Cert.InRowsReferenceIdeal.main_arg4))
      ∧ r.2.sem = fun _ => 0)

def quiescent_InWeight [hInWeight : Cert.InWeight.Facts] : Prop :=
  ∀ (m : (ℓ : Loc Cert.InWeight.nD Cert.InWeight.τ Cert.InWeight.sig) → Buf (Elt Bits) ℓ) (g : Dev Cert.InWeight.nD → PrngReg), Pre_InWeight m →
    θ_run (Cert.InWeight.defs (F := Bits)) (onTc (τ := Cert.InWeight.τ) (Cert.InWeight.main (F := Bits))) ⟨m, fun _ => 0, g⟩ (fun r => (∀ c : Dev Cert.InWeight.nD,
      r.2.mem ((c.tc : Thread Cert.InWeight.nD Cert.InWeight.τ).loc Cert.InWeight.main_arg0) = m ((c.tc : Thread Cert.InWeight.nD Cert.InWeight.τ).loc Cert.InWeight.main_arg0)
      ∧ r.2.mem ((c.tc : Thread Cert.InWeight.nD Cert.InWeight.τ).loc Cert.InWeight.main_arg1) = m ((c.tc : Thread Cert.InWeight.nD Cert.InWeight.τ).loc Cert.InWeight.main_arg1))
      ∧ r.2.sem = fun _ => 0)

def quiescent_InWeightIdeal [hInWeightIdeal : Cert.InWeightIdeal.Facts] : Prop :=
  ∀ (m : (ℓ : Loc Cert.InWeightIdeal.nD Cert.InWeightIdeal.τ Cert.InWeightIdeal.sig) → Buf (Elt Ideal) ℓ) (g : Dev Cert.InWeightIdeal.nD → PrngReg), Pre_InWeightIdeal m →
    θ_run (Cert.InWeightIdeal.defs (F := Ideal)) (onTc (τ := Cert.InWeightIdeal.τ) (Cert.InWeightIdeal.main (F := Ideal))) ⟨m, fun _ => 0, g⟩ (fun r => (∀ c : Dev Cert.InWeightIdeal.nD,
      r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
      ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ r.2.sem = fun _ => 0)

def quiescent_InWeightReferenceIdeal [hInWeightReferenceIdeal : Cert.InWeightReferenceIdeal.Facts] : Prop :=
  ∀ (m : (ℓ : Loc Cert.InWeightReferenceIdeal.nD Cert.InWeightReferenceIdeal.τ Cert.InWeightReferenceIdeal.sig) → Buf (Elt Ideal) ℓ) (g : Dev Cert.InWeightReferenceIdeal.nD → PrngReg), Pre_InWeightReferenceIdeal m →
    θ_run (Cert.InWeightReferenceIdeal.defs (F := Ideal)) (onTc (τ := Cert.InWeightReferenceIdeal.τ) (Cert.InWeightReferenceIdeal.main (F := Ideal))) ⟨m, fun _ => 0, g⟩ (fun r => (∀ c : Dev Cert.InWeightReferenceIdeal.nD,
      r.2.mem ((c.tc : Thread Cert.InWeightReferenceIdeal.nD Cert.InWeightReferenceIdeal.τ).loc Cert.InWeightReferenceIdeal.main_arg0) = m ((c.tc : Thread Cert.InWeightReferenceIdeal.nD Cert.InWeightReferenceIdeal.τ).loc Cert.InWeightReferenceIdeal.main_arg0)
      ∧ r.2.mem ((c.tc : Thread Cert.InWeightReferenceIdeal.nD Cert.InWeightReferenceIdeal.τ).loc Cert.InWeightReferenceIdeal.main_arg1) = m ((c.tc : Thread Cert.InWeightReferenceIdeal.nD Cert.InWeightReferenceIdeal.τ).loc Cert.InWeightReferenceIdeal.main_arg1))
      ∧ r.2.sem = fun _ => 0)

def quiescent_OddRows [hOddRows : Cert.OddRows.Facts] : Prop :=
  ∀ (m : (ℓ : Loc Cert.OddRows.nD Cert.OddRows.τ Cert.OddRows.sig) → Buf (Elt Bits) ℓ) (g : Dev Cert.OddRows.nD → PrngReg), Pre_OddRows m →
    θ_run (Cert.OddRows.defs (F := Bits)) (onTc (τ := Cert.OddRows.τ) (Cert.OddRows.main (F := Bits))) ⟨m, fun _ => 0, g⟩ (fun r => (∀ c : Dev Cert.OddRows.nD,
      r.2.mem ((c.tc : Thread Cert.OddRows.nD Cert.OddRows.τ).loc Cert.OddRows.main_arg0) = m ((c.tc : Thread Cert.OddRows.nD Cert.OddRows.τ).loc Cert.OddRows.main_arg0)
      ∧ r.2.mem ((c.tc : Thread Cert.OddRows.nD Cert.OddRows.τ).loc Cert.OddRows.main_arg1) = m ((c.tc : Thread Cert.OddRows.nD Cert.OddRows.τ).loc Cert.OddRows.main_arg1)
      ∧ r.2.mem ((c.tc : Thread Cert.OddRows.nD Cert.OddRows.τ).loc Cert.OddRows.main_arg2) = m ((c.tc : Thread Cert.OddRows.nD Cert.OddRows.τ).loc Cert.OddRows.main_arg2)
      ∧ r.2.mem ((c.tc : Thread Cert.OddRows.nD Cert.OddRows.τ).loc Cert.OddRows.main_arg3) = m ((c.tc : Thread Cert.OddRows.nD Cert.OddRows.τ).loc Cert.OddRows.main_arg3)
      ∧ r.2.mem ((c.tc : Thread Cert.OddRows.nD Cert.OddRows.τ).loc Cert.OddRows.main_arg4) = m ((c.tc : Thread Cert.OddRows.nD Cert.OddRows.τ).loc Cert.OddRows.main_arg4))
      ∧ r.2.sem = fun _ => 0)

def quiescent_OddRowsIdeal [hOddRowsIdeal : Cert.OddRowsIdeal.Facts] : Prop :=
  ∀ (m : (ℓ : Loc Cert.OddRowsIdeal.nD Cert.OddRowsIdeal.τ Cert.OddRowsIdeal.sig) → Buf (Elt Ideal) ℓ) (g : Dev Cert.OddRowsIdeal.nD → PrngReg), Pre_OddRowsIdeal m →
    θ_run (Cert.OddRowsIdeal.defs (F := Ideal)) (onTc (τ := Cert.OddRowsIdeal.τ) (Cert.OddRowsIdeal.main (F := Ideal))) ⟨m, fun _ => 0, g⟩ (fun r => (∀ c : Dev Cert.OddRowsIdeal.nD,
      r.2.mem ((c.tc : Thread Cert.OddRowsIdeal.nD Cert.OddRowsIdeal.τ).loc Cert.OddRowsIdeal.main_arg0) = m ((c.tc : Thread Cert.OddRowsIdeal.nD Cert.OddRowsIdeal.τ).loc Cert.OddRowsIdeal.main_arg0)
      ∧ r.2.mem ((c.tc : Thread Cert.OddRowsIdeal.nD Cert.OddRowsIdeal.τ).loc Cert.OddRowsIdeal.main_arg1) = m ((c.tc : Thread Cert.OddRowsIdeal.nD Cert.OddRowsIdeal.τ).loc Cert.OddRowsIdeal.main_arg1)
      ∧ r.2.mem ((c.tc : Thread Cert.OddRowsIdeal.nD Cert.OddRowsIdeal.τ).loc Cert.OddRowsIdeal.main_arg2) = m ((c.tc : Thread Cert.OddRowsIdeal.nD Cert.OddRowsIdeal.τ).loc Cert.OddRowsIdeal.main_arg2)
      ∧ r.2.mem ((c.tc : Thread Cert.OddRowsIdeal.nD Cert.OddRowsIdeal.τ).loc Cert.OddRowsIdeal.main_arg3) = m ((c.tc : Thread Cert.OddRowsIdeal.nD Cert.OddRowsIdeal.τ).loc Cert.OddRowsIdeal.main_arg3)
      ∧ r.2.mem ((c.tc : Thread Cert.OddRowsIdeal.nD Cert.OddRowsIdeal.τ).loc Cert.OddRowsIdeal.main_arg4) = m ((c.tc : Thread Cert.OddRowsIdeal.nD Cert.OddRowsIdeal.τ).loc Cert.OddRowsIdeal.main_arg4))
      ∧ r.2.sem = fun _ => 0)

def quiescent_OddRowsReferenceIdeal [hOddRowsReferenceIdeal : Cert.OddRowsReferenceIdeal.Facts] : Prop :=
  ∀ (m : (ℓ : Loc Cert.OddRowsReferenceIdeal.nD Cert.OddRowsReferenceIdeal.τ Cert.OddRowsReferenceIdeal.sig) → Buf (Elt Ideal) ℓ) (g : Dev Cert.OddRowsReferenceIdeal.nD → PrngReg), Pre_OddRowsReferenceIdeal m →
    θ_run (Cert.OddRowsReferenceIdeal.defs (F := Ideal)) (onTc (τ := Cert.OddRowsReferenceIdeal.τ) (Cert.OddRowsReferenceIdeal.main (F := Ideal))) ⟨m, fun _ => 0, g⟩ (fun r => (∀ c : Dev Cert.OddRowsReferenceIdeal.nD,
      r.2.mem ((c.tc : Thread Cert.OddRowsReferenceIdeal.nD Cert.OddRowsReferenceIdeal.τ).loc Cert.OddRowsReferenceIdeal.main_arg0) = m ((c.tc : Thread Cert.OddRowsReferenceIdeal.nD Cert.OddRowsReferenceIdeal.τ).loc Cert.OddRowsReferenceIdeal.main_arg0)
      ∧ r.2.mem ((c.tc : Thread Cert.OddRowsReferenceIdeal.nD Cert.OddRowsReferenceIdeal.τ).loc Cert.OddRowsReferenceIdeal.main_arg1) = m ((c.tc : Thread Cert.OddRowsReferenceIdeal.nD Cert.OddRowsReferenceIdeal.τ).loc Cert.OddRowsReferenceIdeal.main_arg1)
      ∧ r.2.mem ((c.tc : Thread Cert.OddRowsReferenceIdeal.nD Cert.OddRowsReferenceIdeal.τ).loc Cert.OddRowsReferenceIdeal.main_arg2) = m ((c.tc : Thread Cert.OddRowsReferenceIdeal.nD Cert.OddRowsReferenceIdeal.τ).loc Cert.OddRowsReferenceIdeal.main_arg2)
      ∧ r.2.mem ((c.tc : Thread Cert.OddRowsReferenceIdeal.nD Cert.OddRowsReferenceIdeal.τ).loc Cert.OddRowsReferenceIdeal.main_arg3) = m ((c.tc : Thread Cert.OddRowsReferenceIdeal.nD Cert.OddRowsReferenceIdeal.τ).loc Cert.OddRowsReferenceIdeal.main_arg3)
      ∧ r.2.mem ((c.tc : Thread Cert.OddRowsReferenceIdeal.nD Cert.OddRowsReferenceIdeal.τ).loc Cert.OddRowsReferenceIdeal.main_arg4) = m ((c.tc : Thread Cert.OddRowsReferenceIdeal.nD Cert.OddRowsReferenceIdeal.τ).loc Cert.OddRowsReferenceIdeal.main_arg4))
      ∧ r.2.sem = fun _ => 0)

def quiescent_OddWeight [hOddWeight : Cert.OddWeight.Facts] : Prop :=
  ∀ (m : (ℓ : Loc Cert.OddWeight.nD Cert.OddWeight.τ Cert.OddWeight.sig) → Buf (Elt Bits) ℓ) (g : Dev Cert.OddWeight.nD → PrngReg), Pre_OddWeight m →
    θ_run (Cert.OddWeight.defs (F := Bits)) (onTc (τ := Cert.OddWeight.τ) (Cert.OddWeight.main (F := Bits))) ⟨m, fun _ => 0, g⟩ (fun r => (∀ c : Dev Cert.OddWeight.nD,
      r.2.mem ((c.tc : Thread Cert.OddWeight.nD Cert.OddWeight.τ).loc Cert.OddWeight.main_arg0) = m ((c.tc : Thread Cert.OddWeight.nD Cert.OddWeight.τ).loc Cert.OddWeight.main_arg0)
      ∧ r.2.mem ((c.tc : Thread Cert.OddWeight.nD Cert.OddWeight.τ).loc Cert.OddWeight.main_arg1) = m ((c.tc : Thread Cert.OddWeight.nD Cert.OddWeight.τ).loc Cert.OddWeight.main_arg1))
      ∧ r.2.sem = fun _ => 0)

def quiescent_OddWeightIdeal [hOddWeightIdeal : Cert.OddWeightIdeal.Facts] : Prop :=
  ∀ (m : (ℓ : Loc Cert.OddWeightIdeal.nD Cert.OddWeightIdeal.τ Cert.OddWeightIdeal.sig) → Buf (Elt Ideal) ℓ) (g : Dev Cert.OddWeightIdeal.nD → PrngReg), Pre_OddWeightIdeal m →
    θ_run (Cert.OddWeightIdeal.defs (F := Ideal)) (onTc (τ := Cert.OddWeightIdeal.τ) (Cert.OddWeightIdeal.main (F := Ideal))) ⟨m, fun _ => 0, g⟩ (fun r => (∀ c : Dev Cert.OddWeightIdeal.nD,
      r.2.mem ((c.tc : Thread Cert.OddWeightIdeal.nD Cert.OddWeightIdeal.τ).loc Cert.OddWeightIdeal.main_arg0) = m ((c.tc : Thread Cert.OddWeightIdeal.nD Cert.OddWeightIdeal.τ).loc Cert.OddWeightIdeal.main_arg0)
      ∧ r.2.mem ((c.tc : Thread Cert.OddWeightIdeal.nD Cert.OddWeightIdeal.τ).loc Cert.OddWeightIdeal.main_arg1) = m ((c.tc : Thread Cert.OddWeightIdeal.nD Cert.OddWeightIdeal.τ).loc Cert.OddWeightIdeal.main_arg1))
      ∧ r.2.sem = fun _ => 0)

def quiescent_OddWeightReferenceIdeal [hOddWeightReferenceIdeal : Cert.OddWeightReferenceIdeal.Facts] : Prop :=
  ∀ (m : (ℓ : Loc Cert.OddWeightReferenceIdeal.nD Cert.OddWeightReferenceIdeal.τ Cert.OddWeightReferenceIdeal.sig) → Buf (Elt Ideal) ℓ) (g : Dev Cert.OddWeightReferenceIdeal.nD → PrngReg), Pre_OddWeightReferenceIdeal m →
    θ_run (Cert.OddWeightReferenceIdeal.defs (F := Ideal)) (onTc (τ := Cert.OddWeightReferenceIdeal.τ) (Cert.OddWeightReferenceIdeal.main (F := Ideal))) ⟨m, fun _ => 0, g⟩ (fun r => (∀ c : Dev Cert.OddWeightReferenceIdeal.nD,
      r.2.mem ((c.tc : Thread Cert.OddWeightReferenceIdeal.nD Cert.OddWeightReferenceIdeal.τ).loc Cert.OddWeightReferenceIdeal.main_arg0) = m ((c.tc : Thread Cert.OddWeightReferenceIdeal.nD Cert.OddWeightReferenceIdeal.τ).loc Cert.OddWeightReferenceIdeal.main_arg0)
      ∧ r.2.mem ((c.tc : Thread Cert.OddWeightReferenceIdeal.nD Cert.OddWeightReferenceIdeal.τ).loc Cert.OddWeightReferenceIdeal.main_arg1) = m ((c.tc : Thread Cert.OddWeightReferenceIdeal.nD Cert.OddWeightReferenceIdeal.τ).loc Cert.OddWeightReferenceIdeal.main_arg1))
      ∧ r.2.sem = fun _ => 0)

def quiescent_OutWeight [hOutWeight : Cert.OutWeight.Facts] : Prop :=
  ∀ (m : (ℓ : Loc Cert.OutWeight.nD Cert.OutWeight.τ Cert.OutWeight.sig) → Buf (Elt Bits) ℓ) (g : Dev Cert.OutWeight.nD → PrngReg), Pre_OutWeight m →
    θ_run (Cert.OutWeight.defs (F := Bits)) (onTc (τ := Cert.OutWeight.τ) (Cert.OutWeight.main (F := Bits))) ⟨m, fun _ => 0, g⟩ (fun r => (∀ c : Dev Cert.OutWeight.nD,
      r.2.mem ((c.tc : Thread Cert.OutWeight.nD Cert.OutWeight.τ).loc Cert.OutWeight.main_arg0) = m ((c.tc : Thread Cert.OutWeight.nD Cert.OutWeight.τ).loc Cert.OutWeight.main_arg0)
      ∧ r.2.mem ((c.tc : Thread Cert.OutWeight.nD Cert.OutWeight.τ).loc Cert.OutWeight.main_arg1) = m ((c.tc : Thread Cert.OutWeight.nD Cert.OutWeight.τ).loc Cert.OutWeight.main_arg1))
      ∧ r.2.sem = fun _ => 0)

def quiescent_OutWeightIdeal [hOutWeightIdeal : Cert.OutWeightIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg), Pre_OutWeightIdeal m →
    θ_run (Cert.OutWeightIdeal.defs (F := Ideal)) (onTc (τ := Cert.OutWeightIdeal.τ) (Cert.OutWeightIdeal.main (F := Ideal))) ⟨m, fun _ => 0, g⟩ (fun r => (∀ c : Dev Cert.OutWeightIdeal.nD,
      r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
      ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ r.2.sem = fun _ => 0)

def quiescent_OutWeightReferenceIdeal [hOutWeightReferenceIdeal : Cert.OutWeightReferenceIdeal.Facts] : Prop :=
  ∀ (m : (ℓ : Loc Cert.OutWeightReferenceIdeal.nD Cert.OutWeightReferenceIdeal.τ Cert.OutWeightReferenceIdeal.sig) → Buf (Elt Ideal) ℓ) (g : Dev Cert.OutWeightReferenceIdeal.nD → PrngReg), Pre_OutWeightReferenceIdeal m →
    θ_run (Cert.OutWeightReferenceIdeal.defs (F := Ideal)) (onTc (τ := Cert.OutWeightReferenceIdeal.τ) (Cert.OutWeightReferenceIdeal.main (F := Ideal))) ⟨m, fun _ => 0, g⟩ (fun r => (∀ c : Dev Cert.OutWeightReferenceIdeal.nD,
      r.2.mem ((c.tc : Thread Cert.OutWeightReferenceIdeal.nD Cert.OutWeightReferenceIdeal.τ).loc Cert.OutWeightReferenceIdeal.main_arg0) = m ((c.tc : Thread Cert.OutWeightReferenceIdeal.nD Cert.OutWeightReferenceIdeal.τ).loc Cert.OutWeightReferenceIdeal.main_arg0)
      ∧ r.2.mem ((c.tc : Thread Cert.OutWeightReferenceIdeal.nD Cert.OutWeightReferenceIdeal.τ).loc Cert.OutWeightReferenceIdeal.main_arg1) = m ((c.tc : Thread Cert.OutWeightReferenceIdeal.nD Cert.OutWeightReferenceIdeal.τ).loc Cert.OutWeightReferenceIdeal.main_arg1))
      ∧ r.2.sem = fun _ => 0)

def quiescent_OutMix [hOutMix : Cert.OutMix.Facts] : Prop :=
  ∀ (m : (ℓ : Loc Cert.OutMix.nD Cert.OutMix.τ Cert.OutMix.sig) → Buf (Elt Bits) ℓ) (g : Dev Cert.OutMix.nD → PrngReg), Pre_OutMix m →
    θ_run (Cert.OutMix.defs (F := Bits)) (onTc (τ := Cert.OutMix.τ) (Cert.OutMix.main (F := Bits))) ⟨m, fun _ => 0, g⟩ (fun r => (∀ c : Dev Cert.OutMix.nD,
      r.2.mem ((c.tc : Thread Cert.OutMix.nD Cert.OutMix.τ).loc Cert.OutMix.main_arg0) = m ((c.tc : Thread Cert.OutMix.nD Cert.OutMix.τ).loc Cert.OutMix.main_arg0)
      ∧ r.2.mem ((c.tc : Thread Cert.OutMix.nD Cert.OutMix.τ).loc Cert.OutMix.main_arg1) = m ((c.tc : Thread Cert.OutMix.nD Cert.OutMix.τ).loc Cert.OutMix.main_arg1))
      ∧ r.2.sem = fun _ => 0)

def quiescent_OutMixIdeal [hOutMixIdeal : Cert.OutMixIdeal.Facts] : Prop :=
  ∀ (m : (ℓ : Loc Cert.OutMixIdeal.nD Cert.OutMixIdeal.τ Cert.OutMixIdeal.sig) → Buf (Elt Ideal) ℓ) (g : Dev Cert.OutMixIdeal.nD → PrngReg), Pre_OutMixIdeal m →
    θ_run (Cert.OutMixIdeal.defs (F := Ideal)) (onTc (τ := Cert.OutMixIdeal.τ) (Cert.OutMixIdeal.main (F := Ideal))) ⟨m, fun _ => 0, g⟩ (fun r => (∀ c : Dev Cert.OutMixIdeal.nD,
      r.2.mem ((c.tc : Thread Cert.OutMixIdeal.nD Cert.OutMixIdeal.τ).loc Cert.OutMixIdeal.main_arg0) = m ((c.tc : Thread Cert.OutMixIdeal.nD Cert.OutMixIdeal.τ).loc Cert.OutMixIdeal.main_arg0)
      ∧ r.2.mem ((c.tc : Thread Cert.OutMixIdeal.nD Cert.OutMixIdeal.τ).loc Cert.OutMixIdeal.main_arg1) = m ((c.tc : Thread Cert.OutMixIdeal.nD Cert.OutMixIdeal.τ).loc Cert.OutMixIdeal.main_arg1))
      ∧ r.2.sem = fun _ => 0)

def quiescent_OutMixReferenceIdeal [hOutMixReferenceIdeal : Cert.OutMixReferenceIdeal.Facts] : Prop :=
  ∀ (m : (ℓ : Loc Cert.OutMixReferenceIdeal.nD Cert.OutMixReferenceIdeal.τ Cert.OutMixReferenceIdeal.sig) → Buf (Elt Ideal) ℓ) (g : Dev Cert.OutMixReferenceIdeal.nD → PrngReg), Pre_OutMixReferenceIdeal m →
    θ_run (Cert.OutMixReferenceIdeal.defs (F := Ideal)) (onTc (τ := Cert.OutMixReferenceIdeal.τ) (Cert.OutMixReferenceIdeal.main (F := Ideal))) ⟨m, fun _ => 0, g⟩ (fun r => (∀ c : Dev Cert.OutMixReferenceIdeal.nD,
      r.2.mem ((c.tc : Thread Cert.OutMixReferenceIdeal.nD Cert.OutMixReferenceIdeal.τ).loc Cert.OutMixReferenceIdeal.main_arg0) = m ((c.tc : Thread Cert.OutMixReferenceIdeal.nD Cert.OutMixReferenceIdeal.τ).loc Cert.OutMixReferenceIdeal.main_arg0)
      ∧ r.2.mem ((c.tc : Thread Cert.OutMixReferenceIdeal.nD Cert.OutMixReferenceIdeal.τ).loc Cert.OutMixReferenceIdeal.main_arg1) = m ((c.tc : Thread Cert.OutMixReferenceIdeal.nD Cert.OutMixReferenceIdeal.τ).loc Cert.OutMixReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_OddMix [hOddMix : Cert.OddMix.Facts] : Prop :=
  ∀ (m : (ℓ : Loc Cert.OddMix.nD Cert.OddMix.τ Cert.OddMix.sig) → Buf (Elt Bits) ℓ) (g : Dev Cert.OddMix.nD → PrngReg), Pre_OddMix m →
    θ_run (Cert.OddMix.defs (F := Bits)) (onTc (τ := Cert.OddMix.τ) (Cert.OddMix.main (F := Bits))) ⟨m, fun _ => 0, g⟩ (fun r => (∀ c : Dev Cert.OddMix.nD,
      r.2.mem ((c.tc : Thread Cert.OddMix.nD Cert.OddMix.τ).loc Cert.OddMix.main_arg0) = m ((c.tc : Thread Cert.OddMix.nD Cert.OddMix.τ).loc Cert.OddMix.main_arg0)
      ∧ r.2.mem ((c.tc : Thread Cert.OddMix.nD Cert.OddMix.τ).loc Cert.OddMix.main_arg1) = m ((c.tc : Thread Cert.OddMix.nD Cert.OddMix.τ).loc Cert.OddMix.main_arg1))
      ∧ r.2.sem = fun _ => 0)

def quiescent_OddMixIdeal [hOddMixIdeal : Cert.OddMixIdeal.Facts] : Prop :=
  ∀ (m : (ℓ : Loc Cert.OddMixIdeal.nD Cert.OddMixIdeal.τ Cert.OddMixIdeal.sig) → Buf (Elt Ideal) ℓ) (g : Dev Cert.OddMixIdeal.nD → PrngReg), Pre_OddMixIdeal m →
    θ_run (Cert.OddMixIdeal.defs (F := Ideal)) (onTc (τ := Cert.OddMixIdeal.τ) (Cert.OddMixIdeal.main (F := Ideal))) ⟨m, fun _ => 0, g⟩ (fun r => (∀ c : Dev Cert.OddMixIdeal.nD,
      r.2.mem ((c.tc : Thread Cert.OddMixIdeal.nD Cert.OddMixIdeal.τ).loc Cert.OddMixIdeal.main_arg0) = m ((c.tc : Thread Cert.OddMixIdeal.nD Cert.OddMixIdeal.τ).loc Cert.OddMixIdeal.main_arg0)
      ∧ r.2.mem ((c.tc : Thread Cert.OddMixIdeal.nD Cert.OddMixIdeal.τ).loc Cert.OddMixIdeal.main_arg1) = m ((c.tc : Thread Cert.OddMixIdeal.nD Cert.OddMixIdeal.τ).loc Cert.OddMixIdeal.main_arg1))
      ∧ r.2.sem = fun _ => 0)

def quiescent_OddMixReferenceIdeal [hOddMixReferenceIdeal : Cert.OddMixReferenceIdeal.Facts] : Prop :=
  ∀ (m : (ℓ : Loc Cert.OddMixReferenceIdeal.nD Cert.OddMixReferenceIdeal.τ Cert.OddMixReferenceIdeal.sig) → Buf (Elt Ideal) ℓ) (g : Dev Cert.OddMixReferenceIdeal.nD → PrngReg), Pre_OddMixReferenceIdeal m →
    θ_run (Cert.OddMixReferenceIdeal.defs (F := Ideal)) (onTc (τ := Cert.OddMixReferenceIdeal.τ) (Cert.OddMixReferenceIdeal.main (F := Ideal))) ⟨m, fun _ => 0, g⟩ (fun r => (∀ c : Dev Cert.OddMixReferenceIdeal.nD,
      r.2.mem ((c.tc : Thread Cert.OddMixReferenceIdeal.nD Cert.OddMixReferenceIdeal.τ).loc Cert.OddMixReferenceIdeal.main_arg0) = m ((c.tc : Thread Cert.OddMixReferenceIdeal.nD Cert.OddMixReferenceIdeal.τ).loc Cert.OddMixReferenceIdeal.main_arg0)
      ∧ r.2.mem ((c.tc : Thread Cert.OddMixReferenceIdeal.nD Cert.OddMixReferenceIdeal.τ).loc Cert.OddMixReferenceIdeal.main_arg1) = m ((c.tc : Thread Cert.OddMixReferenceIdeal.nD Cert.OddMixReferenceIdeal.τ).loc Cert.OddMixReferenceIdeal.main_arg1))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ r.2.sem = fun _ => 0)

def quiescent_EvenInReferenceIdeal [hEvenInReferenceIdeal : Cert.EvenInReferenceIdeal.Facts] : Prop :=
  ∀ (m : (ℓ : Loc Cert.EvenInReferenceIdeal.nD Cert.EvenInReferenceIdeal.τ Cert.EvenInReferenceIdeal.sig) → Buf (Elt Ideal) ℓ) (g : Dev Cert.EvenInReferenceIdeal.nD → PrngReg), Pre_EvenInReferenceIdeal m →
    θ_run (Cert.EvenInReferenceIdeal.defs (F := Ideal)) (onTc (τ := Cert.EvenInReferenceIdeal.τ) (Cert.EvenInReferenceIdeal.main (F := Ideal))) ⟨m, fun _ => 0, g⟩ (fun r => (∀ c : Dev Cert.EvenInReferenceIdeal.nD,
      r.2.mem ((c.tc : Thread Cert.EvenInReferenceIdeal.nD Cert.EvenInReferenceIdeal.τ).loc Cert.EvenInReferenceIdeal.main_arg0) = m ((c.tc : Thread Cert.EvenInReferenceIdeal.nD Cert.EvenInReferenceIdeal.τ).loc Cert.EvenInReferenceIdeal.main_arg0)
      ∧ r.2.mem ((c.tc : Thread Cert.EvenInReferenceIdeal.nD Cert.EvenInReferenceIdeal.τ).loc Cert.EvenInReferenceIdeal.main_arg1) = m ((c.tc : Thread Cert.EvenInReferenceIdeal.nD Cert.EvenInReferenceIdeal.τ).loc Cert.EvenInReferenceIdeal.main_arg1)
      ∧ r.2.mem ((c.tc : Thread Cert.EvenInReferenceIdeal.nD Cert.EvenInReferenceIdeal.τ).loc Cert.EvenInReferenceIdeal.main_arg2) = m ((c.tc : Thread Cert.EvenInReferenceIdeal.nD Cert.EvenInReferenceIdeal.τ).loc Cert.EvenInReferenceIdeal.main_arg2))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_OddInReferenceIdeal [hOddInReferenceIdeal : Cert.OddInReferenceIdeal.Facts] : Prop :=
  ∀ (m : (ℓ : Loc Cert.OddInReferenceIdeal.nD Cert.OddInReferenceIdeal.τ Cert.OddInReferenceIdeal.sig) → Buf (Elt Ideal) ℓ) (g : Dev Cert.OddInReferenceIdeal.nD → PrngReg), Pre_OddInReferenceIdeal m →
    θ_run (Cert.OddInReferenceIdeal.defs (F := Ideal)) (onTc (τ := Cert.OddInReferenceIdeal.τ) (Cert.OddInReferenceIdeal.main (F := Ideal))) ⟨m, fun _ => 0, g⟩ (fun r => (∀ c : Dev Cert.OddInReferenceIdeal.nD,
      r.2.mem ((c.tc : Thread Cert.OddInReferenceIdeal.nD Cert.OddInReferenceIdeal.τ).loc Cert.OddInReferenceIdeal.main_arg0) = m ((c.tc : Thread Cert.OddInReferenceIdeal.nD Cert.OddInReferenceIdeal.τ).loc Cert.OddInReferenceIdeal.main_arg0)
      ∧ r.2.mem ((c.tc : Thread Cert.OddInReferenceIdeal.nD Cert.OddInReferenceIdeal.τ).loc Cert.OddInReferenceIdeal.main_arg1) = m ((c.tc : Thread Cert.OddInReferenceIdeal.nD Cert.OddInReferenceIdeal.τ).loc Cert.OddInReferenceIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ r.2.sem = fun _ => 0)

def quiescent_AttentionIdeal_pre_finite_scores [hAttentionIdeal : Cert.AttentionIdeal.Facts] [hPre_finite_scores : Cert.Pre_finite_scores.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_scores m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3))
      ∧ r.2.sem = fun _ => 0)

def quiescent_AttentionReferenceIdeal_pre_finite_scores [hAttentionReferenceIdeal : Cert.AttentionReferenceIdeal.Facts] [hPre_finite_scores : Cert.Pre_finite_scores.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal_finite_scores m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)) (v2 : (c : Dev Cert.KernelIdeal.nD) → Buf (Elt Ideal) ((c.tc : Thread Cert.KernelIdeal.nD Cert.KernelIdeal.τ).loc Cert.KernelIdeal.main_v47_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_v47_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Weight_WeightIdeal : Prop :=
  True

def algebraic_WeightIdeal_DownReferenceIdeal [hWeightIdeal : Cert.WeightIdeal.Facts] [hDownReferenceIdeal : Cert.DownReferenceIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_WeightIdeal m →
    (∀ c : Dev Cert.WeightIdeal.nD,
      m' ((c.tc : Thread Cert.DownReferenceIdeal.nD Cert.DownReferenceIdeal.τ).loc Cert.DownReferenceIdeal.main_arg0) = m ((c.tc : Thread Cert.WeightIdeal.nD Cert.WeightIdeal.τ).loc Cert.WeightIdeal.main_arg0)
      ∧ m' ((c.tc : Thread Cert.DownReferenceIdeal.nD Cert.DownReferenceIdeal.τ).loc Cert.DownReferenceIdeal.main_arg1) = m ((c.tc : Thread Cert.WeightIdeal.nD Cert.WeightIdeal.τ).loc Cert.WeightIdeal.main_arg1)) →
    ∃ (v0 : (c : Dev Cert.WeightIdeal.nD) → Buf (Elt Ideal) ((c.tc : Thread Cert.WeightIdeal.nD Cert.WeightIdeal.τ).loc Cert.WeightIdeal.main_v4)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v4) = v0 c
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
          ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v5) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def algebraic_WeightIdeal_GateReferenceIdeal [hWeightIdeal : Cert.WeightIdeal.Facts] [hGateReferenceIdeal : Cert.GateReferenceIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_WeightIdeal m →
    (∀ c : Dev Cert.WeightIdeal.nD,
      m' ((c.tc : Thread Cert.GateReferenceIdeal.nD Cert.GateReferenceIdeal.τ).loc Cert.GateReferenceIdeal.main_arg0) = m ((c.tc : Thread Cert.WeightIdeal.nD Cert.WeightIdeal.τ).loc Cert.WeightIdeal.main_arg0)
      ∧ m' ((c.tc : Thread Cert.GateReferenceIdeal.nD Cert.GateReferenceIdeal.τ).loc Cert.GateReferenceIdeal.main_arg1) = m ((c.tc : Thread Cert.WeightIdeal.nD Cert.WeightIdeal.τ).loc Cert.WeightIdeal.main_arg1)) →
    ∃ (v0 : (c : Dev Cert.WeightIdeal.nD) → Buf (Elt Ideal) ((c.tc : Thread Cert.WeightIdeal.nD Cert.WeightIdeal.τ).loc Cert.WeightIdeal.main_v4)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v4) = v0 c
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
          ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v6) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_Act_ActIdeal : Prop :=
  True

def algebraic_ActIdeal_ActReferenceIdeal_pre_finite_act [hActIdeal : Cert.ActIdeal.Facts] [hActReferenceIdeal : Cert.ActReferenceIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActIdeal_finite_act m →
    (∀ c : Dev Cert.ActIdeal.nD,
      m' ((c.tc : Thread Cert.ActReferenceIdeal.nD Cert.ActReferenceIdeal.τ).loc Cert.ActReferenceIdeal.main_arg0) = m ((c.tc : Thread Cert.ActIdeal.nD Cert.ActIdeal.τ).loc Cert.ActIdeal.main_arg0)
      ∧ m' ((c.tc : Thread Cert.ActReferenceIdeal.nD Cert.ActReferenceIdeal.τ).loc Cert.ActReferenceIdeal.main_arg1) = m ((c.tc : Thread Cert.ActIdeal.nD Cert.ActIdeal.τ).loc Cert.ActIdeal.main_arg1)
      ∧ m' ((c.tc : Thread Cert.ActReferenceIdeal.nD Cert.ActReferenceIdeal.τ).loc Cert.ActReferenceIdeal.main_arg2) = m ((c.tc : Thread Cert.ActIdeal.nD Cert.ActIdeal.τ).loc Cert.ActIdeal.main_arg2)
      ∧ m' ((c.tc : Thread Cert.ActReferenceIdeal.nD Cert.ActReferenceIdeal.τ).loc Cert.ActReferenceIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v9_0)) (v1 : (c : Dev Cert.ActIdeal.nD) → Buf (Elt Ideal) ((c.tc : Thread Cert.ActIdeal.nD Cert.ActIdeal.τ).loc Cert.ActIdeal.main_v9_1)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v9_0) = v0 c
          ∧ r.2.mem ((c.tc : Thread Cert.ActIdeal.nD Cert.ActIdeal.τ).loc Cert.ActIdeal.main_v9_1) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v9) = v0 c
          ∧ r.2.mem ((c.tc : Thread Cert.ActReferenceIdeal.nD Cert.ActReferenceIdeal.τ).loc Cert.ActReferenceIdeal.main_v12) = v1 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1)
          ∧ r.2.mem ((c.tc : Thread Cert.ActReferenceIdeal.nD Cert.ActReferenceIdeal.τ).loc Cert.ActReferenceIdeal.main_arg2) = m' ((c.tc : Thread Cert.ActReferenceIdeal.nD Cert.ActReferenceIdeal.τ).loc Cert.ActReferenceIdeal.main_arg2)
          ∧ r.2.mem ((c.tc : Thread Cert.ActReferenceIdeal.nD Cert.ActReferenceIdeal.τ).loc Cert.ActReferenceIdeal.main_arg3) = m' ((c.tc : Thread Cert.ActReferenceIdeal.nD Cert.ActReferenceIdeal.τ).loc Cert.ActReferenceIdeal.main_arg3))

def preserves_Rows_RowsIdeal : Prop :=
  True

def algebraic_RowsIdeal_RowsReferenceIdeal [hRowsIdeal : Cert.RowsIdeal.Facts] [hRowsReferenceIdeal : Cert.RowsReferenceIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsReferenceIdeal.nD Cert.RowsReferenceIdeal.τ Cert.RowsReferenceIdeal.sig) → Buf (Elt Ideal) ℓ) (g' : Dev Cert.RowsReferenceIdeal.nD → PrngReg), Pre_RowsIdeal m →
    (∀ c : Dev Cert.RowsIdeal.nD,
      m' ((c.tc : Thread Cert.RowsReferenceIdeal.nD Cert.RowsReferenceIdeal.τ).loc Cert.RowsReferenceIdeal.main_arg0) = m ((c.tc : Thread Cert.RowsIdeal.nD Cert.RowsIdeal.τ).loc Cert.RowsIdeal.main_arg0)
      ∧ m' ((c.tc : Thread Cert.RowsReferenceIdeal.nD Cert.RowsReferenceIdeal.τ).loc Cert.RowsReferenceIdeal.main_arg1) = m ((c.tc : Thread Cert.RowsIdeal.nD Cert.RowsIdeal.τ).loc Cert.RowsIdeal.main_arg1)
      ∧ m' ((c.tc : Thread Cert.RowsReferenceIdeal.nD Cert.RowsReferenceIdeal.τ).loc Cert.RowsReferenceIdeal.main_arg2) = m ((c.tc : Thread Cert.RowsIdeal.nD Cert.RowsIdeal.τ).loc Cert.RowsIdeal.main_arg2)
      ∧ m' ((c.tc : Thread Cert.RowsReferenceIdeal.nD Cert.RowsReferenceIdeal.τ).loc Cert.RowsReferenceIdeal.main_arg3) = m ((c.tc : Thread Cert.RowsIdeal.nD Cert.RowsIdeal.τ).loc Cert.RowsIdeal.main_arg3)
      ∧ m' ((c.tc : Thread Cert.RowsReferenceIdeal.nD Cert.RowsReferenceIdeal.τ).loc Cert.RowsReferenceIdeal.main_arg4) = m ((c.tc : Thread Cert.RowsIdeal.nD Cert.RowsIdeal.τ).loc Cert.RowsIdeal.main_arg4)
      ∧ m' ((c.tc : Thread Cert.RowsReferenceIdeal.nD Cert.RowsReferenceIdeal.τ).loc Cert.RowsReferenceIdeal.main_arg5) = m ((c.tc : Thread Cert.RowsIdeal.nD Cert.RowsIdeal.τ).loc Cert.RowsIdeal.main_arg5)
      ∧ m' ((c.tc : Thread Cert.RowsReferenceIdeal.nD Cert.RowsReferenceIdeal.τ).loc Cert.RowsReferenceIdeal.main_arg6) = m ((c.tc : Thread Cert.RowsIdeal.nD Cert.RowsIdeal.τ).loc Cert.RowsIdeal.main_arg6)) →
    ∃ (v0 : (c : Dev Cert.RowsIdeal.nD) → Buf (Elt Ideal) ((c.tc : Thread Cert.RowsIdeal.nD Cert.RowsIdeal.τ).loc Cert.RowsIdeal.main_v13_0)) (v1 : (c : Dev Cert.RowsIdeal.nD) → Buf (Elt Ideal) ((c.tc : Thread Cert.RowsIdeal.nD Cert.RowsIdeal.τ).loc Cert.RowsIdeal.main_v13_1)) (v2 : (c : Dev Cert.RowsIdeal.nD) → Buf (Elt Ideal) ((c.tc : Thread Cert.RowsIdeal.nD Cert.RowsIdeal.τ).loc Cert.RowsIdeal.main_v13_2)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v13_0) = v0 c
          ∧ r.2.mem ((c.tc : Thread Cert.RowsIdeal.nD Cert.RowsIdeal.τ).loc Cert.RowsIdeal.main_v13_1) = v1 c
          ∧ r.2.mem ((c.tc : Thread Cert.RowsIdeal.nD Cert.RowsIdeal.τ).loc Cert.RowsIdeal.main_v13_2) = v2 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
          ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
          ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3)
          ∧ r.2.mem ((c.tc : Thread Cert.RowsIdeal.nD Cert.RowsIdeal.τ).loc Cert.RowsIdeal.main_arg4) = m ((c.tc : Thread Cert.RowsIdeal.nD Cert.RowsIdeal.τ).loc Cert.RowsIdeal.main_arg4)
          ∧ r.2.mem ((c.tc : Thread Cert.RowsIdeal.nD Cert.RowsIdeal.τ).loc Cert.RowsIdeal.main_arg5) = m ((c.tc : Thread Cert.RowsIdeal.nD Cert.RowsIdeal.τ).loc Cert.RowsIdeal.main_arg5)
          ∧ r.2.mem ((c.tc : Thread Cert.RowsIdeal.nD Cert.RowsIdeal.τ).loc Cert.RowsIdeal.main_arg6) = m ((c.tc : Thread Cert.RowsIdeal.nD Cert.RowsIdeal.τ).loc Cert.RowsIdeal.main_arg6))
      ∧ θ_run (Cert.RowsReferenceIdeal.defs (F := Ideal)) (onTc (τ := Cert.RowsReferenceIdeal.τ) (Cert.RowsReferenceIdeal.main (F := Ideal))) ⟨m', fun _ => 0, g'⟩ (fun r => ∀ c : Dev Cert.RowsReferenceIdeal.nD,
          r.2.mem ((c.tc : Thread Cert.RowsReferenceIdeal.nD Cert.RowsReferenceIdeal.τ).loc Cert.RowsReferenceIdeal.main_v41) = v0 c
          ∧ r.2.mem ((c.tc : Thread Cert.RowsReferenceIdeal.nD Cert.RowsReferenceIdeal.τ).loc Cert.RowsReferenceIdeal.main_v42) = v1 c
          ∧ r.2.mem ((c.tc : Thread Cert.RowsReferenceIdeal.nD Cert.RowsReferenceIdeal.τ).loc Cert.RowsReferenceIdeal.main_v43) = v2 c
          ∧ r.2.mem ((c.tc : Thread Cert.RowsReferenceIdeal.nD Cert.RowsReferenceIdeal.τ).loc Cert.RowsReferenceIdeal.main_arg0) = m' ((c.tc : Thread Cert.RowsReferenceIdeal.nD Cert.RowsReferenceIdeal.τ).loc Cert.RowsReferenceIdeal.main_arg0)
          ∧ r.2.mem ((c.tc : Thread Cert.RowsReferenceIdeal.nD Cert.RowsReferenceIdeal.τ).loc Cert.RowsReferenceIdeal.main_arg1) = m' ((c.tc : Thread Cert.RowsReferenceIdeal.nD Cert.RowsReferenceIdeal.τ).loc Cert.RowsReferenceIdeal.main_arg1)
          ∧ r.2.mem ((c.tc : Thread Cert.RowsReferenceIdeal.nD Cert.RowsReferenceIdeal.τ).loc Cert.RowsReferenceIdeal.main_arg2) = m' ((c.tc : Thread Cert.RowsReferenceIdeal.nD Cert.RowsReferenceIdeal.τ).loc Cert.RowsReferenceIdeal.main_arg2)
          ∧ r.2.mem ((c.tc : Thread Cert.RowsReferenceIdeal.nD Cert.RowsReferenceIdeal.τ).loc Cert.RowsReferenceIdeal.main_arg3) = m' ((c.tc : Thread Cert.RowsReferenceIdeal.nD Cert.RowsReferenceIdeal.τ).loc Cert.RowsReferenceIdeal.main_arg3)
          ∧ r.2.mem ((c.tc : Thread Cert.RowsReferenceIdeal.nD Cert.RowsReferenceIdeal.τ).loc Cert.RowsReferenceIdeal.main_arg4) = m' ((c.tc : Thread Cert.RowsReferenceIdeal.nD Cert.RowsReferenceIdeal.τ).loc Cert.RowsReferenceIdeal.main_arg4)
          ∧ r.2.mem ((c.tc : Thread Cert.RowsReferenceIdeal.nD Cert.RowsReferenceIdeal.τ).loc Cert.RowsReferenceIdeal.main_arg5) = m' ((c.tc : Thread Cert.RowsReferenceIdeal.nD Cert.RowsReferenceIdeal.τ).loc Cert.RowsReferenceIdeal.main_arg5)
          ∧ r.2.mem ((c.tc : Thread Cert.RowsReferenceIdeal.nD Cert.RowsReferenceIdeal.τ).loc Cert.RowsReferenceIdeal.main_arg6) = m' ((c.tc : Thread Cert.RowsReferenceIdeal.nD Cert.RowsReferenceIdeal.τ).loc Cert.RowsReferenceIdeal.main_arg6))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v7_0)) (v1 : (c : Dev Cert.UpIdeal.nD) → Buf (Elt Ideal) ((c.tc : Thread Cert.UpIdeal.nD Cert.UpIdeal.τ).loc Cert.UpIdeal.main_v7_1)) (v2 : (c : Dev Cert.UpIdeal.nD) → Buf (Elt Ideal) ((c.tc : Thread Cert.UpIdeal.nD Cert.UpIdeal.τ).loc Cert.UpIdeal.main_v7_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v7_0) = v0 c
          ∧ r.2.mem ((c.tc : Thread Cert.UpIdeal.nD Cert.UpIdeal.τ).loc Cert.UpIdeal.main_v7_1) = v1 c
          ∧ r.2.mem ((c.tc : Thread Cert.UpIdeal.nD Cert.UpIdeal.τ).loc Cert.UpIdeal.main_v7_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v4) = v0 c
          ∧ r.2.mem ((c.tc : Thread Cert.UpReferenceIdeal.nD Cert.UpReferenceIdeal.τ).loc Cert.UpReferenceIdeal.main_v7) = v1 c
          ∧ r.2.mem ((c.tc : Thread Cert.UpReferenceIdeal.nD Cert.UpReferenceIdeal.τ).loc Cert.UpReferenceIdeal.main_v12) = v2 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_Down_DownIdeal : Prop :=
  True

def algebraic_DownIdeal_ResidualReferenceIdeal [hDownIdeal : Cert.DownIdeal.Facts] [hResidualReferenceIdeal : Cert.ResidualReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.ResidualReferenceIdeal.nD Cert.ResidualReferenceIdeal.τ Cert.ResidualReferenceIdeal.sig) → Buf (Elt Ideal) ℓ) (g' : Dev Cert.ResidualReferenceIdeal.nD → PrngReg), Pre_DownIdeal m →
    (∀ c : Dev Cert.DownIdeal.nD,
      m' ((c.tc : Thread Cert.ResidualReferenceIdeal.nD Cert.ResidualReferenceIdeal.τ).loc Cert.ResidualReferenceIdeal.main_arg0) = m ((c.tc : Thread Cert.DownIdeal.nD Cert.DownIdeal.τ).loc Cert.DownIdeal.main_arg0)
      ∧ m' ((c.tc : Thread Cert.ResidualReferenceIdeal.nD Cert.ResidualReferenceIdeal.τ).loc Cert.ResidualReferenceIdeal.main_arg1) = m ((c.tc : Thread Cert.DownIdeal.nD Cert.DownIdeal.τ).loc Cert.DownIdeal.main_arg1)
      ∧ m' ((c.tc : Thread Cert.ResidualReferenceIdeal.nD Cert.ResidualReferenceIdeal.τ).loc Cert.ResidualReferenceIdeal.main_arg2) = m ((c.tc : Thread Cert.DownIdeal.nD Cert.DownIdeal.τ).loc Cert.DownIdeal.main_arg2)
      ∧ m' ((c.tc : Thread Cert.ResidualReferenceIdeal.nD Cert.ResidualReferenceIdeal.τ).loc Cert.ResidualReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v6_0)) (v1 : (c : Dev Cert.DownIdeal.nD) → Buf (Elt Ideal) ((c.tc : Thread Cert.DownIdeal.nD Cert.DownIdeal.τ).loc Cert.DownIdeal.main_v6_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v6_0) = v0 c
          ∧ r.2.mem ((c.tc : Thread Cert.DownIdeal.nD Cert.DownIdeal.τ).loc Cert.DownIdeal.main_v6_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.ResidualReferenceIdeal.defs (F := Ideal)) (onTc (τ := Cert.ResidualReferenceIdeal.τ) (Cert.ResidualReferenceIdeal.main (F := Ideal))) ⟨m', fun _ => 0, g'⟩ (fun r => ∀ c : Dev Cert.ResidualReferenceIdeal.nD,
          r.2.mem ((c.tc : Thread Cert.ResidualReferenceIdeal.nD Cert.ResidualReferenceIdeal.τ).loc Cert.ResidualReferenceIdeal.main_v1) = v0 c
          ∧ r.2.mem ((c.tc : Thread Cert.ResidualReferenceIdeal.nD Cert.ResidualReferenceIdeal.τ).loc Cert.ResidualReferenceIdeal.main_v15) = v1 c
          ∧ r.2.mem ((c.tc : Thread Cert.ResidualReferenceIdeal.nD Cert.ResidualReferenceIdeal.τ).loc Cert.ResidualReferenceIdeal.main_arg0) = m' ((c.tc : Thread Cert.ResidualReferenceIdeal.nD Cert.ResidualReferenceIdeal.τ).loc Cert.ResidualReferenceIdeal.main_arg0)
          ∧ r.2.mem ((c.tc : Thread Cert.ResidualReferenceIdeal.nD Cert.ResidualReferenceIdeal.τ).loc Cert.ResidualReferenceIdeal.main_arg1) = m' ((c.tc : Thread Cert.ResidualReferenceIdeal.nD Cert.ResidualReferenceIdeal.τ).loc Cert.ResidualReferenceIdeal.main_arg1)
          ∧ r.2.mem ((c.tc : Thread Cert.ResidualReferenceIdeal.nD Cert.ResidualReferenceIdeal.τ).loc Cert.ResidualReferenceIdeal.main_arg2) = m' ((c.tc : Thread Cert.ResidualReferenceIdeal.nD Cert.ResidualReferenceIdeal.τ).loc Cert.ResidualReferenceIdeal.main_arg2)
          ∧ r.2.mem ((c.tc : Thread Cert.ResidualReferenceIdeal.nD Cert.ResidualReferenceIdeal.τ).loc Cert.ResidualReferenceIdeal.main_arg3) = m' ((c.tc : Thread Cert.ResidualReferenceIdeal.nD Cert.ResidualReferenceIdeal.τ).loc Cert.ResidualReferenceIdeal.main_arg3))

def preserves_InRows_InRowsIdeal : Prop :=
  True

def algebraic_InRowsIdeal_InRowsReferenceIdeal [hInRowsIdeal : Cert.InRowsIdeal.Facts] [hInRowsReferenceIdeal : Cert.InRowsReferenceIdeal.Facts] : Prop :=
  ∀ (m : (ℓ : Loc Cert.InRowsIdeal.nD Cert.InRowsIdeal.τ Cert.InRowsIdeal.sig) → Buf (Elt Ideal) ℓ) (g : Dev Cert.InRowsIdeal.nD → PrngReg)
    (m' : (ℓ : Loc Cert.InRowsReferenceIdeal.nD Cert.InRowsReferenceIdeal.τ Cert.InRowsReferenceIdeal.sig) → Buf (Elt Ideal) ℓ) (g' : Dev Cert.InRowsReferenceIdeal.nD → PrngReg), Pre_InRowsIdeal m →
    (∀ c : Dev Cert.InRowsIdeal.nD,
      m' ((c.tc : Thread Cert.InRowsReferenceIdeal.nD Cert.InRowsReferenceIdeal.τ).loc Cert.InRowsReferenceIdeal.main_arg0) = m ((c.tc : Thread Cert.InRowsIdeal.nD Cert.InRowsIdeal.τ).loc Cert.InRowsIdeal.main_arg0)
      ∧ m' ((c.tc : Thread Cert.InRowsReferenceIdeal.nD Cert.InRowsReferenceIdeal.τ).loc Cert.InRowsReferenceIdeal.main_arg1) = m ((c.tc : Thread Cert.InRowsIdeal.nD Cert.InRowsIdeal.τ).loc Cert.InRowsIdeal.main_arg1)
      ∧ m' ((c.tc : Thread Cert.InRowsReferenceIdeal.nD Cert.InRowsReferenceIdeal.τ).loc Cert.InRowsReferenceIdeal.main_arg2) = m ((c.tc : Thread Cert.InRowsIdeal.nD Cert.InRowsIdeal.τ).loc Cert.InRowsIdeal.main_arg2)
      ∧ m' ((c.tc : Thread Cert.InRowsReferenceIdeal.nD Cert.InRowsReferenceIdeal.τ).loc Cert.InRowsReferenceIdeal.main_arg3) = m ((c.tc : Thread Cert.InRowsIdeal.nD Cert.InRowsIdeal.τ).loc Cert.InRowsIdeal.main_arg3)
      ∧ m' ((c.tc : Thread Cert.InRowsReferenceIdeal.nD Cert.InRowsReferenceIdeal.τ).loc Cert.InRowsReferenceIdeal.main_arg4) = m ((c.tc : Thread Cert.InRowsIdeal.nD Cert.InRowsIdeal.τ).loc Cert.InRowsIdeal.main_arg4)) →
    ∃ (v0 : (c : Dev Cert.InRowsIdeal.nD) → Buf (Elt Ideal) ((c.tc : Thread Cert.InRowsIdeal.nD Cert.InRowsIdeal.τ).loc Cert.InRowsIdeal.main_v5_0)) (v1 : (c : Dev Cert.InRowsIdeal.nD) → Buf (Elt Ideal) ((c.tc : Thread Cert.InRowsIdeal.nD Cert.InRowsIdeal.τ).loc Cert.InRowsIdeal.main_v5_1)),
      θ_run (Cert.InRowsIdeal.defs (F := Ideal)) (onTc (τ := Cert.InRowsIdeal.τ) (Cert.InRowsIdeal.main (F := Ideal))) ⟨m, fun _ => 0, g⟩ (fun r => ∀ c : Dev Cert.InRowsIdeal.nD,
          r.2.mem ((c.tc : Thread Cert.InRowsIdeal.nD Cert.InRowsIdeal.τ).loc Cert.InRowsIdeal.main_v5_0) = v0 c
          ∧ r.2.mem ((c.tc : Thread Cert.InRowsIdeal.nD Cert.InRowsIdeal.τ).loc Cert.InRowsIdeal.main_v5_1) = v1 c
          ∧ r.2.mem ((c.tc : Thread Cert.InRowsIdeal.nD Cert.InRowsIdeal.τ).loc Cert.InRowsIdeal.main_arg0) = m ((c.tc : Thread Cert.InRowsIdeal.nD Cert.InRowsIdeal.τ).loc Cert.InRowsIdeal.main_arg0)
          ∧ r.2.mem ((c.tc : Thread Cert.InRowsIdeal.nD Cert.InRowsIdeal.τ).loc Cert.InRowsIdeal.main_arg1) = m ((c.tc : Thread Cert.InRowsIdeal.nD Cert.InRowsIdeal.τ).loc Cert.InRowsIdeal.main_arg1)
          ∧ r.2.mem ((c.tc : Thread Cert.InRowsIdeal.nD Cert.InRowsIdeal.τ).loc Cert.InRowsIdeal.main_arg2) = m ((c.tc : Thread Cert.InRowsIdeal.nD Cert.InRowsIdeal.τ).loc Cert.InRowsIdeal.main_arg2)
          ∧ r.2.mem ((c.tc : Thread Cert.InRowsIdeal.nD Cert.InRowsIdeal.τ).loc Cert.InRowsIdeal.main_arg3) = m ((c.tc : Thread Cert.InRowsIdeal.nD Cert.InRowsIdeal.τ).loc Cert.InRowsIdeal.main_arg3)
          ∧ r.2.mem ((c.tc : Thread Cert.InRowsIdeal.nD Cert.InRowsIdeal.τ).loc Cert.InRowsIdeal.main_arg4) = m ((c.tc : Thread Cert.InRowsIdeal.nD Cert.InRowsIdeal.τ).loc Cert.InRowsIdeal.main_arg4))
      ∧ θ_run (Cert.InRowsReferenceIdeal.defs (F := Ideal)) (onTc (τ := Cert.InRowsReferenceIdeal.τ) (Cert.InRowsReferenceIdeal.main (F := Ideal))) ⟨m', fun _ => 0, g'⟩ (fun r => ∀ c : Dev Cert.InRowsReferenceIdeal.nD,
          r.2.mem ((c.tc : Thread Cert.InRowsReferenceIdeal.nD Cert.InRowsReferenceIdeal.τ).loc Cert.InRowsReferenceIdeal.main_v38) = v0 c
          ∧ r.2.mem ((c.tc : Thread Cert.InRowsReferenceIdeal.nD Cert.InRowsReferenceIdeal.τ).loc Cert.InRowsReferenceIdeal.main_v39) = v1 c
          ∧ r.2.mem ((c.tc : Thread Cert.InRowsReferenceIdeal.nD Cert.InRowsReferenceIdeal.τ).loc Cert.InRowsReferenceIdeal.main_arg0) = m' ((c.tc : Thread Cert.InRowsReferenceIdeal.nD Cert.InRowsReferenceIdeal.τ).loc Cert.InRowsReferenceIdeal.main_arg0)
          ∧ r.2.mem ((c.tc : Thread Cert.InRowsReferenceIdeal.nD Cert.InRowsReferenceIdeal.τ).loc Cert.InRowsReferenceIdeal.main_arg1) = m' ((c.tc : Thread Cert.InRowsReferenceIdeal.nD Cert.InRowsReferenceIdeal.τ).loc Cert.InRowsReferenceIdeal.main_arg1)
          ∧ r.2.mem ((c.tc : Thread Cert.InRowsReferenceIdeal.nD Cert.InRowsReferenceIdeal.τ).loc Cert.InRowsReferenceIdeal.main_arg2) = m' ((c.tc : Thread Cert.InRowsReferenceIdeal.nD Cert.InRowsReferenceIdeal.τ).loc Cert.InRowsReferenceIdeal.main_arg2)
          ∧ r.2.mem ((c.tc : Thread Cert.InRowsReferenceIdeal.nD Cert.InRowsReferenceIdeal.τ).loc Cert.InRowsReferenceIdeal.main_arg3) = m' ((c.tc : Thread Cert.InRowsReferenceIdeal.nD Cert.InRowsReferenceIdeal.τ).loc Cert.InRowsReferenceIdeal.main_arg3)
          ∧ r.2.mem ((c.tc : Thread Cert.InRowsReferenceIdeal.nD Cert.InRowsReferenceIdeal.τ).loc Cert.InRowsReferenceIdeal.main_arg4) = m' ((c.tc : Thread Cert.InRowsReferenceIdeal.nD Cert.InRowsReferenceIdeal.τ).loc Cert.InRowsReferenceIdeal.main_arg4))

def preserves_InWeight_InWeightIdeal : Prop :=
  True

def algebraic_InWeightIdeal_InWeightReferenceIdeal [hInWeightIdeal : Cert.InWeightIdeal.Facts] [hInWeightReferenceIdeal : Cert.InWeightReferenceIdeal.Facts] : Prop :=
  ∀ (m : (ℓ : Loc Cert.InWeightIdeal.nD Cert.InWeightIdeal.τ Cert.InWeightIdeal.sig) → Buf (Elt Ideal) ℓ) (g : Dev Cert.InWeightIdeal.nD → PrngReg)
    (m' : (ℓ : Loc Cert.InWeightReferenceIdeal.nD Cert.InWeightReferenceIdeal.τ Cert.InWeightReferenceIdeal.sig) → Buf (Elt Ideal) ℓ) (g' : Dev Cert.InWeightReferenceIdeal.nD → PrngReg), Pre_InWeightIdeal m →
    (∀ c : Dev Cert.InWeightIdeal.nD,
      m' ((c.tc : Thread Cert.InWeightReferenceIdeal.nD Cert.InWeightReferenceIdeal.τ).loc Cert.InWeightReferenceIdeal.main_arg0) = m ((c.tc : Thread Cert.InWeightIdeal.nD Cert.InWeightIdeal.τ).loc Cert.InWeightIdeal.main_arg0)
      ∧ m' ((c.tc : Thread Cert.InWeightReferenceIdeal.nD Cert.InWeightReferenceIdeal.τ).loc Cert.InWeightReferenceIdeal.main_arg1) = m ((c.tc : Thread Cert.InWeightIdeal.nD Cert.InWeightIdeal.τ).loc Cert.InWeightIdeal.main_arg1)) →
    ∃ (v0 : (c : Dev Cert.InWeightIdeal.nD) → Buf (Elt Ideal) ((c.tc : Thread Cert.InWeightIdeal.nD Cert.InWeightIdeal.τ).loc Cert.InWeightIdeal.main_v2)),
      θ_run (Cert.InWeightIdeal.defs (F := Ideal)) (onTc (τ := Cert.InWeightIdeal.τ) (Cert.InWeightIdeal.main (F := Ideal))) ⟨m, fun _ => 0, g⟩ (fun r => ∀ c : Dev Cert.InWeightIdeal.nD,
          r.2.mem ((c.tc : Thread Cert.InWeightIdeal.nD Cert.InWeightIdeal.τ).loc Cert.InWeightIdeal.main_v2) = v0 c
          ∧ r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
          ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ θ_run (Cert.InWeightReferenceIdeal.defs (F := Ideal)) (onTc (τ := Cert.InWeightReferenceIdeal.τ) (Cert.InWeightReferenceIdeal.main (F := Ideal))) ⟨m', fun _ => 0, g'⟩ (fun r => ∀ c : Dev Cert.InWeightReferenceIdeal.nD,
          r.2.mem ((c.tc : Thread Cert.InWeightReferenceIdeal.nD Cert.InWeightReferenceIdeal.τ).loc Cert.InWeightReferenceIdeal.main_v6) = v0 c
          ∧ r.2.mem ((c.tc : Thread Cert.InWeightReferenceIdeal.nD Cert.InWeightReferenceIdeal.τ).loc Cert.InWeightReferenceIdeal.main_arg0) = m' ((c.tc : Thread Cert.InWeightReferenceIdeal.nD Cert.InWeightReferenceIdeal.τ).loc Cert.InWeightReferenceIdeal.main_arg0)
          ∧ r.2.mem ((c.tc : Thread Cert.InWeightReferenceIdeal.nD Cert.InWeightReferenceIdeal.τ).loc Cert.InWeightReferenceIdeal.main_arg1) = m' ((c.tc : Thread Cert.InWeightReferenceIdeal.nD Cert.InWeightReferenceIdeal.τ).loc Cert.InWeightReferenceIdeal.main_arg1))

def preserves_OddRows_OddRowsIdeal : Prop :=
  True

def algebraic_OddRowsIdeal_OddRowsReferenceIdeal [hOddRowsIdeal : Cert.OddRowsIdeal.Facts] [hOddRowsReferenceIdeal : Cert.OddRowsReferenceIdeal.Facts] : Prop :=
  ∀ (m : (ℓ : Loc Cert.OddRowsIdeal.nD Cert.OddRowsIdeal.τ Cert.OddRowsIdeal.sig) → Buf (Elt Ideal) ℓ) (g : Dev Cert.OddRowsIdeal.nD → PrngReg)
    (m' : (ℓ : Loc Cert.OddRowsReferenceIdeal.nD Cert.OddRowsReferenceIdeal.τ Cert.OddRowsReferenceIdeal.sig) → Buf (Elt Ideal) ℓ) (g' : Dev Cert.OddRowsReferenceIdeal.nD → PrngReg), Pre_OddRowsIdeal m →
    (∀ c : Dev Cert.OddRowsIdeal.nD,
      m' ((c.tc : Thread Cert.OddRowsReferenceIdeal.nD Cert.OddRowsReferenceIdeal.τ).loc Cert.OddRowsReferenceIdeal.main_arg0) = m ((c.tc : Thread Cert.OddRowsIdeal.nD Cert.OddRowsIdeal.τ).loc Cert.OddRowsIdeal.main_arg0)
      ∧ m' ((c.tc : Thread Cert.OddRowsReferenceIdeal.nD Cert.OddRowsReferenceIdeal.τ).loc Cert.OddRowsReferenceIdeal.main_arg1) = m ((c.tc : Thread Cert.OddRowsIdeal.nD Cert.OddRowsIdeal.τ).loc Cert.OddRowsIdeal.main_arg1)
      ∧ m' ((c.tc : Thread Cert.OddRowsReferenceIdeal.nD Cert.OddRowsReferenceIdeal.τ).loc Cert.OddRowsReferenceIdeal.main_arg2) = m ((c.tc : Thread Cert.OddRowsIdeal.nD Cert.OddRowsIdeal.τ).loc Cert.OddRowsIdeal.main_arg2)
      ∧ m' ((c.tc : Thread Cert.OddRowsReferenceIdeal.nD Cert.OddRowsReferenceIdeal.τ).loc Cert.OddRowsReferenceIdeal.main_arg3) = m ((c.tc : Thread Cert.OddRowsIdeal.nD Cert.OddRowsIdeal.τ).loc Cert.OddRowsIdeal.main_arg3)
      ∧ m' ((c.tc : Thread Cert.OddRowsReferenceIdeal.nD Cert.OddRowsReferenceIdeal.τ).loc Cert.OddRowsReferenceIdeal.main_arg4) = m ((c.tc : Thread Cert.OddRowsIdeal.nD Cert.OddRowsIdeal.τ).loc Cert.OddRowsIdeal.main_arg4)) →
    ∃ (v0 : (c : Dev Cert.OddRowsIdeal.nD) → Buf (Elt Ideal) ((c.tc : Thread Cert.OddRowsIdeal.nD Cert.OddRowsIdeal.τ).loc Cert.OddRowsIdeal.main_v3_0)) (v1 : (c : Dev Cert.OddRowsIdeal.nD) → Buf (Elt Ideal) ((c.tc : Thread Cert.OddRowsIdeal.nD Cert.OddRowsIdeal.τ).loc Cert.OddRowsIdeal.main_v3_1)) (v2 : (c : Dev Cert.OddRowsIdeal.nD) → Buf (Elt Ideal) ((c.tc : Thread Cert.OddRowsIdeal.nD Cert.OddRowsIdeal.τ).loc Cert.OddRowsIdeal.main_v3_2)),
      θ_run (Cert.OddRowsIdeal.defs (F := Ideal)) (onTc (τ := Cert.OddRowsIdeal.τ) (Cert.OddRowsIdeal.main (F := Ideal))) ⟨m, fun _ => 0, g⟩ (fun r => ∀ c : Dev Cert.OddRowsIdeal.nD,
          r.2.mem ((c.tc : Thread Cert.OddRowsIdeal.nD Cert.OddRowsIdeal.τ).loc Cert.OddRowsIdeal.main_v3_0) = v0 c
          ∧ r.2.mem ((c.tc : Thread Cert.OddRowsIdeal.nD Cert.OddRowsIdeal.τ).loc Cert.OddRowsIdeal.main_v3_1) = v1 c
          ∧ r.2.mem ((c.tc : Thread Cert.OddRowsIdeal.nD Cert.OddRowsIdeal.τ).loc Cert.OddRowsIdeal.main_v3_2) = v2 c
          ∧ r.2.mem ((c.tc : Thread Cert.OddRowsIdeal.nD Cert.OddRowsIdeal.τ).loc Cert.OddRowsIdeal.main_arg0) = m ((c.tc : Thread Cert.OddRowsIdeal.nD Cert.OddRowsIdeal.τ).loc Cert.OddRowsIdeal.main_arg0)
          ∧ r.2.mem ((c.tc : Thread Cert.OddRowsIdeal.nD Cert.OddRowsIdeal.τ).loc Cert.OddRowsIdeal.main_arg1) = m ((c.tc : Thread Cert.OddRowsIdeal.nD Cert.OddRowsIdeal.τ).loc Cert.OddRowsIdeal.main_arg1)
          ∧ r.2.mem ((c.tc : Thread Cert.OddRowsIdeal.nD Cert.OddRowsIdeal.τ).loc Cert.OddRowsIdeal.main_arg2) = m ((c.tc : Thread Cert.OddRowsIdeal.nD Cert.OddRowsIdeal.τ).loc Cert.OddRowsIdeal.main_arg2)
          ∧ r.2.mem ((c.tc : Thread Cert.OddRowsIdeal.nD Cert.OddRowsIdeal.τ).loc Cert.OddRowsIdeal.main_arg3) = m ((c.tc : Thread Cert.OddRowsIdeal.nD Cert.OddRowsIdeal.τ).loc Cert.OddRowsIdeal.main_arg3)
          ∧ r.2.mem ((c.tc : Thread Cert.OddRowsIdeal.nD Cert.OddRowsIdeal.τ).loc Cert.OddRowsIdeal.main_arg4) = m ((c.tc : Thread Cert.OddRowsIdeal.nD Cert.OddRowsIdeal.τ).loc Cert.OddRowsIdeal.main_arg4))
      ∧ θ_run (Cert.OddRowsReferenceIdeal.defs (F := Ideal)) (onTc (τ := Cert.OddRowsReferenceIdeal.τ) (Cert.OddRowsReferenceIdeal.main (F := Ideal))) ⟨m', fun _ => 0, g'⟩ (fun r => ∀ c : Dev Cert.OddRowsReferenceIdeal.nD,
          r.2.mem ((c.tc : Thread Cert.OddRowsReferenceIdeal.nD Cert.OddRowsReferenceIdeal.τ).loc Cert.OddRowsReferenceIdeal.main_v38) = v0 c
          ∧ r.2.mem ((c.tc : Thread Cert.OddRowsReferenceIdeal.nD Cert.OddRowsReferenceIdeal.τ).loc Cert.OddRowsReferenceIdeal.main_v39) = v1 c
          ∧ r.2.mem ((c.tc : Thread Cert.OddRowsReferenceIdeal.nD Cert.OddRowsReferenceIdeal.τ).loc Cert.OddRowsReferenceIdeal.main_v40) = v2 c
          ∧ r.2.mem ((c.tc : Thread Cert.OddRowsReferenceIdeal.nD Cert.OddRowsReferenceIdeal.τ).loc Cert.OddRowsReferenceIdeal.main_arg0) = m' ((c.tc : Thread Cert.OddRowsReferenceIdeal.nD Cert.OddRowsReferenceIdeal.τ).loc Cert.OddRowsReferenceIdeal.main_arg0)
          ∧ r.2.mem ((c.tc : Thread Cert.OddRowsReferenceIdeal.nD Cert.OddRowsReferenceIdeal.τ).loc Cert.OddRowsReferenceIdeal.main_arg1) = m' ((c.tc : Thread Cert.OddRowsReferenceIdeal.nD Cert.OddRowsReferenceIdeal.τ).loc Cert.OddRowsReferenceIdeal.main_arg1)
          ∧ r.2.mem ((c.tc : Thread Cert.OddRowsReferenceIdeal.nD Cert.OddRowsReferenceIdeal.τ).loc Cert.OddRowsReferenceIdeal.main_arg2) = m' ((c.tc : Thread Cert.OddRowsReferenceIdeal.nD Cert.OddRowsReferenceIdeal.τ).loc Cert.OddRowsReferenceIdeal.main_arg2)
          ∧ r.2.mem ((c.tc : Thread Cert.OddRowsReferenceIdeal.nD Cert.OddRowsReferenceIdeal.τ).loc Cert.OddRowsReferenceIdeal.main_arg3) = m' ((c.tc : Thread Cert.OddRowsReferenceIdeal.nD Cert.OddRowsReferenceIdeal.τ).loc Cert.OddRowsReferenceIdeal.main_arg3)
          ∧ r.2.mem ((c.tc : Thread Cert.OddRowsReferenceIdeal.nD Cert.OddRowsReferenceIdeal.τ).loc Cert.OddRowsReferenceIdeal.main_arg4) = m' ((c.tc : Thread Cert.OddRowsReferenceIdeal.nD Cert.OddRowsReferenceIdeal.τ).loc Cert.OddRowsReferenceIdeal.main_arg4))

def preserves_OddWeight_OddWeightIdeal : Prop :=
  True

def algebraic_OddWeightIdeal_OddWeightReferenceIdeal [hOddWeightIdeal : Cert.OddWeightIdeal.Facts] [hOddWeightReferenceIdeal : Cert.OddWeightReferenceIdeal.Facts] : Prop :=
  ∀ (m : (ℓ : Loc Cert.OddWeightIdeal.nD Cert.OddWeightIdeal.τ Cert.OddWeightIdeal.sig) → Buf (Elt Ideal) ℓ) (g : Dev Cert.OddWeightIdeal.nD → PrngReg)
    (m' : (ℓ : Loc Cert.OddWeightReferenceIdeal.nD Cert.OddWeightReferenceIdeal.τ Cert.OddWeightReferenceIdeal.sig) → Buf (Elt Ideal) ℓ) (g' : Dev Cert.OddWeightReferenceIdeal.nD → PrngReg), Pre_OddWeightIdeal m →
    (∀ c : Dev Cert.OddWeightIdeal.nD,
      m' ((c.tc : Thread Cert.OddWeightReferenceIdeal.nD Cert.OddWeightReferenceIdeal.τ).loc Cert.OddWeightReferenceIdeal.main_arg0) = m ((c.tc : Thread Cert.OddWeightIdeal.nD Cert.OddWeightIdeal.τ).loc Cert.OddWeightIdeal.main_arg0)
      ∧ m' ((c.tc : Thread Cert.OddWeightReferenceIdeal.nD Cert.OddWeightReferenceIdeal.τ).loc Cert.OddWeightReferenceIdeal.main_arg1) = m ((c.tc : Thread Cert.OddWeightIdeal.nD Cert.OddWeightIdeal.τ).loc Cert.OddWeightIdeal.main_arg1)) →
    ∃ (v0 : (c : Dev Cert.OddWeightIdeal.nD) → Buf (Elt Ideal) ((c.tc : Thread Cert.OddWeightIdeal.nD Cert.OddWeightIdeal.τ).loc Cert.OddWeightIdeal.main_v2)),
      θ_run (Cert.OddWeightIdeal.defs (F := Ideal)) (onTc (τ := Cert.OddWeightIdeal.τ) (Cert.OddWeightIdeal.main (F := Ideal))) ⟨m, fun _ => 0, g⟩ (fun r => ∀ c : Dev Cert.OddWeightIdeal.nD,
          r.2.mem ((c.tc : Thread Cert.OddWeightIdeal.nD Cert.OddWeightIdeal.τ).loc Cert.OddWeightIdeal.main_v2) = v0 c
          ∧ r.2.mem ((c.tc : Thread Cert.OddWeightIdeal.nD Cert.OddWeightIdeal.τ).loc Cert.OddWeightIdeal.main_arg0) = m ((c.tc : Thread Cert.OddWeightIdeal.nD Cert.OddWeightIdeal.τ).loc Cert.OddWeightIdeal.main_arg0)
          ∧ r.2.mem ((c.tc : Thread Cert.OddWeightIdeal.nD Cert.OddWeightIdeal.τ).loc Cert.OddWeightIdeal.main_arg1) = m ((c.tc : Thread Cert.OddWeightIdeal.nD Cert.OddWeightIdeal.τ).loc Cert.OddWeightIdeal.main_arg1))
      ∧ θ_run (Cert.OddWeightReferenceIdeal.defs (F := Ideal)) (onTc (τ := Cert.OddWeightReferenceIdeal.τ) (Cert.OddWeightReferenceIdeal.main (F := Ideal))) ⟨m', fun _ => 0, g'⟩ (fun r => ∀ c : Dev Cert.OddWeightReferenceIdeal.nD,
          r.2.mem ((c.tc : Thread Cert.OddWeightReferenceIdeal.nD Cert.OddWeightReferenceIdeal.τ).loc Cert.OddWeightReferenceIdeal.main_v4) = v0 c
          ∧ r.2.mem ((c.tc : Thread Cert.OddWeightReferenceIdeal.nD Cert.OddWeightReferenceIdeal.τ).loc Cert.OddWeightReferenceIdeal.main_arg0) = m' ((c.tc : Thread Cert.OddWeightReferenceIdeal.nD Cert.OddWeightReferenceIdeal.τ).loc Cert.OddWeightReferenceIdeal.main_arg0)
          ∧ r.2.mem ((c.tc : Thread Cert.OddWeightReferenceIdeal.nD Cert.OddWeightReferenceIdeal.τ).loc Cert.OddWeightReferenceIdeal.main_arg1) = m' ((c.tc : Thread Cert.OddWeightReferenceIdeal.nD Cert.OddWeightReferenceIdeal.τ).loc Cert.OddWeightReferenceIdeal.main_arg1))

def preserves_OutWeight_OutWeightIdeal : Prop :=
  True

def algebraic_OutWeightIdeal_OutWeightReferenceIdeal [hOutWeightIdeal : Cert.OutWeightIdeal.Facts] [hOutWeightReferenceIdeal : Cert.OutWeightReferenceIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg)
    (m' : (ℓ : Loc Cert.OutWeightReferenceIdeal.nD Cert.OutWeightReferenceIdeal.τ Cert.OutWeightReferenceIdeal.sig) → Buf (Elt Ideal) ℓ) (g' : Dev Cert.OutWeightReferenceIdeal.nD → PrngReg), Pre_OutWeightIdeal m →
    (∀ c : Dev Cert.OutWeightIdeal.nD,
      m' ((c.tc : Thread Cert.OutWeightReferenceIdeal.nD Cert.OutWeightReferenceIdeal.τ).loc Cert.OutWeightReferenceIdeal.main_arg0) = m ((c.tc : Thread Cert.OutWeightIdeal.nD Cert.OutWeightIdeal.τ).loc Cert.OutWeightIdeal.main_arg0)
      ∧ m' ((c.tc : Thread Cert.OutWeightReferenceIdeal.nD Cert.OutWeightReferenceIdeal.τ).loc Cert.OutWeightReferenceIdeal.main_arg1) = m ((c.tc : Thread Cert.OutWeightIdeal.nD Cert.OutWeightIdeal.τ).loc Cert.OutWeightIdeal.main_arg1)) →
    ∃ (v0 : (c : Dev Cert.OutWeightIdeal.nD) → Buf (Elt Ideal) ((c.tc : Thread Cert.OutWeightIdeal.nD Cert.OutWeightIdeal.τ).loc Cert.OutWeightIdeal.main_v2)),
      θ_run (Cert.OutWeightIdeal.defs (F := Ideal)) (onTc (τ := Cert.OutWeightIdeal.τ) (Cert.OutWeightIdeal.main (F := Ideal))) ⟨m, fun _ => 0, g⟩ (fun r => ∀ c : Dev Cert.OutWeightIdeal.nD,
          r.2.mem ((c.tc : Thread Cert.OutWeightIdeal.nD Cert.OutWeightIdeal.τ).loc Cert.OutWeightIdeal.main_v2) = v0 c
          ∧ r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
          ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ θ_run (Cert.OutWeightReferenceIdeal.defs (F := Ideal)) (onTc (τ := Cert.OutWeightReferenceIdeal.τ) (Cert.OutWeightReferenceIdeal.main (F := Ideal))) ⟨m', fun _ => 0, g'⟩ (fun r => ∀ c : Dev Cert.OutWeightReferenceIdeal.nD,
          r.2.mem ((c.tc : Thread Cert.OutWeightReferenceIdeal.nD Cert.OutWeightReferenceIdeal.τ).loc Cert.OutWeightReferenceIdeal.main_v4) = v0 c
          ∧ r.2.mem ((c.tc : Thread Cert.OutWeightReferenceIdeal.nD Cert.OutWeightReferenceIdeal.τ).loc Cert.OutWeightReferenceIdeal.main_arg0) = m' ((c.tc : Thread Cert.OutWeightReferenceIdeal.nD Cert.OutWeightReferenceIdeal.τ).loc Cert.OutWeightReferenceIdeal.main_arg0)
          ∧ r.2.mem ((c.tc : Thread Cert.OutWeightReferenceIdeal.nD Cert.OutWeightReferenceIdeal.τ).loc Cert.OutWeightReferenceIdeal.main_arg1) = m' ((c.tc : Thread Cert.OutWeightReferenceIdeal.nD Cert.OutWeightReferenceIdeal.τ).loc Cert.OutWeightReferenceIdeal.main_arg1))

def preserves_OutMix_OutMixIdeal : Prop :=
  True

def algebraic_OutMixIdeal_OutMixReferenceIdeal [hOutMixIdeal : Cert.OutMixIdeal.Facts] [hOutMixReferenceIdeal : Cert.OutMixReferenceIdeal.Facts] : Prop :=
  ∀ (m : (ℓ : Loc Cert.OutMixIdeal.nD Cert.OutMixIdeal.τ Cert.OutMixIdeal.sig) → Buf (Elt Ideal) ℓ) (g : Dev Cert.OutMixIdeal.nD → PrngReg)
    (m' : (ℓ : Loc Cert.OutMixReferenceIdeal.nD Cert.OutMixReferenceIdeal.τ Cert.OutMixReferenceIdeal.sig) → Buf (Elt Ideal) ℓ) (g' : Dev Cert.OutMixReferenceIdeal.nD → PrngReg), Pre_OutMixIdeal m →
    (∀ c : Dev Cert.OutMixIdeal.nD,
      m' ((c.tc : Thread Cert.OutMixReferenceIdeal.nD Cert.OutMixReferenceIdeal.τ).loc Cert.OutMixReferenceIdeal.main_arg0) = m ((c.tc : Thread Cert.OutMixIdeal.nD Cert.OutMixIdeal.τ).loc Cert.OutMixIdeal.main_arg0)
      ∧ m' ((c.tc : Thread Cert.OutMixReferenceIdeal.nD Cert.OutMixReferenceIdeal.τ).loc Cert.OutMixReferenceIdeal.main_arg1) = m ((c.tc : Thread Cert.OutMixIdeal.nD Cert.OutMixIdeal.τ).loc Cert.OutMixIdeal.main_arg1)) →
    ∃ (v0 : (c : Dev Cert.OutMixIdeal.nD) → Buf (Elt Ideal) ((c.tc : Thread Cert.OutMixIdeal.nD Cert.OutMixIdeal.τ).loc Cert.OutMixIdeal.main_v2)),
      θ_run (Cert.OutMixIdeal.defs (F := Ideal)) (onTc (τ := Cert.OutMixIdeal.τ) (Cert.OutMixIdeal.main (F := Ideal))) ⟨m, fun _ => 0, g⟩ (fun r => ∀ c : Dev Cert.OutMixIdeal.nD,
          r.2.mem ((c.tc : Thread Cert.OutMixIdeal.nD Cert.OutMixIdeal.τ).loc Cert.OutMixIdeal.main_v2) = v0 c
          ∧ r.2.mem ((c.tc : Thread Cert.OutMixIdeal.nD Cert.OutMixIdeal.τ).loc Cert.OutMixIdeal.main_arg0) = m ((c.tc : Thread Cert.OutMixIdeal.nD Cert.OutMixIdeal.τ).loc Cert.OutMixIdeal.main_arg0)
          ∧ r.2.mem ((c.tc : Thread Cert.OutMixIdeal.nD Cert.OutMixIdeal.τ).loc Cert.OutMixIdeal.main_arg1) = m ((c.tc : Thread Cert.OutMixIdeal.nD Cert.OutMixIdeal.τ).loc Cert.OutMixIdeal.main_arg1))
      ∧ θ_run (Cert.OutMixReferenceIdeal.defs (F := Ideal)) (onTc (τ := Cert.OutMixReferenceIdeal.τ) (Cert.OutMixReferenceIdeal.main (F := Ideal))) ⟨m', fun _ => 0, g'⟩ (fun r => ∀ c : Dev Cert.OutMixReferenceIdeal.nD,
          r.2.mem ((c.tc : Thread Cert.OutMixReferenceIdeal.nD Cert.OutMixReferenceIdeal.τ).loc Cert.OutMixReferenceIdeal.main_v2) = v0 c
          ∧ r.2.mem ((c.tc : Thread Cert.OutMixReferenceIdeal.nD Cert.OutMixReferenceIdeal.τ).loc Cert.OutMixReferenceIdeal.main_arg0) = m' ((c.tc : Thread Cert.OutMixReferenceIdeal.nD Cert.OutMixReferenceIdeal.τ).loc Cert.OutMixReferenceIdeal.main_arg0)
          ∧ r.2.mem ((c.tc : Thread Cert.OutMixReferenceIdeal.nD Cert.OutMixReferenceIdeal.τ).loc Cert.OutMixReferenceIdeal.main_arg1) = m' ((c.tc : Thread Cert.OutMixReferenceIdeal.nD Cert.OutMixReferenceIdeal.τ).loc Cert.OutMixReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v3_0)) (v1 : (c : Dev Cert.OutIdeal.nD) → Buf (Elt Ideal) ((c.tc : Thread Cert.OutIdeal.nD Cert.OutIdeal.τ).loc Cert.OutIdeal.main_v3_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3_0) = v0 c
          ∧ r.2.mem ((c.tc : Thread Cert.OutIdeal.nD Cert.OutIdeal.τ).loc Cert.OutIdeal.main_v3_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v1) = v0 c
          ∧ r.2.mem ((c.tc : Thread Cert.OutReferenceIdeal.nD Cert.OutReferenceIdeal.τ).loc Cert.OutReferenceIdeal.main_v15) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_OddMix_OddMixIdeal : Prop :=
  True

def algebraic_OddMixIdeal_OddMixReferenceIdeal [hOddMixIdeal : Cert.OddMixIdeal.Facts] [hOddMixReferenceIdeal : Cert.OddMixReferenceIdeal.Facts] : Prop :=
  ∀ (m : (ℓ : Loc Cert.OddMixIdeal.nD Cert.OddMixIdeal.τ Cert.OddMixIdeal.sig) → Buf (Elt Ideal) ℓ) (g : Dev Cert.OddMixIdeal.nD → PrngReg)
    (m' : (ℓ : Loc Cert.OddMixReferenceIdeal.nD Cert.OddMixReferenceIdeal.τ Cert.OddMixReferenceIdeal.sig) → Buf (Elt Ideal) ℓ) (g' : Dev Cert.OddMixReferenceIdeal.nD → PrngReg), Pre_OddMixIdeal m →
    (∀ c : Dev Cert.OddMixIdeal.nD,
      m' ((c.tc : Thread Cert.OddMixReferenceIdeal.nD Cert.OddMixReferenceIdeal.τ).loc Cert.OddMixReferenceIdeal.main_arg0) = m ((c.tc : Thread Cert.OddMixIdeal.nD Cert.OddMixIdeal.τ).loc Cert.OddMixIdeal.main_arg0)
      ∧ m' ((c.tc : Thread Cert.OddMixReferenceIdeal.nD Cert.OddMixReferenceIdeal.τ).loc Cert.OddMixReferenceIdeal.main_arg1) = m ((c.tc : Thread Cert.OddMixIdeal.nD Cert.OddMixIdeal.τ).loc Cert.OddMixIdeal.main_arg1)) →
    ∃ (v0 : (c : Dev Cert.OddMixIdeal.nD) → Buf (Elt Ideal) ((c.tc : Thread Cert.OddMixIdeal.nD Cert.OddMixIdeal.τ).loc Cert.OddMixIdeal.main_v2)),
      θ_run (Cert.OddMixIdeal.defs (F := Ideal)) (onTc (τ := Cert.OddMixIdeal.τ) (Cert.OddMixIdeal.main (F := Ideal))) ⟨m, fun _ => 0, g⟩ (fun r => ∀ c : Dev Cert.OddMixIdeal.nD,
          r.2.mem ((c.tc : Thread Cert.OddMixIdeal.nD Cert.OddMixIdeal.τ).loc Cert.OddMixIdeal.main_v2) = v0 c
          ∧ r.2.mem ((c.tc : Thread Cert.OddMixIdeal.nD Cert.OddMixIdeal.τ).loc Cert.OddMixIdeal.main_arg0) = m ((c.tc : Thread Cert.OddMixIdeal.nD Cert.OddMixIdeal.τ).loc Cert.OddMixIdeal.main_arg0)
          ∧ r.2.mem ((c.tc : Thread Cert.OddMixIdeal.nD Cert.OddMixIdeal.τ).loc Cert.OddMixIdeal.main_arg1) = m ((c.tc : Thread Cert.OddMixIdeal.nD Cert.OddMixIdeal.τ).loc Cert.OddMixIdeal.main_arg1))
      ∧ θ_run (Cert.OddMixReferenceIdeal.defs (F := Ideal)) (onTc (τ := Cert.OddMixReferenceIdeal.τ) (Cert.OddMixReferenceIdeal.main (F := Ideal))) ⟨m', fun _ => 0, g'⟩ (fun r => ∀ c : Dev Cert.OddMixReferenceIdeal.nD,
          r.2.mem ((c.tc : Thread Cert.OddMixReferenceIdeal.nD Cert.OddMixReferenceIdeal.τ).loc Cert.OddMixReferenceIdeal.main_v3) = v0 c
          ∧ r.2.mem ((c.tc : Thread Cert.OddMixReferenceIdeal.nD Cert.OddMixReferenceIdeal.τ).loc Cert.OddMixReferenceIdeal.main_arg0) = m' ((c.tc : Thread Cert.OddMixReferenceIdeal.nD Cert.OddMixReferenceIdeal.τ).loc Cert.OddMixReferenceIdeal.main_arg0)
          ∧ r.2.mem ((c.tc : Thread Cert.OddMixReferenceIdeal.nD Cert.OddMixReferenceIdeal.τ).loc Cert.OddMixReferenceIdeal.main_arg1) = m' ((c.tc : Thread Cert.OddMixReferenceIdeal.nD Cert.OddMixReferenceIdeal.τ).loc Cert.OddMixReferenceIdeal.main_arg1))

def preserves_EvenIn_EvenInIdeal : Prop :=
  True

def algebraic_EvenInIdeal_EvenInReferenceIdeal [hEvenInIdeal : Cert.EvenInIdeal.Facts] [hEvenInReferenceIdeal : Cert.EvenInReferenceIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInReferenceIdeal.nD Cert.EvenInReferenceIdeal.τ Cert.EvenInReferenceIdeal.sig) → Buf (Elt Ideal) ℓ) (g' : Dev Cert.EvenInReferenceIdeal.nD → PrngReg), Pre_EvenInIdeal m →
    (∀ c : Dev Cert.EvenInIdeal.nD,
      m' ((c.tc : Thread Cert.EvenInReferenceIdeal.nD Cert.EvenInReferenceIdeal.τ).loc Cert.EvenInReferenceIdeal.main_arg0) = m ((c.tc : Thread Cert.EvenInIdeal.nD Cert.EvenInIdeal.τ).loc Cert.EvenInIdeal.main_arg0)
      ∧ m' ((c.tc : Thread Cert.EvenInReferenceIdeal.nD Cert.EvenInReferenceIdeal.τ).loc Cert.EvenInReferenceIdeal.main_arg1) = m ((c.tc : Thread Cert.EvenInIdeal.nD Cert.EvenInIdeal.τ).loc Cert.EvenInIdeal.main_arg1)
      ∧ m' ((c.tc : Thread Cert.EvenInReferenceIdeal.nD Cert.EvenInReferenceIdeal.τ).loc Cert.EvenInReferenceIdeal.main_arg2) = m ((c.tc : Thread Cert.EvenInIdeal.nD Cert.EvenInIdeal.τ).loc Cert.EvenInIdeal.main_arg2)) →
    ∃ (v0 : (c : Dev Cert.EvenInIdeal.nD) → Buf (Elt Ideal) ((c.tc : Thread Cert.EvenInIdeal.nD Cert.EvenInIdeal.τ).loc Cert.EvenInIdeal.main_v4_0)) (v1 : (c : Dev Cert.EvenInIdeal.nD) → Buf (Elt Ideal) ((c.tc : Thread Cert.EvenInIdeal.nD Cert.EvenInIdeal.τ).loc Cert.EvenInIdeal.main_v4_1)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v4_0) = v0 c
          ∧ r.2.mem ((c.tc : Thread Cert.EvenInIdeal.nD Cert.EvenInIdeal.τ).loc Cert.EvenInIdeal.main_v4_1) = v1 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ θ_run (Cert.EvenInReferenceIdeal.defs (F := Ideal)) (onTc (τ := Cert.EvenInReferenceIdeal.τ) (Cert.EvenInReferenceIdeal.main (F := Ideal))) ⟨m', fun _ => 0, g'⟩ (fun r => ∀ c : Dev Cert.EvenInReferenceIdeal.nD,
          r.2.mem ((c.tc : Thread Cert.EvenInReferenceIdeal.nD Cert.EvenInReferenceIdeal.τ).loc Cert.EvenInReferenceIdeal.main_v13) = v0 c
          ∧ r.2.mem ((c.tc : Thread Cert.EvenInReferenceIdeal.nD Cert.EvenInReferenceIdeal.τ).loc Cert.EvenInReferenceIdeal.main_v14) = v1 c
          ∧ r.2.mem ((c.tc : Thread Cert.EvenInReferenceIdeal.nD Cert.EvenInReferenceIdeal.τ).loc Cert.EvenInReferenceIdeal.main_arg0) = m' ((c.tc : Thread Cert.EvenInReferenceIdeal.nD Cert.EvenInReferenceIdeal.τ).loc Cert.EvenInReferenceIdeal.main_arg0)
          ∧ r.2.mem ((c.tc : Thread Cert.EvenInReferenceIdeal.nD Cert.EvenInReferenceIdeal.τ).loc Cert.EvenInReferenceIdeal.main_arg1) = m' ((c.tc : Thread Cert.EvenInReferenceIdeal.nD Cert.EvenInReferenceIdeal.τ).loc Cert.EvenInReferenceIdeal.main_arg1)
          ∧ r.2.mem ((c.tc : Thread Cert.EvenInReferenceIdeal.nD Cert.EvenInReferenceIdeal.τ).loc Cert.EvenInReferenceIdeal.main_arg2) = m' ((c.tc : Thread Cert.EvenInReferenceIdeal.nD Cert.EvenInReferenceIdeal.τ).loc Cert.EvenInReferenceIdeal.main_arg2))

def preserves_OddIn_OddInIdeal : Prop :=
  True

def algebraic_OddInIdeal_OddInReferenceIdeal [hOddInIdeal : Cert.OddInIdeal.Facts] [hOddInReferenceIdeal : Cert.OddInReferenceIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInReferenceIdeal.nD Cert.OddInReferenceIdeal.τ Cert.OddInReferenceIdeal.sig) → Buf (Elt Ideal) ℓ) (g' : Dev Cert.OddInReferenceIdeal.nD → PrngReg), Pre_OddInIdeal m →
    (∀ c : Dev Cert.OddInIdeal.nD,
      m' ((c.tc : Thread Cert.OddInReferenceIdeal.nD Cert.OddInReferenceIdeal.τ).loc Cert.OddInReferenceIdeal.main_arg0) = m ((c.tc : Thread Cert.OddInIdeal.nD Cert.OddInIdeal.τ).loc Cert.OddInIdeal.main_arg0)
      ∧ m' ((c.tc : Thread Cert.OddInReferenceIdeal.nD Cert.OddInReferenceIdeal.τ).loc Cert.OddInReferenceIdeal.main_arg1) = m ((c.tc : Thread Cert.OddInIdeal.nD Cert.OddInIdeal.τ).loc Cert.OddInIdeal.main_arg1)) →
    ∃ (v0 : (c : Dev Cert.OddInIdeal.nD) → Buf (Elt Ideal) ((c.tc : Thread Cert.OddInIdeal.nD Cert.OddInIdeal.τ).loc Cert.OddInIdeal.main_v3)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v3) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ θ_run (Cert.OddInReferenceIdeal.defs (F := Ideal)) (onTc (τ := Cert.OddInReferenceIdeal.τ) (Cert.OddInReferenceIdeal.main (F := Ideal))) ⟨m', fun _ => 0, g'⟩ (fun r => ∀ c : Dev Cert.OddInReferenceIdeal.nD,
          r.2.mem ((c.tc : Thread Cert.OddInReferenceIdeal.nD Cert.OddInReferenceIdeal.τ).loc Cert.OddInReferenceIdeal.main_v1) = v0 c
          ∧ r.2.mem ((c.tc : Thread Cert.OddInReferenceIdeal.nD Cert.OddInReferenceIdeal.τ).loc Cert.OddInReferenceIdeal.main_arg0) = m' ((c.tc : Thread Cert.OddInReferenceIdeal.nD Cert.OddInReferenceIdeal.τ).loc Cert.OddInReferenceIdeal.main_arg0)
          ∧ r.2.mem ((c.tc : Thread Cert.OddInReferenceIdeal.nD Cert.OddInReferenceIdeal.τ).loc Cert.OddInReferenceIdeal.main_arg1) = m' ((c.tc : Thread Cert.OddInReferenceIdeal.nD Cert.OddInReferenceIdeal.τ).loc Cert.OddInReferenceIdeal.main_arg1))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)
      ∧ m' ((c.tc : Thread Cert.LossReferenceIdeal.nD Cert.LossReferenceIdeal.τ).loc Cert.LossReferenceIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v5_0)) (v1 : (c : Dev Cert.LossIdeal.nD) → Buf (Elt Ideal) ((c.tc : Thread Cert.LossIdeal.nD Cert.LossIdeal.τ).loc Cert.LossIdeal.main_v5_1)) (v2 : (c : Dev Cert.LossIdeal.nD) → Buf (Elt Ideal) ((c.tc : Thread Cert.LossIdeal.nD Cert.LossIdeal.τ).loc Cert.LossIdeal.main_v5_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v5_0) = v0 c
          ∧ r.2.mem ((c.tc : Thread Cert.LossIdeal.nD Cert.LossIdeal.τ).loc Cert.LossIdeal.main_v5_1) = v1 c
          ∧ r.2.mem ((c.tc : Thread Cert.LossIdeal.nD Cert.LossIdeal.τ).loc Cert.LossIdeal.main_v5_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v16) = v0 c
          ∧ r.2.mem ((c.tc : Thread Cert.LossReferenceIdeal.nD Cert.LossReferenceIdeal.τ).loc Cert.LossReferenceIdeal.main_v20) = v1 c
          ∧ r.2.mem ((c.tc : Thread Cert.LossReferenceIdeal.nD Cert.LossReferenceIdeal.τ).loc Cert.LossReferenceIdeal.main_v21) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3))

def preserves_Attention_AttentionIdeal : Prop :=
  IdealRules.named_const.Statement Cert.AttentionIdeal.κ "mask" .f32 0xF149F2CA#32 ⊥
  ∧ IdealRules.named_const.Statement Cert.AttentionIdeal.κ "scale_log2e" .f32 0x3DD53B95#32 (((Real.sqrt 192)⁻¹ * (Real.log 2)⁻¹ : ℝ) : EReal)
  ∧ IdealRules.named_const.Statement Cert.AttentionIdeal.κ "scale" .f32 0x3D93CD3A#32 (((Real.sqrt 192)⁻¹ : ℝ) : EReal)

def algebraic_AttentionIdeal_AttentionReferenceIdeal_pre_finite_scores [hAttentionIdeal : Cert.AttentionIdeal.Facts] [hAttentionReferenceIdeal : Cert.AttentionReferenceIdeal.Facts] [hPre_finite_scores : Cert.Pre_finite_scores.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal_finite_scores m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)
      ∧ m' ((c.tc : Thread Cert.AttentionReferenceIdeal.nD Cert.AttentionReferenceIdeal.τ).loc Cert.AttentionReferenceIdeal.main_arg2) = m ((c.tc : Thread Cert.AttentionIdeal.nD Cert.AttentionIdeal.τ).loc Cert.AttentionIdeal.main_arg2)
      ∧ m' ((c.tc : Thread Cert.AttentionReferenceIdeal.nD Cert.AttentionReferenceIdeal.τ).loc Cert.AttentionReferenceIdeal.main_arg3) = m ((c.tc : Thread Cert.AttentionIdeal.nD Cert.AttentionIdeal.τ).loc Cert.AttentionIdeal.main_arg3)) →
    ∃ (v0 : (c : Dev Cert.AttentionIdeal.nD) → Buf (Elt Ideal) ((c.tc : Thread Cert.AttentionIdeal.nD Cert.AttentionIdeal.τ).loc Cert.AttentionIdeal.main_v12_0)) (v1 : (c : Dev Cert.AttentionIdeal.nD) → Buf (Elt Ideal) ((c.tc : Thread Cert.AttentionIdeal.nD Cert.AttentionIdeal.τ).loc Cert.AttentionIdeal.main_v12_1)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v12_0) = v0 c
          ∧ r.2.mem ((c.tc : Thread Cert.AttentionIdeal.nD Cert.AttentionIdeal.τ).loc Cert.AttentionIdeal.main_v12_1) = v1 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v33) = v0 c
          ∧ r.2.mem ((c.tc : Thread Cert.AttentionReferenceIdeal.nD Cert.AttentionReferenceIdeal.τ).loc Cert.AttentionReferenceIdeal.main_v25) = v1 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1)
          ∧ r.2.mem ((c.tc : Thread Cert.AttentionReferenceIdeal.nD Cert.AttentionReferenceIdeal.τ).loc Cert.AttentionReferenceIdeal.main_arg2) = m' ((c.tc : Thread Cert.AttentionReferenceIdeal.nD Cert.AttentionReferenceIdeal.τ).loc Cert.AttentionReferenceIdeal.main_arg2)
          ∧ r.2.mem ((c.tc : Thread Cert.AttentionReferenceIdeal.nD Cert.AttentionReferenceIdeal.τ).loc Cert.AttentionReferenceIdeal.main_arg3) = m' ((c.tc : Thread Cert.AttentionReferenceIdeal.nD Cert.AttentionReferenceIdeal.τ).loc Cert.AttentionReferenceIdeal.main_arg3))

def Claim : Prop :=
  ∃ (hKernel : Cert.Kernel.Facts) (hKernelIdeal : Cert.KernelIdeal.Facts) (hReferenceIdeal : Cert.ReferenceIdeal.Facts) (hWeight : Cert.Weight.Facts) (hWeightIdeal : Cert.WeightIdeal.Facts) (hDownReferenceIdeal : Cert.DownReferenceIdeal.Facts) (hGateReferenceIdeal : Cert.GateReferenceIdeal.Facts) (hAct : Cert.Act.Facts) (hActIdeal : Cert.ActIdeal.Facts) (hActReferenceIdeal : Cert.ActReferenceIdeal.Facts) (hRows : Cert.Rows.Facts) (hRowsIdeal : Cert.RowsIdeal.Facts) (hRowsReferenceIdeal : Cert.RowsReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hResidualReferenceIdeal : Cert.ResidualReferenceIdeal.Facts) (hInRows : Cert.InRows.Facts) (hInRowsIdeal : Cert.InRowsIdeal.Facts) (hInRowsReferenceIdeal : Cert.InRowsReferenceIdeal.Facts) (hInWeight : Cert.InWeight.Facts) (hInWeightIdeal : Cert.InWeightIdeal.Facts) (hInWeightReferenceIdeal : Cert.InWeightReferenceIdeal.Facts) (hOddRows : Cert.OddRows.Facts) (hOddRowsIdeal : Cert.OddRowsIdeal.Facts) (hOddRowsReferenceIdeal : Cert.OddRowsReferenceIdeal.Facts) (hOddWeight : Cert.OddWeight.Facts) (hOddWeightIdeal : Cert.OddWeightIdeal.Facts) (hOddWeightReferenceIdeal : Cert.OddWeightReferenceIdeal.Facts) (hOutWeight : Cert.OutWeight.Facts) (hOutWeightIdeal : Cert.OutWeightIdeal.Facts) (hOutWeightReferenceIdeal : Cert.OutWeightReferenceIdeal.Facts) (hOutMix : Cert.OutMix.Facts) (hOutMixIdeal : Cert.OutMixIdeal.Facts) (hOutMixReferenceIdeal : Cert.OutMixReferenceIdeal.Facts) (hOut : Cert.Out.Facts) (hOutIdeal : Cert.OutIdeal.Facts) (hOutReferenceIdeal : Cert.OutReferenceIdeal.Facts) (hOddMix : Cert.OddMix.Facts) (hOddMixIdeal : Cert.OddMixIdeal.Facts) (hOddMixReferenceIdeal : Cert.OddMixReferenceIdeal.Facts) (hEvenIn : Cert.EvenIn.Facts) (hEvenInIdeal : Cert.EvenInIdeal.Facts) (hEvenInReferenceIdeal : Cert.EvenInReferenceIdeal.Facts) (hOddIn : Cert.OddIn.Facts) (hOddInIdeal : Cert.OddInIdeal.Facts) (hOddInReferenceIdeal : Cert.OddInReferenceIdeal.Facts) (hLoss : Cert.Loss.Facts) (hLossIdeal : Cert.LossIdeal.Facts) (hLossReferenceIdeal : Cert.LossReferenceIdeal.Facts) (hAttention : Cert.Attention.Facts) (hAttentionIdeal : Cert.AttentionIdeal.Facts) (hAttentionReferenceIdeal : Cert.AttentionReferenceIdeal.Facts) (hPre_finite : Cert.Pre_finite.Facts) (hPre_finite_act : Cert.Pre_finite_act.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Weight (hWeight := hWeight)
    ∧ quiescent_WeightIdeal (hWeightIdeal := hWeightIdeal)
    ∧ quiescent_DownReferenceIdeal (hDownReferenceIdeal := hDownReferenceIdeal)
    ∧ quiescent_GateReferenceIdeal (hGateReferenceIdeal := hGateReferenceIdeal)
    ∧ quiescent_Act (hAct := hAct)
    ∧ quiescent_ActIdeal (hActIdeal := hActIdeal)
    ∧ quiescent_ActIdeal_pre_finite_act (hActIdeal := hActIdeal) (hPre_finite_act := hPre_finite_act)
    ∧ quiescent_ActReferenceIdeal (hActReferenceIdeal := hActReferenceIdeal)
    ∧ quiescent_ActReferenceIdeal_pre_finite_act (hActReferenceIdeal := hActReferenceIdeal) (hPre_finite_act := hPre_finite_act)
    ∧ quiescent_Rows (hRows := hRows)
    ∧ quiescent_RowsIdeal (hRowsIdeal := hRowsIdeal)
    ∧ quiescent_RowsReferenceIdeal (hRowsReferenceIdeal := hRowsReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_ResidualReferenceIdeal (hResidualReferenceIdeal := hResidualReferenceIdeal)
    ∧ quiescent_InRows (hInRows := hInRows)
    ∧ quiescent_InRowsIdeal (hInRowsIdeal := hInRowsIdeal)
    ∧ quiescent_InRowsReferenceIdeal (hInRowsReferenceIdeal := hInRowsReferenceIdeal)
    ∧ quiescent_InWeight (hInWeight := hInWeight)
    ∧ quiescent_InWeightIdeal (hInWeightIdeal := hInWeightIdeal)
    ∧ quiescent_InWeightReferenceIdeal (hInWeightReferenceIdeal := hInWeightReferenceIdeal)
    ∧ quiescent_OddRows (hOddRows := hOddRows)
    ∧ quiescent_OddRowsIdeal (hOddRowsIdeal := hOddRowsIdeal)
    ∧ quiescent_OddRowsReferenceIdeal (hOddRowsReferenceIdeal := hOddRowsReferenceIdeal)
    ∧ quiescent_OddWeight (hOddWeight := hOddWeight)
    ∧ quiescent_OddWeightIdeal (hOddWeightIdeal := hOddWeightIdeal)
    ∧ quiescent_OddWeightReferenceIdeal (hOddWeightReferenceIdeal := hOddWeightReferenceIdeal)
    ∧ quiescent_OutWeight (hOutWeight := hOutWeight)
    ∧ quiescent_OutWeightIdeal (hOutWeightIdeal := hOutWeightIdeal)
    ∧ quiescent_OutWeightReferenceIdeal (hOutWeightReferenceIdeal := hOutWeightReferenceIdeal)
    ∧ quiescent_OutMix (hOutMix := hOutMix)
    ∧ quiescent_OutMixIdeal (hOutMixIdeal := hOutMixIdeal)
    ∧ quiescent_OutMixReferenceIdeal (hOutMixReferenceIdeal := hOutMixReferenceIdeal)
    ∧ quiescent_Out (hOut := hOut)
    ∧ quiescent_OutIdeal (hOutIdeal := hOutIdeal)
    ∧ quiescent_OutReferenceIdeal (hOutReferenceIdeal := hOutReferenceIdeal)
    ∧ quiescent_OddMix (hOddMix := hOddMix)
    ∧ quiescent_OddMixIdeal (hOddMixIdeal := hOddMixIdeal)
    ∧ quiescent_OddMixReferenceIdeal (hOddMixReferenceIdeal := hOddMixReferenceIdeal)
    ∧ quiescent_EvenIn (hEvenIn := hEvenIn)
    ∧ quiescent_EvenInIdeal (hEvenInIdeal := hEvenInIdeal)
    ∧ quiescent_EvenInReferenceIdeal (hEvenInReferenceIdeal := hEvenInReferenceIdeal)
    ∧ quiescent_OddIn (hOddIn := hOddIn)
    ∧ quiescent_OddInIdeal (hOddInIdeal := hOddInIdeal)
    ∧ quiescent_OddInReferenceIdeal (hOddInReferenceIdeal := hOddInReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_Attention (hAttention := hAttention)
    ∧ quiescent_AttentionIdeal (hAttentionIdeal := hAttentionIdeal)
    ∧ quiescent_AttentionIdeal_pre_finite_scores (hAttentionIdeal := hAttentionIdeal) (hPre_finite_scores := hPre_finite_scores)
    ∧ quiescent_AttentionReferenceIdeal (hAttentionReferenceIdeal := hAttentionReferenceIdeal)
    ∧ quiescent_AttentionReferenceIdeal_pre_finite_scores (hAttentionReferenceIdeal := hAttentionReferenceIdeal) (hPre_finite_scores := hPre_finite_scores)
    ∧ preserves_Kernel_KernelIdeal
    ∧ algebraic_KernelIdeal_ReferenceIdeal_pre_finite (hKernelIdeal := hKernelIdeal) (hReferenceIdeal := hReferenceIdeal) (hPre_finite := hPre_finite)
    ∧ preserves_Weight_WeightIdeal
    ∧ algebraic_WeightIdeal_DownReferenceIdeal (hWeightIdeal := hWeightIdeal) (hDownReferenceIdeal := hDownReferenceIdeal)
    ∧ algebraic_WeightIdeal_GateReferenceIdeal (hWeightIdeal := hWeightIdeal) (hGateReferenceIdeal := hGateReferenceIdeal)
    ∧ preserves_Act_ActIdeal
    ∧ algebraic_ActIdeal_ActReferenceIdeal_pre_finite_act (hActIdeal := hActIdeal) (hActReferenceIdeal := hActReferenceIdeal) (hPre_finite_act := hPre_finite_act)
    ∧ preserves_Rows_RowsIdeal
    ∧ algebraic_RowsIdeal_RowsReferenceIdeal (hRowsIdeal := hRowsIdeal) (hRowsReferenceIdeal := hRowsReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_ResidualReferenceIdeal (hDownIdeal := hDownIdeal) (hResidualReferenceIdeal := hResidualReferenceIdeal)
    ∧ preserves_InRows_InRowsIdeal
    ∧ algebraic_InRowsIdeal_InRowsReferenceIdeal (hInRowsIdeal := hInRowsIdeal) (hInRowsReferenceIdeal := hInRowsReferenceIdeal)
    ∧ preserves_InWeight_InWeightIdeal
    ∧ algebraic_InWeightIdeal_InWeightReferenceIdeal (hInWeightIdeal := hInWeightIdeal) (hInWeightReferenceIdeal := hInWeightReferenceIdeal)
    ∧ preserves_OddRows_OddRowsIdeal
    ∧ algebraic_OddRowsIdeal_OddRowsReferenceIdeal (hOddRowsIdeal := hOddRowsIdeal) (hOddRowsReferenceIdeal := hOddRowsReferenceIdeal)
    ∧ preserves_OddWeight_OddWeightIdeal
    ∧ algebraic_OddWeightIdeal_OddWeightReferenceIdeal (hOddWeightIdeal := hOddWeightIdeal) (hOddWeightReferenceIdeal := hOddWeightReferenceIdeal)
    ∧ preserves_OutWeight_OutWeightIdeal
    ∧ algebraic_OutWeightIdeal_OutWeightReferenceIdeal (hOutWeightIdeal := hOutWeightIdeal) (hOutWeightReferenceIdeal := hOutWeightReferenceIdeal)
    ∧ preserves_OutMix_OutMixIdeal
    ∧ algebraic_OutMixIdeal_OutMixReferenceIdeal (hOutMixIdeal := hOutMixIdeal) (hOutMixReferenceIdeal := hOutMixReferenceIdeal)
    ∧ preserves_Out_OutIdeal
    ∧ algebraic_OutIdeal_OutReferenceIdeal (hOutIdeal := hOutIdeal) (hOutReferenceIdeal := hOutReferenceIdeal)
    ∧ preserves_OddMix_OddMixIdeal
    ∧ algebraic_OddMixIdeal_OddMixReferenceIdeal (hOddMixIdeal := hOddMixIdeal) (hOddMixReferenceIdeal := hOddMixReferenceIdeal)
    ∧ preserves_EvenIn_EvenInIdeal
    ∧ algebraic_EvenInIdeal_EvenInReferenceIdeal (hEvenInIdeal := hEvenInIdeal) (hEvenInReferenceIdeal := hEvenInReferenceIdeal)
    ∧ preserves_OddIn_OddInIdeal
    ∧ algebraic_OddInIdeal_OddInReferenceIdeal (hOddInIdeal := hOddInIdeal) (hOddInReferenceIdeal := hOddInReferenceIdeal)
    ∧ preserves_Loss_LossIdeal
    ∧ algebraic_LossIdeal_LossReferenceIdeal (hLossIdeal := hLossIdeal) (hLossReferenceIdeal := hLossReferenceIdeal)
    ∧ preserves_Attention_AttentionIdeal
    ∧ algebraic_AttentionIdeal_AttentionReferenceIdeal_pre_finite_scores (hAttentionIdeal := hAttentionIdeal) (hAttentionReferenceIdeal := hAttentionReferenceIdeal) (hPre_finite_scores := hPre_finite_scores)
-- ==== Pre_finite.lean ====
abbrev S2x2048x6x192 : Shape := ⟨4, ![2, 2048, 6, 192]⟩
abbrev S2x2048x6x128 : Shape := ⟨4, ![2, 2048, 6, 128]⟩
abbrev S2x2048x768 : Shape := ⟨3, ![2, 2048, 768]⟩
abbrev S_ : Shape := ⟨0, ![]⟩

class Facts : Prop where
  bcast_S_S2x2048x6x192 : S_.BroadcastsInDim S2x2048x6x192 (![] : Fin 0 → Fin S2x2048x6x192.rank)
  reducesTo_S2x2048x6x192_S_d0_1_2_3 : S2x2048x6x192.ReducesTo [0, 1, 2, 3] S_
  h_S_ : 0 < S_.numel
  bcast_S_S2x2048x6x128 : S_.BroadcastsInDim S2x2048x6x128 (![] : Fin 0 → Fin S2x2048x6x128.rank)
  reducesTo_S2x2048x6x128_S_d0_1_2_3 : S2x2048x6x128.ReducesTo [0, 1, 2, 3] S_
  bcast_S_S2x2048x768 : S_.BroadcastsInDim S2x2048x768 (![] : Fin 0 → Fin S2x2048x768.rank)
  reducesTo_S2x2048x768_S_d0_1_2 : S2x2048x768.ReducesTo [0, 1, 2] S_

variable [Facts]

def fn_part1 {F : FTy → Type} [FloatOps F] (main_v13 : IVec S_ 1) (main_v16 : IVec S2x2048x768 1) : IVec S_ 1 :=
  let main_c_5 : IVec S_ 1 := constantI S_ 1 1#1
  let main_v17 : IVec S_ 1 := (fun x v => Host.reduce IntOp.andi x v reducesTo_S2x2048x768_S_d0_1_2 h_S_) main_v16 main_c_5
  let main_v18 : IVec S_ 1 := andi main_v13 main_v17
  main_v18

def fn {F : FTy → Type} [FloatOps F] (main_arg0 : FVec F S2x2048x6x192 .f32) (main_arg1 : FVec F S2x2048x6x192 .f32) (main_arg2 : FVec F S2x2048x6x128 .f32) (main_arg3 : FVec F S2x2048x768 .f32) : IVec S_ 1 :=
  let main_v0 : FVec F S2x2048x6x192 .f32 := Host.absf main_arg0
  let main_cst : FVec F S_ .f32 := constant S_ .f32 0x7F800000#32
  let main_v1 : FVec F S2x2048x6x192 .f32 := broadcastInDim S2x2048x6x192 ![] bcast_S_S2x2048x6x192 main_cst
  let main_v2 : IVec S2x2048x6x192 1 := cmpf .olt main_v0 main_v1
  let main_c : IVec S_ 1 := constantI S_ 1 1#1
  let main_v3 : IVec S_ 1 := (fun x v => Host.reduce IntOp.andi x v reducesTo_S2x2048x6x192_S_d0_1_2_3 h_S_) main_v2 main_c
  let main_v4 : FVec F S2x2048x6x192 .f32 := Host.absf main_arg1
  let main_cst_0 : FVec F S_ .f32 := constant S_ .f32 0x7F800000#32
  let main_v5 : FVec F S2x2048x6x192 .f32 := broadcastInDim S2x2048x6x192 ![] bcast_S_S2x2048x6x192 main_cst_0
  let main_v6 : IVec S2x2048x6x192 1 := cmpf .olt main_v4 main_v5
  let main_c_1 : IVec S_ 1 := constantI S_ 1 1#1
  let main_v7 : IVec S_ 1 := (fun x v => Host.reduce IntOp.andi x v reducesTo_S2x2048x6x192_S_d0_1_2_3 h_S_) main_v6 main_c_1
  let main_v8 : IVec S_ 1 := andi main_v3 main_v7
  let main_v9 : FVec F S2x2048x6x128 .f32 := Host.absf main_arg2
  let main_cst_2 : FVec F S_ .f32 := constant S_ .f32 0x7F800000#32
  let main_v10 : FVec F S2x2048x6x128 .f32 := broadcastInDim S2x2048x6x128 ![] bcast_S_S2x2048x6x128 main_cst_2
  let main_v11 : IVec S2x2048x6x128 1 := cmpf .olt main_v9 main_v10
  let main_c_3 : IVec S_ 1 := constantI S_ 1 1#1
  let main_v12 : IVec S_ 1 := (fun x v => Host.reduce IntOp.andi x v reducesTo_S2x2048x6x128_S_d0_1_2_3 h_S_) main_v11 main_c_3
  let main_v13 : IVec S_ 1 := andi main_v8 main_v12
  let main_v14 : FVec F S2x2048x768 .f32 := Host.absf main_arg3
  let main_cst_4 : FVec F S_ .f32 := constant S_ .f32 0x7F800000#32
  let main_v15 : FVec F S2x2048x768 .f32 := broadcastInDim S2x2048x768 ![] bcast_S_S2x2048x768 main_cst_4
  let main_v16 : IVec S2x2048x768 1 := cmpf .olt main_v14 main_v15
  fn_part1 (F := F) main_v13 main_v16
-- ==== Pre_finite_act.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x2816 .f32) (main_arg1 : FVec F S4096x2816 .f32) (main_arg2 : FVec F S2816x1024 .f32) (main_arg3 : FVec F S4096x1024 .f32) : IVec S_ 1 :=
  let main_v0 : FVec F S4096x2816 .f32 := Host.absf main_arg1
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S2816x1024 .f32 := Host.absf main_arg2
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Pre_finite_scores.lean ====
abbrev S2x2048x6x192 : Shape := ⟨4, ![2, 2048, 6, 192]⟩
abbrev S2x2048x6x128 : Shape := ⟨4, ![2, 2048, 6, 128]⟩
abbrev S4096x1024 : Shape := ⟨2, ![4096, 1024]⟩
abbrev S_ : Shape := ⟨0, ![]⟩

class Facts : Prop where
  bcast_S_S2x2048x6x192 : S_.BroadcastsInDim S2x2048x6x192 (![] : Fin 0 → Fin S2x2048x6x192.rank)
  reducesTo_S2x2048x6x192_S_d0_1_2_3 : S2x2048x6x192.ReducesTo [0, 1, 2, 3] S_
  h_S_ : 0 < S_.numel

variable [Facts]

def fn {F : FTy → Type} [FloatOps F] (main_arg0 : FVec F S2x2048x6x192 .f32) (main_arg1 : FVec F S2x2048x6x192 .f32) (main_arg2 : FVec F S2x2048x6x128 .f32) (main_arg3 : FVec F S4096x1024 .f32) : IVec S_ 1 :=
  let main_v0 : FVec F S2x2048x6x192 .f32 := Host.absf main_arg0
  let main_cst : FVec F S_ .f32 := constant S_ .f32 0x7F800000#32
  let main_v1 : FVec F S2x2048x6x192 .f32 := broadcastInDim S2x2048x6x192 ![] bcast_S_S2x2048x6x192 main_cst
  let main_v2 : IVec S2x2048x6x192 1 := cmpf .olt main_v0 main_v1
  let main_c : IVec S_ 1 := constantI S_ 1 1#1
  let main_v3 : IVec S_ 1 := (fun x v => Host.reduce IntOp.andi x v reducesTo_S2x2048x6x192_S_d0_1_2_3 h_S_) main_v2 main_c
  let main_v4 : FVec F S2x2048x6x192 .f32 := Host.absf main_arg1
  let main_cst_0 : FVec F S_ .f32 := constant S_ .f32 0x7F800000#32
  let main_v5 : FVec F S2x2048x6x192 .f32 := broadcastInDim S2x2048x6x192 ![] bcast_S_S2x2048x6x192 main_cst_0
  let main_v6 : IVec S2x2048x6x192 1 := cmpf .olt main_v4 main_v5
  let main_c_1 : IVec S_ 1 := constantI S_ 1 1#1
  let main_v7 : IVec S_ 1 := (fun x v => Host.reduce IntOp.andi x v reducesTo_S2x2048x6x192_S_d0_1_2_3 h_S_) main_v6 main_c_1
  let main_v8 : IVec S_ 1 := andi main_v3 main_v7
  main_v8
-- ==== Kernel.lean ====
abbrev S2x2048x6x192 : Shape := ⟨4, ![2, 2048, 6, 192]⟩
abbrev S2x2048x6x128 : Shape := ⟨4, ![2, 2048, 6, 128]⟩
abbrev S2x2048x768 : Shape := ⟨3, ![2, 2048, 768]⟩
abbrev S2x6x2048x2048 : Shape := ⟨4, ![2, 6, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x6x2048 : Shape := ⟨3, ![2, 6, 2048]⟩
abbrev S2x6x2048x1 : Shape := ⟨4, ![2, 6, 2048, 1]⟩
abbrev S2x6x128x2048 : Shape := ⟨4, ![2, 6, 128, 2048]⟩
abbrev S6x2x2048x1 : Shape := ⟨4, ![6, 2, 2048, 1]⟩
abbrev S6x4096x1 : Shape := ⟨3, ![6, 4096, 1]⟩
abbrev S6x4096x128 : Shape := ⟨3, ![6, 4096, 128]⟩
abbrev S6x2x2048x192 : Shape := ⟨4, ![6, 2, 2048, 192]⟩
abbrev S6x4096x192 : Shape := ⟨3, ![6, 4096, 192]⟩
abbrev S6x4096x256 : Shape := ⟨3, ![6, 4096, 256]⟩
abbrev S6x2x2048x128 : Shape := ⟨4, ![6, 2, 2048, 128]⟩
abbrev S4096x768 : Shape := ⟨2, ![4096, 768]⟩
abbrev S4096x1024 : Shape := ⟨2, ![4096, 1024]⟩
abbrev S1x2048x256 : Shape := ⟨3, ![1, 2048, 256]⟩
abbrev S1x2048x128 : Shape := ⟨3, ![1, 2048, 128]⟩
abbrev S2048x128 : Shape := ⟨2, ![2048, 128]⟩
abbrev S1x512x256 : Shape := ⟨3, ![1, 512, 256]⟩
abbrev S512x256 : Shape := ⟨2, ![512, 256]⟩
abbrev S512x128 : Shape := ⟨2, ![512, 128]⟩
abbrev S1x512x1 : Shape := ⟨3, ![1, 512, 1]⟩
abbrev S512x1 : Shape := ⟨2, ![512, 1]⟩
abbrev S512 : Shape := ⟨1, ![512]⟩
abbrev S512x512 : Shape := ⟨2, ![512, 512]⟩
abbrev S1x512x128 : Shape := ⟨3, ![1, 512, 128]⟩
abbrev S1x1024x256 : Shape := ⟨3, ![1, 1024, 256]⟩
abbrev S1024x256 : Shape := ⟨2, ![1024, 256]⟩
abbrev S512x1024 : Shape := ⟨2, ![512, 1024]⟩
abbrev S1x1024x128 : Shape := ⟨3, ![1, 1024, 128]⟩
abbrev S1024x128 : Shape := ⟨2, ![1024, 128]⟩
abbrev S1x1536x256 : Shape := ⟨3, ![1, 1536, 256]⟩
abbrev S1536x256 : Shape := ⟨2, ![1536, 256]⟩
abbrev S512x1536 : Shape := ⟨2, ![512, 1536]⟩
abbrev S1x1536x128 : Shape := ⟨3, ![1, 1536, 128]⟩
abbrev S1536x128 : Shape := ⟨2, ![1536, 128]⟩

abbrev nBuf : Space → Nat
  | .hbm => 70
  | .vmem => 19
  | .smem => 0
  | _ => 0

abbrev bufTy : (tb : Table) → Fin (tcTables nBuf tb) → BufTy
  | .hbm, ⟨0, _⟩ => ⟨S2x2048x6x192, .f32⟩
  | .hbm, ⟨1, _⟩ => ⟨S2x2048x6x192, .f32⟩
  | .hbm, ⟨2, _⟩ => ⟨S2x2048x6x128, .f32⟩
  | .hbm, ⟨3, _⟩ => ⟨S2x2048x768, .f32⟩
  | .hbm, ⟨4, _⟩ => ⟨S2x6x2048x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x6x2048x2048, .f32⟩
  | .hbm, ⟨11, _⟩ => ⟨S2x6x2048x2048, .f32⟩
  | .hbm, ⟨12, _⟩ => ⟨S2048, .i32⟩
  | .hbm, ⟨13, _⟩ => ⟨S2048x1, .i32⟩
  | .hbm, ⟨14, _⟩ => ⟨S2048, .i32⟩
  | .hbm, ⟨15, _⟩ => ⟨S1x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S2x6x2048x2048, .i1⟩
  | .hbm, ⟨22, _⟩ => ⟨S2x6x2048x2048, .f32⟩
  | .hbm, ⟨23, _⟩ => ⟨S2x6x2048x2048, .f32⟩
  | .hbm, ⟨24, _⟩ => ⟨S_, .f32⟩
  | .hbm, ⟨25, _⟩ => ⟨S2x6x2048, .f32⟩
  | .hbm, ⟨26, _⟩ => ⟨S2x6x2048x1, .f32⟩
  | .hbm, ⟨27, _⟩ => ⟨S2x6x2048x2048, .f32⟩
  | .hbm, ⟨28, _⟩ => ⟨S2x6x2048x2048, .f32⟩
  | .hbm, ⟨29, _⟩ => ⟨S2x6x2048x2048, .f32⟩
  | .hbm, ⟨30, _⟩ => ⟨S_, .f32⟩
  | .hbm, ⟨31, _⟩ => ⟨S2x6x2048, .f32⟩
  | .hbm, ⟨32, _⟩ => ⟨S2x6x2048x1, .f32⟩
  | .hbm, ⟨33, _⟩ => ⟨S2x6x2048x2048, .f32⟩
  | .hbm, ⟨34, _⟩ => ⟨S2x6x2048x2048, .f32⟩
  | .hbm, ⟨35, _⟩ => ⟨S2x6x128x2048, .f32⟩
  | .hbm, ⟨36, _⟩ => ⟨S2x2048x6x128, .f32⟩
  | .hbm, ⟨37, _⟩ => ⟨S2x6x2048x1, .f32⟩
  | .hbm, ⟨38, _⟩ => ⟨S2x6x2048x1, .f32⟩
  | .hbm, ⟨39, _⟩ => ⟨S6x2x2048x1, .f32⟩
  | .hbm, ⟨40, _⟩ => ⟨S6x4096x1, .f32⟩
  | .hbm, ⟨41, _⟩ => ⟨S6x4096x128, .f32⟩
  | .hbm, ⟨42, _⟩ => ⟨S6x2x2048x192, .f32⟩
  | .hbm, ⟨43, _⟩ => ⟨S6x4096x192, .f32⟩
  | .hbm, ⟨44, _⟩ => ⟨S_, .i32⟩
  | .hbm, ⟨45, _⟩ => ⟨S_, .f32⟩
  | .hbm, ⟨46, _⟩ => ⟨S6x4096x256, .f32⟩
  | .hbm, ⟨47, _⟩ => ⟨S6x4096x256, .bf16⟩
  | .hbm, ⟨48, _⟩ => ⟨S6x2x2048x192, .f32⟩
  | .hbm, ⟨49, _⟩ => ⟨S6x4096x192, .f32⟩
  | .hbm, ⟨50, _⟩ => ⟨S_, .i32⟩
  | .hbm, ⟨51, _⟩ => ⟨S_, .f32⟩
  | .hbm, ⟨52, _⟩ => ⟨S6x4096x256, .f32⟩
  | .hbm, ⟨53, _⟩ => ⟨S6x4096x256, .bf16⟩
  | .hbm, ⟨54, _⟩ => ⟨S6x2x2048x128, .f32⟩
  | .hbm, ⟨55, _⟩ => ⟨S6x4096x128, .f32⟩
  | .hbm, ⟨56, _⟩ => ⟨S6x4096x128, .bf16⟩
  | .hbm, ⟨57, _⟩ => ⟨S4096x768, .f32⟩
  | .hbm, ⟨58, _⟩ => ⟨S_, .i32⟩
  | .hbm, ⟨59, _⟩ => ⟨S_, .f32⟩
  | .hbm, ⟨60, _⟩ => ⟨S4096x1024, .f32⟩
  | .hbm, ⟨61, _⟩ => ⟨S4096x1024, .bf16⟩
  | .hbm, ⟨62, _⟩ => ⟨S4096x768, .f32⟩
  | .hbm, ⟨63, _⟩ => ⟨S_, .i32⟩
  | .hbm, ⟨64, _⟩ => ⟨S_, .f32⟩
  | .hbm, ⟨65, _⟩ => ⟨S4096x1024, .f32⟩
  | .hbm, ⟨66, _⟩ => ⟨S4096x1024, .bf16⟩
  | .hbm, ⟨67, _⟩ => ⟨S6x4096x256, .f32⟩
  | .hbm, ⟨68, _⟩ => ⟨S6x4096x256, .f32⟩
  | .hbm, ⟨69, _⟩ => ⟨S6x4096x128, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S1x2048x128, .f32⟩
  | .local _ .vmem, ⟨11, _⟩ => ⟨S1x2048x128, .f32⟩
  | .local _ .vmem, ⟨12, _⟩ => ⟨S1x2048x256, .f32⟩
  | .local _ .vmem, ⟨13, _⟩ => ⟨S1x2048x256, .f32⟩
  | .local _ .vmem, ⟨14, _⟩ => ⟨S1x2048x256, .f32⟩
  | .local _ .vmem, ⟨15, _⟩ => ⟨S1x2048x256, .f32⟩
  | .local _ .vmem, ⟨16, _⟩ => ⟨S1x2048x128, .bf16⟩
  | .local _ .vmem, ⟨17, _⟩ => ⟨S1x2048x128, .bf16⟩
  | .local _ .vmem, ⟨18, _⟩ => ⟨S2048x128, .f32⟩
  | _, _ => ⟨S2x2048x6x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_call1_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_4 : Ref sig .tc := ⟨.hbm, 50, rfl⟩
abbrev main_call2_v0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_5 : Ref sig .tc := ⟨.hbm, 58, rfl⟩
abbrev main_call3_v0 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_6 : Ref sig .tc := ⟨.hbm, 63, rfl⟩
abbrev main_call4_v0 : Ref sig .tc := ⟨.hbm, 64, rfl⟩
abbrev main_v45 : Ref sig .tc := ⟨.hbm, 65, rfl⟩
abbrev main_v46 : Ref sig .tc := ⟨.hbm, 66, rfl⟩
abbrev main_v47_0 : Ref sig .tc := ⟨.hbm, 67, rfl⟩
abbrev main_v47_1 : Ref sig .tc := ⟨.hbm, 68, rfl⟩
abbrev main_v47_2 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale" => some (((Real.sqrt 192)⁻¹ : ℝ) : EReal)
  | "scale_log2e" => some (((Real.sqrt 192)⁻¹ * (Real.log 2)⁻¹ : ℝ) : EReal)
  | _ => none
-- ==== ReferenceIdeal.lean ====
abbrev S2x2048x6x192 : Shape := ⟨4, ![2, 2048, 6, 192]⟩
abbrev S2x2048x6x128 : Shape := ⟨4, ![2, 2048, 6, 128]⟩
abbrev S2x2048x768 : Shape := ⟨3, ![2, 2048, 768]⟩
abbrev S_ : Shape := ⟨0, ![]⟩
abbrev S2x6x2048x2048 : Shape := ⟨4, ![2, 6, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x6x2048 : Shape := ⟨3, ![2, 6, 2048]⟩
abbrev S2x6x2048x1 : Shape := ⟨4, ![2, 6, 2048, 1]⟩
abbrev S2x6x128x2048 : Shape := ⟨4, ![2, 6, 128, 2048]⟩
abbrev S2x6x2048x192 : Shape := ⟨4, ![2, 6, 2048, 192]⟩
abbrev S6x2x2048x192 : Shape := ⟨4, ![6, 2, 2048, 192]⟩
abbrev S6x4096x192 : Shape := ⟨3, ![6, 4096, 192]⟩
abbrev S6x4096x256 : Shape := ⟨3, ![6, 4096, 256]⟩
abbrev S6x2x2048x128 : Shape := ⟨4, ![6, 2, 2048, 128]⟩
abbrev S6x4096x128 : Shape := ⟨3, ![6, 4096, 128]⟩

abbrev nBuf : Space → Nat
  | .hbm => 108
  | .vmem => 0
  | .smem => 0
  | _ => 0

abbrev bufTy : (tb : Table) → Fin (tcTables nBuf tb) → BufTy
  | .hbm, ⟨0, _⟩ => ⟨S2x2048x6x192, .f32⟩
  | .hbm, ⟨1, _⟩ => ⟨S2x2048x6x192, .f32⟩
  | .hbm, ⟨2, _⟩ => ⟨S2x2048x6x128, .f32⟩
  | .hbm, ⟨3, _⟩ => ⟨S2x2048x768, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x6x2048x2048, .f32⟩
  | .hbm, ⟨9, _⟩ => ⟨S_, .f32⟩
  | .hbm, ⟨10, _⟩ => ⟨S2x6x2048x2048, .f32⟩
  | .hbm, ⟨11, _⟩ => ⟨S2x6x2048x2048, .f32⟩
  | .hbm, ⟨12, _⟩ => ⟨S2048, .i32⟩
  | .hbm, ⟨13, _⟩ => ⟨S2048x1, .i32⟩
  | .hbm, ⟨14, _⟩ => ⟨S2048, .i32⟩
  | .hbm, ⟨15, _⟩ => ⟨S1x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S2x6x2048x2048, .i1⟩
  | .hbm, ⟨22, _⟩ => ⟨S2x6x2048x2048, .f32⟩
  | .hbm, ⟨23, _⟩ => ⟨S2x6x2048x2048, .f32⟩
  | .hbm, ⟨24, _⟩ => ⟨S_, .f32⟩
  | .hbm, ⟨25, _⟩ => ⟨S2x6x2048x2048, .f32⟩
  | .hbm, ⟨26, _⟩ => ⟨S_, .f32⟩
  | .hbm, ⟨27, _⟩ => ⟨S2x6x2048, .f32⟩
  | .hbm, ⟨28, _⟩ => ⟨S2x6x2048x1, .f32⟩
  | .hbm, ⟨29, _⟩ => ⟨S2x6x2048x2048, .f32⟩
  | .hbm, ⟨30, _⟩ => ⟨S2x6x2048x2048, .i1⟩
  | .hbm, ⟨31, _⟩ => ⟨S2x6x2048x2048, .f32⟩
  | .hbm, ⟨32, _⟩ => ⟨S_, .f32⟩
  | .hbm, ⟨33, _⟩ => ⟨S2x6x2048, .f32⟩
  | .hbm, ⟨34, _⟩ => ⟨S_, .f32⟩
  | .hbm, ⟨35, _⟩ => ⟨S2x6x2048, .f32⟩
  | .hbm, ⟨36, _⟩ => ⟨S2x6x2048, .f32⟩
  | .hbm, ⟨37, _⟩ => ⟨S_, .f32⟩
  | .hbm, ⟨38, _⟩ => ⟨S2x6x2048, .f32⟩
  | .hbm, ⟨39, _⟩ => ⟨S2x6x2048, .i1⟩
  | .hbm, ⟨40, _⟩ => ⟨S_, .f32⟩
  | .hbm, ⟨41, _⟩ => ⟨S2x6x2048, .f32⟩
  | .hbm, ⟨42, _⟩ => ⟨S2x6x2048, .i1⟩
  | .hbm, ⟨43, _⟩ => ⟨S_, .f32⟩
  | .hbm, ⟨44, _⟩ => ⟨S2x6x2048, .f32⟩
  | .hbm, ⟨45, _⟩ => ⟨S_, .f32⟩
  | .hbm, ⟨46, _⟩ => ⟨S2x6x2048, .f32⟩
  | .hbm, ⟨47, _⟩ => ⟨S_, .f32⟩
  | .hbm, ⟨48, _⟩ => ⟨S2x6x2048, .f32⟩
  | .hbm, ⟨49, _⟩ => ⟨S2x6x2048, .f32⟩
  | .hbm, ⟨50, _⟩ => ⟨S2x6x2048, .f32⟩
  | .hbm, ⟨51, _⟩ => ⟨S2x6x2048x1, .f32⟩
  | .hbm, ⟨52, _⟩ => ⟨S2x6x2048x2048, .f32⟩
  | .hbm, ⟨53, _⟩ => ⟨S2x6x2048x2048, .f32⟩
  | .hbm, ⟨54, _⟩ => ⟨S2x6x2048x2048, .f32⟩
  | .hbm, ⟨55, _⟩ => ⟨S_, .f32⟩
  | .hbm, ⟨56, _⟩ => ⟨S2x6x2048, .f32⟩
  | .hbm, ⟨57, _⟩ => ⟨S2x6x2048x1, .f32⟩
  | .hbm, ⟨58, _⟩ => ⟨S2x6x2048x2048, .f32⟩
  | .hbm, ⟨59, _⟩ => ⟨S2x6x2048x2048, .f32⟩
  | .hbm, ⟨60, _⟩ => ⟨S2x6x2048x1, .f32⟩
  | .hbm, ⟨61, _⟩ => ⟨S_, .f32⟩
  | .hbm, ⟨62, _⟩ => ⟨S2x6x2048x1, .f32⟩
  | .hbm, ⟨63, _⟩ => ⟨S2x6x2048x1, .f32⟩
  | .hbm, ⟨64, _⟩ => ⟨S2x6x128x2048, .f32⟩
  | .hbm, ⟨65, _⟩ => ⟨S2x2048x6x128, .f32⟩
  | .hbm, ⟨66, _⟩ => ⟨S2x2048x768, .f32⟩
  | .hbm, ⟨67, _⟩ => ⟨S2x2048x6x128, .f32⟩
  | .hbm, ⟨68, _⟩ => ⟨S2x6x128x2048, .f32⟩
  | .hbm, ⟨69, _⟩ => ⟨S2x6x2048x2048, .f32⟩
  | .hbm, ⟨70, _⟩ => ⟨S2x6x128x2048, .f32⟩
  | .hbm, ⟨71, _⟩ => ⟨S2x2048x6x128, .f32⟩
  | .hbm, ⟨72, _⟩ => ⟨S2x6x2048x2048, .f32⟩
  | .hbm, ⟨73, _⟩ => ⟨S2x6x2048x2048, .f32⟩
  | .hbm, ⟨74, _⟩ => ⟨S2x6x2048x2048, .f32⟩
  | .hbm, ⟨75, _⟩ => ⟨S_, .f32⟩
  | .hbm, ⟨76, _⟩ => ⟨S2x6x2048, .f32⟩
  | .hbm, ⟨77, _⟩ => ⟨S2x6x2048x1, .f32⟩
  | .hbm, ⟨78, _⟩ => ⟨S2x6x2048x1, .f32⟩
  | .hbm, ⟨79, _⟩ => ⟨S2x6x2048x2048, .f32⟩
  | .hbm, ⟨80, _⟩ => ⟨S2x6x2048x2048, .f32⟩
  | .hbm, ⟨81, _⟩ => ⟨S_, .f32⟩
  | .hbm, ⟨82, _⟩ => ⟨S2x6x2048, .f32⟩
  | .hbm, ⟨83, _⟩ => ⟨S2x6x2048x2048, .f32⟩
  | .hbm, ⟨84, _⟩ => ⟨S2x6x2048x2048, .f32⟩
  | .hbm, ⟨85, _⟩ => ⟨S2x6x2048x2048, .f32⟩
  | .hbm, ⟨86, _⟩ => ⟨S_, .f32⟩
  | .hbm, ⟨87, _⟩ => ⟨S2x6x2048x2048, .f32⟩
  | .hbm, ⟨88, _⟩ => ⟨S2x6x2048x2048, .f32⟩
  | .hbm, ⟨89, _⟩ => ⟨S2x6x2048x2048, .f32⟩
  | .hbm, ⟨90, _⟩ => ⟨S2x6x2048x2048, .f32⟩
  | .hbm, ⟨91, _⟩ => ⟨S2x6x2048x192, .f32⟩
  | .hbm, ⟨92, _⟩ => ⟨S2x2048x6x192, .f32⟩
  | .hbm, ⟨93, _⟩ => ⟨S2x6x2048x192, .f32⟩
  | .hbm, ⟨94, _⟩ => ⟨S2x2048x6x192, .f32⟩
  | .hbm, ⟨95, _⟩ => ⟨S6x2x2048x192, .f32⟩
  | .hbm, ⟨96, _⟩ => ⟨S6x4096x192, .f32⟩
  | .hbm, ⟨97, _⟩ => ⟨S_, .i32⟩
  | .hbm, ⟨98, _⟩ => ⟨S_, .f32⟩
  | .hbm, ⟨99, _⟩ => ⟨S6x4096x256, .f32⟩
  | .hbm, ⟨100, _⟩ => ⟨S6x2x2048x192, .f32⟩
  | .hbm, ⟨101, _⟩ => ⟨S6x4096x192, .f32⟩
  | .hbm, ⟨102, _⟩ => ⟨S_, .i32⟩
  | .hbm, ⟨103, _⟩ => ⟨S_, .f32⟩
  | .hbm, ⟨104, _⟩ => ⟨S6x4096x256, .f32⟩
  | .hbm, ⟨105, _⟩ => ⟨S6x2x2048x128, .f32⟩
  | .hbm, ⟨106, _⟩ => ⟨S6x4096x128, .f32⟩
  | .hbm, ⟨107, _⟩ => ⟨S6x4096x128, .bf16⟩
  | _, _ => ⟨S2x2048x6x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_call0_v0 : Ref sig .tc := ⟨.hbm, 20, rfl⟩
abbrev main_v13_1 : Ref sig .tc := ⟨.hbm, 21, rfl⟩
abbrev main_call0_v2 : Ref sig .tc := ⟨.hbm, 22, rfl⟩
abbrev main_v13_0 : Ref sig .tc := ⟨.hbm, 23, rfl⟩
abbrev main_call0_cst : Ref sig .tc := ⟨.hbm, 24, rfl⟩
abbrev main_v13_2 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_cst_9 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_10 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_11 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c : Ref sig .tc := ⟨.hbm, 97, rfl⟩
abbrev main_call2_v0 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_14 : Ref sig .tc := ⟨.hbm, 102, rfl⟩
abbrev main_call3_v0 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩

abbrev nD : Nat := 1
abbrev τ : Topo := Topo.v7x

variable {F : FTy → Type} [FloatOps F]
-- ==== Weight.lean ====
abbrev S4096x2816 : Shape := ⟨2, ![4096, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S4x1024x704 : Shape := ⟨3, ![4, 1024, 704]⟩
abbrev S1024x1024 : Shape := ⟨2, ![1024, 1024]⟩
abbrev S1x1024x704 : Shape := ⟨3, ![1, 1024, 704]⟩
abbrev S1024x704 : Shape := ⟨2, ![1024, 704]⟩
abbrev S1x704x1024 : Shape := ⟨3, ![1, 704, 1024]⟩
abbrev S704x1024 : Shape := ⟨2, ![704, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x4x704, .f32⟩
  | .hbm, ⟨3, _⟩ => ⟨S4x4096x704, .f32⟩
  | .hbm, ⟨4, _⟩ => ⟨S4x4096x704, .bf16⟩
  | .hbm, ⟨5, _⟩ => ⟨S4096x1024, .bf16⟩
  | .hbm, ⟨6, _⟩ => ⟨S4x704x1024, .bf16⟩
  | .local _ .vmem, ⟨0, _⟩ => ⟨S4x1024x704, .bf16⟩
  | .local _ .vmem, ⟨1, _⟩ => ⟨S4x1024x704, .bf16⟩
  | .local _ .vmem, ⟨2, _⟩ => ⟨S1024x1024, .bf16⟩
  | .local _ .vmem, ⟨3, _⟩ => ⟨S1024x1024, .bf16⟩
  | .local _ .vmem, ⟨4, _⟩ => ⟨S4x704x1024, .bf16⟩
  | .local _ .vmem, ⟨5, _⟩ => ⟨S4x704x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v47 : BitVec 1 := Scalar.cmpi .eq arg0 c3_i32
  let v48 : BitVec 32 := Scalar.extui v47
  let c0_i32_44 : BitVec 32 := 0#32
  let v49 : BitVec 1 := Scalar.cmpi .ne v48 c0_i32_44
  v49

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DownReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S4x704x1024, .f32⟩
  | .hbm, ⟨8, _⟩ => ⟨S4x704x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateReferenceIdeal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S1024x2816, .f32⟩
  | .hbm, ⟨4, _⟩ => ⟨S4096x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S4x704x1024, .f32⟩
  | .hbm, ⟨9, _⟩ => ⟨S4x704x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Act.lean ====
abbrev S4096x2816 : Shape := ⟨2, ![4096, 2816]⟩
abbrev S2816x1024 : Shape := ⟨2, ![2816, 1024]⟩
abbrev S4096x1024 : Shape := ⟨2, ![4096, 1024]⟩
abbrev S4x704x1024 : Shape := ⟨3, ![4, 704, 1024]⟩
abbrev S4096x4x704 : Shape := ⟨3, ![4096, 4, 704]⟩
abbrev S4x4096x704 : Shape := ⟨3, ![4, 4096, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 15
  | .vmem => 12
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x1024, .bf16⟩
  | .hbm, ⟨5, _⟩ => ⟨S4x704x1024, .f32⟩
  | .hbm, ⟨6, _⟩ => ⟨S4x704x1024, .bf16⟩
  | .hbm, ⟨7, _⟩ => ⟨S4096x4x704, .f32⟩
  | .hbm, ⟨8, _⟩ => ⟨S4x4096x704, .f32⟩
  | .hbm, ⟨9, _⟩ => ⟨S4x4096x704, .bf16⟩
  | .hbm, ⟨10, _⟩ => ⟨S4096x4x704, .f32⟩
  | .hbm, ⟨11, _⟩ => ⟨S4x4096x704, .f32⟩
  | .hbm, ⟨12, _⟩ => ⟨S4x4096x704, .bf16⟩
  | .hbm, ⟨13, _⟩ => ⟨S4x4096x704, .bf16⟩
  | .hbm, ⟨14, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ActReferenceIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S4096x4x704 : Shape := ⟨3, ![4096, 4, 704]⟩
abbrev S4x4096x704 : Shape := ⟨3, ![4, 4096, 704]⟩

abbrev nBuf : Space → Nat
  | .hbm => 32
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x4x704, .f32⟩
  | .hbm, ⟨27, _⟩ => ⟨S4x4096x704, .f32⟩
  | .hbm, ⟨28, _⟩ => ⟨S4x4096x704, .bf16⟩
  | .hbm, ⟨29, _⟩ => ⟨S4096x4x704, .f32⟩
  | .hbm, ⟨30, _⟩ => ⟨S4x4096x704, .f32⟩
  | .hbm, ⟨31, _⟩ => ⟨S4x4096x704, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Rows.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S1x1024 : Shape := ⟨2, ![1, 1024]⟩
abbrev S4096x4x704 : Shape := ⟨3, ![4096, 4, 704]⟩
abbrev S4x4096x704 : Shape := ⟨3, ![4, 4096, 704]⟩
abbrev S2816x1024 : Shape := ⟨2, ![2816, 1024]⟩
abbrev S4x704x1024 : Shape := ⟨3, ![4, 704, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S256x1024 : Shape := ⟨2, ![256, 1024]⟩
abbrev S256 : Shape := ⟨1, ![256]⟩
abbrev S256x1 : Shape := ⟨2, ![256, 1]⟩

abbrev nBuf : Space → Nat
  | .hbm => 23
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S1x1024, .f32⟩
  | .hbm, ⟨8, _⟩ => ⟨S4096x4x704, .f32⟩
  | .hbm, ⟨9, _⟩ => ⟨S4x4096x704, .f32⟩
  | .hbm, ⟨10, _⟩ => ⟨S4x4096x704, .bf16⟩
  | .hbm, ⟨11, _⟩ => ⟨S2816x1024, .f32⟩
  | .hbm, ⟨12, _⟩ => ⟨S4x704x1024, .f32⟩
  | .hbm, ⟨13, _⟩ => ⟨S4x704x1024, .bf16⟩
  | .hbm, ⟨14, _⟩ => ⟨S4096x4x704, .f32⟩
  | .hbm, ⟨15, _⟩ => ⟨S4x4096x704, .f32⟩
  | .hbm, ⟨16, _⟩ => ⟨S4x4096x704, .bf16⟩
  | .hbm, ⟨17, _⟩ => ⟨S2816x1024, .f32⟩
  | .hbm, ⟨18, _⟩ => ⟨S4x704x1024, .f32⟩
  | .hbm, ⟨19, _⟩ => ⟨S4x704x1024, .bf16⟩
  | .hbm, ⟨20, _⟩ => ⟨S4096x1024, .f32⟩
  | .hbm, ⟨21, _⟩ => ⟨S1x1024, .f32⟩
  | .hbm, ⟨22, _⟩ => ⟨S4096x1024, .bf16⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S4x512x704, .bf16⟩
  | .local _ .vmem, ⟨4, _⟩ => ⟨S4x512x704, .bf16⟩
  | .local _ .vmem, ⟨5, _⟩ => ⟨S4x704x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== RowsReferenceIdeal.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | .hbm, ⟨59, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Up.lean ====
abbrev S4096x1024 : Shape := ⟨2, ![4096, 1024]⟩
abbrev S1024x2816 : Shape := ⟨2, ![1024, 2816]⟩
abbrev S2816x1024 : Shape := ⟨2, ![2816, 1024]⟩
abbrev S4x704x1024 : Shape := ⟨3, ![4, 704, 1024]⟩
abbrev S4x4096x704 : Shape := ⟨3, ![4, 4096, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 13
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x1024, .bf16⟩
  | .hbm, ⟨4, _⟩ => ⟨S2816x1024, .f32⟩
  | .hbm, ⟨5, _⟩ => ⟨S4x704x1024, .f32⟩
  | .hbm, ⟨6, _⟩ => ⟨S4x704x1024, .bf16⟩
  | .hbm, ⟨7, _⟩ => ⟨S2816x1024, .f32⟩
  | .hbm, ⟨8, _⟩ => ⟨S4x704x1024, .f32⟩
  | .hbm, ⟨9, _⟩ => ⟨S4x704x1024, .bf16⟩
  | .hbm, ⟨10, _⟩ => ⟨S4x4096x704, .bf16⟩
  | .hbm, ⟨11, _⟩ => ⟨S4x4096x704, .bf16⟩
  | .hbm, ⟨12, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpReferenceIdeal.lean ====
abbrev S4096x1024 : Shape := ⟨2, ![4096, 1024]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x4x704, .f32⟩
  | .hbm, ⟨6, _⟩ => ⟨S4x4096x704, .f32⟩
  | .hbm, ⟨7, _⟩ => ⟨S4x4096x704, .bf16⟩
  | .hbm, ⟨8, _⟩ => ⟨S4096x4x704, .f32⟩
  | .hbm, ⟨9, _⟩ => ⟨S4x4096x704, .f32⟩
  | .hbm, ⟨10, _⟩ => ⟨S4x4096x704, .bf16⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x4x704, .f32⟩
  | .hbm, ⟨22, _⟩ => ⟨S4x4096x704, .f32⟩
  | .hbm, ⟨23, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Down.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S1x1024 : Shape := ⟨2, ![1, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S1024, .f32⟩
  | .hbm, ⟨4, _⟩ => ⟨S1x1024, .f32⟩
  | .hbm, ⟨5, _⟩ => ⟨S4096x4x704, .f32⟩
  | .hbm, ⟨6, _⟩ => ⟨S4x4096x704, .f32⟩
  | .hbm, ⟨7, _⟩ => ⟨S4x4096x704, .bf16⟩
  | .hbm, ⟨8, _⟩ => ⟨S4x704x1024, .f32⟩
  | .hbm, ⟨9, _⟩ => ⟨S4x704x1024, .bf16⟩
  | .hbm, ⟨10, _⟩ => ⟨S4096x1024, .f32⟩
  | .hbm, ⟨11, _⟩ => ⟨S4096x1024, .bf16⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== ResidualReferenceIdeal.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== InRows.lean ====
abbrev S4096x1024 : Shape := ⟨2, ![4096, 1024]⟩
abbrev S1024 : Shape := ⟨1, ![1024]⟩
abbrev S1024x2560 : Shape := ⟨2, ![1024, 2560]⟩
abbrev S4096x2560 : Shape := ⟨2, ![4096, 2560]⟩
abbrev S1024x4x640 : Shape := ⟨3, ![1024, 4, 640]⟩
abbrev S4x1024x640 : Shape := ⟨3, ![4, 1024, 640]⟩
abbrev S1x1024 : Shape := ⟨2, ![1, 1024]⟩
abbrev S512x2560 : Shape := ⟨2, ![512, 2560]⟩
abbrev S512x1024 : Shape := ⟨2, ![512, 1024]⟩
abbrev S512x640 : Shape := ⟨2, ![512, 640]⟩
abbrev S1x1024x640 : Shape := ⟨3, ![1, 1024, 640]⟩
abbrev S1024x640 : Shape := ⟨2, ![1024, 640]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2560, .f32⟩
  | .hbm, ⟨3, _⟩ => ⟨S4096x2560, .f32⟩
  | .hbm, ⟨4, _⟩ => ⟨S4096x1024, .f32⟩
  | .hbm, ⟨5, _⟩ => ⟨S1024x4x640, .f32⟩
  | .hbm, ⟨6, _⟩ => ⟨S4x1024x640, .f32⟩
  | .hbm, ⟨7, _⟩ => ⟨S4x1024x640, .bf16⟩
  | .hbm, ⟨8, _⟩ => ⟨S1x1024, .f32⟩
  | .hbm, ⟨9, _⟩ => ⟨S4096x2560, .bf16⟩
  | .hbm, ⟨10, _⟩ => ⟨S4096x1024, .f32⟩
  | .hbm, ⟨11, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S4x1024x640, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4x1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== InRowsReferenceIdeal.lean ====
abbrev S4096x1024 : Shape := ⟨2, ![4096, 1024]⟩
abbrev S1024 : Shape := ⟨1, ![1024]⟩
abbrev S1024x2560 : Shape := ⟨2, ![1024, 2560]⟩
abbrev S4096x2560 : Shape := ⟨2, ![4096, 2560]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2560, .f32⟩
  | .hbm, ⟨3, _⟩ => ⟨S4096x2560, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2560, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== InWeight.lean ====
abbrev S4096x1024 : Shape := ⟨2, ![4096, 1024]⟩
abbrev S4096x2560 : Shape := ⟨2, ![4096, 2560]⟩
abbrev S4x1024x640 : Shape := ⟨3, ![4, 1024, 640]⟩
abbrev S512x1024 : Shape := ⟨2, ![512, 1024]⟩
abbrev S512x2560 : Shape := ⟨2, ![512, 2560]⟩
abbrev S512x640 : Shape := ⟨2, ![512, 640]⟩
abbrev S1x1024x640 : Shape := ⟨3, ![1, 1024, 640]⟩
abbrev S1024x640 : Shape := ⟨2, ![1024, 640]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2560, .f32⟩
  | .hbm, ⟨2, _⟩ => ⟨S4096x1024, .bf16⟩
  | .hbm, ⟨3, _⟩ => ⟨S4096x2560, .bf16⟩
  | .hbm, ⟨4, _⟩ => ⟨S4x1024x640, .bf16⟩
  | .local _ .vmem, ⟨0, _⟩ => ⟨S512x1024, .bf16⟩
  | .local _ .vmem, ⟨1, _⟩ => ⟨S512x1024, .bf16⟩
  | .local _ .vmem, ⟨2, _⟩ => ⟨S512x2560, .bf16⟩
  | .local _ .vmem, ⟨3, _⟩ => ⟨S512x2560, .bf16⟩
  | .local _ .vmem, ⟨4, _⟩ => ⟨S4x1024x640, .bf16⟩
  | .local _ .vmem, ⟨5, _⟩ => ⟨S4x1024x640, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v47 : BitVec 1 := Scalar.cmpi .eq arg0 c7_i32
  let v48 : BitVec 32 := Scalar.extui v47
  let c0_i32_37 : BitVec 32 := 0#32
  let v49 : BitVec 1 := Scalar.cmpi .ne v48 c0_i32_37
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== InWeightReferenceIdeal.lean ====
abbrev S4096x1024 : Shape := ⟨2, ![4096, 1024]⟩
abbrev S4096x2560 : Shape := ⟨2, ![4096, 2560]⟩
abbrev S_ : Shape := ⟨0, ![]⟩
abbrev S1024x2560 : Shape := ⟨2, ![1024, 2560]⟩
abbrev S2560x1024 : Shape := ⟨2, ![2560, 1024]⟩
abbrev S1024x4x640 : Shape := ⟨3, ![1024, 4, 640]⟩
abbrev S4x1024x640 : Shape := ⟨3, ![4, 1024, 640]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2560, .f32⟩
  | .hbm, ⟨2, _⟩ => ⟨S_, .f32⟩
  | .hbm, ⟨3, _⟩ => ⟨S1024x2560, .f32⟩
  | .hbm, ⟨4, _⟩ => ⟨S4096x2560, .f32⟩
  | .hbm, ⟨5, _⟩ => ⟨S2560x1024, .f32⟩
  | .hbm, ⟨6, _⟩ => ⟨S1024x2560, .f32⟩
  | .hbm, ⟨7, _⟩ => ⟨S1024x4x640, .f32⟩
  | .hbm, ⟨8, _⟩ => ⟨S4x1024x640, .f32⟩
  | .hbm, ⟨9, _⟩ => ⟨S4x1024x640, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OddRows.lean ====
abbrev S4096x1024 : Shape := ⟨2, ![4096, 1024]⟩
abbrev S1024 : Shape := ⟨1, ![1024]⟩
abbrev S1024x960 : Shape := ⟨2, ![1024, 960]⟩
abbrev S4096x960 : Shape := ⟨2, ![4096, 960]⟩
abbrev S1x1024 : Shape := ⟨2, ![1, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x960, .f32⟩
  | .hbm, ⟨3, _⟩ => ⟨S4096x960, .f32⟩
  | .hbm, ⟨4, _⟩ => ⟨S4096x1024, .f32⟩
  | .hbm, ⟨5, _⟩ => ⟨S4096x960, .bf16⟩
  | .hbm, ⟨6, _⟩ => ⟨S1024x960, .bf16⟩
  | .hbm, ⟨7, _⟩ => ⟨S1x1024, .f32⟩
  | .hbm, ⟨8, _⟩ => ⟨S4096x1024, .f32⟩
  | .hbm, ⟨9, _⟩ => ⟨S1x1024, .f32⟩
  | .hbm, ⟨10, _⟩ => ⟨S4096x1024, .bf16⟩
  | .local _ .vmem, ⟨0, _⟩ => ⟨S1024x960, .bf16⟩
  | .local _ .vmem, ⟨1, _⟩ => ⟨S1024x960, .bf16⟩
  | .local _ .vmem, ⟨2, _⟩ => ⟨S1024x960, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x960 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x960 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== OddRowsReferenceIdeal.lean ====
abbrev S4096x1024 : Shape := ⟨2, ![4096, 1024]⟩
abbrev S1024 : Shape := ⟨1, ![1024]⟩
abbrev S1024x960 : Shape := ⟨2, ![1024, 960]⟩
abbrev S4096x960 : Shape := ⟨2, ![4096, 960]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x960, .f32⟩
  | .hbm, ⟨3, _⟩ => ⟨S4096x960, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x960, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | .hbm, ⟨54, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== OddWeight.lean ====
abbrev S4096x1024 : Shape := ⟨2, ![4096, 1024]⟩
abbrev S4096x960 : Shape := ⟨2, ![4096, 960]⟩
abbrev S1024x960 : Shape := ⟨2, ![1024, 960]⟩
abbrev S512x1024 : Shape := ⟨2, ![512, 1024]⟩
abbrev S512x960 : Shape := ⟨2, ![512, 960]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x960, .f32⟩
  | .hbm, ⟨2, _⟩ => ⟨S4096x1024, .bf16⟩
  | .hbm, ⟨3, _⟩ => ⟨S4096x960, .bf16⟩
  | .hbm, ⟨4, _⟩ => ⟨S1024x960, .bf16⟩
  | .local _ .vmem, ⟨0, _⟩ => ⟨S512x1024, .bf16⟩
  | .local _ .vmem, ⟨1, _⟩ => ⟨S512x1024, .bf16⟩
  | .local _ .vmem, ⟨2, _⟩ => ⟨S512x960, .bf16⟩
  | .local _ .vmem, ⟨3, _⟩ => ⟨S512x960, .bf16⟩
  | .local _ .vmem, ⟨4, _⟩ => ⟨S1024x960, .bf16⟩
  | .local _ .vmem, ⟨5, _⟩ => ⟨S1024x960, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x960 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x960 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OddWeightReferenceIdeal.lean ====
abbrev S4096x1024 : Shape := ⟨2, ![4096, 1024]⟩
abbrev S4096x960 : Shape := ⟨2, ![4096, 960]⟩
abbrev S_ : Shape := ⟨0, ![]⟩
abbrev S1024x960 : Shape := ⟨2, ![1024, 960]⟩
abbrev S960x1024 : Shape := ⟨2, ![960, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x960, .f32⟩
  | .hbm, ⟨2, _⟩ => ⟨S_, .f32⟩
  | .hbm, ⟨3, _⟩ => ⟨S1024x960, .f32⟩
  | .hbm, ⟨4, _⟩ => ⟨S4096x960, .f32⟩
  | .hbm, ⟨5, _⟩ => ⟨S960x1024, .f32⟩
  | .hbm, ⟨6, _⟩ => ⟨S1024x960, .f32⟩
  | .hbm, ⟨7, _⟩ => ⟨S1024x960, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutWeight.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWeightReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutMix.lean ====
abbrev S1024x1024 : Shape := ⟨2, ![1024, 1024]⟩
abbrev S4096x1024 : Shape := ⟨2, ![4096, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutMixReferenceIdeal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S4096x1024, .bf16⟩
  | .hbm, ⟨5, _⟩ => ⟨S1024x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== OutReferenceIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== OddMix.lean ====
abbrev S1024x1024 : Shape := ⟨2, ![1024, 1024]⟩
abbrev S4096x1024 : Shape := ⟨2, ![4096, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S4096x1024, .bf16⟩
  | .hbm, ⟨3, _⟩ => ⟨S1024x1024, .bf16⟩
  | .hbm, ⟨4, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddMixReferenceIdeal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== EvenIn.lean ====
abbrev S4096x1024 : Shape := ⟨2, ![4096, 1024]⟩
abbrev S1024 : Shape := ⟨1, ![1024]⟩
abbrev S1024x2560 : Shape := ⟨2, ![1024, 2560]⟩
abbrev S1024x4x640 : Shape := ⟨3, ![1024, 4, 640]⟩
abbrev S4x1024x640 : Shape := ⟨3, ![4, 1024, 640]⟩
abbrev S1x1024 : Shape := ⟨2, ![1, 1024]⟩
abbrev S4096x2560 : Shape := ⟨2, ![4096, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩
abbrev S1x1024x640 : Shape := ⟨3, ![1, 1024, 640]⟩
abbrev S1024x640 : Shape := ⟨2, ![1024, 640]⟩
abbrev S512x640 : Shape := ⟨2, ![512, 640]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2560, .f32⟩
  | .hbm, ⟨3, _⟩ => ⟨S1024x4x640, .f32⟩
  | .hbm, ⟨4, _⟩ => ⟨S4x1024x640, .f32⟩
  | .hbm, ⟨5, _⟩ => ⟨S4x1024x640, .bf16⟩
  | .hbm, ⟨6, _⟩ => ⟨S1x1024, .f32⟩
  | .hbm, ⟨7, _⟩ => ⟨S4096x2560, .f32⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x640, .bf16⟩
  | .local _ .vmem, ⟨4, _⟩ => ⟨S512x2560, .f32⟩
  | .local _ .vmem, ⟨5, _⟩ => ⟨S512x2560, .f32⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== EvenInReferenceIdeal.lean ====
abbrev S4096x1024 : Shape := ⟨2, ![4096, 1024]⟩
abbrev S1024 : Shape := ⟨1, ![1024]⟩
abbrev S1024x2560 : Shape := ⟨2, ![1024, 2560]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2560 : Shape := ⟨2, ![4096, 2560]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2560, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x2560, .f32⟩
  | .hbm, ⟨20, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== OddIn.lean ====
abbrev S4096x1024 : Shape := ⟨2, ![4096, 1024]⟩
abbrev S1024x960 : Shape := ⟨2, ![1024, 960]⟩
abbrev S_ : Shape := ⟨0, ![]⟩
abbrev S1024x1024 : Shape := ⟨2, ![1024, 1024]⟩

abbrev nBuf : Space → Nat
  | .hbm => 8
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x960, .f32⟩
  | .hbm, ⟨2, _⟩ => ⟨S4096x1024, .bf16⟩
  | .hbm, ⟨3, _⟩ => ⟨S1024x960, .bf16⟩
  | .hbm, ⟨4, _⟩ => ⟨S_, .i32⟩
  | .hbm, ⟨5, _⟩ => ⟨S_, .bf16⟩
  | .hbm, ⟨6, _⟩ => ⟨S1024x1024, .bf16⟩
  | .hbm, ⟨7, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddInReferenceIdeal.lean ====
abbrev S4096x1024 : Shape := ⟨2, ![4096, 1024]⟩
abbrev S1024x960 : Shape := ⟨2, ![1024, 960]⟩
abbrev S4096x960 : Shape := ⟨2, ![4096, 960]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x960, .f32⟩
  | .hbm, ⟨2, _⟩ => ⟨S4096x960, .f32⟩
  | .hbm, ⟨3, _⟩ => ⟨S_, .i32⟩
  | .hbm, ⟨4, _⟩ => ⟨S_, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Loss.lean ====
abbrev S4096x1024 : Shape := ⟨2, ![4096, 1024]⟩
abbrev S4096x2816 : Shape := ⟨2, ![4096, 2816]⟩
abbrev S2816x1024 : Shape := ⟨2, ![2816, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S8x128 : Shape := ⟨2, ![8, 128]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S256x1024 : Shape := ⟨2, ![256, 1024]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 12
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x4x704, .f32⟩
  | .hbm, ⟨5, _⟩ => ⟨S4x4096x704, .f32⟩
  | .hbm, ⟨6, _⟩ => ⟨S4x4096x704, .bf16⟩
  | .hbm, ⟨7, _⟩ => ⟨S4x704x1024, .f32⟩
  | .hbm, ⟨8, _⟩ => ⟨S4x704x1024, .bf16⟩
  | .hbm, ⟨9, _⟩ => ⟨S4096x1024, .f32⟩
  | .hbm, ⟨10, _⟩ => ⟨S8x128, .f32⟩
  | .hbm, ⟨11, _⟩ => ⟨S4096x1024, .bf16⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S8x128, .f32⟩
  | .local _ .vmem, ⟨10, _⟩ => ⟨S512x1024, .bf16⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== LossReferenceIdeal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩
abbrev S4096 : Shape := ⟨1, ![4096]⟩
abbrev S8x128 : Shape := ⟨2, ![8, 128]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S_, .f32⟩
  | .hbm, ⟨33, _⟩ => ⟨S8x128, .f32⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]
-- ==== Attention.lean ====
abbrev S2x2048x6x192 : Shape := ⟨4, ![2, 2048, 6, 192]⟩
abbrev S2x2048x6x128 : Shape := ⟨4, ![2, 2048, 6, 128]⟩
abbrev S4096x1024 : Shape := ⟨2, ![4096, 1024]⟩
abbrev S6x2x2048x192 : Shape := ⟨4, ![6, 2, 2048, 192]⟩
abbrev S6x4096x192 : Shape := ⟨3, ![6, 4096, 192]⟩
abbrev S_ : Shape := ⟨0, ![]⟩
abbrev S6x4096x256 : Shape := ⟨3, ![6, 4096, 256]⟩
abbrev S6x2x2048x128 : Shape := ⟨4, ![6, 2, 2048, 128]⟩
abbrev S6x4096x128 : Shape := ⟨3, ![6, 4096, 128]⟩
abbrev S1x2048x256 : Shape := ⟨3, ![1, 2048, 256]⟩
abbrev S1x2048x128 : Shape := ⟨3, ![1, 2048, 128]⟩
abbrev S2048x128 : Shape := ⟨2, ![2048, 128]⟩
abbrev S1x512x256 : Shape := ⟨3, ![1, 512, 256]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1x512x128 : Shape := ⟨3, ![1, 512, 128]⟩
abbrev S512x128 : Shape := ⟨2, ![512, 128]⟩
abbrev S1x1024x256 : Shape := ⟨3, ![1, 1024, 256]⟩
abbrev S1024x256 : Shape := ⟨2, ![1024, 256]⟩
abbrev S512x1024 : Shape := ⟨2, ![512, 1024]⟩
abbrev S1x1024x128 : Shape := ⟨3, ![1, 1024, 128]⟩
abbrev S1024x128 : Shape := ⟨2, ![1024, 128]⟩
abbrev S1x1536x256 : Shape := ⟨3, ![1, 1536, 256]⟩
abbrev S1536x256 : Shape := ⟨2, ![1536, 256]⟩
abbrev S512x1536 : Shape := ⟨2, ![512, 1536]⟩
abbrev S1x1536x128 : Shape := ⟨3, ![1, 1536, 128]⟩
abbrev S1536x128 : Shape := ⟨2, ![1536, 128]⟩

abbrev nBuf : Space → Nat
  | .hbm => 22
  | .vmem => 10
  | .smem => 0
  | _ => 0

abbrev bufTy : (tb : Table) → Fin (tcTables nBuf tb) → BufTy
  | .hbm, ⟨0, _⟩ => ⟨S2x2048x6x192, .f32⟩
  | .hbm, ⟨1, _⟩ => ⟨S2x2048x6x192, .f32⟩
  | .hbm, ⟨2, _⟩ => ⟨S2x2048x6x128, .f32⟩
  | .hbm, ⟨3, _⟩ => ⟨S4096x1024, .f32⟩
  | .hbm, ⟨4, _⟩ => ⟨S6x2x2048x192, .f32⟩
  | .hbm, ⟨5, _⟩ => ⟨S6x4096x192, .f32⟩
  | .hbm, ⟨6, _⟩ => ⟨S_, .i32⟩
  | .hbm, ⟨7, _⟩ => ⟨S_, .f32⟩
  | .hbm, ⟨8, _⟩ => ⟨S6x4096x256, .f32⟩
  | .hbm, ⟨9, _⟩ => ⟨S6x4096x256, .bf16⟩
  | .hbm, ⟨10, _⟩ => ⟨S6x2x2048x192, .f32⟩
  | .hbm, ⟨11, _⟩ => ⟨S6x4096x192, .f32⟩
  | .hbm, ⟨12, _⟩ => ⟨S_, .i32⟩
  | .hbm, ⟨13, _⟩ => ⟨S_, .f32⟩
  | .hbm, ⟨14, _⟩ => ⟨S6x4096x256, .f32⟩
  | .hbm, ⟨15, _⟩ => ⟨S6x4096x256, .bf16⟩
  | .hbm, ⟨16, _⟩ => ⟨S6x2x2048x128, .f32⟩
  | .hbm, ⟨17, _⟩ => ⟨S6x4096x128, .f32⟩
  | .hbm, ⟨18, _⟩ => ⟨S6x4096x128, .bf16⟩
  | .hbm, ⟨19, _⟩ => ⟨S4096x1024, .bf16⟩
  | .hbm, ⟨20, _⟩ => ⟨S4096x1024, .bf16⟩
  | .hbm, ⟨21, _⟩ => ⟨S6x4096x128, .f32⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S2048x128, .bf16⟩
  | .local _ .vmem, ⟨7, _⟩ => ⟨S2048x128, .bf16⟩
  | .local _ .vmem, ⟨8, _⟩ => ⟨S1x2048x128, .f32⟩
  | .local _ .vmem, ⟨9, _⟩ => ⟨S1x2048x128, .f32⟩
  | _, _ => ⟨S2x2048x6x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttentionIdeal.lean ====
variable {F : FTy → Type} [FloatOps F] [Named F]
def κ : String → Option EReal := fun
  | "mask" => some ⊥
  | "scale" => some (((Real.sqrt 192)⁻¹ : ℝ) : EReal)
  | "scale_log2e" => some (((Real.sqrt 192)⁻¹ * (Real.log 2)⁻¹ : ℝ) : EReal)
  | _ => none
-- ==== AttentionReferenceIdeal.lean ====
abbrev S2x2048x6x192 : Shape := ⟨4, ![2, 2048, 6, 192]⟩
abbrev S2x2048x6x128 : Shape := ⟨4, ![2, 2048, 6, 128]⟩
abbrev S4096x1024 : Shape := ⟨2, ![4096, 1024]⟩
abbrev S2x6x2048x2048 : Shape := ⟨4, ![2, 6, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x6x2048 : Shape := ⟨3, ![2, 6, 2048]⟩
abbrev S2x6x2048x1 : Shape := ⟨4, ![2, 6, 2048, 1]⟩
abbrev S6x2x2048x1 : Shape := ⟨4, ![6, 2, 2048, 1]⟩
abbrev S6x4096x1 : Shape := ⟨3, ![6, 4096, 1]⟩
abbrev S6x4096x128 : Shape := ⟨3, ![6, 4096, 128]⟩
abbrev S2x6x128x2048 : Shape := ⟨4, ![2, 6, 128, 2048]⟩
abbrev S4096x256 : Shape := ⟨2, ![4096, 256]⟩
abbrev S4096x768 : Shape := ⟨2, ![4096, 768]⟩

abbrev nBuf : Space → Nat
  | .hbm => 46
  | .vmem => 0
  | .smem => 0
  | _ => 0

abbrev bufTy : (tb : Table) → Fin (tcTables nBuf tb) → BufTy
  | .hbm, ⟨0, _⟩ => ⟨S2x2048x6x192, .f32⟩
  | .hbm, ⟨1, _⟩ => ⟨S2x2048x6x192, .f32⟩
  | .hbm, ⟨2, _⟩ => ⟨S2x2048x6x128, .f32⟩
  | .hbm, ⟨3, _⟩ => ⟨S4096x1024, .f32⟩
  | .hbm, ⟨4, _⟩ => ⟨S2x6x2048x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x6x2048x2048, .f32⟩
  | .hbm, ⟨11, _⟩ => ⟨S2x6x2048x2048, .f32⟩
  | .hbm, ⟨12, _⟩ => ⟨S2048, .i32⟩
  | .hbm, ⟨13, _⟩ => ⟨S2048x1, .i32⟩
  | .hbm, ⟨14, _⟩ => ⟨S2048, .i32⟩
  | .hbm, ⟨15, _⟩ => ⟨S1x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S2x6x2048x2048, .i1⟩
  | .hbm, ⟨22, _⟩ => ⟨S2x6x2048x2048, .f32⟩
  | .hbm, ⟨23, _⟩ => ⟨S2x6x2048x2048, .f32⟩
  | .hbm, ⟨24, _⟩ => ⟨S_, .f32⟩
  | .hbm, ⟨25, _⟩ => ⟨S2x6x2048, .f32⟩
  | .hbm, ⟨26, _⟩ => ⟨S2x6x2048x1, .f32⟩
  | .hbm, ⟨27, _⟩ => ⟨S2x6x2048x2048, .f32⟩
  | .hbm, ⟨28, _⟩ => ⟨S2x6x2048x2048, .f32⟩
  | .hbm, ⟨29, _⟩ => ⟨S2x6x2048x2048, .f32⟩
  | .hbm, ⟨30, _⟩ => ⟨S_, .f32⟩
  | .hbm, ⟨31, _⟩ => ⟨S2x6x2048, .f32⟩
  | .hbm, ⟨32, _⟩ => ⟨S2x6x2048x1, .f32⟩
  | .hbm, ⟨33, _⟩ => ⟨S2x6x2048x1, .f32⟩
  | .hbm, ⟨34, _⟩ => ⟨S2x6x2048x1, .f32⟩
  | .hbm, ⟨35, _⟩ => ⟨S6x2x2048x1, .f32⟩
  | .hbm, ⟨36, _⟩ => ⟨S6x4096x1, .f32⟩
  | .hbm, ⟨37, _⟩ => ⟨S6x4096x128, .f32⟩
  | .hbm, ⟨38, _⟩ => ⟨S2x6x2048x2048, .f32⟩
  | .hbm, ⟨39, _⟩ => ⟨S2x6x2048x2048, .f32⟩
  | .hbm, ⟨40, _⟩ => ⟨S2x6x128x2048, .f32⟩
  | .hbm, ⟨41, _⟩ => ⟨S2x2048x6x128, .f32⟩
  | .hbm, ⟨42, _⟩ => ⟨S4096x256, .f32⟩
  | .hbm, ⟨43, _⟩ => ⟨S4096x768, .f32⟩
  | .hbm, ⟨44, _⟩ => ⟨S4096x1024, .f32⟩
  | .hbm, ⟨45, _⟩ => ⟨S4096x1024, .bf16⟩
  | _, _ => ⟨S2x2048x6x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Proof.Finite.lean ====
module

public import proofs.«01_k».proof.Defs
public import proofs.«01_k».proof.Proof.Gen.Pre_finite
public import Idealize.ShloMosaic.Lib.ReduceAll
public import Idealize.ShloMosaic.Lib.Pointwise

@[expose] public section

noncomputable section

/-! # The precondition, read

`finite` asks that the absolute value of every element of every argument be below infinity. At exact arithmetic that
says that every element is a real number. -/

namespace Cert.Pre_finite.Meaning

open Idealize.ShloMosaic Cert.Pre_finite Cert.Pre_finite.Gen

/-- The shape of a scalar has one index. -/
instance : Subsingleton S_.Idx := inferInstanceAs (Subsingleton (∀ d : Fin 0, Fin _))

/-- The bit pattern of infinity is the top element. -/
theorem inf_val : Ideal.ofBits .f32 0x7F800000#32 = (⊤ : EReal) := by simp [Ideal.ofBits, Ideal.ieee, -EReal.coe_mul]

/-- A number whose absolute value compares below infinity is real. -/
theorem real_of_lt {x : EReal} (h : Ideal.cmp .olt (max x (-x)) ⊤ = 1#1) : ∃ r : ℝ, x = (r : EReal) := by
  induction x with
  | bot => simp [Ideal.cmp] at h
  | coe r => exact ⟨r, rfl⟩
  | top => simp [Ideal.cmp] at h

/-- Two bits whose conjunction is one are both one. -/
theorem and_one {x y : BitVec 1} (h : IntOp.andi x y = 1#1) : x = 1#1 ∧ y = 1#1 := by
  revert x y
  decide

/-- If the test of one array holds, the array's elements are real. -/
theorem all_real {s : Shape} {axes : List (Fin s.rank)} (x : FVec Ideal s .f32) (hb : S_.BroadcastsInDim s (![] : Fin 0 → Fin s.rank))
    (hr : s.ReducesTo axes S_) (hs : 0 < S_.numel) (j : S_.Idx)
    (h : Host.reduce IntOp.andi (cmpf .olt (Host.absf x) (broadcastInDim s ![] hb (constant S_ .f32 0x7F800000#32 : FVec Ideal S_ .f32))) (constantI S_ 1 1#1) hr hs j = 1#1) :
    ∀ i, ∃ r : ℝ, x i = (r : EReal) := fun i => by
  have e := Host.reduce_andi_all _ _ hr hs j h i
  have e' : Ideal.cmp .olt (max (x i) (-(x i))) (Ideal.ofBits .f32 0x7F800000#32) = 1#1 := e
  rw [inf_val] at e'
  exact real_of_lt e'

/-- Under the precondition every element of the four arguments is real. -/
theorem reals (a0 a1 : FVec Ideal S2x2048x6x192 .f32) (a2 : FVec Ideal S2x2048x6x128 .f32) (a3 : FVec Ideal S2x2048x768 .f32)
    (h : Cert.Pre_finite.fn (F := Ideal) a0 a1 a2 a3 = fun _ => 1#1) :
    (∃ r : S2x2048x6x192.Idx → ℝ, ∀ i, a0 i = (r i : EReal)) ∧ (∃ r : S2x2048x6x192.Idx → ℝ, ∀ i, a1 i = (r i : EReal))
      ∧ (∃ r : S2x2048x6x128.Idx → ℝ, ∀ i, a2 i = (r i : EReal)) ∧ (∃ r : S2x2048x768.Idx → ℝ, ∀ i, a3 i = (r i : EReal)) := by
  have e := congrFun h ix0
  obtain ⟨e, e3⟩ := and_one e
  obtain ⟨e, e2⟩ := and_one e
  obtain ⟨e0, e1⟩ := and_one e
  have h0 := all_real a0 Facts.bcast_S_S2x2048x6x192 Facts.reducesTo_S2x2048x6x192_S_d0_1_2_3 Facts.h_S_ ix0 e0
  have h1 := all_real a1 Facts.bcast_S_S2x2048x6x192 Facts.reducesTo_S2x2048x6x192_S_d0_1_2_3 Facts.h_S_ ix0 e1
  have h2 := all_real a2 Facts.bcast_S_S2x2048x6x128 Facts.reducesTo_S2x2048x6x128_S_d0_1_2_3 Facts.h_S_ ix0 e2
  have h3 := all_real a3 Facts.bcast_S_S2x2048x768 Facts.reducesTo_S2x2048x768_S_d0_1_2 Facts.h_S_ ix0 e3
  choose r0 h0 using h0
  choose r1 h1 using h1
  choose r2 h2 using h2
  choose r3 h3 using h3
  exact ⟨⟨r0, h0⟩, ⟨r1, h1⟩, ⟨r2, h2⟩, ⟨r3, h3⟩⟩

end Cert.Pre_finite.Meaning

end
-- ==== Proof.Attn.lean ====
module

public import Idealize.ShloMosaic.PureOps.Ideal
public import Mathlib.Analysis.SpecialFunctions.Pow.Real
public import Mathlib.Tactic.FieldSimp
public import Mathlib.Tactic.Ring
public import Mathlib.Tactic.Positivity

@[expose] public section

noncomputable section

/-! # The attention of one head and its gradient, over the reals

`q`, `k` are the head's queries and keys (2048 rows of 192), `v` its values (2048 rows of 128), `g` the gradient that
arrives at its output. The definitions are the textbook ones; the lemmas say how the extended-real operations of the two
programs land on them. -/

namespace Cert.Attn

open Idealize.ShloMosaic

/-- A sum of reals, taken among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The attention's scale. -/
def scale : ℝ := (Real.sqrt 192)⁻¹

variable (q k : Fin 2048 → Fin 192 → ℝ) (v g : Fin 2048 → Fin 128 → ℝ)

/-- The scaled logit of key `c` for query `r`. -/
def score (r c : Fin 2048) : ℝ := (∑ d, q r d * k c d) * scale

/-- Its exponential, which counts for the keys up to the query. -/
def weight (r c : Fin 2048) : ℝ := if c.val ≤ r.val then Real.exp (score q k r c) else 0

/-- The sum of a query's weights. -/
def total (r : Fin 2048) : ℝ := ∑ c, weight q k r c

/-- The attention's probability. -/
def prob (r c : Fin 2048) : ℝ := weight q k r c / total q k r

/-- What key `c` contributes to the gradient at query `r`'s output. -/
def part (r c : Fin 2048) : ℝ := ∑ d, g r d * v c d

/-- The gradient of the scaled logit. -/
def dscore (r c : Fin 2048) : ℝ := prob q k r c * (part v g r c - ∑ x, prob q k r x * part v g r x)

/-- The queries' gradient. -/
def gradQ (r : Fin 2048) (d : Fin 192) : ℝ := ∑ c, dscore q k v g r c * scale * k c d

/-- The keys' gradient. -/
def gradK (c : Fin 2048) (d : Fin 192) : ℝ := ∑ r, dscore q k v g r c * scale * q r d

/-- The values' gradient. -/
def gradV (c : Fin 2048) (d : Fin 128) : ℝ := ∑ r, prob q k r c * g r d

/-- The attention's output. -/
def out (r : Fin 2048) (d : Fin 128) : ℝ := ∑ c, v c d * prob q k r c

/-- A weight is not negative. -/
theorem weight_nonneg (r c : Fin 2048) : 0 ≤ weight q k r c := by
  unfold weight; split <;> positivity

/-- The sum of a row's weights is positive, since the row sees itself. -/
theorem total_pos (r : Fin 2048) : 0 < total q k r := by
  refine Finset.sum_pos' (fun c _ => weight_nonneg q k r c) ⟨r, Finset.mem_univ r, ?_⟩
  rw [weight, if_pos le_rfl]; exact Real.exp_pos _

/-- A later key has no probability. -/
theorem prob_later (r c : Fin 2048) (h : r.val < c.val) : prob q k r c = 0 := by
  rw [prob, weight, if_neg (by omega), zero_div]

/-- A later key's logit has no gradient. -/
theorem dscore_later (r c : Fin 2048) (h : r.val < c.val) : dscore q k v g r c = 0 := by
  rw [dscore, prob_later q k r c h, zero_mul]

/-- The row's part of the gradient: the output against the arriving gradient is the probabilities against the keys'
    parts. -/
theorem out_dot (r : Fin 2048) : ∑ d, g r d * out q k v r d = ∑ c, prob q k r c * part v g r c := by
  simp only [out, part, Finset.mul_sum]
  rw [Finset.sum_comm]
  exact Finset.sum_congr rfl fun c _ => Finset.sum_congr rfl fun d _ => by ring

/-! ## The extended reals' operations on these -/

/-- The masked logit of the two programs. -/
def masked (r c : Fin 2048) : EReal := if c.val ≤ r.val then (score q k r c : EReal) else ⊥

/-- The largest masked logit of a row is a real number. -/
theorem max_real (r : Fin 2048) : ∃ μ : ℝ, Finset.fold max ⊥ (masked q k r) Finset.univ = (μ : EReal) := by
  have h1 : Finset.fold max ⊥ (masked q k r) Finset.univ < ⊤ := by
    rw [Finset.fold_max_lt]
    refine ⟨bot_lt_top, fun c _ => ?_⟩
    unfold masked; split
    · exact EReal.coe_lt_top _
    · exact bot_lt_top
  have h2 : ⊥ < Finset.fold max ⊥ (masked q k r) Finset.univ := by
    refine lt_of_lt_of_le (EReal.bot_lt_coe (score q k r r)) ?_
    rw [Finset.le_fold_max]
    exact Or.inr ⟨r, Finset.mem_univ r, by rw [masked, if_pos le_rfl]⟩
  exact ⟨_, (EReal.coe_toReal h1.ne h2.ne').symm⟩

/-- The exponential of a masked logit less a real. -/
theorem exp_masked (r c : Fin 2048) (μ : ℝ) : Ideal.exp (masked q k r c - (μ : EReal)) = ((weight q k r c * Real.exp (-μ) : ℝ) : EReal) := by
  unfold masked weight
  split
  · rw [← EReal.coe_sub, Ideal.exp_coe, sub_eq_add_neg, Real.exp_add]
  · simp

/-- A row's sum of those. -/
theorem sum_exp (r : Fin 2048) (μ : ℝ) : ∑ c, Ideal.exp (masked q k r c - (μ : EReal)) = ((total q k r * Real.exp (-μ) : ℝ) : EReal) := by
  simp only [exp_masked, ← coe_sum, total, Finset.sum_mul]

/-- The sum of a row's weights, shifted by any amount, is not zero. -/
theorem total_exp_ne (r : Fin 2048) (μ : ℝ) : total q k r * Real.exp (-μ) ≠ 0 :=
  (mul_pos (total_pos q k r) (Real.exp_pos _)).ne'

/-- The softmax quotient, whatever the real subtracted. -/
theorem softmax (r c : Fin 2048) (μ : ℝ) :
    Ideal.div ((weight q k r c * Real.exp (-μ) : ℝ) : EReal) ((total q k r * Real.exp (-μ) : ℝ) : EReal) = (prob q k r c : EReal) := by
  rw [Ideal.div_coe (total_exp_ne q k r μ), ← EReal.coe_mul]
  congr 1
  have := Real.exp_pos (-μ)
  have := total_pos q k r
  unfold prob
  field_simp

/-- The row's log-sum, whatever the real subtracted. -/
theorem logsum (r : Fin 2048) (μ : ℝ) :
    (μ : EReal) + Ideal.log ((total q k r * Real.exp (-μ) : ℝ) : EReal) = (Real.log (total q k r) : EReal) := by
  rw [Ideal.log_coe, if_neg (not_le.mpr (mul_pos (total_pos q k r) (Real.exp_pos _))), Real.log_mul (total_pos q k r).ne' (Real.exp_pos _).ne', Real.log_exp, ← EReal.coe_add]
  congr 1; ring

/-- The kernel's probability of an unmasked key: a power of two of the logit less the log-sum, both over log 2. -/
theorem exp2_score (r c : Fin 2048) (h : c.val ≤ r.val) :
    Ideal.exp2 (((∑ d, q r d * k c d : ℝ) : EReal) * ((scale * (Real.log 2)⁻¹ : ℝ) : EReal) - (Real.log (total q k r) : EReal) * (((Real.log 2)⁻¹ : ℝ) : EReal))
      = (prob q k r c : EReal) := by
  rw [← EReal.coe_mul, ← EReal.coe_mul, ← EReal.coe_sub, Ideal.exp2_coe]
  congr 1
  rw [Real.rpow_eq_pow, Real.rpow_def_of_pos (by norm_num), prob, weight, if_pos h, ← Real.exp_log (total_pos q k r), ← Real.exp_sub, Real.exp_log (total_pos q k r)]
  congr 1
  have : Real.log 2 ≠ 0 := (Real.log_pos (by norm_num)).ne'
  unfold score
  field_simp

/-- A masked key has none. -/
theorem exp2_mask (x : ℝ) : Ideal.exp2 ((⊥ : EReal) * ((scale * (Real.log 2)⁻¹ : ℝ) : EReal) - (x : EReal)) = ((0 : ℝ) : EReal) := by
  have h2 : 0 < Real.log 2 := Real.log_pos (by norm_num)
  have : (0 : ℝ) < scale * (Real.log 2)⁻¹ := by unfold scale; positivity
  rw [EReal.bot_mul_coe_of_pos this]
  simp

/-! ## Padded rows and tiles -/

/-- A row of 192 numbers, padded with zeros to 256. -/
def pad (f : Fin 192 → ℝ) (d : Fin 256) : ℝ := if h : d.val < 192 then f ⟨d.val, h⟩ else 0

/-- Two padded rows multiply as the rows. -/
theorem pad_dot (f f' : Fin 192 → ℝ) : ∑ d, pad f d * pad f' d = ∑ d, f d * f' d := by
  rw [Fin.sum_univ_add (a := 192) (b := 64) (fun d : Fin (192 + 64) => pad f d * pad f' d)]
  have h0 : ∀ i : Fin 64, pad f (Fin.natAdd 192 i) * pad f' (Fin.natAdd 192 i) = 0 := fun i => by
    have : ¬ (Fin.natAdd 192 i : Fin 256).val < 192 := by simp
    simp only [pad, this, dif_neg, not_false_eq_true, mul_zero]
  rw [Finset.sum_congr rfl fun i _ => h0 i, Finset.sum_const_zero, add_zero]
  refine Finset.sum_congr rfl fun i _ => ?_
  have : (Fin.castAdd 64 i : Fin 256).val < 192 := by simp
  simp only [pad, Fin.val_castAdd, i.isLt, dif_pos, Fin.eta]

/-- A scaled sum of padded rows is the padded sum. -/
theorem pad_sum {ι : Type*} [Fintype ι] (w : ι → ℝ) (f : ι → Fin 192 → ℝ) (s : ℝ) (d : Fin 256) :
    (∑ i, w i * pad (f i) d) * s = pad (fun e => ∑ i, w i * s * f i e) d := by
  unfold pad
  split
  · rw [Finset.sum_mul]; exact Finset.sum_congr rfl fun i _ => by ring
  · simp

/-- The `j`-th of the rows that start at `a`. -/
def row (a n : ℕ) (h : a + n ≤ 2048) (j : Fin n) : Fin 2048 := ⟨a + j.val, by omega⟩

/-- A row between `a` and `a + n` is one of the tile of `n` rows at `a`. -/
theorem exists_row {a n : ℕ} (h : a + n ≤ 2048) (r : Fin 2048) (h1 : a ≤ r.val) (h2 : r.val < a + n) : ∃ j, r = row a n h j :=
  ⟨⟨r.val - a, by omega⟩, by apply Fin.ext; simp only [row]; omega⟩

/-- A function of the rows, on the naturals. -/
def ext (f : Fin 2048 → ℝ) (i : ℕ) : ℝ := if h : i < 2048 then f ⟨i, h⟩ else 0

/-- A sum over a tile's rows, as a sum over a range of row numbers. -/
theorem sum_row (f : Fin 2048 → ℝ) (a n : ℕ) (h : a + n ≤ 2048) : ∑ j, f (row a n h j) = ∑ i ∈ Finset.range n, ext f (a + i) := by
  rw [← Fin.sum_univ_eq_sum_range (fun i => ext f (a + i)) n]
  refine Finset.sum_congr rfl fun j _ => ?_
  have : a + j.val < 2048 := by omega
  simp only [ext, this, dif_pos, row]

/-- A sum over all rows, as a sum over a range of row numbers. -/
theorem sum_all (f : Fin 2048 → ℝ) : ∑ r, f r = ∑ i ∈ Finset.range 2048, ext f i := by
  rw [← Fin.sum_univ_eq_sum_range (fun i => ext f i) 2048]
  refine Finset.sum_congr rfl fun j _ => ?_
  simp only [ext, j.isLt, dif_pos, Fin.eta]

/-- A tile and the rows before it hold the whole sum when the rows after it are zero. -/
theorem tile_sum (f : Fin 2048 → ℝ) (a : ℕ) (h : a + 512 ≤ 2048) (h' : 0 + a ≤ 2048) (hz : ∀ r : Fin 2048, a + 512 ≤ r.val → f r = 0) :
    ∑ j, f (row a 512 h j) + ∑ j, f (row 0 a h' j) = ∑ r, f r := by
  rw [sum_row, sum_row, sum_all]
  obtain ⟨n, hn⟩ : ∃ n, 2048 = (a + 512) + n := ⟨2048 - (a + 512), by omega⟩
  rw [hn, Finset.sum_range_add, Finset.sum_range_add]
  have : ∑ x ∈ Finset.range n, ext f (a + 512 + x) = 0 := by
    refine Finset.sum_eq_zero fun x _ => ?_
    unfold ext; split
    · exact hz _ (by simp)
    · rfl
  rw [this, add_zero, add_comm]; simp only [zero_add]

/-- The four tiles hold the whole sum. -/
theorem four_tiles (f : Fin 2048 → ℝ) (h0 : 0 + 512 ≤ 2048) (h1 : 512 + 512 ≤ 2048) (h2 : 1024 + 512 ≤ 2048) (h3 : 1536 + 512 ≤ 2048) :
    ∑ j, f (row 0 512 h0 j) + ∑ j, f (row 512 512 h1 j) + ∑ j, f (row 1024 512 h2 j) + ∑ j, f (row 1536 512 h3 j) = ∑ r, f r := by
  rw [sum_row, sum_row, sum_row, sum_row, sum_all, show (2048 : ℕ) = 512 + 512 + 512 + 512 from rfl, Finset.sum_range_add, Finset.sum_range_add, Finset.sum_range_add]
  simp only [zero_add]

/-- A tile before key `c` holds nothing of a sum whose queries before `c` are zero. -/
theorem tile_zero (f : Fin 2048 → ℝ) (a : ℕ) (h : a + 512 ≤ 2048) (c : Fin 2048) (hc : a + 512 ≤ c.val) (hz : ∀ r : Fin 2048, r.val < c.val → f r = 0) :
    ∑ j, f (row a 512 h j) = 0 :=
  Finset.sum_eq_zero fun j _ => hz _ (by simp only [row]; omega)

end Cert.Attn

end
-- ==== Proof.Body.lean ====
module

public import proofs.«01_k».proof.Proof.Gen.KernelIdeal.Value
public import Idealize.ShloMosaic.Lib.Pipeline.ValueKit
public import Idealize.ShloMosaic.Lib.WordCmp
public import proofs.«01_k».proof.Proof.Attn

@[expose] public section

set_option maxRecDepth 16384

noncomputable section

namespace Cert.KernelIdeal.Body

open Cert.Attn (row)
open Cert.KernelIdeal Cert.KernelIdeal.Gen Idealize.ShloMosaic Idealize.ShloMosaic.TcCoe Idealize.SL.Sem

/-! ## Reading a buffer that was written piece by piece -/

section Pieces

variable {Val : EltTy → Type} [∀ e, Nonempty (Val e)] {e : EltTy} {W n a : ℕ}

/-- A row of a stored piece reads the piece's payload. -/
theorem canon3_hit (inb : ∀ k, (![0, a, 0] : Fin 3 → ℕ) k + (![1, n, W] : Fin 3 → ℕ) k ≤ (⟨3, ![1, 2048, W]⟩ : Shape).size k)
    (w : (⟨3, ![1, n, W]⟩ : Shape).Idx → Val e) (L : List (View.Piece Val (⟨3, ![1, 2048, W]⟩ : Shape) e))
    (h : a + n ≤ 2048) (j : Fin n) (d : Fin W) :
    View.canon ((⟨Rect.unit ![0, a, 0] ![1, n, W] inb, w⟩ : View.Piece Val (⟨3, ![1, 2048, W]⟩ : Shape) e) :: L) (ix3 0 (row a n h j) d)
      = w (ix3 0 j d) := by
  have he : (ix3 0 (row a n h j) d : (⟨3, ![1, 2048, W]⟩ : Shape).Idx) = (Rect.unit (s := ⟨3, ![1, 2048, W]⟩) ![0, a, 0] ![1, n, W] inb).emb (ix3 0 j d) := by
    funext k; apply Fin.ext; rw [Rect.emb_apply]; fin_cases k <;> simp [row]
  rw [he]; exact View.canon_cons_emb _ _ _ _

/-- A row off a stored piece reads what the earlier pieces left. -/
theorem canon3_miss (inb : ∀ k, (![0, a, 0] : Fin 3 → ℕ) k + (![1, n, W] : Fin 3 → ℕ) k ≤ (⟨3, ![1, 2048, W]⟩ : Shape).size k)
    (w : (⟨3, ![1, n, W]⟩ : Shape).Idx → Val e) (L : List (View.Piece Val (⟨3, ![1, 2048, W]⟩ : Shape) e))
    (r : Fin 2048) (d : Fin W) (hr : r.val < a ∨ a + n ≤ r.val) :
    View.canon ((⟨Rect.unit ![0, a, 0] ![1, n, W] inb, w⟩ : View.Piece Val (⟨3, ![1, 2048, W]⟩ : Shape) e) :: L) (ix3 0 r d)
      = View.canon L (ix3 0 r d) := by
  refine View.canon_cons_of_not_mem _ _ fun hm => ?_
  have hm' : ix3 0 r d ∈ (Rect.unit (s := ⟨3, ![1, 2048, W]⟩) ![0, a, 0] ![1, n, W] inb).set := hm
  have h := Rect.mem_set_unit.mp hm' 1
  simp only [ix3_1, Matrix.cons_val_one, Matrix.cons_val_zero] at h
  omega

/-- A load of `n` rows reads, row by row, what the pieces left. -/
theorem cov3 {sig : RefSig} {κ : Kind} {sp : Space} (v : View sig κ sp (⟨3, ![1, 2048, W]⟩ : Shape) e) (inb : ∀ k, (![0, a, 0] : Fin 3 → ℕ) k + (![1, n, W] : Fin 3 → ℕ) k ≤ (⟨3, ![1, 2048, W]⟩ : Shape).size k)
    (L : List (View.Piece Val (⟨3, ![1, 2048, W]⟩ : Shape) e)) (h : a + n ≤ 2048) (j : Fin n) (d : Fin W) :
    v.readCov L (Rect.unit (s := ⟨3, ![1, 2048, W]⟩) ![0, a, 0] ![1, n, W] inb).toLoadRect (ix3 0 j d) = View.canon L (ix3 0 (row a n h j) d) := by
  rw [View.readCov_eq_canon']
  refine congrArg (View.canon L) ?_
  funext k; apply Fin.ext; rw [LoadRect.idx_apply]; fin_cases k <;> simp [row]

/-- The same for an array of rank two: a row of a stored piece reads the piece's payload. -/
theorem canon2_hit (inb : ∀ k, (![a, 0] : Fin 2 → ℕ) k + (![n, W] : Fin 2 → ℕ) k ≤ (⟨2, ![2048, W]⟩ : Shape).size k)
    (w : (⟨2, ![n, W]⟩ : Shape).Idx → Val e) (L : List (View.Piece Val (⟨2, ![2048, W]⟩ : Shape) e))
    (h : a + n ≤ 2048) (j : Fin n) (d : Fin W) :
    View.canon ((⟨Rect.unit ![a, 0] ![n, W] inb, w⟩ : View.Piece Val (⟨2, ![2048, W]⟩ : Shape) e) :: L) (ix2 (row a n h j) d)
      = w (ix2 j d) := by
  have he : (ix2 (row a n h j) d : (⟨2, ![2048, W]⟩ : Shape).Idx) = (Rect.unit (s := ⟨2, ![2048, W]⟩) ![a, 0] ![n, W] inb).emb (ix2 j d) := by
    funext k; apply Fin.ext; rw [Rect.emb_apply]; fin_cases k <;> simp [row]
  rw [he]; exact View.canon_cons_emb _ _ _ _

/-- Rank two: a row off a stored piece reads what the earlier pieces left. -/
theorem canon2_miss (inb : ∀ k, (![a, 0] : Fin 2 → ℕ) k + (![n, W] : Fin 2 → ℕ) k ≤ (⟨2, ![2048, W]⟩ : Shape).size k)
    (w : (⟨2, ![n, W]⟩ : Shape).Idx → Val e) (L : List (View.Piece Val (⟨2, ![2048, W]⟩ : Shape) e))
    (r : Fin 2048) (d : Fin W) (hr : r.val < a ∨ a + n ≤ r.val) :
    View.canon ((⟨Rect.unit ![a, 0] ![n, W] inb, w⟩ : View.Piece Val (⟨2, ![2048, W]⟩ : Shape) e) :: L) (ix2 r d)
      = View.canon L (ix2 r d) := by
  refine View.canon_cons_of_not_mem _ _ fun hm => ?_
  have hm' : ix2 r d ∈ (Rect.unit (s := ⟨2, ![2048, W]⟩) ![a, 0] ![n, W] inb).set := hm
  have h := Rect.mem_set_unit.mp hm' 0
  simp only [ix2_0, Matrix.cons_val_zero] at h
  omega

/-- Rank two: a load of `n` rows reads, row by row, what the pieces left. -/
theorem cov2 {sig : RefSig} {κ : Kind} {sp : Space} (v : View sig κ sp (⟨2, ![2048, W]⟩ : Shape) e) (inb : ∀ k, (![a, 0] : Fin 2 → ℕ) k + (![n, W] : Fin 2 → ℕ) k ≤ (⟨2, ![2048, W]⟩ : Shape).size k)
    (L : List (View.Piece Val (⟨2, ![2048, W]⟩ : Shape) e)) (h : a + n ≤ 2048) (j : Fin n) (d : Fin W) :
    v.readCov L (Rect.unit (s := ⟨2, ![2048, W]⟩) ![a, 0] ![n, W] inb).toLoadRect (ix2 j d) = View.canon L (ix2 (row a n h j) d) := by
  rw [View.readCov_eq_canon']
  refine congrArg (View.canon L) ?_
  funext k; apply Fin.ext; rw [LoadRect.idx_apply]; fin_cases k <;> simp [row]

end Pieces

/-! ## What one launch point computes, as sums over its blocks -/

variable (x0 : Vec Ideal S1x2048x256 .bf16) (x1 : Vec Ideal S1x2048x256 .bf16) (x2 : Vec Ideal S1x2048x128 .bf16) (x3 : Vec Ideal S2048x128 .bf16) (x4 : Vec Ideal S2048x128 .bf16) (x5 : Vec Ideal S1x2048x128 .f32)

/-- The probability of key `c` for query `r`: the exponential (to base two) of the scaled logit less the row's
    log-sum, the logit of a later key being the mask. -/
def prob (r c : Fin 2048) : EReal :=
  FloatOps.exp2 (F := Ideal) (φ := .f32) (Scalar.select (IntOp.cmpi .sge (BitVec.ofNat 32 r) (BitVec.ofNat 32 c))
      (∑ d : Fin 256, (x0 (ix3 0 r d) : EReal) * x1 (ix3 0 c d)) (Named.named κ "mask" 0xF149F2CA#32 : Ideal .f32)
    * (Named.named κ "scale_log2e" 0x3DD53B95#32 : Ideal .f32) - (x5 (ix3 0 r 0) : EReal) * (Named.named κ "log2e" 0x3FB8AA3B#32 : Ideal .f32) : EReal)

/-- The gradient of the logit of key `c` for query `r`, before the scale: the probability times the key's part of the
    upstream gradient less the row's whole. -/
def dlogit (r c : Fin 2048) : EReal :=
  prob x0 x1 x5 r c * (∑ d : Fin 128, (x3 (ix2 r d) : EReal) * x2 (ix3 0 c d) - ∑ d : Fin 128, (x3 (ix2 r d) : EReal) * x4 (ix2 r d))

/-- The part of query row `r`'s gradient that `n` keys from key `a` give. -/
def dqPart (a n : ℕ) (h : a + n ≤ 2048) (r : Fin 2048) (d : Fin 256) : EReal :=
  (∑ j : Fin n, dlogit x0 x1 x2 x3 x4 x5 r (row a n h j) * x1 (ix3 0 (row a n h j) d)) * (Named.named κ "scale" 0x3D93CD3A#32 : Ideal .f32)

/-- The part of key row `r`'s gradient that the 512 queries from query `b` give. -/
def dkPart (b : ℕ) (h : b + 512 ≤ 2048) (r : Fin 2048) (d : Fin 256) : EReal :=
  (∑ j : Fin 512, dlogit x0 x1 x2 x3 x4 x5 (row b 512 h j) r * x0 (ix3 0 (row b 512 h j) d)) * (Named.named κ "scale" 0x3D93CD3A#32 : Ideal .f32)

/-- The part of value row `r`'s gradient that the 512 queries from query `b` give. -/
def dvPart (b : ℕ) (h : b + 512 ≤ 2048) (r : Fin 2048) (d : Fin 128) : EReal :=
  ∑ j : Fin 512, prob x0 x1 x5 (row b 512 h j) r * x3 (ix2 (row b 512 h j) d)

/-- The comparison of two row numbers, as words, is theirs as numbers. -/
theorem select_sge {n : ℕ} (hn : n ≤ 2048) (i j : Fin n) (x y : EReal) :
    Scalar.select (IntOp.cmpi .sge (BitVec.ofNat 32 i) (BitVec.ofNat 32 j)) x y = if j.val ≤ i.val then x else y := by
  rw [WordCmp.cmpi_sge_ofNat (by norm_num; omega) (by norm_num; omega)]
  by_cases h : j.val ≤ i.val <;> simp [Scalar.select, h]

/-- A tile on the diagonal compares the rows' numbers within the tile. -/
theorem prob_diag (a : ℕ) (h : a + 512 ≤ 2048) (i j : Fin 512) : prob x0 x1 x5 (row a 512 h i) (row a 512 h j)
    = FloatOps.exp2 (F := Ideal) (φ := .f32) (Scalar.select (IntOp.cmpi .sge (BitVec.ofNat 32 i) (BitVec.ofNat 32 j))
      (∑ d : Fin 256, (x0 (ix3 0 (row a 512 h i) d) : EReal) * x1 (ix3 0 (row a 512 h j) d)) (Named.named κ "mask" 0xF149F2CA#32 : Ideal .f32)
    * (Named.named κ "scale_log2e" 0x3DD53B95#32 : Ideal .f32) - (x5 (ix3 0 (row a 512 h i) 0) : EReal) * (Named.named κ "log2e" 0x3FB8AA3B#32 : Ideal .f32) : EReal) := by
  unfold prob
  rw [select_sge (by norm_num), select_sge (by norm_num)]
  simp only [row, Nat.add_le_add_iff_left]

/-- An earlier key is not masked. -/
theorem prob_before (r c : Fin 2048) (hc : c.val < r.val) : prob x0 x1 x5 r c
    = FloatOps.exp2 (F := Ideal) (φ := .f32) ((∑ d : Fin 256, (x0 (ix3 0 r d) : EReal) * x1 (ix3 0 c d))
    * (Named.named κ "scale_log2e" 0x3DD53B95#32 : Ideal .f32) - (x5 (ix3 0 r 0) : EReal) * (Named.named κ "log2e" 0x3FB8AA3B#32 : Ideal .f32) : EReal) := by
  unfold prob
  rw [select_sge (by norm_num), if_pos hc.le]

variable (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1x2048x128 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S1x2048x128 .bf16) (harg10 : arg10.IsWhole) (arg11 : Memref sig .tc .vmem S2048x128 .f32) (harg11 : arg11.IsWhole)

attribute [local pointwise]
  kernelRun0_A.sl.r kernelRun0_A.sl.r_1 kernelRun0_A.sl.r_2 kernelRun0_A.sl.r_3 kernelRun0_A.sl.r_4
  kernelRun0_A.sl.r_5 kernelRun0_A.sl.r_6 kernelRun0_A.sl.r_7 kernelRun0_A.sl.r_8 kernelRun0_A.sl.r_9
  kernelRun0_A.sl.r_10 kernelRun0_A.sl.r_11 kernelRun0_A.sl.r_12 kernelRun0_A.sl.r_13 kernelRun0_A.sl.r_14
  kernelRun0_A.sl.r_15 kernelRun0_A.sl.r_16 kernelRun0_A.sl.r_17 kernelRun0_A.sl.r_18 kernelRun0_A.sl.r_19
  kernelRun0_A.sl.r_20 kernelRun0_A.sl.r_21 kernelRun0_A.sl.r_22 kernelRun0_A.sl.r_23 kernelRun0_A.sl.r_24
  kernelRun0_A.sl.r_25 kernelRun0_A.sl.r_26 kernelRun0_A.sl.r_27 kernelRun0_A.sl.r_28 kernelRun0_A.sl.r_29
  kernelRun0_A.sl.r_30 kernelRun0_A.sl.r_31 kernelRun0_A.sl.r_32 kernelRun0_A.sl.r_33 kernelRun0_A.sl.cst_20
  kernelRun0_A.sl.cst_133
  k0_pay1 k0_pay2 k0_pay3 k0_pay4 k0_pay5 k0_pay6 k0_pay7 k0_pay8 k0_pay9 k0_pay10 k0_pay11 k0_pay12 k0_pay13 k0_pay14
  k0_pay15 k0_pay16 k0_pay17 k0_pay18 k0_pay19 k0_pay20 k0_pay21 k0_pay22 k0_pay23 k0_pay24 k0_pay25 k0_pay26 k0_pay27
  k0_pay28 k0_pay29 k0_pay30 k0_pay31 k0_pay32 k0_pay33 k0_pay34 k0_pay35 k0_pay36 k0_pay37 k0_pay38 k0_pay39 k0_pay40
  k0_pay41 k0_pay42 k0_pay43 k0_pay44 k0_pay45 k0_pay46 k0_pay47 k0_pay48 k0_pay49 k0_pay50 k0_pay51 k0_pay52 k0_pay53
  k0_pay54 k0_pay55 k0_pay56 k0_pay57 k0_pay58 k0_pay59 k0_pay60 k0_pay61 k0_pay62 k0_pay63 k0_pay64 k0_pay65 k0_pay66
  k0_pay67
  View.readAt_eq_ld Memref.IsWhole.read_unread View.ld

/-- The key rows' gradient after the second query tile's own rows are stored: the first tile's rows hold its part. -/
theorem dk_stage1_first (j : Fin 512) (d : Fin 256) :
    View.canon (kernelRun0_A.sl.H7_2 c arg2 harg2 arg3 harg3 arg4 harg4 arg5 harg5 arg6 harg6 arg7 harg7 x0 x1 x2 x3 x4 x5) (ix3 0 (row 0 512 (by norm_num) j) d) = dkPart x0 x1 x2 x3 x4 x5 0 (by norm_num) (row 0 512 (by norm_num) j) d := by
  unfold kernelRun0_A.sl.H7_2
  rw [canon3_miss _ _ _ _ _ (by simp only [row]; omega), canon3_hit]
  unfold dkPart dlogit
  simp only [prob_diag]
  pointwise
  simp only [row, Nat.zero_add]

/-- The second tile's rows then hold its own part. -/
theorem dk_stage1_own (j : Fin 512) (d : Fin 256) :
    View.canon (kernelRun0_A.sl.H7_2 c arg2 harg2 arg3 harg3 arg4 harg4 arg5 harg5 arg6 harg6 arg7 harg7 x0 x1 x2 x3 x4 x5) (ix3 0 (row 512 512 (by norm_num) j) d) = dkPart x0 x1 x2 x3 x4 x5 512 (by norm_num) (row 512 512 (by norm_num) j) d := by
  unfold kernelRun0_A.sl.H7_2
  rw [canon3_hit]
  unfold dkPart dlogit
  simp only [prob_diag]
  pointwise
  simp only [row, Nat.zero_add]

/-- The second query tile's part is added to the rows before it. -/
theorem dk_stage2_before (j : Fin 512) (d : Fin 256) :
    View.canon (kernelRun0_A.sl.H7_4 c arg2 harg2 arg3 harg3 arg4 harg4 arg5 harg5 arg6 harg6 arg7 harg7 arg9 x0 x1 x2 x3 x4 x5) (ix3 0 (row 0 512 (by norm_num) j) d) = View.canon (kernelRun0_A.sl.H7_2 c arg2 harg2 arg3 harg3 arg4 harg4 arg5 harg5 arg6 harg6 arg7 harg7 x0 x1 x2 x3 x4 x5) (ix3 0 (row 0 512 (by norm_num) j) d) + dkPart x0 x1 x2 x3 x4 x5 512 (by norm_num) (row 0 512 (by norm_num) j) d := by
  unfold kernelRun0_A.sl.H7_4
  rw [canon3_miss _ _ _ _ _ (by simp only [row]; omega), canon3_hit]
  unfold dkPart dlogit
  simp only [fun x : Fin 512 => prob_before x0 x1 x5 (row 512 512 (by norm_num) x) (row 0 512 (by norm_num) j) (by simp only [row]; omega)]
  pointwise
  unfold kernelRun0_A.sl.v132
  rw [cov3 (h := (by norm_num))]
  simp only [row, Nat.zero_add]

/-- The second query tile's own rows are kept when its part is added to the rows before it. -/
theorem dk_stage2_kept (j : Fin 512) (d : Fin 256) :
    View.canon (kernelRun0_A.sl.H7_4 c arg2 harg2 arg3 harg3 arg4 harg4 arg5 harg5 arg6 harg6 arg7 harg7 arg9 x0 x1 x2 x3 x4 x5) (ix3 0 (row 512 512 (by norm_num) j) d) = View.canon (kernelRun0_A.sl.H7_2 c arg2 harg2 arg3 harg3 arg4 harg4 arg5 harg5 arg6 harg6 arg7 harg7 x0 x1 x2 x3 x4 x5) (ix3 0 (row 512 512 (by norm_num) j) d) := by
  unfold kernelRun0_A.sl.H7_4
  rw [canon3_miss _ _ _ _ _ (by simp only [row]; omega), canon3_miss _ _ _ _ _ (by simp only [row]; omega)]

/-- The third query tile's own rows. -/
theorem dk_stage2_own (j : Fin 512) (d : Fin 256) :
    View.canon (kernelRun0_A.sl.H7_4 c arg2 harg2 arg3 harg3 arg4 harg4 arg5 harg5 arg6 harg6 arg7 harg7 arg9 x0 x1 x2 x3 x4 x5) (ix3 0 (row 1024 512 (by norm_num) j) d) = dkPart x0 x1 x2 x3 x4 x5 1024 (by norm_num) (row 1024 512 (by norm_num) j) d := by
  unfold kernelRun0_A.sl.H7_4
  rw [canon3_hit]
  unfold dkPart dlogit
  simp only [prob_diag]
  pointwise
  simp only [row, Nat.zero_add]

/-- The third query tile's part is added to the rows before it. -/
theorem dk_stage3_before (j : Fin 1024) (d : Fin 256) :
    View.canon (kernelRun0_A.sl.H7_6 c arg2 harg2 arg3 harg3 arg4 harg4 arg5 harg5 arg6 harg6 arg7 harg7 arg9 x0 x1 x2 x3 x4 x5) (ix3 0 (row 0 1024 (by norm_num) j) d) = View.canon (kernelRun0_A.sl.H7_4 c arg2 harg2 arg3 harg3 arg4 harg4 arg5 harg5 arg6 harg6 arg7 harg7 arg9 x0 x1 x2 x3 x4 x5) (ix3 0 (row 0 1024 (by norm_num) j) d) + dkPart x0 x1 x2 x3 x4 x5 1024 (by norm_num) (row 0 1024 (by norm_num) j) d := by
  unfold kernelRun0_A.sl.H7_6
  rw [canon3_miss _ _ _ _ _ (by simp only [row]; omega), canon3_hit]
  unfold dkPart dlogit
  simp only [fun x : Fin 512 => prob_before x0 x1 x5 (row 1024 512 (by norm_num) x) (row 0 1024 (by norm_num) j) (by simp only [row]; omega)]
  pointwise
  unfold kernelRun0_A.sl.v221
  rw [cov3 (h := (by norm_num))]
  simp only [row, Nat.zero_add]

/-- The third query tile's own rows are kept when its part is added to the rows before it. -/
theorem dk_stage3_kept (j : Fin 512) (d : Fin 256) :
    View.canon (kernelRun0_A.sl.H7_6 c arg2 harg2 arg3 harg3 arg4 harg4 arg5 harg5 arg6 harg6 arg7 harg7 arg9 x0 x1 x2 x3 x4 x5) (ix3 0 (row 1024 512 (by norm_num) j) d) = View.canon (kernelRun0_A.sl.H7_4 c arg2 harg2 arg3 harg3 arg4 harg4 arg5 harg5 arg6 harg6 arg7 harg7 arg9 x0 x1 x2 x3 x4 x5) (ix3 0 (row 1024 512 (by norm_num) j) d) := by
  unfold kernelRun0_A.sl.H7_6
  rw [canon3_miss _ _ _ _ _ (by simp only [row]; omega), canon3_miss _ _ _ _ _ (by simp only [row]; omega)]

/-- The last query tile's own rows. -/
theorem dk_stage3_own (j : Fin 512) (d : Fin 256) :
    View.canon (kernelRun0_A.sl.H7_6 c arg2 harg2 arg3 harg3 arg4 harg4 arg5 harg5 arg6 harg6 arg7 harg7 arg9 x0 x1 x2 x3 x4 x5) (ix3 0 (row 1536 512 (by norm_num) j) d) = dkPart x0 x1 x2 x3 x4 x5 1536 (by norm_num) (row 1536 512 (by norm_num) j) d := by
  unfold kernelRun0_A.sl.H7_6
  rw [canon3_hit]
  unfold dkPart dlogit
  simp only [prob_diag]
  pointwise
  simp only [row, Nat.zero_add]

/-- The value rows' gradient after the second query tile's own rows are stored: the first tile's rows hold its part. -/
theorem dv_stage1_first (j : Fin 512) (d : Fin 128) :
    View.canon (kernelRun0_A.sl.HS0_2 c arg2 harg2 arg3 harg3 arg5 harg5 arg7 harg7 x0 x1 x3 x5) (ix2 (row 0 512 (by norm_num) j) d) = dvPart x0 x1 x3 x5 0 (by norm_num) (row 0 512 (by norm_num) j) d := by
  unfold kernelRun0_A.sl.HS0_2
  rw [canon2_miss _ _ _ _ _ (by simp only [row]; omega), canon2_hit]
  unfold dvPart
  simp only [prob_diag]
  pointwise
  simp only [row, Nat.zero_add]

/-- The second tile's rows then hold its own part. -/
theorem dv_stage1_own (j : Fin 512) (d : Fin 128) :
    View.canon (kernelRun0_A.sl.HS0_2 c arg2 harg2 arg3 harg3 arg5 harg5 arg7 harg7 x0 x1 x3 x5) (ix2 (row 512 512 (by norm_num) j) d) = dvPart x0 x1 x3 x5 512 (by norm_num) (row 512 512 (by norm_num) j) d := by
  unfold kernelRun0_A.sl.HS0_2
  rw [canon2_hit]
  unfold dvPart
  simp only [prob_diag]
  pointwise
  simp only [row, Nat.zero_add]

/-- The second query tile's part is added to the rows before it. -/
theorem dv_stage2_before (j : Fin 512) (d : Fin 128) :
    View.canon (kernelRun0_A.sl.HS0_4 c arg2 harg2 arg3 harg3 arg5 harg5 arg7 harg7 arg11 x0 x1 x3 x5) (ix2 (row 0 512 (by norm_num) j) d) = View.canon (kernelRun0_A.sl.HS0_2 c arg2 harg2 arg3 harg3 arg5 harg5 arg7 harg7 x0 x1 x3 x5) (ix2 (row 0 512 (by norm_num) j) d) + dvPart x0 x1 x3 x5 512 (by norm_num) (row 0 512 (by norm_num) j) d := by
  unfold kernelRun0_A.sl.HS0_4
  rw [canon2_miss _ _ _ _ _ (by simp only [row]; omega), canon2_hit]
  unfold dvPart
  simp only [fun x : Fin 512 => prob_before x0 x1 x5 (row 512 512 (by norm_num) x) (row 0 512 (by norm_num) j) (by simp only [row]; omega)]
  pointwise
  unfold kernelRun0_A.sl.v127
  rw [cov2 (h := (by norm_num))]
  simp only [row, Nat.zero_add]

/-- The second query tile's own rows are kept when its part is added to the rows before it. -/
theorem dv_stage2_kept (j : Fin 512) (d : Fin 128) :
    View.canon (kernelRun0_A.sl.HS0_4 c arg2 harg2 arg3 harg3 arg5 harg5 arg7 harg7 arg11 x0 x1 x3 x5) (ix2 (row 512 512 (by norm_num) j) d) = View.canon (kernelRun0_A.sl.HS0_2 c arg2 harg2 arg3 harg3 arg5 harg5 arg7 harg7 x0 x1 x3 x5) (ix2 (row 512 512 (by norm_num) j) d) := by
  unfold kernelRun0_A.sl.HS0_4
  rw [canon2_miss _ _ _ _ _ (by simp only [row]; omega), canon2_miss _ _ _ _ _ (by simp only [row]; omega)]

/-- The third query tile's own rows. -/
theorem dv_stage2_own (j : Fin 512) (d : Fin 128) :
    View.canon (kernelRun0_A.sl.HS0_4 c arg2 harg2 arg3 harg3 arg5 harg5 arg7 harg7 arg11 x0 x1 x3 x5) (ix2 (row 1024 512 (by norm_num) j) d) = dvPart x0 x1 x3 x5 1024 (by norm_num) (row 1024 512 (by norm_num) j) d := by
  unfold kernelRun0_A.sl.HS0_4
  rw [canon2_hit]
  unfold dvPart
  simp only [prob_diag]
  pointwise
  simp only [row, Nat.zero_add]

/-- The third query tile's part is added to the rows before it. -/
theorem dv_stage3_before (j : Fin 1024) (d : Fin 128) :
    View.canon (kernelRun0_A.sl.HS0_6 c arg2 harg2 arg3 harg3 arg5 harg5 arg7 harg7 arg11 x0 x1 x3 x5) (ix2 (row 0 1024 (by norm_num) j) d) = View.canon (kernelRun0_A.sl.HS0_4 c arg2 harg2 arg3 harg3 arg5 harg5 arg7 harg7 arg11 x0 x1 x3 x5) (ix2 (row 0 1024 (by norm_num) j) d) + dvPart x0 x1 x3 x5 1024 (by norm_num) (row 0 1024 (by norm_num) j) d := by
  unfold kernelRun0_A.sl.HS0_6
  rw [canon2_miss _ _ _ _ _ (by simp only [row]; omega), canon2_hit]
  unfold dvPart
  simp only [fun x : Fin 512 => prob_before x0 x1 x5 (row 1024 512 (by norm_num) x) (row 0 1024 (by norm_num) j) (by simp only [row]; omega)]
  pointwise
  unfold kernelRun0_A.sl.v216
  rw [cov2 (h := (by norm_num))]
  simp only [row, Nat.zero_add]

/-- The third query tile's own rows are kept when its part is added to the rows before it. -/
theorem dv_stage3_kept (j : Fin 512) (d : Fin 128) :
    View.canon (kernelRun0_A.sl.HS0_6 c arg2 harg2 arg3 harg3 arg5 harg5 arg7 harg7 arg11 x0 x1 x3 x5) (ix2 (row 1024 512 (by norm_num) j) d) = View.canon (kernelRun0_A.sl.HS0_4 c arg2 harg2 arg3 harg3 arg5 harg5 arg7 harg7 arg11 x0 x1 x3 x5) (ix2 (row 1024 512 (by norm_num) j) d) := by
  unfold kernelRun0_A.sl.HS0_6
  rw [canon2_miss _ _ _ _ _ (by simp only [row]; omega), canon2_miss _ _ _ _ _ (by simp only [row]; omega)]

/-- The last query tile's own rows. -/
theorem dv_stage3_own (j : Fin 512) (d : Fin 128) :
    View.canon (kernelRun0_A.sl.HS0_6 c arg2 harg2 arg3 harg3 arg5 harg5 arg7 harg7 arg11 x0 x1 x3 x5) (ix2 (row 1536 512 (by norm_num) j) d) = dvPart x0 x1 x3 x5 1536 (by norm_num) (row 1536 512 (by norm_num) j) d := by
  unfold kernelRun0_A.sl.HS0_6
  rw [canon2_hit]
  unfold dvPart
  simp only [prob_diag]
  pointwise
  simp only [row, Nat.zero_add]

/-- The last query tile's part is added to the key rows before it. -/
theorem dk_before (j : Fin 1536) (d : Fin 256) :
    out0_A_7 c i arg2 harg2 arg3 harg3 arg4 harg4 arg5 harg5 arg6 harg6 arg7 harg7 arg8 harg8 arg9 harg9 arg10 harg10 arg11 harg11 x0 x1 x2 x3 x4 x5 (ix3 0 (row 0 1536 (by norm_num) j) d) = View.canon (kernelRun0_A.sl.H7_6 c arg2 harg2 arg3 harg3 arg4 harg4 arg5 harg5 arg6 harg6 arg7 harg7 arg9 x0 x1 x2 x3 x4 x5) (ix3 0 (row 0 1536 (by norm_num) j) d) + dkPart x0 x1 x2 x3 x4 x5 1536 (by norm_num) (row 0 1536 (by norm_num) j) d := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 x0 x1 x2 x3 x4 x5)]
  unfold kernelRun0_A
  dsimp only
  rw [canon3_hit]
  unfold dkPart dlogit
  simp only [fun x : Fin 512 => prob_before x0 x1 x5 (row 1536 512 (by norm_num) x) (row 0 1536 (by norm_num) j) (by simp only [row]; omega)]
  pointwise
  unfold kernelRun0_A.sl.v310
  rw [cov3 (h := (by norm_num))]
  simp only [row, Nat.zero_add]

/-- The last tile's own key rows. -/
theorem dk_own (j : Fin 512) (d : Fin 256) :
    out0_A_7 c i arg2 harg2 arg3 harg3 arg4 harg4 arg5 harg5 arg6 harg6 arg7 harg7 arg8 harg8 arg9 harg9 arg10 harg10 arg11 harg11 x0 x1 x2 x3 x4 x5 (ix3 0 (row 1536 512 (by norm_num) j) d) = dkPart x0 x1 x2 x3 x4 x5 1536 (by norm_num) (row 1536 512 (by norm_num) j) d := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 x0 x1 x2 x3 x4 x5)]
  unfold kernelRun0_A
  dsimp only
  rw [canon3_miss _ _ _ _ _ (by simp only [row]; omega)]
  unfold kernelRun0_A.sl.H7_6
  rw [canon3_hit]
  unfold dkPart dlogit
  simp only [prob_diag]
  pointwise
  simp only [row, Nat.zero_add]

/-- The first tile's query rows: its own keys' part. -/
theorem dq_first (j : Fin 512) (d : Fin 256) :
    out0_A_6 c i arg2 harg2 arg3 harg3 arg4 harg4 arg5 harg5 arg6 harg6 arg7 harg7 arg8 harg8 arg9 harg9 arg10 harg10 arg11 harg11 x0 x1 x2 x3 x4 x5 (ix3 0 (row 0 512 (by norm_num) j) d)
      = dqPart x0 x1 x2 x3 x4 x5 0 512 (by norm_num) (row 0 512 (by norm_num) j) d := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 x0 x1 x2 x3 x4 x5)]
  unfold kernelRun0_A
  dsimp only
  rw [canon3_miss _ _ _ _ _ (by simp only [row]; omega), canon3_miss _ _ _ _ _ (by simp only [row]; omega), canon3_miss _ _ _ _ _ (by simp only [row]; omega), canon3_hit]
  unfold dqPart dlogit
  simp only [prob_diag]
  pointwise
  simp only [row, Nat.zero_add]

/-- The second tile's query rows: its own keys' part and the earlier keys'. -/
theorem dq_second (j : Fin 512) (d : Fin 256) :
    out0_A_6 c i arg2 harg2 arg3 harg3 arg4 harg4 arg5 harg5 arg6 harg6 arg7 harg7 arg8 harg8 arg9 harg9 arg10 harg10 arg11 harg11 x0 x1 x2 x3 x4 x5 (ix3 0 (row 512 512 (by norm_num) j) d)
      = dqPart x0 x1 x2 x3 x4 x5 512 512 (by norm_num) (row 512 512 (by norm_num) j) d + dqPart x0 x1 x2 x3 x4 x5 0 512 (by norm_num) (row 512 512 (by norm_num) j) d := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 x0 x1 x2 x3 x4 x5)]
  unfold kernelRun0_A
  dsimp only
  rw [canon3_miss _ _ _ _ _ (by simp only [row]; omega), canon3_miss _ _ _ _ _ (by simp only [row]; omega), canon3_hit]
  unfold dqPart dlogit
  simp only [prob_diag]
  simp only [fun x : Fin 512 => prob_before x0 x1 x5 (row 512 512 (by norm_num) j) (row 0 512 (by norm_num) x) (by simp only [row]; omega)]
  pointwise
  simp only [row, Nat.zero_add]

/-- The third tile's query rows: its own keys' part and the earlier keys'. -/
theorem dq_third (j : Fin 512) (d : Fin 256) :
    out0_A_6 c i arg2 harg2 arg3 harg3 arg4 harg4 arg5 harg5 arg6 harg6 arg7 harg7 arg8 harg8 arg9 harg9 arg10 harg10 arg11 harg11 x0 x1 x2 x3 x4 x5 (ix3 0 (row 1024 512 (by norm_num) j) d)
      = dqPart x0 x1 x2 x3 x4 x5 1024 512 (by norm_num) (row 1024 512 (by norm_num) j) d + dqPart x0 x1 x2 x3 x4 x5 0 1024 (by norm_num) (row 1024 512 (by norm_num) j) d := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 x0 x1 x2 x3 x4 x5)]
  unfold kernelRun0_A
  dsimp only
  rw [canon3_miss _ _ _ _ _ (by simp only [row]; omega), canon3_hit]
  unfold dqPart dlogit
  simp only [prob_diag]
  simp only [fun x : Fin 1024 => prob_before x0 x1 x5 (row 1024 512 (by norm_num) j) (row 0 1024 (by norm_num) x) (by simp only [row]; omega)]
  pointwise
  simp only [row, Nat.zero_add]

/-- The last tile's query rows: its own keys' part and the earlier keys'. -/
theorem dq_last (j : Fin 512) (d : Fin 256) :
    out0_A_6 c i arg2 harg2 arg3 harg3 arg4 harg4 arg5 harg5 arg6 harg6 arg7 harg7 arg8 harg8 arg9 harg9 arg10 harg10 arg11 harg11 x0 x1 x2 x3 x4 x5 (ix3 0 (row 1536 512 (by norm_num) j) d)
      = dqPart x0 x1 x2 x3 x4 x5 1536 512 (by norm_num) (row 1536 512 (by norm_num) j) d + dqPart x0 x1 x2 x3 x4 x5 0 1536 (by norm_num) (row 1536 512 (by norm_num) j) d := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 x0 x1 x2 x3 x4 x5)]
  unfold kernelRun0_A
  dsimp only
  rw [canon3_hit]
  unfold dqPart dlogit
  simp only [prob_diag]
  simp only [fun x : Fin 1536 => prob_before x0 x1 x5 (row 1536 512 (by norm_num) j) (row 0 1536 (by norm_num) x) (by simp only [row]; omega)]
  pointwise
  simp only [row, Nat.zero_add]

/-- The last query tile's part is added to the value rows before it. -/
theorem dv_stage4_before (j : Fin 1536) (d : Fin 128) :
    View.canon (kernelRun0_A.sl.HS0_7 c arg2 harg2 arg3 harg3 arg5 harg5 arg7 harg7 arg11 x0 x1 x3 x5) (ix2 (row 0 1536 (by norm_num) j) d) = View.canon (kernelRun0_A.sl.HS0_6 c arg2 harg2 arg3 harg3 arg5 harg5 arg7 harg7 arg11 x0 x1 x3 x5) (ix2 (row 0 1536 (by norm_num) j) d) + dvPart x0 x1 x3 x5 1536 (by norm_num) (row 0 1536 (by norm_num) j) d := by
  unfold kernelRun0_A.sl.HS0_7
  rw [canon2_hit]
  unfold dvPart
  simp only [fun x : Fin 512 => prob_before x0 x1 x5 (row 1536 512 (by norm_num) x) (row 0 1536 (by norm_num) j) (by simp only [row]; omega)]
  pointwise
  unfold kernelRun0_A.sl.v305
  rw [cov2 (h := (by norm_num))]
  simp only [row, Nat.zero_add]

/-- The last tile's own value rows. -/
theorem dv_stage4_own (j : Fin 512) (d : Fin 128) :
    View.canon (kernelRun0_A.sl.HS0_7 c arg2 harg2 arg3 harg3 arg5 harg5 arg7 harg7 arg11 x0 x1 x3 x5) (ix2 (row 1536 512 (by norm_num) j) d) = dvPart x0 x1 x3 x5 1536 (by norm_num) (row 1536 512 (by norm_num) j) d := by
  unfold kernelRun0_A.sl.HS0_7
  rw [canon2_miss _ _ _ _ _ (by simp only [row]; omega)]
  unfold kernelRun0_A.sl.HS0_6
  rw [canon2_hit]
  unfold dvPart
  simp only [prob_diag]
  pointwise
  simp only [row, Nat.zero_add]

/-- The value rows' gradient is written out as the scratch buffer holds it. -/
theorem dv_written (r : Fin 2048) (d : Fin 128) :
    out0_A_8 c i arg2 harg2 arg3 harg3 arg4 harg4 arg5 harg5 arg6 harg6 arg7 harg7 arg8 harg8 arg9 harg9 arg10 harg10 arg11 harg11 x0 x1 x2 x3 x4 x5 (ix3 0 r d) = View.canon (kernelRun0_A.sl.HS0_7 c arg2 harg2 arg3 harg3 arg5 harg5 arg7 harg7 arg11 x0 x1 x3 x5) (ix2 r d) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 x0 x1 x2 x3 x4 x5)]
  unfold kernelRun0_A
  dsimp only
  have hr : r = row 0 2048 (by norm_num) r := by simp [row]
  rw [hr, canon3_hit]
  pointwise
  unfold kernelRun0_A.sl.v320
  rw [cov2 (h := (by norm_num))]

end Cert.KernelIdeal.Body

end
-- ==== Proof.Tiles.lean ====
module

public import proofs.«01_k».proof.Proof.Body

@[expose] public section

set_option maxRecDepth 16384

noncomputable section

/-! # One launch point's three blocks are the head's gradients

The blocks of a launch point hold one head of one sequence: `Holds` says so. The tiles of `Proof.Body` then add up to the
gradients of `Proof.Attn`. -/

namespace Cert.KernelIdeal.Tiles

open Cert.Attn (row coe_sum pad pad_dot pad_sum exists_row tile_sum four_tiles tile_zero)
open Cert.KernelIdeal Cert.KernelIdeal.Gen Cert.KernelIdeal.Body Idealize.ShloMosaic Idealize.ShloMosaic.TcCoe Idealize.SL.Sem

variable (x0 : Vec Ideal S1x2048x256 .bf16) (x1 : Vec Ideal S1x2048x256 .bf16) (x2 : Vec Ideal S1x2048x128 .bf16) (x3 : Vec Ideal S2048x128 .bf16) (x4 : Vec Ideal S2048x128 .bf16) (x5 : Vec Ideal S1x2048x128 .f32)
variable (q k : Fin 2048 → Fin 192 → ℝ) (v g : Fin 2048 → Fin 128 → ℝ)

/-- The blocks hold a head's queries and keys (padded), its values, the arriving gradient, the attention's output and the
    rows' log-sums. -/
structure Holds : Prop where
  queries : ∀ r d, (x0 (ix3 0 r d) : EReal) = (pad (q r) d : ℝ)
  keys : ∀ r d, (x1 (ix3 0 r d) : EReal) = (pad (k r) d : ℝ)
  values : ∀ r d, (x2 (ix3 0 r d) : EReal) = (v r d : ℝ)
  arriving : ∀ r d, (x3 (ix2 r d) : EReal) = (g r d : ℝ)
  output : ∀ r d, (x4 (ix2 r d) : EReal) = (Attn.out q k v r d : ℝ)
  logsums : ∀ r, (x5 (ix3 0 r 0) : EReal) = (Real.log (Attn.total q k r) : ℝ)

/-- The named constants. -/
theorem scale_val : (Named.named κ "scale" 0x3D93CD3A#32 : Ideal .f32) = ((Attn.scale : ℝ) : EReal) :=
  IdealRules.named_const.ideal_named_scalar _ _ _ _ rfl
/-- The scale times the binary logarithm of e, exactly. -/
theorem scale_log2e_val : (Named.named κ "scale_log2e" 0x3DD53B95#32 : Ideal .f32) = ((Attn.scale * (Real.log 2)⁻¹ : ℝ) : EReal) :=
  IdealRules.named_const.ideal_named_scalar _ _ _ _ rfl
/-- The binary logarithm of e, exactly. -/
theorem log2e_val : (Named.named κ "log2e" 0x3FB8AA3B#32 : Ideal .f32) = (((Real.log 2)⁻¹ : ℝ) : EReal) :=
  IdealRules.named_const.ideal_named_scalar _ _ _ _ rfl
/-- The mask's number is minus infinity. -/
theorem mask_val : (Named.named κ "mask" 0xF149F2CA#32 : Ideal .f32) = (⊥ : EReal) :=
  IdealRules.named_const.ideal_named_scalar _ _ _ _ rfl

variable {x0 x1 x2 x3 x4 x5 q k v g}
variable (B : Holds x0 x1 x2 x3 x4 x5 q k v g)
include B

/-- The kernel's probability is the attention's. -/
theorem prob_eq (r c : Fin 2048) : Body.prob x0 x1 x5 r c = (Attn.prob q k r c : ℝ) := by
  unfold Body.prob
  rw [select_sge (by norm_num), scale_log2e_val, log2e_val, mask_val, B.logsums]
  simp only [B.queries, B.keys, ← EReal.coe_mul, ← coe_sum, pad_dot]
  split
  · rename_i h
    have := Attn.exp2_score q k r c h
    rw [← EReal.coe_mul, ← EReal.coe_mul] at this
    rw [← EReal.coe_mul]
    exact this
  · rename_i h
    rw [Attn.prob_later q k r c (by omega)]
    exact Attn.exp2_mask _

/-- The kernel's gradient of a logit is the attention's. -/
theorem dlogit_eq (r c : Fin 2048) : dlogit x0 x1 x2 x3 x4 x5 r c = (Attn.dscore q k v g r c : ℝ) := by
  unfold dlogit
  simp only [prob_eq B, B.values, B.arriving, B.output, ← EReal.coe_mul, ← coe_sum, ← EReal.coe_sub]
  rw [Attn.out_dot]
  rfl

/-- What a tile of queries gains from a span of keys. -/
theorem dqPart_eq (a n : ℕ) (h : a + n ≤ 2048) (r : Fin 2048) (d : Fin 256) : dqPart x0 x1 x2 x3 x4 x5 a n h r d
    = (((∑ j, Attn.dscore q k v g r (row a n h j) * pad (k (row a n h j)) d) * Attn.scale : ℝ) : EReal) := by
  unfold dqPart
  simp only [dlogit_eq B, B.keys, scale_val, ← EReal.coe_mul, ← coe_sum]

/-- What a key gains from a tile of queries. -/
theorem dkPart_eq (b : ℕ) (h : b + 512 ≤ 2048) (c : Fin 2048) (d : Fin 256) : dkPart x0 x1 x2 x3 x4 x5 b h c d
    = (((∑ j, Attn.dscore q k v g (row b 512 h j) c * pad (q (row b 512 h j)) d) * Attn.scale : ℝ) : EReal) := by
  unfold dkPart
  simp only [dlogit_eq B, B.queries, scale_val, ← EReal.coe_mul, ← coe_sum]

/-- What a value gains from a tile of queries. -/
theorem dvPart_eq (b : ℕ) (h : b + 512 ≤ 2048) (c : Fin 2048) (d : Fin 128) : dvPart x0 x1 x3 x5 b h c d
    = ((∑ j, Attn.prob q k (row b 512 h j) c * g (row b 512 h j) d : ℝ) : EReal) := by
  unfold dvPart
  simp only [prob_eq B, B.arriving, ← EReal.coe_mul, ← coe_sum]

variable (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1x2048x128 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S1x2048x128 .bf16) (harg10 : arg10.IsWhole) (arg11 : Memref sig .tc .vmem S2048x128 .f32) (harg11 : arg11.IsWhole)

/-- A query's gradient. -/
theorem dq_total (r : Fin 2048) (d : Fin 256) : out0_A_6 c i arg2 harg2 arg3 harg3 arg4 harg4 arg5 harg5 arg6 harg6 arg7 harg7 arg8 harg8 arg9 harg9 arg10 harg10 arg11 harg11 x0 x1 x2 x3 x4 x5 (ix3 0 r d) = (pad (Attn.gradQ q k v g r) d : ℝ) := by
  have fin : ∀ (a : ℕ) (h : a + 512 ≤ 2048) (h' : 0 + a ≤ 2048), r.val < a + 512 →
      (∑ j, Attn.dscore q k v g r (row a 512 h j) * pad (k (row a 512 h j)) d) * Attn.scale
        + (∑ j, Attn.dscore q k v g r (row 0 a h' j) * pad (k (row 0 a h' j)) d) * Attn.scale = pad (Attn.gradQ q k v g r) d := fun a h h' hr => by
    rw [← add_mul, tile_sum (fun c => Attn.dscore q k v g r c * pad (k c) d) a h h' fun c hc => by rw [Attn.dscore_later q k v g r c (by omega), zero_mul]]
    exact pad_sum _ _ _ _
  rcases (by omega : r.val < 512 ∨ (512 ≤ r.val ∧ r.val < 512 + 512) ∨ (1024 ≤ r.val ∧ r.val < 1024 + 512) ∨ (1536 ≤ r.val ∧ r.val < 1536 + 512)) with h | h | h | h
  · have f := fin 0 (by norm_num) (by norm_num) (by omega)
    obtain ⟨j, rfl⟩ := exists_row (a := 0) (n := 512) (by norm_num) r (by omega) (by omega)
    rw [dq_first, dqPart_eq B]
    refine congrArg Real.toEReal ?_
    simpa using f
  · have f := fin 512 (by norm_num) (by norm_num) (by omega)
    obtain ⟨j, rfl⟩ := exists_row (a := 512) (n := 512) (by norm_num) r h.1 h.2
    rw [dq_second, dqPart_eq B, dqPart_eq B, ← EReal.coe_add, f]
  · have f := fin 1024 (by norm_num) (by norm_num) (by omega)
    obtain ⟨j, rfl⟩ := exists_row (a := 1024) (n := 512) (by norm_num) r h.1 h.2
    rw [dq_third, dqPart_eq B, dqPart_eq B, ← EReal.coe_add, f]
  · have f := fin 1536 (by norm_num) (by norm_num) (by omega)
    obtain ⟨j, rfl⟩ := exists_row (a := 1536) (n := 512) (by norm_num) r h.1 h.2
    rw [dq_last, dqPart_eq B, dqPart_eq B, ← EReal.coe_add, f]

/-- A key's gradient. -/
theorem dk_total (r : Fin 2048) (d : Fin 256) : out0_A_7 c i arg2 harg2 arg3 harg3 arg4 harg4 arg5 harg5 arg6 harg6 arg7 harg7 arg8 harg8 arg9 harg9 arg10 harg10 arg11 harg11 x0 x1 x2 x3 x4 x5 (ix3 0 r d) = (pad (Attn.gradK q k v g r) d : ℝ) := by
  have b3 : 0 ≤ r.val → r.val < 0 + 1536 → out0_A_7 c i arg2 harg2 arg3 harg3 arg4 harg4 arg5 harg5 arg6 harg6 arg7 harg7 arg8 harg8 arg9 harg9 arg10 harg10 arg11 harg11 x0 x1 x2 x3 x4 x5 (ix3 0 r d) = View.canon (kernelRun0_A.sl.H7_6 c arg2 harg2 arg3 harg3 arg4 harg4 arg5 harg5 arg6 harg6 arg7 harg7 arg9 x0 x1 x2 x3 x4 x5) (ix3 0 r d) + dkPart x0 x1 x2 x3 x4 x5 1536 (by norm_num) r d := fun h1 h2 => by
    obtain ⟨j, rfl⟩ := exists_row (a := 0) (n := 1536) (by norm_num) r h1 h2
    rw [dk_before]
  have o3 : 1536 ≤ r.val → r.val < 1536 + 512 → out0_A_7 c i arg2 harg2 arg3 harg3 arg4 harg4 arg5 harg5 arg6 harg6 arg7 harg7 arg8 harg8 arg9 harg9 arg10 harg10 arg11 harg11 x0 x1 x2 x3 x4 x5 (ix3 0 r d) = dkPart x0 x1 x2 x3 x4 x5 1536 (by norm_num) r d := fun h1 h2 => by
    obtain ⟨j, rfl⟩ := exists_row (a := 1536) (n := 512) (by norm_num) r h1 h2
    rw [dk_own]
  have b2 : 0 ≤ r.val → r.val < 0 + 1024 → View.canon (kernelRun0_A.sl.H7_6 c arg2 harg2 arg3 harg3 arg4 harg4 arg5 harg5 arg6 harg6 arg7 harg7 arg9 x0 x1 x2 x3 x4 x5) (ix3 0 r d) = View.canon (kernelRun0_A.sl.H7_4 c arg2 harg2 arg3 harg3 arg4 harg4 arg5 harg5 arg6 harg6 arg7 harg7 arg9 x0 x1 x2 x3 x4 x5) (ix3 0 r d) + dkPart x0 x1 x2 x3 x4 x5 1024 (by norm_num) r d := fun h1 h2 => by
    obtain ⟨j, rfl⟩ := exists_row (a := 0) (n := 1024) (by norm_num) r h1 h2
    rw [dk_stage3_before]
  have k2 : 1024 ≤ r.val → r.val < 1024 + 512 → View.canon (kernelRun0_A.sl.H7_6 c arg2 harg2 arg3 harg3 arg4 harg4 arg5 harg5 arg6 harg6 arg7 harg7 arg9 x0 x1 x2 x3 x4 x5) (ix3 0 r d) = View.canon (kernelRun0_A.sl.H7_4 c arg2 harg2 arg3 harg3 arg4 harg4 arg5 harg5 arg6 harg6 arg7 harg7 arg9 x0 x1 x2 x3 x4 x5) (ix3 0 r d) := fun h1 h2 => by
    obtain ⟨j, rfl⟩ := exists_row (a := 1024) (n := 512) (by norm_num) r h1 h2
    rw [dk_stage3_kept]
  have o2 : 1024 ≤ r.val → r.val < 1024 + 512 → View.canon (kernelRun0_A.sl.H7_4 c arg2 harg2 arg3 harg3 arg4 harg4 arg5 harg5 arg6 harg6 arg7 harg7 arg9 x0 x1 x2 x3 x4 x5) (ix3 0 r d) = dkPart x0 x1 x2 x3 x4 x5 1024 (by norm_num) r d := fun h1 h2 => by
    obtain ⟨j, rfl⟩ := exists_row (a := 1024) (n := 512) (by norm_num) r h1 h2
    rw [dk_stage2_own]
  have b1 : 0 ≤ r.val → r.val < 0 + 512 → View.canon (kernelRun0_A.sl.H7_4 c arg2 harg2 arg3 harg3 arg4 harg4 arg5 harg5 arg6 harg6 arg7 harg7 arg9 x0 x1 x2 x3 x4 x5) (ix3 0 r d) = View.canon (kernelRun0_A.sl.H7_2 c arg2 harg2 arg3 harg3 arg4 harg4 arg5 harg5 arg6 harg6 arg7 harg7 x0 x1 x2 x3 x4 x5) (ix3 0 r d) + dkPart x0 x1 x2 x3 x4 x5 512 (by norm_num) r d := fun h1 h2 => by
    obtain ⟨j, rfl⟩ := exists_row (a := 0) (n := 512) (by norm_num) r h1 h2
    rw [dk_stage2_before]
  have k1 : 512 ≤ r.val → r.val < 512 + 512 → View.canon (kernelRun0_A.sl.H7_4 c arg2 harg2 arg3 harg3 arg4 harg4 arg5 harg5 arg6 harg6 arg7 harg7 arg9 x0 x1 x2 x3 x4 x5) (ix3 0 r d) = View.canon (kernelRun0_A.sl.H7_2 c arg2 harg2 arg3 harg3 arg4 harg4 arg5 harg5 arg6 harg6 arg7 harg7 x0 x1 x2 x3 x4 x5) (ix3 0 r d) := fun h1 h2 => by
    obtain ⟨j, rfl⟩ := exists_row (a := 512) (n := 512) (by norm_num) r h1 h2
    rw [dk_stage2_kept]
  have o1 : 512 ≤ r.val → r.val < 512 + 512 → View.canon (kernelRun0_A.sl.H7_2 c arg2 harg2 arg3 harg3 arg4 harg4 arg5 harg5 arg6 harg6 arg7 harg7 x0 x1 x2 x3 x4 x5) (ix3 0 r d) = dkPart x0 x1 x2 x3 x4 x5 512 (by norm_num) r d := fun h1 h2 => by
    obtain ⟨j, rfl⟩ := exists_row (a := 512) (n := 512) (by norm_num) r h1 h2
    rw [dk_stage1_own]
  have o0 : 0 ≤ r.val → r.val < 0 + 512 → View.canon (kernelRun0_A.sl.H7_2 c arg2 harg2 arg3 harg3 arg4 harg4 arg5 harg5 arg6 harg6 arg7 harg7 x0 x1 x2 x3 x4 x5) (ix3 0 r d) = dkPart x0 x1 x2 x3 x4 x5 0 (by norm_num) r d := fun h1 h2 => by
    obtain ⟨j, rfl⟩ := exists_row (a := 0) (n := 512) (by norm_num) r h1 h2
    rw [dk_stage1_first]
  have all := four_tiles (fun x => Attn.dscore q k v g x r * pad (q x) d) (by norm_num) (by norm_num) (by norm_num) (by norm_num)
  have none : ∀ (a : ℕ) (h : a + 512 ≤ 2048), a + 512 ≤ r.val → ∑ j, (fun x => Attn.dscore q k v g x r * pad (q x) d) (row a 512 h j) = 0 := fun a h hr =>
    tile_zero (fun x => Attn.dscore q k v g x r * pad (q x) d) a h r hr fun x hx => by show _ * _ = _; rw [Attn.dscore_later q k v g x r hx, zero_mul]
  rcases (by omega : r.val < 512 ∨ (512 ≤ r.val ∧ r.val < 512 + 512) ∨ (1024 ≤ r.val ∧ r.val < 1024 + 512) ∨ (1536 ≤ r.val ∧ r.val < 1536 + 512)) with h | h | h | h
  · rw [b3 (by omega) (by omega), b2 (by omega) (by omega), b1 (by omega) (by omega), o0 (by omega) (by omega), dkPart_eq B, dkPart_eq B, dkPart_eq B, dkPart_eq B, ← EReal.coe_add, ← EReal.coe_add, ← EReal.coe_add]
    refine congrArg Real.toEReal ?_
    have := congrArg (· * Attn.scale) all
    simp only [add_mul] at this
    exact this.trans (pad_sum _ _ _ _)
  · rw [b3 (by omega) (by omega), b2 (by omega) (by omega), k1 (by omega) (by omega), o1 (by omega) (by omega), dkPart_eq B, dkPart_eq B, dkPart_eq B, ← EReal.coe_add, ← EReal.coe_add]
    refine congrArg Real.toEReal ?_
    rw [none 0 (by norm_num) (by omega)] at all
    simp only [zero_add] at all
    have := congrArg (· * Attn.scale) all
    simp only [add_mul] at this
    exact this.trans (pad_sum _ _ _ _)
  · rw [b3 (by omega) (by omega), k2 (by omega) (by omega), o2 (by omega) (by omega), dkPart_eq B, dkPart_eq B, ← EReal.coe_add]
    refine congrArg Real.toEReal ?_
    rw [none 0 (by norm_num) (by omega), none 512 (by norm_num) (by omega)] at all
    simp only [zero_add] at all
    have := congrArg (· * Attn.scale) all
    simp only [add_mul] at this
    exact this.trans (pad_sum _ _ _ _)
  · rw [o3 (by omega) (by omega), dkPart_eq B]
    refine congrArg Real.toEReal ?_
    rw [none 0 (by norm_num) (by omega), none 512 (by norm_num) (by omega), none 1024 (by norm_num) (by omega)] at all
    simp only [zero_add] at all
    have := congrArg (· * Attn.scale) all
    exact this.trans (pad_sum _ _ _ _)

/-- A value's gradient. -/
theorem dv_total (r : Fin 2048) (d : Fin 128) : out0_A_8 c i arg2 harg2 arg3 harg3 arg4 harg4 arg5 harg5 arg6 harg6 arg7 harg7 arg8 harg8 arg9 harg9 arg10 harg10 arg11 harg11 x0 x1 x2 x3 x4 x5 (ix3 0 r d) = (Attn.gradV q k g r d : ℝ) := by
  rw [dv_written]
  have b3 : 0 ≤ r.val → r.val < 0 + 1536 → View.canon (kernelRun0_A.sl.HS0_7 c arg2 harg2 arg3 harg3 arg5 harg5 arg7 harg7 arg11 x0 x1 x3 x5) (ix2 r d) = View.canon (kernelRun0_A.sl.HS0_6 c arg2 harg2 arg3 harg3 arg5 harg5 arg7 harg7 arg11 x0 x1 x3 x5) (ix2 r d) + dvPart x0 x1 x3 x5 1536 (by norm_num) r d := fun h1 h2 => by
    obtain ⟨j, rfl⟩ := exists_row (a := 0) (n := 1536) (by norm_num) r h1 h2
    rw [dv_stage4_before]
  have o3 : 1536 ≤ r.val → r.val < 1536 + 512 → View.canon (kernelRun0_A.sl.HS0_7 c arg2 harg2 arg3 harg3 arg5 harg5 arg7 harg7 arg11 x0 x1 x3 x5) (ix2 r d) = dvPart x0 x1 x3 x5 1536 (by norm_num) r d := fun h1 h2 => by
    obtain ⟨j, rfl⟩ := exists_row (a := 1536) (n := 512) (by norm_num) r h1 h2
    rw [dv_stage4_own]
  have b2 : 0 ≤ r.val → r.val < 0 + 1024 → View.canon (kernelRun0_A.sl.HS0_6 c arg2 harg2 arg3 harg3 arg5 harg5 arg7 harg7 arg11 x0 x1 x3 x5) (ix2 r d) = View.canon (kernelRun0_A.sl.HS0_4 c arg2 harg2 arg3 harg3 arg5 harg5 arg7 harg7 arg11 x0 x1 x3 x5) (ix2 r d) + dvPart x0 x1 x3 x5 1024 (by norm_num) r d := fun h1 h2 => by
    obtain ⟨j, rfl⟩ := exists_row (a := 0) (n := 1024) (by norm_num) r h1 h2
    rw [dv_stage3_before]
  have k2 : 1024 ≤ r.val → r.val < 1024 + 512 → View.canon (kernelRun0_A.sl.HS0_6 c arg2 harg2 arg3 harg3 arg5 harg5 arg7 harg7 arg11 x0 x1 x3 x5) (ix2 r d) = View.canon (kernelRun0_A.sl.HS0_4 c arg2 harg2 arg3 harg3 arg5 harg5 arg7 harg7 arg11 x0 x1 x3 x5) (ix2 r d) := fun h1 h2 => by
    obtain ⟨j, rfl⟩ := exists_row (a := 1024) (n := 512) (by norm_num) r h1 h2
    rw [dv_stage3_kept]
  have o2 : 1024 ≤ r.val → r.val < 1024 + 512 → View.canon (kernelRun0_A.sl.HS0_4 c arg2 harg2 arg3 harg3 arg5 harg5 arg7 harg7 arg11 x0 x1 x3 x5) (ix2 r d) = dvPart x0 x1 x3 x5 1024 (by norm_num) r d := fun h1 h2 => by
    obtain ⟨j, rfl⟩ := exists_row (a := 1024) (n := 512) (by norm_num) r h1 h2
    rw [dv_stage2_own]
  have b1 : 0 ≤ r.val → r.val < 0 + 512 → View.canon (kernelRun0_A.sl.HS0_4 c arg2 harg2 arg3 harg3 arg5 harg5 arg7 harg7 arg11 x0 x1 x3 x5) (ix2 r d) = View.canon (kernelRun0_A.sl.HS0_2 c arg2 harg2 arg3 harg3 arg5 harg5 arg7 harg7 x0 x1 x3 x5) (ix2 r d) + dvPart x0 x1 x3 x5 512 (by norm_num) r d := fun h1 h2 => by
    obtain ⟨j, rfl⟩ := exists_row (a := 0) (n := 512) (by norm_num) r h1 h2
    rw [dv_stage2_before]
  have k1 : 512 ≤ r.val → r.val < 512 + 512 → View.canon (kernelRun0_A.sl.HS0_4 c arg2 harg2 arg3 harg3 arg5 harg5 arg7 harg7 arg11 x0 x1 x3 x5) (ix2 r d) = View.canon (kernelRun0_A.sl.HS0_2 c arg2 harg2 arg3 harg3 arg5 harg5 arg7 harg7 x0 x1 x3 x5) (ix2 r d) := fun h1 h2 => by
    obtain ⟨j, rfl⟩ := exists_row (a := 512) (n := 512) (by norm_num) r h1 h2
    rw [dv_stage2_kept]
  have o1 : 512 ≤ r.val → r.val < 512 + 512 → View.canon (kernelRun0_A.sl.HS0_2 c arg2 harg2 arg3 harg3 arg5 harg5 arg7 harg7 x0 x1 x3 x5) (ix2 r d) = dvPart x0 x1 x3 x5 512 (by norm_num) r d := fun h1 h2 => by
    obtain ⟨j, rfl⟩ := exists_row (a := 512) (n := 512) (by norm_num) r h1 h2
    rw [dv_stage1_own]
  have o0 : 0 ≤ r.val → r.val < 0 + 512 → View.canon (kernelRun0_A.sl.HS0_2 c arg2 harg2 arg3 harg3 arg5 harg5 arg7 harg7 x0 x1 x3 x5) (ix2 r d) = dvPart x0 x1 x3 x5 0 (by norm_num) r d := fun h1 h2 => by
    obtain ⟨j, rfl⟩ := exists_row (a := 0) (n := 512) (by norm_num) r h1 h2
    rw [dv_stage1_first]
  have all := four_tiles (fun x => Attn.prob q k x r * g x d) (by norm_num) (by norm_num) (by norm_num) (by norm_num)
  have none : ∀ (a : ℕ) (h : a + 512 ≤ 2048), a + 512 ≤ r.val → ∑ j, (fun x => Attn.prob q k x r * g x d) (row a 512 h j) = 0 := fun a h hr =>
    tile_zero (fun x => Attn.prob q k x r * g x d) a h r hr fun x hx => by show _ * _ = _; rw [Attn.prob_later q k x r hx, zero_mul]
  rcases (by omega : r.val < 512 ∨ (512 ≤ r.val ∧ r.val < 512 + 512) ∨ (1024 ≤ r.val ∧ r.val < 1024 + 512) ∨ (1536 ≤ r.val ∧ r.val < 1536 + 512)) with h | h | h | h
  · rw [b3 (by omega) (by omega), b2 (by omega) (by omega), b1 (by omega) (by omega), o0 (by omega) (by omega), dvPart_eq B, dvPart_eq B, dvPart_eq B, dvPart_eq B, ← EReal.coe_add, ← EReal.coe_add, ← EReal.coe_add]
    refine congrArg Real.toEReal ?_
    exact all
  · rw [b3 (by omega) (by omega), b2 (by omega) (by omega), k1 (by omega) (by omega), o1 (by omega) (by omega), dvPart_eq B, dvPart_eq B, dvPart_eq B, ← EReal.coe_add, ← EReal.coe_add]
    refine congrArg Real.toEReal ?_
    rw [none 0 (by norm_num) (by omega)] at all
    simp only [zero_add] at all
    exact all
  · rw [b3 (by omega) (by omega), k2 (by omega) (by omega), o2 (by omega) (by omega), dvPart_eq B, dvPart_eq B, ← EReal.coe_add]
    refine congrArg Real.toEReal ?_
    rw [none 0 (by norm_num) (by omega), none 512 (by norm_num) (by omega)] at all
    simp only [zero_add] at all
    exact all
  · rw [o3 (by omega) (by omega), dvPart_eq B]
    refine congrArg Real.toEReal ?_
    rw [none 0 (by norm_num) (by omega), none 512 (by norm_num) (by omega), none 1024 (by norm_num) (by omega)] at all
    simp only [zero_add] at all
    exact all

end Cert.KernelIdeal.Tiles

end
-- ==== Proof.Host.lean ====
module

public import proofs.«01_k».proof.Proof.Gen.KernelIdeal.Value
public import Idealize.ShloMosaic.Lib.Pipeline.ValueKit
public import Idealize.ShloMosaic.Lib.StableHlo.ReadAt
public import Idealize.ShloMosaic.Lib.WordCmp
public import proofs.«01_k».proof.Proof.Attn

@[expose] public section

set_option maxRecDepth 16384

noncomputable section

/-! # What the host lays out for the launch

The host forms the forward pass (logits, row maxima, weights, outputs, log-sums) and lays the six arrays out by head. -/

namespace Cert.KernelIdeal.Host

open Cert.KernelIdeal Cert.KernelIdeal.Gen Idealize.ShloMosaic Idealize.ShloMosaic.TcCoe Idealize.SL.Sem

variable (qa ka : FVec Ideal S2x2048x6x192 .f32) (va : FVec Ideal S2x2048x6x128 .f32) (ga : FVec Ideal S2x2048x768 .f32)

/-- The scale `1 / sqrt 192` as the host forms it. -/
def scaleArr : FVec Ideal S_ .f32 := Idealize.ShloMosaic.Host.divf (constant S_ .f32 0x3F800000#32) (Idealize.ShloMosaic.Host.sqrt (constant S_ .f32 0x43400000#32))

/-- The masked logits. -/
def logits : FVec Ideal S2x6x2048x2048 .f32 :=
  select (broadcastInDim S2x6x2048x2048 ![2, 3] bcast_S2048x2048_S2x6x2048x2048_2_3
      (cmpi .sge (broadcastInDim S2048x2048 ![0, 1] bcast_S2048x1_S2048x2048_0_1 (broadcastInDim S2048x1 ![0] bcast_S2048_S2048x1_0 (iotaInDim S2048 32 0)))
        (broadcastInDim S2048x2048 ![0, 1] bcast_S1x2048_S2048x2048_0_1 (broadcastInDim S1x2048 ![1] bcast_S2048_S1x2048_1 (iotaInDim S2048 32 0)))))
    (mulf (Idealize.ShloMosaic.Host.dotGeneral dot_S2x2048x6x192_S2x2048x6x192_S2x6x2048x2048_3_3_1_1_02_02 none qa ka)
      (broadcastInDim S2x6x2048x2048 ![] bcast_S_S2x6x2048x2048 (id scaleArr)))
    (broadcastInDim S2x6x2048x2048 ![] bcast_S_S2x6x2048x2048 (id (constant S_ .f32 0xFF800000#32)))

/-- The rows' maxima. -/
def maxima : FVec Ideal S2x6x2048 .f32 :=
  Idealize.ShloMosaic.Host.reduce FloatOps.maximumf (logits qa ka) (constant S_ .f32 0xFF800000#32) reducesTo_S2x6x2048x2048_S2x6x2048_d3 h_S_

/-- The rows' largest logits, with a last axis of extent one. -/
def maxima1 : FVec Ideal S2x6x2048x1 .f32 := broadcastInDim S2x6x2048x1 ![0, 1, 2] bcast_S2x6x2048_S2x6x2048x1_0_1_2 (maxima qa ka)

/-- The exponentials of the logits less the row's maximum. -/
def exps : FVec Ideal S2x6x2048x2048 .f32 :=
  Idealize.ShloMosaic.Host.exp (subf (logits qa ka) (broadcastInDim S2x6x2048x2048 ![0, 1, 2, 3] bcast_S2x6x2048x1_S2x6x2048x2048_0_1_2_3 (maxima1 qa ka)))

/-- Their sums along a row. -/
def totals : FVec Ideal S2x6x2048x1 .f32 :=
  broadcastInDim S2x6x2048x1 ![0, 1, 2] bcast_S2x6x2048_S2x6x2048x1_0_1_2
    (Idealize.ShloMosaic.Host.reduceAdd (exps qa ka) (constant S_ .f32 0x00000000#32) reducesTo_S2x6x2048x2048_S2x6x2048_d3 h_S_)

/-- The probabilities. -/
def probs : FVec Ideal S2x6x2048x2048 .f32 :=
  Idealize.ShloMosaic.Host.divf (exps qa ka) (broadcastInDim S2x6x2048x2048 ![0, 1, 2, 3] bcast_S2x6x2048x1_S2x6x2048x2048_0_1_2_3 (totals qa ka))

/-- The attention's output. -/
def outs : FVec Ideal S2x2048x6x128 .f32 :=
  transpose S2x2048x6x128 [0, 3, 1, 2]
    (Idealize.ShloMosaic.Host.dotGeneral dot_S2x2048x6x128_S2x6x2048x2048_S2x6x128x2048_1_3_3_2_02_01 none va (probs qa ka)) transposes_S2x6x128x2048_S2x2048x6x128_0_3_1_2

/-- The rows' log-sums. -/
def logsums : FVec Ideal S2x6x2048x1 .f32 := addf (maxima1 qa ka) (Idealize.ShloMosaic.Host.log (totals qa ka))

/-- The six arrays of the launch. -/
def logsumsLaid : FVec Ideal S6x4096x128 .f32 :=
  broadcastInDim S6x4096x128 ![0, 1, 2] bcast_S6x4096x1_S6x4096x128_0_1_2
    (shapeCast S6x4096x1 (transpose S6x2x2048x1 [1, 0, 2, 3] (logsums qa ka) transposes_S2x6x2048x1_S6x2x2048x1_1_0_2_3) shapeCasts_S6x2x2048x1_S6x4096x1)

/-- Queries or keys as the kernel takes them: head by head, the sequences one after the other, padded to 256 columns. -/
def headsLaid : FVec Ideal S6x4096x256 .bf16 :=
  truncf .bf16 (pad S6x4096x256 ![0, 0, 0] ![0, 0, 64] ![0, 0, 0]
    (shapeCast S6x4096x192 (transpose S6x2x2048x192 [2, 0, 1, 3] qa transposes_S2x2048x6x192_S6x2x2048x192_2_0_1_3) shapeCasts_S6x2x2048x192_S6x4096x192)
    (sitofp .f32 (constantI S_ 32 0#32)) pads_S6x4096x192_S6x4096x256_000_000_0640 h_S_) bitsLt_bf16_f32

/-- The values as the kernel takes them: head by head, the sequences one after the other. -/
def valuesLaid : FVec Ideal S6x4096x128 .bf16 :=
  truncf .bf16 (shapeCast S6x4096x128 (transpose S6x2x2048x128 [2, 0, 1, 3] va transposes_S2x2048x6x128_S6x2x2048x128_2_0_1_3) shapeCasts_S6x2x2048x128_S6x4096x128) bitsLt_bf16_f32

/-- The arriving gradient as the kernel takes it: a row per position, behind 256 columns of zeros. -/
def arrivingLaid : FVec Ideal S4096x1024 .bf16 :=
  truncf .bf16 (pad S4096x1024 ![0, 256] ![0, 0] ![0, 0] (shapeCast S4096x768 ga shapeCasts_S2x2048x768_S4096x768)
    (sitofp .f32 (constantI S_ 32 0#32)) pads_S4096x768_S4096x1024_000_25600 h_S_) bitsLt_bf16_f32

/-- The attention's output as the kernel takes it: a row per position, behind 256 columns of zeros. -/
def outsLaid : FVec Ideal S4096x1024 .bf16 :=
  truncf .bf16 (pad S4096x1024 ![0, 256] ![0, 0] ![0, 0] (shapeCast S4096x768 (outs qa ka va) shapeCasts_S2x2048x6x128_S4096x768)
    (sitofp .f32 (constantI S_ 32 0#32)) pads_S4096x768_S4096x1024_000_25600 h_S_) bitsLt_bf16_f32

section Contents

variable (m : (ℓ : Loc nD τ sig) → Buf (Elt Ideal) ℓ) (c : Dev nD)

/-- The launch's first operand holds the queries. -/
theorem V_queries : V m c main_v33 = headsLaid (m (c, Proc.tc.devRef main_arg0)) := by
  unfold V
  after_reads_simp
  simp -implicitDefEqProofs only [StableHlo.TRef.toBuf, StableHlo.TRef.ofBuf, cast_cast, cast_eq]
  rfl

/-- The launch's second operand holds the keys. -/
theorem V_keys : V m c main_v37 = headsLaid (m (c, Proc.tc.devRef main_arg1)) := by
  unfold V
  after_reads_simp
  simp -implicitDefEqProofs only [StableHlo.TRef.toBuf, StableHlo.TRef.ofBuf, cast_cast, cast_eq]
  rfl

/-- The launch's third operand holds the values. -/
theorem V_values : V m c main_v40 = valuesLaid (m (c, Proc.tc.devRef main_arg2)) := by
  unfold V
  after_reads_simp
  rfl

/-- The launch's fourth operand holds the arriving gradient. -/
theorem V_arriving : V m c main_v43 = arrivingLaid (m (c, Proc.tc.devRef main_arg3)) := by
  unfold V
  after_reads_simp
  simp -implicitDefEqProofs only [StableHlo.TRef.toBuf, StableHlo.TRef.ofBuf, cast_cast, cast_eq]
  rfl

/-- The launch's fifth operand holds the attention's output. -/
theorem V_outs : V m c main_v46 = outsLaid (m (c, Proc.tc.devRef main_arg0)) (m (c, Proc.tc.devRef main_arg1)) (m (c, Proc.tc.devRef main_arg2)) := by
  unfold V
  after_reads_simp
  simp -implicitDefEqProofs only [StableHlo.TRef.toBuf, StableHlo.TRef.ofBuf, cast_cast, cast_eq]
  rfl

/-- The launch's sixth operand holds the rows' log-sums. -/
theorem V_logsums : V m c main_v29 = logsumsLaid (m (c, Proc.tc.devRef main_arg0)) (m (c, Proc.tc.devRef main_arg1)) := by
  unfold V
  after_reads_simp
  simp -implicitDefEqProofs only [StableHlo.TRef.toBuf, StableHlo.TRef.ofBuf, cast_cast, cast_eq]
  rfl

end Contents

end Cert.KernelIdeal.Host

end
-- ==== Proof.HostVal.lean ====
module

public import proofs.«01_k».proof.Proof.Gen.KernelIdeal.Value
public import Idealize.ShloMosaic.Lib.Pipeline.ValueKit
public import Idealize.ShloMosaic.Lib.StableHlo.ReadAt
public import Idealize.ShloMosaic.Lib.WordCmp
public import proofs.«01_k».proof.Proof.Host

@[expose] public section

set_option maxRecDepth 16384

noncomputable section

namespace Cert.KernelIdeal.Host

open Cert.KernelIdeal Cert.KernelIdeal.Gen Idealize.ShloMosaic Idealize.ShloMosaic.TcCoe Idealize.SL.Sem

variable (qa ka : FVec Ideal S2x2048x6x192 .f32) (va : FVec Ideal S2x2048x6x128 .f32) (ga : FVec Ideal S2x2048x768 .f32)

/-! ## The arrays at an index, over real arguments -/

section Values

variable (qr kr : S2x2048x6x192.Idx → ℝ) (vr : S2x2048x6x128.Idx → ℝ) (gr : S2x2048x768.Idx → ℝ)

/-- One head of one sequence of a four-axis array. -/
def head {W : ℕ} (f : (⟨4, ![2, 2048, 6, W]⟩ : Shape).Idx → ℝ) (b : Fin 2) (h : Fin 6) : Fin 2048 → Fin W → ℝ := fun r d => f (ix4 b r h d)

/-- One head of one sequence of the arriving gradient, whose last axis holds the heads side by side. -/
def headOf (f : S2x2048x768.Idx → ℝ) (b : Fin 2) (h : Fin 6) : Fin 2048 → Fin 128 → ℝ := fun r d => f (ix3 b r ⟨h.val * 128 + d.val, by omega⟩)

/-- The bit pattern of minus infinity is the bottom element. -/
theorem neg_inf_val : Ideal.ofBits .f32 0xFF800000#32 = (⊥ : EReal) := by simp [Ideal.ofBits, Ideal.ieee, -EReal.coe_mul]
/-- The bit pattern of 192 is the number 192. -/
theorem c192_val : Ideal.ofBits .f32 0x43400000#32 = ((192 : ℝ) : EReal) := by simp [Ideal.ofBits, Ideal.ieee, -EReal.coe_mul]; norm_num

/-- The scale is one over the root of 192. -/
theorem scaleArr_eq (i : S_.Idx) : scaleArr i = ((Attn.scale : ℝ) : EReal) := by
  unfold scaleArr
  pointwise
  rw [c192_val, Ideal.sqrt_coe, if_neg (by norm_num), Ideal.div_coe (Real.sqrt_pos.mpr (by norm_num)).ne', one_mul, one_div]
  rfl

variable {qa ka va ga qr kr vr gr}
variable (hq : ∀ i, qa i = (qr i : ℝ)) (hk : ∀ i, ka i = (kr i : ℝ)) (hv : ∀ i, va i = (vr i : ℝ)) (hg : ∀ i, ga i = (gr i : ℝ))

include hq hk in
/-- A masked logit, over the reals. -/
theorem logits_eq (b : Fin 2) (h : Fin 6) (r c : Fin 2048) : logits qa ka (ix4 b h r c) = Attn.masked (head qr b h) (head kr b h) r c := by
  unfold logits
  pointwise
  have hs : id scaleArr ix0 = ((Attn.scale : ℝ) : EReal) := scaleArr_eq ix0
  have hm : id (constant S_ .f32 4286578688#32 : FVec Ideal S_ .f32) ix0 = (⊥ : EReal) := neg_inf_val
  rw [hs, hm]
  simp only [hq, hk, ← EReal.coe_mul, ← Attn.coe_sum]
  rw [WordCmp.cmpi_sge_ofNat (by norm_num; omega) (by norm_num; omega)]
  unfold Attn.masked
  by_cases hc : c.val ≤ r.val
  · simp [Scalar.select, hc]; rfl
  · simp [Scalar.select, hc]

/-- A row's largest logit. -/
theorem maxima_apply (b : Fin 2) (h : Fin 6) (r : Fin 2048) : maxima qa ka (ix3 b h r) = Finset.fold max (⊥ : EReal) (fun c => logits qa ka (ix4 b h r c)) Finset.univ := by
  unfold maxima
  pointwise
  rw [neg_inf_val]

/-- A row's sum of exponentials. -/
theorem totals_apply (b : Fin 2) (h : Fin 6) (r : Fin 2048) (z : Fin 1) : totals qa ka (ix4 b h r z) = ∑ c, exps qa ka (ix4 b h r c) := by
  unfold totals
  pointwise

/-- An exponential, of a logit less its row's largest. -/
theorem exps_apply (b : Fin 2) (h : Fin 6) (r c : Fin 2048) : exps qa ka (ix4 b h r c) = Ideal.exp (logits qa ka (ix4 b h r c) - maxima qa ka (ix3 b h r)) := by
  unfold exps maxima1
  pointwise

/-- A probability is an exponential over its row's sum. -/
theorem probs_apply (b : Fin 2) (h : Fin 6) (r c : Fin 2048) : probs qa ka (ix4 b h r c) = Ideal.div (exps qa ka (ix4 b h r c)) (totals qa ka (ix4 b h r 0)) := by
  unfold probs
  pointwise

/-- An entry of the output is a sum over the values. -/
theorem outs_apply (b : Fin 2) (h : Fin 6) (r : Fin 2048) (d : Fin 128) : outs qa ka va (ix4 b r h d) = ∑ c, va (ix4 b c h d) * probs qa ka (ix4 b h r c) := by
  unfold outs
  pointwise

/-- The last axis of extent one changes nothing. -/
theorem maxima1_apply (b : Fin 2) (h : Fin 6) (r : Fin 2048) (z : Fin 1) : maxima1 qa ka (ix4 b h r z) = maxima qa ka (ix3 b h r) := by
  unfold maxima1
  pointwise

/-- A sum with a logarithm, at one element. -/
theorem add_log (x y : FVec Ideal S2x6x2048x1 .f32) (i : S2x6x2048x1.Idx) : addf x (Idealize.ShloMosaic.Host.log y) i = (x i : EReal) + Ideal.log (y i) := rfl

/-- A row's log-sum: its largest logit plus the logarithm of its sum. -/
theorem logsums_apply (b : Fin 2) (h : Fin 6) (r : Fin 2048) (z : Fin 1) : logsums qa ka (ix4 b h r z) = maxima qa ka (ix3 b h r) + Ideal.log (totals qa ka (ix4 b h r z)) := by
  unfold logsums
  rw [add_log, maxima1_apply]

section Forward

include hq hk

/-- A row's maximum is a real `μ`; the exponentials and their sum are then the attention's, scaled by `exp (-μ)`. -/
theorem row_eq (b : Fin 2) (h : Fin 6) (r : Fin 2048) : ∃ μ : ℝ, maxima qa ka (ix3 b h r) = (μ : EReal)
    ∧ (∀ c, exps qa ka (ix4 b h r c) = ((Attn.weight (head qr b h) (head kr b h) r c * Real.exp (-μ) : ℝ) : EReal))
    ∧ ∀ z, totals qa ka (ix4 b h r z) = ((Attn.total (head qr b h) (head kr b h) r * Real.exp (-μ) : ℝ) : EReal) := by
  obtain ⟨μ, hμ⟩ := Attn.max_real (head qr b h) (head kr b h) r
  have hm : maxima qa ka (ix3 b h r) = (μ : EReal) := by
    rw [maxima_apply, ← hμ]
    exact congrArg (fun f => Finset.fold max (⊥ : EReal) f Finset.univ) (funext fun c => logits_eq hq hk b h r c)
  refine ⟨μ, hm, fun c => ?_, fun z => ?_⟩
  · rw [exps_apply, hm, logits_eq hq hk]
    exact Attn.exp_masked _ _ _ _ _
  · rw [totals_apply, ← Attn.sum_exp]
    exact Finset.sum_congr rfl fun c _ => by rw [exps_apply, hm, logits_eq hq hk]

/-- A probability, over the reals. -/
theorem probs_eq (b : Fin 2) (h : Fin 6) (r c : Fin 2048) : probs qa ka (ix4 b h r c) = (Attn.prob (head qr b h) (head kr b h) r c : ℝ) := by
  obtain ⟨μ, _, he, ht⟩ := row_eq hq hk b h r
  rw [probs_apply, he, ht]
  exact Attn.softmax _ _ _ _ _

/-- A row's log-sum is the logarithm of the sum of its weights. -/
theorem logsums_eq (b : Fin 2) (h : Fin 6) (r : Fin 2048) (z : Fin 1) : logsums qa ka (ix4 b h r z) = (Real.log (Attn.total (head qr b h) (head kr b h) r) : ℝ) := by
  obtain ⟨μ, hm, _, ht⟩ := row_eq hq hk b h r
  rw [logsums_apply, hm, ht]
  exact Attn.logsum _ _ _ _

include hv in
/-- The output, over the reals. -/
theorem outs_eq (b : Fin 2) (h : Fin 6) (r : Fin 2048) (d : Fin 128) : outs qa ka va (ix4 b r h d) = (Attn.out (head qr b h) (head kr b h) (head vr b h) r d : ℝ) := by
  rw [outs_apply]
  simp only [probs_eq hq hk, hv, ← EReal.coe_mul, ← Attn.coe_sum]
  rfl

end Forward

/-- The row of the launch's arrays that holds row `r` of sequence `b`. -/
def seqRow (b : Fin 2) (r : Fin 2048) : Fin 4096 := ⟨2048 * b.val + r.val, by omega⟩

/-- The column of the launch's arrays that holds column `d` of head `h`. -/
def headCol (h : Fin 6) (d : Fin 128) : Fin 1024 := ⟨256 + 128 * h.val + d.val, by omega⟩

/-- The integer zero becomes the number zero. -/
theorem zero_val : FloatOps.sitofp (F := Ideal) .f32 (0#32) = (0 : EReal) := by simp [FloatOps.sitofp]

include hq in
/-- Queries or keys as laid out, at a head, a sequence and a position. -/
theorem headsLaid_eq (b : Fin 2) (h : Fin 6) (r : Fin 2048) (d : Fin 256) : headsLaid qa (ix3 h (seqRow b r) d) = (Attn.pad (head qr b h r) d : ℝ) := by
  unfold headsLaid seqRow
  pointwise
  have hb : 2048 * b.val + r.val < 4096 := by omega
  unfold Attn.pad
  by_cases hd : d.val < 192
  · rw [dif_pos ⟨hb, hd⟩, dif_pos hd, hq]; rfl
  · rw [dif_neg fun h' => hd h'.2, dif_neg hd, zero_val]; rfl

include hv in
/-- The values as laid out, at a head, a sequence and a position. -/
theorem valuesLaid_eq (b : Fin 2) (h : Fin 6) (r : Fin 2048) (d : Fin 128) : valuesLaid va (ix3 h (seqRow b r) d) = (head vr b h r d : ℝ) := by
  unfold valuesLaid seqRow
  pointwise
  rw [hv]; rfl

include hg in
/-- The arriving gradient as laid out, at a head, a sequence and a position. -/
theorem arrivingLaid_eq (b : Fin 2) (h : Fin 6) (r : Fin 2048) (d : Fin 128) : arrivingLaid ga (ix2 (seqRow b r) (headCol h d)) = (headOf gr b h r d : ℝ) := by
  unfold arrivingLaid seqRow headCol
  pointwise
  rw [dif_pos ⟨by omega, by omega, by omega⟩, hg]
  unfold headOf
  refine congrArg (fun k => ((gr (ix3 b r k) : ℝ) : EReal)) (Fin.ext ?_)
  show 256 + 128 * h.val + d.val - 256 = h.val * 128 + d.val
  omega

include hq hk hv in
/-- The output as laid out, at a head, a sequence and a position. -/
theorem outsLaid_eq (b : Fin 2) (h : Fin 6) (r : Fin 2048) (d : Fin 128) :
    outsLaid qa ka va (ix2 (seqRow b r) (headCol h d)) = (Attn.out (head qr b h) (head kr b h) (head vr b h) r d : ℝ) := by
  rw [← outs_eq hq hk hv]
  unfold outsLaid seqRow headCol
  pointwise
  rw [dif_pos ⟨by omega, by omega, by omega⟩]
  refine congrArg₂ (fun k l => outs qa ka va (ix4 b r k l)) (Fin.ext ?_) (Fin.ext ?_)
  · show (256 + 128 * h.val + d.val - 256) / 128 = h.val
    omega
  · show (256 + 128 * h.val + d.val - 256) % 128 = d.val
    omega

include hq hk in
/-- The log-sums as laid out, the same in every column. -/
theorem logsumsLaid_eq (b : Fin 2) (h : Fin 6) (r : Fin 2048) (d : Fin 128) :
    logsumsLaid qa ka (ix3 h (seqRow b r) d) = (Real.log (Attn.total (head qr b h) (head kr b h) r) : ℝ) := by
  rw [← logsums_eq hq hk b h r 0]
  unfold logsumsLaid seqRow
  pointwise

end Values

end Cert.KernelIdeal.Host

end
-- ==== Proof.Launch.lean ====
module

public import proofs.«01_k».proof.Proof.Tiles
public import proofs.«01_k».proof.Proof.HostVal
public import Idealize.ShloMosaic.Lib.Pipeline.ValueKit

@[expose] public section

set_option maxRecDepth 16384

noncomputable section

/-! # The launch's three result arrays

Each launch point works on one head of one sequence (`idx`); its input blocks hold that head's data (`holds`), so its
output blocks hold that head's gradients (`dq_at`, `dk_at`, `dv_at`). -/

namespace Cert.KernelIdeal.Launch

open Cert.KernelIdeal Cert.KernelIdeal.Gen Cert.KernelIdeal.Host Idealize.ShloMosaic Idealize.ShloMosaic.TcCoe Idealize.SL.Sem
open Idealize.ShloMosaic.Pipeline (Dat)

/-- The head `h` and the sequence `b` of a launch point. -/
theorem idx : ∀ t : Fin cfg0.N, ∃ (b : Fin 2) (h : Fin 6), win0_0.index t = ![h.val, b.val, 0] ∧ win0_1.index t = ![h.val, b.val, 0] ∧ win0_2.index t = ![h.val, b.val, 0]
    ∧ win0_3.index t = ![b.val, 2 + h.val] ∧ win0_4.index t = ![b.val, 2 + h.val] ∧ win0_5.index t = ![h.val, b.val, 0]
    ∧ win0_6.index t = ![h.val, b.val, 0] ∧ win0_7.index t = ![h.val, b.val, 0] ∧ win0_8.index t = ![h.val, b.val, 0] :=
  (by decide +kernel : ∀ t : Fin grid0.N, ∃ (b : Fin 2) (h : Fin 6), win0_0.index t = ![h.val, b.val, 0] ∧ win0_1.index t = ![h.val, b.val, 0] ∧ win0_2.index t = ![h.val, b.val, 0]
    ∧ win0_3.index t = ![b.val, 2 + h.val] ∧ win0_4.index t = ![b.val, 2 + h.val] ∧ win0_5.index t = ![h.val, b.val, 0]
    ∧ win0_6.index t = ![h.val, b.val, 0] ∧ win0_7.index t = ![h.val, b.val, 0] ∧ win0_8.index t = ![h.val, b.val, 0])

/-! A window's block at a point is the array's head `h`, sequence `b`. -/

section Blocks

variable (t : Fin cfg0.N) (b : Fin 2) (h : Fin 6)

/-- The block of the queries at a launch point is its head's rows of its sequence. -/
theorem read_0 (X : (⟨S6x4096x256, .bf16⟩ : BufTy).Contents (Elt Ideal)) (e : win0_0.index t = ![h.val, b.val, 0]) (r : Fin 2048) (d : Fin 256) :
    ((cfg0.win 0).blk t).view.read (Elt Ideal) X (ix3 0 r d) = X (ix3 h (seqRow b r) d) := by
  unfold seqRow
  blk_ext [e]

/-- The block of the keys at a launch point is its head's rows of its sequence. -/
theorem read_1 (X : (⟨S6x4096x256, .bf16⟩ : BufTy).Contents (Elt Ideal)) (e : win0_1.index t = ![h.val, b.val, 0]) (r : Fin 2048) (d : Fin 256) :
    ((cfg0.win 1).blk t).view.read (Elt Ideal) X (ix3 0 r d) = X (ix3 h (seqRow b r) d) := by
  unfold seqRow
  blk_ext [e]

/-- The block of the values at a launch point is its head's rows of its sequence. -/
theorem read_2 (X : (⟨S6x4096x128, .bf16⟩ : BufTy).Contents (Elt Ideal)) (e : win0_2.index t = ![h.val, b.val, 0]) (r : Fin 2048) (d : Fin 128) :
    ((cfg0.win 2).blk t).view.read (Elt Ideal) X (ix3 0 r d) = X (ix3 h (seqRow b r) d) := by
  unfold seqRow
  blk_ext [e]

/-- The block of the log-sums at a launch point is its head's rows of its sequence. -/
theorem read_5 (X : (⟨S6x4096x128, .f32⟩ : BufTy).Contents (Elt Ideal)) (e : win0_5.index t = ![h.val, b.val, 0]) (r : Fin 2048) (d : Fin 128) :
    ((cfg0.win 5).blk t).view.read (Elt Ideal) X (ix3 0 r d) = X (ix3 h (seqRow b r) d) := by
  unfold seqRow
  blk_ext [e]

/-- The block of the arriving gradient at a launch point is its head's rows of its sequence. -/
theorem read_3 (X : (⟨S4096x1024, .bf16⟩ : BufTy).Contents (Elt Ideal)) (e : win0_3.index t = ![b.val, 2 + h.val]) (r : Fin 2048) (d : Fin 128) :
    ((cfg0.win 3).blk t).view.read (Elt Ideal) X (ix2 r d) = X (ix2 (seqRow b r) (headCol h d)) := by
  unfold seqRow headCol
  blk_ext [e]

/-- The block of the output at a launch point is its head's rows of its sequence. -/
theorem read_4 (X : (⟨S4096x1024, .bf16⟩ : BufTy).Contents (Elt Ideal)) (e : win0_4.index t = ![b.val, 2 + h.val]) (r : Fin 2048) (d : Fin 128) :
    ((cfg0.win 4).blk t).view.read (Elt Ideal) X (ix2 r d) = X (ix2 (seqRow b r) (headCol h d)) := by
  unfold seqRow headCol
  blk_ext [e]

end Blocks

variable (m : (ℓ : Loc nD τ sig) → Buf (Elt Ideal) ℓ) (c : Dev nD)
variable {qr kr : S2x2048x6x192.Idx → ℝ} {vr : S2x2048x6x128.Idx → ℝ} {gr : S2x2048x768.Idx → ℝ}
variable (hq : ∀ i, m (c, Proc.tc.devRef main_arg0) i = ((qr i : ℝ) : EReal)) (hk : ∀ i, m (c, Proc.tc.devRef main_arg1) i = ((kr i : ℝ) : EReal))
variable (hv : ∀ i, m (c, Proc.tc.devRef main_arg2) i = ((vr i : ℝ) : EReal)) (hg : ∀ i, m (c, Proc.tc.devRef main_arg3) i = ((gr i : ℝ) : EReal))
include hq hk hv hg

/-- A launch point's blocks hold its head's data. -/
theorem holds (t : Fin cfg0.N) (b : Fin 2) (h : Fin 6) (e0 : win0_0.index t = ![h.val, b.val, 0]) (e1 : win0_1.index t = ![h.val, b.val, 0]) (e2 : win0_2.index t = ![h.val, b.val, 0])
    (e3 : win0_3.index t = ![b.val, 2 + h.val]) (e4 : win0_4.index t = ![b.val, 2 + h.val]) (e5 : win0_5.index t = ![h.val, b.val, 0]) :
    Tiles.Holds (iblk m c 0 t) (iblk m c 1 t) (iblk m c 2 t) (iblk m c 3 t) (iblk m c 4 t) (iblk m c 5 t) (head qr b h) (head kr b h) (head vr b h) (headOf gr b h) where
  queries r d := by
    rw [← headsLaid_eq hq b h r d, ← V_queries]
    exact read_0 t b h _ e0 r d
  keys r d := by
    rw [← headsLaid_eq hk b h r d, ← V_keys]
    exact read_1 t b h _ e1 r d
  values r d := by
    rw [← valuesLaid_eq hv b h r d, ← V_values]
    exact read_2 t b h _ e2 r d
  arriving r d := by
    rw [← arrivingLaid_eq hg b h r d, ← V_arriving]
    exact read_3 t b h _ e3 r d
  output r d := by
    rw [← outsLaid_eq hq hk hv b h r d, ← V_outs]
    exact read_4 t b h _ e4 r d
  logsums r := by
    rw [← logsumsLaid_eq hq hk b h r 0, ← V_logsums]
    exact read_5 t b h _ e5 r 0

omit hq hk hv hg in
/-- What a point leaves in its dq block. -/
theorem dq_block (t : Fin cfg0.N) (b : Fin 2) (h : Fin 6)
    (B : Tiles.Holds (iblk m c 0 t) (iblk m c 1 t) (iblk m c 2 t) (iblk m c 3 t) (iblk m c 4 t) (iblk m c 5 t) (head qr b h) (head kr b h) (head vr b h) (headOf gr b h))
    (r : Fin 2048) (d : Fin 256) : (outsAt0 m c t).1 (ix3 0 r d) = ((Attn.pad (Attn.gradQ (head qr b h) (head kr b h) (head vr b h) (headOf gr b h) r) d : ℝ) : EReal) := by
  have key := Tiles.dq_total B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) r d
  unfold outsAt0
  dsimp only
  with_reducible exact key

omit hq hk hv hg in
/-- What a point leaves in its dk block. -/
theorem dk_block (t : Fin cfg0.N) (b : Fin 2) (h : Fin 6)
    (B : Tiles.Holds (iblk m c 0 t) (iblk m c 1 t) (iblk m c 2 t) (iblk m c 3 t) (iblk m c 4 t) (iblk m c 5 t) (head qr b h) (head kr b h) (head vr b h) (headOf gr b h))
    (r : Fin 2048) (d : Fin 256) : (outsAt0 m c t).2.1 (ix3 0 r d) = ((Attn.pad (Attn.gradK (head qr b h) (head kr b h) (head vr b h) (headOf gr b h) r) d : ℝ) : EReal) := by
  have key := Tiles.dk_total B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) r d
  unfold outsAt0
  dsimp only
  with_reducible exact key

omit hq hk hv hg in
/-- What a point leaves in its dv block. -/
theorem dv_block (t : Fin cfg0.N) (b : Fin 2) (h : Fin 6)
    (B : Tiles.Holds (iblk m c 0 t) (iblk m c 1 t) (iblk m c 2 t) (iblk m c 3 t) (iblk m c 4 t) (iblk m c 5 t) (head qr b h) (head kr b h) (head vr b h) (headOf gr b h))
    (r : Fin 2048) (d : Fin 128) : (outsAt0 m c t).2.2 (ix3 0 r d) = ((Attn.gradV (head qr b h) (head kr b h) (headOf gr b h) r d : ℝ) : EReal) := by
  have key := Tiles.dv_total B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) r d
  unfold outsAt0
  dsimp only
  with_reducible exact key

/-- The first result array holds the queries' gradients. -/
theorem dq_at (G : (⟨S6x4096x256, .f32⟩ : BufTy).Contents (Elt Ideal)) (hG : ∀ b h r d, G (ix3 h (seqRow b r) d) = ((Attn.pad (Attn.gradQ (head qr b h) (head kr b h) (head vr b h) (headOf gr b h) r) d : ℝ) : EReal)) :
    (dats m 0 c).arrAt 6 cfg0.N = G := by
  refine (dats m 0 c).arrAt_eq_of_covers 6 _ (by decide +kernel) fun t _ y => ?_
  obtain ⟨b, h, e0, e1, e2, e3, e4, e5, e6, e7, e8⟩ := idx t
  have B := holds m c hq hk hv hg t b h e0 e1 e2 e3 e4 e5
  obtain ⟨r, d, rfl⟩ : ∃ (r : Fin 2048) (d : Fin 256), y = ix3 0 r d :=
    ⟨y 1, y 2, by funext k; fin_cases k <;> first | rfl | exact Subsingleton.elim (α := Fin 1) _ _⟩
  blk_simp
  have he : (win0_6.blk t).view.emb (ix3 0 r d) = ix3 h (seqRow b r) d := by
    unfold seqRow
    blk_ext [e6]
  rw [after0_6, he, hG]
  exact dq_block m c t b h B r d

/-- The second result array holds the keys' gradients. -/
theorem dk_at (G : (⟨S6x4096x256, .f32⟩ : BufTy).Contents (Elt Ideal)) (hG : ∀ b h r d, G (ix3 h (seqRow b r) d) = ((Attn.pad (Attn.gradK (head qr b h) (head kr b h) (head vr b h) (headOf gr b h) r) d : ℝ) : EReal)) :
    (dats m 0 c).arrAt 7 cfg0.N = G := by
  refine (dats m 0 c).arrAt_eq_of_covers 7 _ (by decide +kernel) fun t _ y => ?_
  obtain ⟨b, h, e0, e1, e2, e3, e4, e5, e6, e7, e8⟩ := idx t
  have B := holds m c hq hk hv hg t b h e0 e1 e2 e3 e4 e5
  obtain ⟨r, d, rfl⟩ : ∃ (r : Fin 2048) (d : Fin 256), y = ix3 0 r d :=
    ⟨y 1, y 2, by funext k; fin_cases k <;> first | rfl | exact Subsingleton.elim (α := Fin 1) _ _⟩
  blk_simp
  have he : (win0_7.blk t).view.emb (ix3 0 r d) = ix3 h (seqRow b r) d := by
    unfold seqRow
    blk_ext [e7]
  rw [after0_7, he, hG]
  exact dk_block m c t b h B r d

/-- The third result array holds the values' gradients. -/
theorem dv_at (G : (⟨S6x4096x128, .bf16⟩ : BufTy).Contents (Elt Ideal)) (hG : ∀ b h r d, G (ix3 h (seqRow b r) d) = ((Attn.gradV (head qr b h) (head kr b h) (headOf gr b h) r d : ℝ) : EReal)) :
    (dats m 0 c).arrAt 8 cfg0.N = G := by
  refine (dats m 0 c).arrAt_eq_of_covers 8 _ (by decide +kernel) fun t _ y => ?_
  obtain ⟨b, h, e0, e1, e2, e3, e4, e5, e6, e7, e8⟩ := idx t
  have B := holds m c hq hk hv hg t b h e0 e1 e2 e3 e4 e5
  obtain ⟨r, d, rfl⟩ : ∃ (r : Fin 2048) (d : Fin 128), y = ix3 0 r d :=
    ⟨y 1, y 2, by funext k; fin_cases k <;> first | rfl | exact Subsingleton.elim (α := Fin 1) _ _⟩
  blk_simp
  have he : (win0_8.blk t).view.emb (ix3 0 r d) = ix3 h (seqRow b r) d := by
    unfold seqRow
    blk_ext [e8]
  rw [after0_8, he, hG]
  exact dv_block m c t b h B r d

end Cert.KernelIdeal.Launch

end
-- ==== Proof.Grad.lean ====
module

public import proofs.«01_k».proof.Proof.Gen.ReferenceIdeal.Read
public import proofs.«01_k».proof.Proof.HostVal

@[expose] public section

set_option maxRecDepth 16384

noncomputable section

/-! # The reference's results are the gradients of `Proof.Attn` -/

namespace Cert.ReferenceIdeal.Grad

open Cert.ReferenceIdeal Cert.ReferenceIdeal.Gen Cert.ReferenceIdeal.Read Idealize.ShloMosaic Idealize.ShloMosaic.TcCoe Idealize.SL.Sem
open Cert.KernelIdeal.Host (head headOf seqRow logits maxima maxima1 exps totals probs scaleArr scaleArr_eq row_eq probs_eq zero_val neg_inf_val)

variable (qa ka : FVec Ideal S2x2048x6x192 .f32) (va : FVec Ideal S2x2048x6x128 .f32) (ga : FVec Ideal S2x2048x768 .f32)

/-- The reference's forward pass is the launch's. -/
theorem logits_eq : val_main_v13_0 (F := Ideal) qa ka = logits qa ka := rfl

/-- The larger of minus infinity and a number is the number. -/
theorem max_neg_inf (x y : FVec Ideal S2x6x2048 .f32) (hx : ∀ i, x i = (⊥ : EReal)) : maximumf x y = y :=
  funext fun i => show max (x i : EReal) (y i) = y i by rw [hx]; exact max_eq_right bot_le

/-- The reference's rows' largest logits are the ones that the kernel's host lines compute. -/
theorem maxima_eq : val_main_v21 (F := Ideal) qa ka = maxima qa ka := by
  unfold val_main_v21 val_main_v14
  rw [logits_eq]
  exact max_neg_inf _ _ fun _ => neg_inf_val

/-- The reference's exponentials are the ones that the kernel's host lines compute. -/
theorem exps_eq : val_main_v34 (F := Ideal) qa ka = exps qa ka := by
  unfold val_main_v34 val_main_v33 val_main_v32 val_main_v31
  rw [maxima_eq, logits_eq]
  rfl

/-- The reference's rows' sums are the ones that the kernel's host lines compute. -/
theorem totals_eq : val_main_v36 (F := Ideal) qa ka = totals qa ka := by
  unfold val_main_v36 val_main_v35
  rw [exps_eq]
  rfl

/-- The reference's probabilities are the ones that the kernel's host lines compute. -/
theorem probs_eq' : val_main_v38 (F := Ideal) qa ka = probs qa ka := by
  unfold val_main_v38 val_main_v37
  rw [totals_eq, exps_eq]
  rfl

/-- The arriving gradient multiplied with the values. -/
theorem parts_apply (b : Fin 2) (h : Fin 6) (r c : Fin 2048) : val_main_v47 (F := Ideal) va ga (ix4 b h r c)
    = ∑ d : Fin 128, (ga (ix3 b r ⟨h.val * 128 + d.val, by omega⟩) : EReal) * va (ix4 b c h d) := by
  unfold val_main_v47 val_main_v46 val_main_v45
  pointwise

/-- The row's sum that the gradient of a division takes, at one row. -/
theorem rowsum_apply (b : Fin 2) (h : Fin 6) (r : Fin 2048) : val_main_v53 (F := Ideal) qa ka va ga (ix3 b h r)
    = ∑ c, (val_main_v52 (F := Ideal) qa ka va ga (ix4 b h r c) : EReal) := by
  unfold val_main_v53 val_main_cst_12
  pointwise

/-- One term of that sum. -/
theorem weighted_apply (b : Fin 2) (h : Fin 6) (r c : Fin 2048) : val_main_v52 (F := Ideal) qa ka va ga (ix4 b h r c)
    = (val_main_v47 (F := Ideal) va ga (ix4 b h r c) : EReal) * Ideal.div 1 (totals qa ka (ix4 b h r 0) * totals qa ka (ix4 b h r 0)) * exps qa ka (ix4 b h r c) := by
  unfold val_main_v52 val_main_v51 val_main_v50 val_main_v41 val_main_v40 val_main_v39 val_main_cst_11
  rw [exps_eq, totals_eq]
  pointwise

/-- The gradient of an exponential, at one pair of rows. -/
theorem less_apply (b : Fin 2) (h : Fin 6) (r c : Fin 2048) : val_main_v59 (F := Ideal) qa ka va ga (ix4 b h r c)
    = -(val_main_v53 (F := Ideal) qa ka va ga (ix3 b h r) : EReal) := by
  unfold val_main_v59 val_main_v58 val_main_v55 val_main_v54 val_main_cst_13
  pointwise
  simp

/-- The gradient of an unscaled logit: zero where the mask hides it. -/
theorem scaled_apply (b : Fin 2) (h : Fin 6) (r c : Fin 2048) : val_main_v64 (F := Ideal) qa ka va ga (ix4 b h r c)
    = (if c.val ≤ r.val then (Ideal.div (val_main_v47 (F := Ideal) va ga (ix4 b h r c)) (totals qa ka (ix4 b h r 0)) + val_main_v59 (F := Ideal) qa ka va ga (ix4 b h r c)) * exps qa ka (ix4 b h r c) else 0) * ((Attn.scale : ℝ) : EReal) := by
  have hs : val_main_v3 (F := Ideal) = scaleArr := rfl
  unfold val_main_v64 val_main_v63 val_main_v62 val_main_call1_v0 val_main_call1_cst val_main_v61 val_main_v60 val_main_v57 val_main_v56
    val_main_v13_1 val_main_v12 val_main_v11 val_main_v10 val_main_v9 val_main_v8 val_main_v7 val_main_v6
  rw [exps_eq, totals_eq, hs]
  pointwise
  rw [scaleArr_eq, WordCmp.cmpi_sge_ofNat (by norm_num; omega) (by norm_num; omega)]
  by_cases hc : c.val ≤ r.val <;> simp [Scalar.select, hc]

/-- The gradient of a key is a sum over the queries. -/
theorem dk_apply (b : Fin 2) (h : Fin 6) (c : Fin 2048) (d : Fin 192) : val_main_v65 (F := Ideal) qa ka va ga (ix4 b h c d)
    = ∑ r, (val_main_v64 (F := Ideal) qa ka va ga (ix4 b h r c) : EReal) * qa (ix4 b r h d) := by
  unfold val_main_v65
  pointwise

/-- The gradient of a query is a sum over the keys. -/
theorem dq_apply (b : Fin 2) (h : Fin 6) (r : Fin 2048) (d : Fin 192) : val_main_v67 (F := Ideal) qa ka va ga (ix4 b h r d)
    = ∑ c, (val_main_v64 (F := Ideal) qa ka va ga (ix4 b h r c) : EReal) * ka (ix4 b c h d) := by
  unfold val_main_v67
  pointwise

/-- The gradient of a value is a sum over the queries, laid out head by head. -/
theorem dv_apply (b : Fin 2) (h : Fin 6) (c : Fin 2048) (d : Fin 128) : val_main_v77 (F := Ideal) qa ka ga (ix3 h (seqRow b c) d)
    = ∑ r, (ga (ix3 b r ⟨h.val * 128 + d.val, by omega⟩) : EReal) * probs qa ka (ix4 b h r c) := by
  unfold val_main_v77 val_main_v76 val_main_v75 val_main_v49 val_main_v48 val_main_v46 val_main_v45 seqRow
  rw [probs_eq']
  pointwise

/-- The query gradients as they are laid out: head by head, padded to 256 columns. -/
theorem dqLaid_apply (b : Fin 2) (h : Fin 6) (r : Fin 2048) (d : Fin 256) : val_main_v71 (F := Ideal) qa ka va ga (ix3 h (seqRow b r) d)
    = if hd : d.val < 192 then (val_main_v67 (F := Ideal) qa ka va ga (ix4 b h r ⟨d.val, hd⟩) : EReal) else 0 := by
  unfold val_main_v71 val_main_v70 val_main_v69 val_main_v68 val_main_call2_v0 val_main_c seqRow
  pointwise
  have hb : 2048 * b.val + r.val < 4096 := by omega
  by_cases hd : d.val < 192
  · rw [dif_pos ⟨hb, hd⟩, dif_pos hd]
  · rw [dif_neg fun h' => hd h'.2, dif_neg hd, zero_val]

/-- The key gradients as they are laid out: head by head, padded to 256 columns. -/
theorem dkLaid_apply (b : Fin 2) (h : Fin 6) (r : Fin 2048) (d : Fin 256) : val_main_v74 (F := Ideal) qa ka va ga (ix3 h (seqRow b r) d)
    = if hd : d.val < 192 then (val_main_v65 (F := Ideal) qa ka va ga (ix4 b h r ⟨d.val, hd⟩) : EReal) else 0 := by
  unfold val_main_v74 val_main_v73 val_main_v72 val_main_v66 val_main_call3_v0 val_main_c_14 seqRow
  pointwise
  have hb : 2048 * b.val + r.val < 4096 := by omega
  by_cases hd : d.val < 192
  · rw [dif_pos ⟨hb, hd⟩, dif_pos hd]
  · rw [dif_neg fun h' => hd h'.2, dif_neg hd, zero_val]

/-! ## Over real arguments -/

section Values

variable {qa ka va ga}
variable {qr kr : S2x2048x6x192.Idx → ℝ} {vr : S2x2048x6x128.Idx → ℝ} {gr : S2x2048x768.Idx → ℝ}
variable (hq : ∀ i, qa i = (qr i : ℝ)) (hk : ∀ i, ka i = (kr i : ℝ)) (hv : ∀ i, va i = (vr i : ℝ)) (hg : ∀ i, ga i = (gr i : ℝ))

/-- The gradient of a softmax's logit, from the exponentials `E`, their sum `L` and the probabilities' gradients `D`. -/
theorem softmax_grad (E D : Fin 2048 → ℝ) (L : ℝ) (c : Fin 2048) :
    (D c * (1 / L) + -(∑ j, D j * (1 / (L * L)) * E j)) * E c = E c / L * (D c - ∑ j, E j / L * D j) := by
  have : ∑ j, D j * (1 / (L * L)) * E j = (∑ j, E j / L * D j) / L := by
    rw [Finset.sum_div]
    exact Finset.sum_congr rfl fun j _ => by ring
  rw [this]
  ring

include hv hg in
/-- The gradient of a probability is the product of the arriving gradient with the value. -/
theorem parts_eq (b : Fin 2) (h : Fin 6) (r c : Fin 2048) : val_main_v47 (F := Ideal) va ga (ix4 b h r c) = (Attn.part (head vr b h) (headOf gr b h) r c : ℝ) := by
  rw [parts_apply]
  simp only [hv, hg, ← EReal.coe_mul, ← Attn.coe_sum]
  rfl

include hq hk hv hg in
/-- The gradient of an unscaled logit, over the reals. -/
theorem scaled_eq (b : Fin 2) (h : Fin 6) (r c : Fin 2048) : val_main_v64 (F := Ideal) qa ka va ga (ix4 b h r c)
    = ((Attn.dscore (head qr b h) (head kr b h) (head vr b h) (headOf gr b h) r c * Attn.scale : ℝ) : EReal) := by
  obtain ⟨μ, _, he, ht⟩ := row_eq hq hk b h r
  have hp : ∀ x, Attn.weight (head qr b h) (head kr b h) r x * Real.exp (-μ) / (Attn.total (head qr b h) (head kr b h) r * Real.exp (-μ)) = Attn.prob (head qr b h) (head kr b h) r x :=
    fun x => mul_div_mul_right _ _ (Real.exp_pos _).ne'
  have hn := Attn.total_exp_ne (head qr b h) (head kr b h) r μ
  rw [scaled_apply, less_apply, rowsum_apply]
  simp only [weighted_apply, parts_eq hv hg, he, ht]
  simp only [← EReal.coe_mul, Ideal.div_coe hn, Ideal.div_coe (mul_ne_zero hn hn), ← Attn.coe_sum, ← EReal.coe_neg, ← EReal.coe_add, one_mul]
  split
  · rename_i hc
    rw [← EReal.coe_mul]
    refine congrArg (fun x : ℝ => ((x * Attn.scale : ℝ) : EReal)) ?_
    have key := softmax_grad (fun x => Attn.weight (head qr b h) (head kr b h) r x * Real.exp (-μ)) (fun x => Attn.part (head vr b h) (headOf gr b h) r x)
      (Attn.total (head qr b h) (head kr b h) r * Real.exp (-μ)) c
    simp only [hp] at key
    exact key
  · rename_i hc
    rw [Attn.dscore_later _ _ _ _ _ _ (by omega)]
    simp

include hq hk hv hg in
/-- The first result holds the queries' gradients. -/
theorem dq_eq (b : Fin 2) (h : Fin 6) (r : Fin 2048) (d : Fin 256) : val_main_v71 (F := Ideal) qa ka va ga (ix3 h (seqRow b r) d)
    = (Attn.pad (Attn.gradQ (head qr b h) (head kr b h) (head vr b h) (headOf gr b h) r) d : ℝ) := by
  rw [dqLaid_apply]
  unfold Attn.pad
  by_cases hd : d.val < 192
  · rw [dif_pos hd, dif_pos hd, dq_apply]
    simp only [scaled_eq hq hk hv hg, hk, ← EReal.coe_mul, ← Attn.coe_sum]
    rfl
  · rw [dif_neg hd, dif_neg hd]; rfl

include hq hk hv hg in
/-- The second result holds the keys' gradients. -/
theorem dk_eq (b : Fin 2) (h : Fin 6) (r : Fin 2048) (d : Fin 256) : val_main_v74 (F := Ideal) qa ka va ga (ix3 h (seqRow b r) d)
    = (Attn.pad (Attn.gradK (head qr b h) (head kr b h) (head vr b h) (headOf gr b h) r) d : ℝ) := by
  rw [dkLaid_apply]
  unfold Attn.pad
  by_cases hd : d.val < 192
  · rw [dif_pos hd, dif_pos hd, dk_apply]
    simp only [scaled_eq hq hk hv hg, hq, ← EReal.coe_mul, ← Attn.coe_sum]
    rfl
  · rw [dif_neg hd, dif_neg hd]; rfl

include hq hk hg in
/-- The third result holds the values' gradients. -/
theorem dv_eq (b : Fin 2) (h : Fin 6) (r : Fin 2048) (d : Fin 128) : val_main_v77 (F := Ideal) qa ka ga (ix3 h (seqRow b r) d)
    = (Attn.gradV (head qr b h) (head kr b h) (headOf gr b h) r d : ℝ) := by
  rw [dv_apply]
  simp only [probs_eq hq hk, hg, ← EReal.coe_mul, ← Attn.coe_sum]
  unfold Attn.gradV headOf
  exact congrArg Real.toEReal (Finset.sum_congr rfl fun x _ => mul_comm _ _)

end Values

end Cert.ReferenceIdeal.Grad

end
-- ==== Proof.Shards.lean ====
module

public import Idealize.ShloMosaic.Lib.Pipeline.ValueKit
public import Idealize.ShloMosaic.Lib.Pointwise

@[expose] public section

noncomputable section

/-! # The hidden columns in shards

The 2816 hidden columns lie in four shards of 704. An array whose first axis is the shard is stored plane by plane. -/

namespace Cert.Shards

open Idealize.ShloMosaic

/-- The hidden column at place `r` of shard `j`. -/
def col (j : Fin 4) (r : Fin 704) : Fin 2816 := ⟨j.val * 704 + r.val, by omega⟩

/-- An array over the hidden columns as the launches take it: shard by shard. -/
def laid (a : FVec Ideal ⟨2, ![4096, 2816]⟩ .f32) : FVec Ideal ⟨3, ![4, 4096, 704]⟩ .bf16 := fun i => a (ix2 (i 1) (col (i 0) (i 2)))

/-- The host's operations lay an array out so. -/
theorem laid_eq (a : FVec Ideal ⟨2, ![4096, 2816]⟩ .f32) (hc : (⟨2, ![4096, 2816]⟩ : Shape).ShapeCasts ⟨3, ![4096, 4, 704]⟩)
    (ht : (⟨3, ![4096, 4, 704]⟩ : Shape).Transposes [1, 0, 2] ⟨3, ![4, 4096, 704]⟩) (hb : FTy.bits .bf16 < FTy.bits .f32) :
    truncf .bf16 (transpose ⟨3, ![4, 4096, 704]⟩ [1, 0, 2] (shapeCast ⟨3, ![4096, 4, 704]⟩ a hc) ht) hb = laid a := by
  funext i
  obtain ⟨j, k, r, rfl⟩ : ∃ (j : Fin 4) (k : Fin 4096) (r : Fin 704), i = ix3 j k r := ⟨i 0, i 1, i 2, by funext q; fin_cases q <;> rfl⟩
  pointwise
  rfl

/-- A weight whose rows are the hidden columns, cut into the shards. -/
def cut (a : FVec Ideal ⟨2, ![2816, 1024]⟩ .f32) : FVec Ideal ⟨3, ![4, 704, 1024]⟩ .bf16 := fun i => a (ix2 (col (i 0) (i 1)) (i 2))

/-- The host's operations cut a weight so. -/
theorem cut_eq (a : FVec Ideal ⟨2, ![2816, 1024]⟩ .f32) (hc : (⟨2, ![2816, 1024]⟩ : Shape).ShapeCasts ⟨3, ![4, 704, 1024]⟩) (hb : FTy.bits .bf16 < FTy.bits .f32) :
    truncf .bf16 (shapeCast ⟨3, ![4, 704, 1024]⟩ a hc) hb = cut a := by
  funext i
  obtain ⟨j, r, d, rfl⟩ : ∃ (j : Fin 4) (r : Fin 704) (d : Fin 1024), i = ix3 j r d := ⟨i 0, i 1, i 2, by funext q; fin_cases q <;> rfl⟩
  pointwise
  rfl

/-- A weight whose columns are the hidden columns, transposed and cut into the shards. -/
def turned (w : FVec Ideal ⟨2, ![1024, 2816]⟩ .f32) : FVec Ideal ⟨3, ![4, 704, 1024]⟩ .bf16 := fun i => w (ix2 (i 2) (col (i 0) (i 1)))

/-- The host's operations turn a weight so. -/
theorem turned_eq (w : FVec Ideal ⟨2, ![1024, 2816]⟩ .f32) (ht : (⟨2, ![1024, 2816]⟩ : Shape).Transposes [1, 0] ⟨2, ![2816, 1024]⟩) (hc : (⟨2, ![2816, 1024]⟩ : Shape).ShapeCasts ⟨3, ![4, 704, 1024]⟩) (hb : FTy.bits .bf16 < FTy.bits .f32) :
    truncf .bf16 (shapeCast ⟨3, ![4, 704, 1024]⟩ (transpose ⟨2, ![2816, 1024]⟩ [1, 0] w ht) hc) hb = turned w := by
  funext i
  obtain ⟨j, r, d, rfl⟩ : ∃ (j : Fin 4) (r : Fin 704) (d : Fin 1024), i = ix3 j r d := ⟨i 0, i 1, i 2, by funext q; fin_cases q <;> rfl⟩
  pointwise
  rfl

variable {Val : EltTy → Type} [∀ e, Nonempty (Val e)] {e : EltTy} {W n a : ℕ}

/-- An index on a stored plane reads the plane's payload. -/
theorem plane_hit (inb : ∀ k, (![a, 0, 0] : Fin 3 → ℕ) k + (![1, n, W] : Fin 3 → ℕ) k ≤ (⟨3, ![4, n, W]⟩ : Shape).size k)
    (w : (⟨3, ![1, n, W]⟩ : Shape).Idx → Val e) (L : List (View.Piece Val (⟨3, ![4, n, W]⟩ : Shape) e))
    (j : Fin 4) (hj : j.val = a) (r : Fin n) (d : Fin W) :
    View.canon ((⟨Rect.unit ![a, 0, 0] ![1, n, W] inb, w⟩ : View.Piece Val (⟨3, ![4, n, W]⟩ : Shape) e) :: L) (ix3 j r d) = w (ix3 0 r d) := by
  have he : (ix3 j r d : (⟨3, ![4, n, W]⟩ : Shape).Idx) = (Rect.unit (s := ⟨3, ![4, n, W]⟩) ![a, 0, 0] ![1, n, W] inb).emb (ix3 0 r d) := by
    funext k; apply Fin.ext; rw [Rect.emb_apply]; fin_cases k <;> simp [hj]
  rw [he]; exact View.canon_cons_emb _ _ _ _

/-- An index off a stored plane reads what the earlier pieces left. -/
theorem plane_miss (inb : ∀ k, (![a, 0, 0] : Fin 3 → ℕ) k + (![1, n, W] : Fin 3 → ℕ) k ≤ (⟨3, ![4, n, W]⟩ : Shape).size k)
    (w : (⟨3, ![1, n, W]⟩ : Shape).Idx → Val e) (L : List (View.Piece Val (⟨3, ![4, n, W]⟩ : Shape) e))
    (j : Fin 4) (hj : j.val ≠ a) (r : Fin n) (d : Fin W) :
    View.canon ((⟨Rect.unit ![a, 0, 0] ![1, n, W] inb, w⟩ : View.Piece Val (⟨3, ![4, n, W]⟩ : Shape) e) :: L) (ix3 j r d) = View.canon L (ix3 j r d) := by
  refine View.canon_cons_of_not_mem _ _ fun hm => ?_
  have hm' : ix3 j r d ∈ (Rect.unit (s := ⟨3, ![4, n, W]⟩) ![a, 0, 0] ![1, n, W] inb).set := hm
  have h := Rect.mem_set_unit.mp hm' 0
  simp only [ix3_0, Matrix.cons_val_zero] at h
  omega

/-- A stored run of rows reads back as what was stored. -/
theorem run_hit {N : ℕ} (inb : ∀ k, (![a, 0] : Fin 2 → ℕ) k + (![n, W] : Fin 2 → ℕ) k ≤ (⟨2, ![N, W]⟩ : Shape).size k)
    (w : (⟨2, ![n, W]⟩ : Shape).Idx → Val e) (L : List (View.Piece Val (⟨2, ![N, W]⟩ : Shape) e))
    (q : Fin N) (r : Fin n) (hq : q.val = a + r.val) (d : Fin W) :
    View.canon ((⟨Rect.unit ![a, 0] ![n, W] inb, w⟩ : View.Piece Val (⟨2, ![N, W]⟩ : Shape) e) :: L) (ix2 q d) = w (ix2 r d) := by
  have he : (ix2 q d : (⟨2, ![N, W]⟩ : Shape).Idx) = (Rect.unit (s := ⟨2, ![N, W]⟩) ![a, 0] ![n, W] inb).emb (ix2 r d) := by
    funext k; apply Fin.ext; rw [Rect.emb_apply]; fin_cases k <;> simp [hq]
  rw [he]; exact View.canon_cons_emb _ _ _ _

/-- A row before a stored run of rows reads what the earlier pieces left. -/
theorem run_miss {N : ℕ} (inb : ∀ k, (![a, 0] : Fin 2 → ℕ) k + (![n, W] : Fin 2 → ℕ) k ≤ (⟨2, ![N, W]⟩ : Shape).size k)
    (w : (⟨2, ![n, W]⟩ : Shape).Idx → Val e) (L : List (View.Piece Val (⟨2, ![N, W]⟩ : Shape) e))
    (q : Fin N) (hq : q.val < a) (d : Fin W) :
    View.canon ((⟨Rect.unit ![a, 0] ![n, W] inb, w⟩ : View.Piece Val (⟨2, ![N, W]⟩ : Shape) e) :: L) (ix2 q d) = View.canon L (ix2 q d) := by
  refine View.canon_cons_of_not_mem _ _ fun hm => ?_
  have hm' : ix2 q d ∈ (Rect.unit (s := ⟨2, ![N, W]⟩) ![a, 0] ![n, W] inb).set := hm
  have h := Rect.mem_set_unit.mp hm' 0
  simp only [ix2_0, Matrix.cons_val_zero] at h
  omega

/-- A stored band of columns reads back as what was stored. -/
theorem band_hit {N M : ℕ} (inb : ∀ k, (![0, a] : Fin 2 → ℕ) k + (![N, W] : Fin 2 → ℕ) k ≤ (⟨2, ![N, M]⟩ : Shape).size k)
    (w : (⟨2, ![N, W]⟩ : Shape).Idx → Val e) (L : List (View.Piece Val (⟨2, ![N, M]⟩ : Shape) e))
    (q : Fin N) (d : Fin M) (r : Fin W) (hd : d.val = a + r.val) :
    View.canon ((⟨Rect.unit ![0, a] ![N, W] inb, w⟩ : View.Piece Val (⟨2, ![N, M]⟩ : Shape) e) :: L) (ix2 q d) = w (ix2 q r) := by
  have he : (ix2 q d : (⟨2, ![N, M]⟩ : Shape).Idx) = (Rect.unit (s := ⟨2, ![N, M]⟩) ![0, a] ![N, W] inb).emb (ix2 q r) := by
    funext k; apply Fin.ext; rw [Rect.emb_apply]; fin_cases k <;> simp [hd]
  rw [he]; exact View.canon_cons_emb _ _ _ _

/-- A column before a stored band of columns reads what the earlier pieces left. -/
theorem band_miss {N M : ℕ} (inb : ∀ k, (![0, a] : Fin 2 → ℕ) k + (![N, W] : Fin 2 → ℕ) k ≤ (⟨2, ![N, M]⟩ : Shape).size k)
    (w : (⟨2, ![N, W]⟩ : Shape).Idx → Val e) (L : List (View.Piece Val (⟨2, ![N, M]⟩ : Shape) e))
    (q : Fin N) (d : Fin M) (hd : d.val < a) :
    View.canon ((⟨Rect.unit ![0, a] ![N, W] inb, w⟩ : View.Piece Val (⟨2, ![N, M]⟩ : Shape) e) :: L) (ix2 q d) = View.canon L (ix2 q d) := by
  refine View.canon_cons_of_not_mem _ _ fun hm => ?_
  have hm' : ix2 q d ∈ (Rect.unit (s := ⟨2, ![N, M]⟩) ![0, a] ![N, W] inb).set := hm
  have h := Rect.mem_set_unit.mp hm' 1
  simp only [ix2_1, Matrix.cons_val_one, Matrix.cons_val_zero] at h
  omega

/-- A load of one plane reads what the pieces left there. -/
theorem plane_read {sig : RefSig} {κ : Kind} {sp : Space} (v : View sig κ sp (⟨3, ![4, n, W]⟩ : Shape) e)
    (inb : ∀ k, (![a, 0, 0] : Fin 3 → ℕ) k + (![1, n, W] : Fin 3 → ℕ) k ≤ (⟨3, ![4, n, W]⟩ : Shape).size k)
    (L : List (View.Piece Val (⟨3, ![4, n, W]⟩ : Shape) e)) (j : Fin 4) (hj : j.val = a) (r : Fin n) (d : Fin W) :
    v.readCov L (Rect.unit (s := ⟨3, ![4, n, W]⟩) ![a, 0, 0] ![1, n, W] inb).toLoadRect (ix3 0 r d) = View.canon L (ix3 j r d) := by
  rw [View.readCov_eq_canon']
  refine congrArg (View.canon L) ?_
  funext k; apply Fin.ext; rw [LoadRect.idx_apply]; fin_cases k <;> simp [hj]

/-- A load of the whole array reads what the pieces left. -/
theorem whole_read {sig : RefSig} {κ : Kind} {sp : Space} (v : View sig κ sp (⟨3, ![4, n, W]⟩ : Shape) e)
    (inb : ∀ k, (![0, 0, 0] : Fin 3 → ℕ) k + (![4, n, W] : Fin 3 → ℕ) k ≤ (⟨3, ![4, n, W]⟩ : Shape).size k)
    (L : List (View.Piece Val (⟨3, ![4, n, W]⟩ : Shape) e)) (i : (⟨3, ![4, n, W]⟩ : Shape).Idx) :
    v.readCov L (Rect.unit (s := ⟨3, ![4, n, W]⟩) ![0, 0, 0] ![4, n, W] inb).toLoadRect i = View.canon L i := by
  rw [View.readCov_eq_canon']
  refine congrArg (View.canon L) ?_
  funext k; apply Fin.ext; rw [LoadRect.idx_apply]; fin_cases k <;> simp

end Cert.Shards

end
-- ==== Proof.Grads.lean ====
module

public import proofs.«01_k».proof.Proof.Gen.WeightIdeal.Value
public import proofs.«01_k».proof.Proof.Shards
public import Idealize.ShloMosaic.Lib.Pipeline.ValueKit
public import Idealize.ShloMosaic.Lib.StableHlo.ReadAt

@[expose] public section

set_option maxRecDepth 16384

noncomputable section

/-! # A weight's gradient, accumulated over the rows

The launch walks the 4096 rows in four blocks of 1024. At each point the product of the block's hidden columns with the
block's rows is added to the accumulator, shard by shard; the last point writes the accumulator back. -/

namespace Cert.WeightIdeal.Grads

open Cert.Shards
open Cert.WeightIdeal Cert.WeightIdeal.Gen Idealize.ShloMosaic Idealize.ShloMosaic.TcCoe Idealize.SL.Sem
open Idealize.ShloMosaic.Pipeline (Dat)

/-! ## What one point does to the accumulator -/

section Point

variable (c : Dev nD) (i : grid0.Coords) (arg1 : Memref sig .tc .vmem S4x1024x704 .bf16) (harg1 : arg1.IsWhole) (arg2 : Memref sig .tc .vmem S1024x1024 .bf16) (harg2 : arg2.IsWhole) (arg3 : Memref sig .tc .vmem S4x704x1024 .bf16) (harg3 : arg3.IsWhole) (arg4 : Memref sig .tc .vmem S4x704x1024 .f32) (harg4 : arg4.IsWhole)
  (x0 : Vec Ideal S4x1024x704 .bf16) (x1 : Vec Ideal S1024x1024 .bf16) (xs0 : Vec Ideal S4x704x1024 .f32)

/-- What a block of rows adds to the gradient at hidden column `r` of shard `j` and column `d`. -/
def part (j : Fin 4) (r : Fin 704) (d : Fin 1024) : EReal := ∑ k : Fin 1024, (x0 (ix3 j k r) : EReal) * x1 (ix2 k d)

/-- The zero stored first, at an index. -/
theorem zero_apply (i : S4x704x1024.Idx) : k0_pay4 (F := Ideal) i = 0 := by
  unfold k0_pay4
  pointwise

attribute [local pointwise] k0_pay1 k0_pay2 k0_pay3 k0_pay5 k0_pay6 k0_pay7

/-- The first point leaves its block's part. -/
theorem first (hc0 : cond0_0 i) (hc1 : ¬cond0_1 i) (j : Fin 4) (r : Fin 704) (d : Fin 1024) :
    sout0_A_0 c i arg1 harg1 arg2 harg2 arg3 harg3 arg4 harg4 hc0 hc1 x0 x1 (ix3 j r d) = 0 + part x0 x1 j r d := by
  frame_out
  unfold part
  obtain rfl | rfl | rfl | rfl : j = 0 ∨ j = 1 ∨ j = 2 ∨ j = 3 := by fin_cases j <;> simp
  · rw [plane_miss _ _ _ _ (by decide), plane_miss _ _ _ _ (by decide), plane_miss _ _ _ _ (by decide), plane_hit _ _ _ _ (by rfl)]
    pointwise
    rw [plane_read _ _ _ 0 (by rfl), View.canon_cons_unit_lit _ _ _ (by decide), zero_apply, zero_add]
  · rw [plane_miss _ _ _ _ (by decide), plane_miss _ _ _ _ (by decide), plane_hit _ _ _ _ (by rfl)]
    pointwise
    rw [plane_read _ _ _ 1 (by rfl), plane_miss _ _ _ _ (by decide), View.canon_cons_unit_lit _ _ _ (by decide), zero_apply, zero_add]
  · rw [plane_miss _ _ _ _ (by decide), plane_hit _ _ _ _ (by rfl)]
    pointwise
    rw [plane_read _ _ _ 2 (by rfl), plane_miss _ _ _ _ (by decide), plane_miss _ _ _ _ (by decide), View.canon_cons_unit_lit _ _ _ (by decide), zero_apply, zero_add]
  · rw [plane_hit _ _ _ _ (by rfl)]
    pointwise
    rw [plane_read _ _ _ 3 (by rfl), plane_miss _ _ _ _ (by decide), plane_miss _ _ _ _ (by decide), plane_miss _ _ _ _ (by decide), View.canon_cons_unit_lit _ _ _ (by decide), zero_apply, zero_add]

/-- A later point adds its block's part. -/
theorem next (hc0 : ¬cond0_0 i) (hc1 : ¬cond0_1 i) (j : Fin 4) (r : Fin 704) (d : Fin 1024) :
    sout0_B_0 c i arg1 harg1 arg2 harg2 arg3 harg3 arg4 harg4 hc0 hc1 x0 x1 xs0 (ix3 j r d) = xs0 (ix3 j r d) + part x0 x1 j r d := by
  frame_out
  unfold part
  obtain rfl | rfl | rfl | rfl : j = 0 ∨ j = 1 ∨ j = 2 ∨ j = 3 := by fin_cases j <;> simp
  · rw [plane_miss _ _ _ _ (by decide), plane_miss _ _ _ _ (by decide), plane_miss _ _ _ _ (by decide), plane_hit _ _ _ _ (by rfl)]
    pointwise
  · rw [plane_miss _ _ _ _ (by decide), plane_miss _ _ _ _ (by decide), plane_hit _ _ _ _ (by rfl)]
    pointwise
  · rw [plane_miss _ _ _ _ (by decide), plane_hit _ _ _ _ (by rfl)]
    pointwise
  · rw [plane_hit _ _ _ _ (by rfl)]
    pointwise

/-- So does the last. -/
theorem last (hc0 : ¬cond0_0 i) (hc1 : cond0_1 i) (j : Fin 4) (r : Fin 704) (d : Fin 1024) :
    sout0_C_0 c i arg1 harg1 arg2 harg2 arg3 harg3 arg4 harg4 hc0 hc1 x0 x1 xs0 (ix3 j r d) = xs0 (ix3 j r d) + part x0 x1 j r d := by
  frame_out
  unfold part
  obtain rfl | rfl | rfl | rfl : j = 0 ∨ j = 1 ∨ j = 2 ∨ j = 3 := by fin_cases j <;> simp
  · rw [plane_miss _ _ _ _ (by decide), plane_miss _ _ _ _ (by decide), plane_miss _ _ _ _ (by decide), plane_hit _ _ _ _ (by rfl)]
    pointwise
  · rw [plane_miss _ _ _ _ (by decide), plane_miss _ _ _ _ (by decide), plane_hit _ _ _ _ (by rfl)]
    pointwise
  · rw [plane_miss _ _ _ _ (by decide), plane_hit _ _ _ _ (by rfl)]
    pointwise
  · rw [plane_hit _ _ _ _ (by rfl)]
    pointwise

/-- What the last point writes back is what it leaves in the accumulator. -/
theorem written (hc0 : ¬cond0_0 i) (hc1 : cond0_1 i) (z : S4x704x1024.Idx) :
    out0_C_2 c i arg1 harg1 arg2 harg2 arg3 harg3 arg4 harg4 hc0 hc1 x0 x1 xs0 z = sout0_C_0 c i arg1 harg1 arg2 harg2 arg3 harg3 arg4 harg4 hc0 hc1 x0 x1 xs0 z := by
  frame_out
  unfold k0_pay3
  rw [shapeCast_self]
  exact whole_read _ _ _ z

end Point

/-! ## The launch -/

variable (m : (ℓ : Loc nD τ sig) → Buf (Elt Ideal) ℓ) (c : Dev nD)

/-- The launch's first operand holds the hidden columns. -/
theorem V_hidden : V m c main_v2 = laid (m (c, Proc.tc.devRef main_arg0)) := by
  unfold V
  after_reads_simp
  exact laid_eq _ _ _ _

/-- The launch's second operand holds the rows. -/
theorem V_rows : V m c main_v3 = (truncf .bf16 (m (c, Proc.tc.devRef main_arg1) : FVec Ideal S4096x1024 .f32) bitsLt_bf16_f32 : FVec Ideal S4096x1024 .bf16) := by
  unfold V
  after_reads_simp

/-- The block of the hidden columns a point works on. -/
theorem idx0 : ∀ t : Fin cfg0.N, win0_0.index t = ![0, t.val, 0] := (by decide +kernel : ∀ t : Fin grid0.N, win0_0.index t = ![0, t.val, 0])

/-- The block of the rows a point works on. -/
theorem idx1 : ∀ t : Fin cfg0.N, win0_1.index t = ![t.val, 0] := (by decide +kernel : ∀ t : Fin grid0.N, win0_1.index t = ![t.val, 0])

/-- The block of the gradient is the whole array at every point. -/
theorem idx2 : ∀ t : Fin cfg0.N, win0_2.index t = ![0, 0, 0] := (by decide +kernel : ∀ t : Fin grid0.N, win0_2.index t = ![0, 0, 0])

/-- The block of the hidden columns at a point holds its 1024 rows. -/
theorem read_0 (t : Fin cfg0.N) (X : (⟨S4x4096x704, .bf16⟩ : BufTy).Contents (Elt Ideal)) (j : Fin 4) (k : Fin 1024) (r : Fin 704) (hl : t.val * 1024 + k.val < 4096) :
    ((cfg0.win 0).blk t).view.read (Elt Ideal) X (ix3 j k r) = X (ix3 j ⟨t.val * 1024 + k.val, hl⟩ r) := by
  blk_ext [idx0 t]

/-- The block of the rows at a point holds its 1024 rows. -/
theorem read_1 (t : Fin cfg0.N) (X : (⟨S4096x1024, .bf16⟩ : BufTy).Contents (Elt Ideal)) (k : Fin 1024) (d : Fin 1024) (hl : t.val * 1024 + k.val < 4096) :
    ((cfg0.win 1).blk t).view.read (Elt Ideal) X (ix2 k d) = X (ix2 ⟨t.val * 1024 + k.val, hl⟩ d) := by
  blk_ext [idx1 t]

/-- The accumulator after the first point. -/
theorem acc_first (t : Fin cfg0.N) (h : t.val % 4 = 0) (j : Fin 4) (r : Fin 704) (d : Fin 1024) :
    (outsAt0 m c t.val t.isLt).2 (ix3 j r d) = 0 + part (iblk m c 0 t) (iblk m c 1 t) j r d := by
  have h1 : ¬t.val % 4 = 3 := by omega
  have key := first c (grid0.coords t) (ms0_0 t) (hs0_0 t) (ms0_1 t) (hs0_1 t) (ms0_2 t) (hs0_2 t) scM0_0 (Memref.isWhole_whole _) (iblk m c 0 t) (iblk m c 1 t) ((hcond0_0 t).mpr h) (fun h => h1 ((hcond0_1 t).mp h)) j r d
  rw [outsAt0_A m c t h h1]
  with_reducible exact key

/-- The accumulator after a later point, over what the point before left. -/
theorem acc_next (t : Fin cfg0.N) (h : ¬t.val % 4 = 0) (j : Fin 4) (r : Fin 704) (d : Fin 1024) :
    (outsAt0 m c t.val t.isLt).2 (ix3 j r d) = (outsAt0 m c (t.val - 1) (Nat.lt_of_le_of_lt (Nat.sub_le _ _) t.isLt)).2 (ix3 j r d) + part (iblk m c 0 t) (iblk m c 1 t) j r d := by
  by_cases h1 : t.val % 4 = 3
  · have key := last c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h' => h ((hcond0_0 t).mp h')) ((hcond0_1 t).mpr h1) j r d
    rw [outsAt0_C m c t h h1]
    with_reducible exact key
  · have key := next c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h' => h ((hcond0_0 t).mp h')) (fun h => h1 ((hcond0_1 t).mp h)) j r d
    rw [outsAt0_B m c t h h1]
    with_reducible exact key

/-- What the last point writes back is what it leaves in the accumulator. -/
theorem out_last (t : Fin cfg0.N) (h1 : t.val % 4 = 3) (z : S4x704x1024.Idx) : (outsAt0 m c t.val t.isLt).1 z = (outsAt0 m c t.val t.isLt).2 z := by
  have h : ¬t.val % 4 = 0 := by omega
  have key := written c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h' => h ((hcond0_0 t).mp h')) ((hcond0_1 t).mpr h1) z
  rw [outsAt0_C m c t h h1]
  with_reducible exact key

/-- After the last point the accumulator holds the sum of the four blocks' parts. -/
theorem acc_last (t : Fin cfg0.N) (ht : t.val + 1 = cfg0.N) (j : Fin 4) (r : Fin 704) (d : Fin 1024) :
    (outsAt0 m c t.val t.isLt).2 (ix3 j r d) = ∑ p : Fin cfg0.N, part (iblk m c 0 p) (iblk m c 1 p) j r d := by
  have h := Pipeline.eq_sum_fin_of_reset_step_apply_last (fun n h (z : Fin 4 × Fin 704 × Fin 1024) => (outsAt0 m c n h).2 (ix3 z.1 z.2.1 z.2.2)) 4 (fun _ => (0 : EReal))
    (fun p z => part (iblk m c 0 p) (iblk m c 1 p) z.1 z.2.1 z.2.2)
    (fun t h z => acc_first m c t h z.1 z.2.1 z.2.2) (fun t h z => acc_next m c t h z.1 z.2.1 z.2.2) (le_of_eq N_0) t ht (j, r, d)
  rwa [zero_add] at h

/-- The gradient of a weight: at hidden column `r` of shard `j` and column `d`, the sum over all rows. -/
def grad (a : FVec Ideal S4096x2816 .f32) (b : FVec Ideal S4096x1024 .f32) : FVec Ideal S4x704x1024 .bf16 :=
  fun i => ∑ k : Fin 4096, (a (ix2 k (col (i 0) (i 1))) : EReal) * b (ix2 k (i 2))

/-- The four blocks' parts are the whole sum. -/
theorem parts (j : Fin 4) (r : Fin 704) (d : Fin 1024) :
    ∑ p : Fin cfg0.N, part (iblk m c 0 p) (iblk m c 1 p) j r d = grad (m (c, Proc.tc.devRef main_arg0)) (m (c, Proc.tc.devRef main_arg1)) (ix3 j r d) := by
  unfold part grad
  refine Fin.sum_mul_add_congr (S := 4) (fun p k hl => ?_)
  have e0 : iblk m c 0 p (ix3 j k r) = V m c main_v2 (ix3 j ⟨p.val * 1024 + k.val, hl⟩ r) := read_0 p _ j k r hl
  have e1 : iblk m c 1 p (ix2 k d) = V m c main_v3 (ix2 ⟨p.val * 1024 + k.val, hl⟩ d) := read_1 p _ k d hl
  rw [e0, e1, V_hidden, V_rows]
  rfl

/-- The launch's result is the weight's gradient. -/
theorem result : (dats m 0 c).arrAt 2 cfg0.N = grad (m (c, Proc.tc.devRef main_arg0)) (m (c, Proc.tc.devRef main_arg1)) := by
  refine (dats m 0 c).arrAt_eq_of_covers 2 _ (by decide +kernel) fun t hf y => ?_
  have h3 : t.val % 4 = 3 := (flush0_2 t).mp hf
  have ht : t.val + 1 = cfg0.N := by have h4 : t.val < 4 := t.isLt.trans_eq N_0; exact (show t.val + 1 = 4 by omega).trans N_0.symm
  obtain ⟨j, r, d, rfl⟩ : ∃ (j : Fin 4) (r : Fin 704) (d : Fin 1024), y = ix3 j r d := ⟨y 0, y 1, y 2, by funext k; fin_cases k <;> rfl⟩
  blk_simp
  have he : (win0_2.blk t).view.emb (ix3 j r d) = ix3 j r d := by
    blk_ext [idx2 t]
  rw [after0_2, he, ← parts, ← acc_last m c t ht]
  exact out_last m c t h3 _

end Cert.WeightIdeal.Grads

end
-- ==== Proof.GradRefs.lean ====
module

public import proofs.«01_k».proof.Proof.Grads
public import proofs.«01_k».proof.Proof.Gen.DownReferenceIdeal.Read
public import proofs.«01_k».proof.Proof.Gen.GateReferenceIdeal.Read

@[expose] public section

noncomputable section

/-! # The weights' gradients as the references compute them -/

namespace Cert.GradRefs

open Cert.Shards Idealize.ShloMosaic

/-- The gradient of the second weight, of the product of the hidden columns with it. -/
theorem down (a : FVec Ideal ⟨2, ![4096, 2816]⟩ .f32) (b : FVec Ideal ⟨2, ![4096, 1024]⟩ .f32) :
    Cert.DownReferenceIdeal.Read.val_main_v5 (F := Ideal) a b = Cert.WeightIdeal.Grads.grad a b := by
  open Cert.DownReferenceIdeal.Read in
  funext i
  have e : val_main_v5 (F := Ideal) a b i = val_main_v4 (F := Ideal) a b i := rfl
  rw [e, val_main_v4_apply, val_main_v3_apply, val_main_v2_apply]
  refine Finset.sum_congr rfl fun k _ => ?_
  rw [mul_comm]
  congr 1 <;> blk_ext [col]

/-- The gradient of a first weight, of the product of the rows with it, laid out by hidden columns. -/
theorem gate (a : FVec Ideal ⟨2, ![4096, 2816]⟩ .f32) (b : FVec Ideal ⟨2, ![4096, 1024]⟩ .f32) :
    Cert.GateReferenceIdeal.Read.val_main_v6 (F := Ideal) a b = Cert.WeightIdeal.Grads.grad a b := by
  open Cert.GateReferenceIdeal.Read in
  funext i
  have e : val_main_v6 (F := Ideal) a b i = val_main_v5 (F := Ideal) a b i := rfl
  rw [e, val_main_v5_apply, val_main_v4_apply, val_main_v3_apply, val_main_v2_apply]
  refine Finset.sum_congr rfl fun k _ => ?_
  congr 1 <;> blk_ext [col]

end Cert.GradRefs

end
-- ==== Proof.ActGrads.lean ====
module

public import proofs.«01_k».proof.Proof.Gen.ActIdeal.Value
public import proofs.«01_k».proof.Proof.Shards
public import Idealize.ShloMosaic.Lib.Pipeline.ValueKit
public import Idealize.ShloMosaic.Lib.StableHlo.ReadAt

@[expose] public section

set_option maxRecDepth 16384

noncomputable section

/-! # The hidden gradients, block by block

Each point of the launch computes the two hidden gradients on 1024 rows and one shard of the hidden columns: the arriving
gradient times the rows of the second weight, then the derivatives of the gated activation. -/

namespace Cert.ActIdeal.Grads

open Cert.Shards
open Cert.ActIdeal Cert.ActIdeal.Gen Idealize.ShloMosaic Idealize.ShloMosaic.TcCoe Idealize.SL.Sem
open Idealize.ShloMosaic.Pipeline (Dat)

/-- The logistic function as the launch computes it. -/
def sig (g : EReal) : EReal := Ideal.div 1 (1 + Ideal.exp (0 - g))

/-- The gradient in the gate's product, from the gradient `a` of the activation. -/
def gate (a g u : EReal) : EReal := a * u * (sig g * (1 + g * (1 - sig g)))

/-- The gradient in the other product. -/
def lin (a g : EReal) : EReal := a * (g * sig g)

/-- The bit pattern of one is one. -/
theorem one_val : Ideal.ofBits .f32 0x3F800000#32 = (1 : EReal) := by simp [Ideal.ofBits, Ideal.ieee, -EReal.coe_mul]; norm_num

attribute [local pointwise] k0_pay1 k0_pay2 k0_pay3 k0_pay4 k0_pay5 k0_pay6

section Point

variable (x0 : Vec Ideal S1024x1024 .bf16) (x1 : Vec Ideal S1x704x1024 .bf16) (x2 x3 : Vec Ideal S1x1024x704 .bf16)

/-- The product a point computes, at row `k` of its block and place `r` of its shard. -/
def prod (k : Fin 1024) (r : Fin 704) : EReal := ∑ n : Fin 1024, (x0 (ix2 k n) : EReal) * x1 (ix3 0 r n)

/-- What a point writes of the gate's gradient. -/
theorem out_gate (k : Fin 1024) (r : Fin 704) :
    out0_4 x0 x1 x2 x3 (ix3 0 k r) = gate (prod x0 x1 k r) (x2 (ix3 0 k r)) (x3 (ix3 0 k r)) := by
  unfold gate sig prod
  rw [← one_val]
  frame_out
  pointwise

/-- What a point writes of the other gradient. -/
theorem out_lin (k : Fin 1024) (r : Fin 704) :
    out0_5 x0 x1 x2 x3 (ix3 0 k r) = lin (prod x0 x1 k r) (x2 (ix3 0 k r)) := by
  unfold lin sig prod
  rw [← one_val]
  frame_out
  pointwise

end Point

/-! ## The launch -/

variable (m : (ℓ : Loc nD τ Cert.ActIdeal.sig) → Buf (Elt Ideal) ℓ) (c : Dev nD)

/-- The launch's first operand holds the arriving gradient. -/
theorem V_ct : V m c main_v0 = (truncf .bf16 (m (c, Proc.tc.devRef main_arg3) : FVec Ideal S4096x1024 .f32) bitsLt_bf16_f32 : FVec Ideal S4096x1024 .bf16) := by
  unfold V
  after_reads_simp

/-- The second operand holds the second weight. -/
theorem V_down : V m c main_v2 = cut (m (c, Proc.tc.devRef main_arg2)) := by
  unfold V
  after_reads_simp
  exact cut_eq _ _ _

/-- The third operand holds the gate's product. -/
theorem V_gate : V m c main_v5 = laid (m (c, Proc.tc.devRef main_arg0)) := by
  unfold V
  after_reads_simp
  exact laid_eq _ _ _ _

/-- The fourth operand holds the other product. -/
theorem V_lin : V m c main_v8 = laid (m (c, Proc.tc.devRef main_arg1)) := by
  unfold V
  after_reads_simp
  exact laid_eq _ _ _ _

/-- The block of rows and the shard a point works on. -/
theorem idx : ∀ t : Fin cfg0.N, ∃ b j : Fin 4, win0_0.index t = ![b.val, 0] ∧ win0_1.index t = ![j.val, 0, 0] ∧ win0_2.index t = ![j.val, b.val, 0]
    ∧ win0_3.index t = ![j.val, b.val, 0] ∧ win0_4.index t = ![j.val, b.val, 0] ∧ win0_5.index t = ![j.val, b.val, 0] :=
  (by decide +kernel : ∀ t : Fin grid0.N, ∃ b j : Fin 4, win0_0.index t = ![b.val, 0] ∧ win0_1.index t = ![j.val, 0, 0] ∧ win0_2.index t = ![j.val, b.val, 0]
    ∧ win0_3.index t = ![j.val, b.val, 0] ∧ win0_4.index t = ![j.val, b.val, 0] ∧ win0_5.index t = ![j.val, b.val, 0])

section Blocks

variable (t : Fin cfg0.N) (b j : Fin 4)

/-- The row of the whole array at place `k` of block `b`. -/
def row (b : Fin 4) (k : Fin 1024) : Fin 4096 := ⟨b.val * 1024 + k.val, by omega⟩

/-- A block of the arriving gradient. -/
theorem read_0 (h : win0_0.index t = ![b.val, 0]) (X : (⟨S4096x1024, .bf16⟩ : BufTy).Contents (Elt Ideal)) (k n : Fin 1024) :
    ((cfg0.win 0).blk t).view.read (Elt Ideal) X (ix2 k n) = X (ix2 (row b k) n) := by
  blk_ext [h, row]

/-- A shard of the second weight. -/
theorem read_1 (h : win0_1.index t = ![j.val, 0, 0]) (X : (⟨S4x704x1024, .bf16⟩ : BufTy).Contents (Elt Ideal)) (r : Fin 704) (n : Fin 1024) :
    ((cfg0.win 1).blk t).view.read (Elt Ideal) X (ix3 0 r n) = X (ix3 j r n) := by
  blk_ext [h]

/-- A block of a shard of the gate's product. -/
theorem read_2 (h : win0_2.index t = ![j.val, b.val, 0]) (X : (⟨S4x4096x704, .bf16⟩ : BufTy).Contents (Elt Ideal)) (k : Fin 1024) (r : Fin 704) :
    ((cfg0.win 2).blk t).view.read (Elt Ideal) X (ix3 0 k r) = X (ix3 j (row b k) r) := by
  blk_ext [h, row]

/-- A block of a shard of the other product. -/
theorem read_3 (h : win0_3.index t = ![j.val, b.val, 0]) (X : (⟨S4x4096x704, .bf16⟩ : BufTy).Contents (Elt Ideal)) (k : Fin 1024) (r : Fin 704) :
    ((cfg0.win 3).blk t).view.read (Elt Ideal) X (ix3 0 k r) = X (ix3 j (row b k) r) := by
  blk_ext [h, row]

end Blocks

/-- The gradient of the activation at row `k` and hidden column `q`: the arriving gradient times the weight's row. -/
def act (w : FVec Ideal S2816x1024 .f32) (ct : FVec Ideal S4096x1024 .f32) (k : Fin 4096) (q : Fin 2816) : EReal :=
  ∑ n : Fin 1024, (ct (ix2 k n) : EReal) * w (ix2 q n)

/-- The gradient in the gate's product, shard by shard. -/
def gates (g u : FVec Ideal S4096x2816 .f32) (w : FVec Ideal S2816x1024 .f32) (ct : FVec Ideal S4096x1024 .f32) : FVec Ideal S4x4096x704 .bf16 :=
  fun i => gate (act w ct (i 1) (col (i 0) (i 2))) (g (ix2 (i 1) (col (i 0) (i 2)))) (u (ix2 (i 1) (col (i 0) (i 2))))

/-- The gradient in the other product, shard by shard. -/
def lins (g : FVec Ideal S4096x2816 .f32) (w : FVec Ideal S2816x1024 .f32) (ct : FVec Ideal S4096x1024 .f32) : FVec Ideal S4x4096x704 .bf16 :=
  fun i => lin (act w ct (i 1) (col (i 0) (i 2))) (g (ix2 (i 1) (col (i 0) (i 2))))

/-- The product a point computes is the gradient of the activation on its block. -/
theorem act_block (t : Fin cfg0.N) (b j : Fin 4) (h0 : win0_0.index t = ![b.val, 0]) (h1 : win0_1.index t = ![j.val, 0, 0]) (k : Fin 1024) (r : Fin 704) :
    prod (iblk m c 0 t) (iblk m c 1 t) k r
      = act (m (c, Proc.tc.devRef main_arg2)) (m (c, Proc.tc.devRef main_arg3)) (row b k) (col j r) := by
  unfold act prod
  refine Finset.sum_congr rfl fun n _ => ?_
  have e0 : iblk m c 0 t (ix2 k n) = V m c main_v0 (ix2 (row b k) n) := read_0 t b h0 _ k n
  have e1 : iblk m c 1 t (ix3 0 r n) = V m c main_v2 (ix3 j r n) := read_1 t j h1 _ r n
  rw [e0, e1, V_ct, V_down]
  rfl

/-- A block of the gate's product holds it. -/
theorem gate_block (t : Fin cfg0.N) (b j : Fin 4) (h2 : win0_2.index t = ![j.val, b.val, 0]) (k : Fin 1024) (r : Fin 704) :
    iblk m c 2 t (ix3 0 k r) = (m (c, Proc.tc.devRef main_arg0) : FVec Ideal S4096x2816 .f32) (ix2 (row b k) (col j r)) := by
  have e : iblk m c 2 t (ix3 0 k r) = V m c main_v5 (ix3 j (row b k) r) := read_2 t b j h2 _ k r
  rw [e, V_gate]
  rfl

/-- A block of the other product holds it. -/
theorem lin_block (t : Fin cfg0.N) (b j : Fin 4) (h3 : win0_3.index t = ![j.val, b.val, 0]) (k : Fin 1024) (r : Fin 704) :
    iblk m c 3 t (ix3 0 k r) = (m (c, Proc.tc.devRef main_arg1) : FVec Ideal S4096x2816 .f32) (ix2 (row b k) (col j r)) := by
  have e : iblk m c 3 t (ix3 0 k r) = V m c main_v8 (ix3 j (row b k) r) := read_3 t b j h3 _ k r
  rw [e, V_lin]
  rfl

/-- The launch's first result is the gradient in the gate's product. -/
theorem result_gate : (dats m 0 c).arrAt 4 cfg0.N
    = gates (m (c, Proc.tc.devRef main_arg0)) (m (c, Proc.tc.devRef main_arg1)) (m (c, Proc.tc.devRef main_arg2)) (m (c, Proc.tc.devRef main_arg3)) := by
  refine (dats m 0 c).arrAt_eq_of_covers 4 _ (by decide +kernel) fun t hf y => ?_
  obtain ⟨b, j, h0, h1, h2, h3, h4, -⟩ := idx t
  obtain ⟨z, k, r, rfl⟩ : ∃ (z : Fin 1) (k : Fin 1024) (r : Fin 704), y = ix3 z k r := ⟨y 0, y 1, y 2, by funext q; fin_cases q <;> rfl⟩
  obtain rfl : z = 0 := Subsingleton.elim _ _
  blk_simp
  have he : (win0_4.blk t).view.emb (ix3 0 k r) = ix3 j (row b k) r := by
    blk_ext [h4, row]
  rw [after0_4, he]
  refine (out_gate _ _ _ _ k r).trans ?_
  rw [act_block m c t b j h0 h1, gate_block m c t b j h2, lin_block m c t b j h3]
  rfl

/-- The launch's second result is the gradient in the other product. -/
theorem result_lin : (dats m 0 c).arrAt 5 cfg0.N
    = lins (m (c, Proc.tc.devRef main_arg0)) (m (c, Proc.tc.devRef main_arg2)) (m (c, Proc.tc.devRef main_arg3)) := by
  refine (dats m 0 c).arrAt_eq_of_covers 5 _ (by decide +kernel) fun t hf y => ?_
  obtain ⟨b, j, h0, h1, h2, -, -, h5⟩ := idx t
  obtain ⟨z, k, r, rfl⟩ : ∃ (z : Fin 1) (k : Fin 1024) (r : Fin 704), y = ix3 z k r := ⟨y 0, y 1, y 2, by funext q; fin_cases q <;> rfl⟩
  obtain rfl : z = 0 := Subsingleton.elim _ _
  blk_simp
  have he : (win0_5.blk t).view.emb (ix3 0 k r) = ix3 j (row b k) r := by
    blk_ext [h5, row]
  rw [after0_5, he]
  refine (out_lin _ _ _ _ k r).trans ?_
  rw [act_block m c t b j h0 h1, gate_block m c t b j h2]
  rfl

end Cert.ActIdeal.Grads

end
-- ==== Proof.ActRefs.lean ====
module

public import proofs.«01_k».proof.Proof.ActGrads
public import proofs.«01_k».proof.Proof.Finite
public import proofs.«01_k».proof.Proof.Gen.Pre_finite_act
public import proofs.«01_k».proof.Proof.Gen.ActReferenceIdeal.Read

@[expose] public section

noncomputable section

/-! # The hidden gradients as the reference computes them -/

namespace Cert.ActRefs

open Cert.Shards Cert.ActIdeal.Grads Idealize.ShloMosaic

/-- The logistic function at a real number is real. -/
theorem sig_coe (g : ℝ) : sig (g : EReal) = ((1 / (1 + Real.exp (-g)) : ℝ) : EReal) := by
  have h : (1 : ℝ) + Real.exp (-g) ≠ 0 := by positivity
  unfold sig
  rw [zero_sub, ← EReal.coe_neg, Ideal.exp_coe, ← EReal.coe_one, ← EReal.coe_add, Ideal.div_coe h, ← EReal.coe_mul]
  norm_num

/-- A finite sum of products of real numbers is real. -/
theorem sum_coe {n : ℕ} (a b : Fin n → ℝ) : (∑ k, (a k : EReal) * (b k : EReal)) = ((∑ k, a k * b k : ℝ) : EReal) := by
  simp only [← EReal.coe_mul]
  exact (map_sum (⟨⟨fun r : ℝ => (r : EReal), EReal.coe_zero⟩, EReal.coe_add⟩ : ℝ →+ EReal) _ _).symm

/-- The logistic function at the top is one. -/
theorem sig_top : sig ⊤ = 1 := by
  unfold sig
  rw [zero_sub, EReal.neg_top, Ideal.exp_bot, add_zero, ← EReal.coe_one, Ideal.div_coe one_ne_zero, ← EReal.coe_mul]
  norm_num

/-- The logistic function at the bottom is zero. -/
theorem sig_bot : sig ⊥ = 0 := by
  unfold sig
  rw [zero_sub, EReal.neg_bot, Ideal.exp_top, EReal.add_top_of_ne_bot (by decide)]
  simp [Ideal.div]

/-- The derivative of the gated activation in its gate, as the reference sums it. -/
theorem gate_sum (a u : ℝ) (g : EReal) :
    ((a : EReal) * u) * sig g + (g * ((a : EReal) * u)) * (sig g * (1 - sig g)) = gate a g u := by
  have e : (1 : EReal) - 1 = 0 := by rw [← EReal.coe_one, ← EReal.coe_sub, sub_self, EReal.coe_zero]
  unfold gate
  induction g with
  | bot => simp [sig_bot]
  | top => simp [sig_top, e]
  | coe g =>
    rw [sig_coe]
    generalize (1 / (1 + Real.exp (-g)) : ℝ) = s
    rw [← EReal.coe_one]
    simp only [← EReal.coe_mul, ← EReal.coe_add, ← EReal.coe_sub]
    refine congrArg Real.toEReal ?_
    ring

variable (g u : FVec Ideal ⟨2, ![4096, 2816]⟩ .f32) (w : FVec Ideal ⟨2, ![2816, 1024]⟩ .f32) (ct : FVec Ideal ⟨2, ![4096, 1024]⟩ .f32)

open Cert.ActReferenceIdeal.Read in
/-- The reference's logistic function is the launch's. -/
theorem sig_ref (i : (⟨2, ![4096, 2816]⟩ : Shape).Idx) : val_main_v0_2 (F := Ideal) g i = sig (g i) := by
  rw [val_main_v0_2_apply, val_main_call0_v4_apply, val_main_call0_cst_0_apply, val_main_call0_v3_apply, val_main_call0_v2_apply,
    val_main_call0_cst_apply, val_main_call0_v1_apply, val_main_call0_v0_apply]
  unfold sig
  rw [zero_sub, ← one_val]
  rfl

open Cert.ActReferenceIdeal.Read in
/-- The reference's product with the second weight. -/
theorem act_ref (i : (⟨2, ![4096, 2816]⟩ : Shape).Idx) : val_main_v3 (F := Ideal) w ct i = act w ct (i 0) (i 1) := by
  rw [val_main_v3_apply]
  unfold act
  refine Finset.sum_congr rfl fun k _ => ?_
  congr 1 <;> blk_ext []

open Cert.ActReferenceIdeal.Read in
/-- The reference's second result is the launch's. -/
theorem lin_ref : val_main_v12 (F := Ideal) g w ct = lins g w ct := by
  funext i
  have e : val_main_v12 (F := Ideal) g w ct i = val_main_v11 (F := Ideal) g w ct i := rfl
  have ei : idx_main_v10 (idx_main_v11 i) = ix2 (i 1) (col (i 0) (i 2)) := by blk_ext [col]
  rw [e, val_main_v11_apply, val_main_v10_apply, val_main_v4_apply, val_main_v0_0_apply, sig_ref, act_ref, ei]
  exact mul_comm _ _

open Cert.ActReferenceIdeal.Read in
/-- The reference's first gradient at a row and a hidden column, where the arguments are real. -/
theorem gate_at (ru : (⟨2, ![4096, 2816]⟩ : Shape).Idx → ℝ) (rw' : (⟨2, ![2816, 1024]⟩ : Shape).Idx → ℝ) (rc : (⟨2, ![4096, 1024]⟩ : Shape).Idx → ℝ)
    (hu : ∀ i, u i = (ru i : EReal)) (hw : ∀ i, w i = (rw' i : EReal)) (hc : ∀ i, ct i = (rc i : EReal))
    (p : (⟨2, ![4096, 2816]⟩ : Shape).Idx) :
    val_main_v6 (F := Ideal) g u w ct p = gate (act w ct (p 0) (p 1)) (g p) (u p) := by
  have e1 : val_main_call0_v6 (F := Ideal) p = (1 : EReal) := by
    rw [val_main_call0_v6_apply, val_main_call0_cst_1_apply]
    exact one_val
  have ea : act w ct (p 0) (p 1) = ((∑ n : Fin 1024, rc (ix2 (p 0) n) * rw' (ix2 (p 1) n) : ℝ) : EReal) := by
    unfold act
    simp only [hc, hw]
    exact sum_coe _ _
  rw [val_main_v6_apply, val_main_call1_v1_apply, val_main_call1_v2_apply, val_main_call1_v0_apply,
    val_main_v0_1_apply, val_main_call0_v7_apply, val_main_v5_apply, sig_ref, act_ref, e1, ea, hu]
  exact gate_sum _ _ _

open Cert.ActReferenceIdeal.Read in
/-- The reference's first result is the launch's, where the arguments are real. -/
theorem gate_ref (ru : (⟨2, ![4096, 2816]⟩ : Shape).Idx → ℝ) (rw' : (⟨2, ![2816, 1024]⟩ : Shape).Idx → ℝ) (rc : (⟨2, ![4096, 1024]⟩ : Shape).Idx → ℝ)
    (hu : ∀ i, u i = (ru i : EReal)) (hw : ∀ i, w i = (rw' i : EReal)) (hc : ∀ i, ct i = (rc i : EReal)) :
    val_main_v9 (F := Ideal) g u w ct = gates g u w ct := by
  funext i
  have e : val_main_v9 (F := Ideal) g u w ct i = val_main_v8 (F := Ideal) g u w ct i := rfl
  have ei : idx_main_v7 (idx_main_v8 i) = ix2 (i 1) (col (i 0) (i 2)) := by blk_ext [col]
  rw [e, val_main_v8_apply, val_main_v7_apply, ei]
  exact gate_at g u w ct ru rw' rc hu hw hc _

end Cert.ActRefs

namespace Cert.Pre_finite_act.Meaning

open Idealize.ShloMosaic Cert.Pre_finite_act Cert.Pre_finite_act.Gen Cert.Pre_finite.Meaning

/-- Under the precondition every element of the last three arguments is real. -/
theorem reals (a0 a1 : FVec Ideal S4096x2816 .f32) (a2 : FVec Ideal S2816x1024 .f32) (a3 : FVec Ideal S4096x1024 .f32)
    (h : Cert.Pre_finite_act.fn (F := Ideal) a0 a1 a2 a3 = fun _ => 1#1) :
    (∃ r : S4096x2816.Idx → ℝ, ∀ i, a1 i = (r i : EReal)) ∧ (∃ r : S2816x1024.Idx → ℝ, ∀ i, a2 i = (r i : EReal))
      ∧ (∃ r : S4096x1024.Idx → ℝ, ∀ i, a3 i = (r i : EReal)) := by
  have e := congrFun h ix0
  obtain ⟨e, e3⟩ := and_one e
  obtain ⟨e1, e2⟩ := and_one e
  have h1 := all_real a1 Facts.bcast_S_S4096x2816 Facts.reducesTo_S4096x2816_S_d0_1 Facts.h_S_ ix0 e1
  have h2 := all_real a2 Facts.bcast_S_S2816x1024 Facts.reducesTo_S2816x1024_S_d0_1 Facts.h_S_ ix0 e2
  have h3 := all_real a3 Facts.bcast_S_S4096x1024 Facts.reducesTo_S4096x1024_S_d0_1 Facts.h_S_ ix0 e3
  choose r1 h1 using h1
  choose r2 h2 using h2
  choose r3 h3 using h3
  exact ⟨⟨r1, h1⟩, ⟨r2, h2⟩, ⟨r3, h3⟩⟩

end Cert.Pre_finite_act.Meaning

end
-- ==== Proof.Norm.lean ====
module

public import Idealize.ShloMosaic.Lib.Pipeline.ValueKit
public import Idealize.ShloMosaic.Lib.Pointwise

@[expose] public section

noncomputable section

/-! # A row's norm and its gradient -/

namespace Cert.Norm

open Idealize.ShloMosaic

/-- The zero the reference's sums start from. -/
theorem zero_val : Ideal.ofBits .f32 0x00000000#32 = 0 := by
  simp [Ideal.ofBits, Ideal.ieee]

/-! ## A row through its norm -/

/-- One over the root of a row's mean square, the small constant added under the root. -/
def rstd (x : Fin 1024 → EReal) : EReal :=
  Ideal.rsqrt (Ideal.div (∑ n, x n * x n) (Ideal.ofBits .f32 0x44800000#32) + Ideal.ofBits .f32 0x358637BD#32)

/-- The gradient `r` of a normed row taken through the norm of `x` with gain `g`, added to the gradient `e` of the residual. -/
def through (x g r e : Fin 1024 → EReal) (d : Fin 1024) : EReal :=
  e d + rstd x * (r d * g d - (x d * rstd x) * Ideal.div (∑ n, r n * g n * (x n * rstd x)) (Ideal.ofBits .f32 0x44800000#32))

/-! ## The norm's gradient, written two ways

The reference differentiates the inverse root and then the mean square; the launch writes the two together. Both are
the same at every row, also where the row or what arrives is infinite. -/

/-- The number of columns. -/
theorem width_val : Ideal.ofBits .f32 0x44800000#32 = ((1024 : ℝ) : EReal) := by
  simp [Ideal.ofBits, Ideal.ieee, -EReal.coe_mul]; norm_num

/-- Minus a half. -/
theorem half_val : Ideal.ofBits .f32 0xBF000000#32 = ((-(1 / 2) : ℝ) : EReal) := by
  simp [Ideal.ofBits, Ideal.ieee, -EReal.coe_mul]; norm_num

/-- The small constant under the root is a positive real number. -/
theorem eps_val : ∃ ε : ℝ, 0 < ε ∧ Ideal.ofBits .f32 0x358637BD#32 = (ε : EReal) := by
  refine ⟨_, ?_, by simp [Ideal.ofBits, Ideal.ieee, -EReal.coe_mul]; rfl⟩
  norm_num

/-- The mean square of a row, the small constant added. -/
def ms (x : Fin 1024 → EReal) : EReal := Ideal.div (∑ n, x n * x n) (Ideal.ofBits .f32 0x44800000#32) + Ideal.ofBits .f32 0x358637BD#32

/-- A nonnegative real factor moves out of a sum. -/
theorem mul_sum_real {n : ℕ} {p : ℝ} (hp : 0 ≤ p) (f : Fin n → EReal) : (p : EReal) * ∑ k, f k = ∑ k, (p : EReal) * f k := by
  induction (Finset.univ : Finset (Fin n)) using Finset.induction_on with
  | empty => simp
  | insert a s ha ih =>
    rw [Finset.sum_insert ha, Finset.sum_insert ha, EReal.left_distrib_of_nonneg_of_ne_top (EReal.coe_nonneg.mpr hp) (EReal.coe_ne_top p), ih]

/-- Twice a product with a real number. -/
theorem twice (a : ℝ) (s : EReal) : (a : EReal) * s + (a : EReal) * s = ((2 * a : ℝ) : EReal) * s := by
  have h : ((2 * a : ℝ) : EReal) = (1 + 1) * (a : EReal) := by
    rw [← EReal.coe_one, ← EReal.coe_add, ← EReal.coe_mul]; norm_num
  rw [h, mul_assoc, EReal.right_distrib_of_nonneg zero_le_one zero_le_one, one_mul]

/-- Where an entry of the row is infinite, so is its mean square. -/
theorem ms_top (x : Fin 1024 → EReal) (n : Fin 1024) (h : x n = ⊤ ∨ x n = ⊥) : ms x = ⊤ := by
  obtain ⟨ε, he, hv⟩ := eps_val
  have h1 : x n * x n = ⊤ := by rcases h with h | h <;> rw [h] <;> rfl
  have h2 : ∀ k, 0 ≤ x k * x k := fun k => by
    induction x k with
    | bot => exact le_top
    | top => exact le_top
    | coe r => rw [← EReal.coe_mul]; exact EReal.coe_nonneg.mpr (mul_self_nonneg r)
  have h3 : ∑ k, x k * x k = ⊤ := top_le_iff.mp (h1 ▸ Finset.single_le_sum (fun k _ => h2 k) (Finset.mem_univ n))
  unfold ms
  rw [h3, width_val, Ideal.div_coe (by norm_num), hv, EReal.top_mul_coe_of_pos (by norm_num), EReal.top_add_coe]

/-- Where the row is real, its mean square is a positive real number. -/
theorem ms_real (y : Fin 1024 → ℝ) : ∃ σ : ℝ, 0 < σ ∧ ms (fun n => (y n : EReal)) = (σ : EReal) := by
  obtain ⟨ε, he, hv⟩ := eps_val
  refine ⟨(∑ n, y n * y n) * (1 / 1024) + ε, ?_, ?_⟩
  · have : 0 ≤ ∑ n, y n * y n := Finset.sum_nonneg fun n _ => mul_self_nonneg _
    positivity
  · have hs : ∑ n, (y n : EReal) * (y n : EReal) = ((∑ n, y n * y n : ℝ) : EReal) := by
      simp only [← EReal.coe_mul]
      exact (map_sum (⟨⟨fun r : ℝ => (r : EReal), EReal.coe_zero⟩, EReal.coe_add⟩ : ℝ →+ EReal) _ _).symm
    unfold ms
    rw [hs, width_val, Ideal.div_coe (by norm_num), hv, EReal.coe_add, EReal.coe_mul]

/-- What the reference adds twice for the mean square. -/
def part (x g r : Fin 1024 → EReal) : EReal :=
  Ideal.div ((∑ n, x n * (r n * g n)) * (Ideal.ofBits .f32 0xBF000000#32 * Ideal.div (rstd x) (ms x))) (Ideal.ofBits .f32 0x44800000#32)

/-- The reference's gradient of a row is the launch's. -/
theorem through_eq (x g r e : Fin 1024 → EReal) (d : Fin 1024) :
    e d + r d * g d * rstd x + x d * part x g r + part x g r * x d = through x g r e d := by
  by_cases hx : ∃ n, x n = ⊤ ∨ x n = ⊥
  · obtain ⟨n, hn⟩ := hx
    have hm : ms x = ⊤ := ms_top x n hn
    have hr : rstd x = 0 := by
      have : rstd x = Ideal.rsqrt (ms x) := rfl
      rw [this, hm, Ideal.rsqrt_top]
    have hp : part x g r = 0 := by
      unfold part
      rw [hr, hm, width_val, Ideal.div_coe (by norm_num)]
      simp [Ideal.div]
    unfold through
    rw [hp, hr]
    simp
  · simp only [not_exists, not_or] at hx
    obtain ⟨y, rfl⟩ : ∃ y : Fin 1024 → ℝ, x = fun n => (y n : EReal) :=
      ⟨fun n => (x n).toReal, funext fun n => (EReal.coe_toReal (hx n).1 (hx n).2).symm⟩
    obtain ⟨σ, hσ, hs⟩ := ms_real y
    have hq : 0 < √σ := Real.sqrt_pos.mpr hσ
    have hr : rstd (fun n => (y n : EReal)) = (((√σ)⁻¹ : ℝ) : EReal) := by
      have : rstd (fun n => (y n : EReal)) = Ideal.rsqrt (ms fun n => (y n : EReal)) := rfl
      rw [this, hs, Ideal.rsqrt_coe, if_neg (not_lt.mpr hσ.le), if_neg hσ.ne']
    obtain ⟨p, hpd⟩ : ∃ p : ℝ, p = (√σ)⁻¹ := ⟨_, rfl⟩
    have hp : 0 < p := hpd ▸ inv_pos.mpr hq
    have hσp : σ⁻¹ = p * p := by
      rw [hpd, ← mul_inv, Real.mul_self_sqrt hσ.le]
    rw [← hpd] at hr
    obtain ⟨S, hS⟩ : ∃ S : EReal, S = ∑ n, (y n : EReal) * (r n * g n) := ⟨_, rfl⟩
    have h1 : ∑ n, r n * g n * ((y n : EReal) * (p : EReal)) = (p : EReal) * S := by
      rw [hS, mul_sum_real hp.le]
      refine Finset.sum_congr rfl fun n _ => ?_
      rw [mul_comm (y n : EReal) (p : EReal), ← mul_assoc, mul_comm (r n * g n) (p : EReal), mul_assoc, mul_comm (r n * g n)]
    have h2 : part (fun n => (y n : EReal)) g r = ((-(1 / 2) * (p * (1 / σ)) * (1 / 1024) : ℝ) : EReal) * S := by
      unfold part
      rw [hr, hs, half_val, width_val, Ideal.div_coe hσ.ne', Ideal.div_coe (by norm_num), ← hS]
      simp only [EReal.coe_mul]
      rw [mul_comm S, mul_assoc, mul_comm S, ← mul_assoc]
    unfold through
    rw [h2, hr, h1, width_val, Ideal.div_coe (by norm_num)]
    have h3 : ((y d : EReal) * (p : EReal)) * ((p : EReal) * S * ((1 / 1024 : ℝ) : EReal)) = ((y d * p * p * (1 / 1024) : ℝ) : EReal) * S := by
      simp only [EReal.coe_mul]
      rw [mul_assoc (p : EReal) S, mul_comm S, ← mul_assoc, ← mul_assoc]
    have h4 : (p : EReal) * (r d * g d - ((y d * p * p * (1 / 1024) : ℝ) : EReal) * S)
        = r d * g d * (p : EReal) + ((2 * (y d * (-(1 / 2) * (p * (1 / σ)) * (1 / 1024))) : ℝ) : EReal) * S := by
      rw [sub_eq_add_neg, EReal.left_distrib_of_nonneg_of_ne_top (EReal.coe_nonneg.mpr hp.le) (EReal.coe_ne_top p), mul_comm (p : EReal) (r d * g d),
        ← EReal.neg_mul, ← EReal.coe_neg, ← mul_assoc, ← EReal.coe_mul]
      congr 3
      rw [one_div σ, hσp]
      ring
    rw [h3, h4, ← twice, mul_comm _ (y d : EReal), ← mul_assoc, ← EReal.coe_mul]
    simp only [add_assoc]

/-- A row over the root of its mean square, times the gain. -/
def normed (f g : Fin 1024 → EReal) (d : Fin 1024) : EReal := f d * rstd f * g d

/-! ## A tile in two halves -/

/-- Row `k` of the first half of a tile. -/
def lo (k : Fin 256) : Fin 512 := ⟨k.val, by omega⟩

/-- Row `k` of the second half of a tile. -/
def hi (k : Fin 256) : Fin 512 := ⟨256 + k.val, by omega⟩

theorem lo_lt (k : Fin 256) : (lo k).val < 256 := k.isLt

theorem lo_eq (k : Fin 256) : (lo k).val = 0 + k.val := (Nat.zero_add _).symm

theorem hi_eq (k : Fin 256) : (hi k).val = 256 + k.val := rfl

/-- Every row of a tile is in one of the halves. -/
theorem lo_or_hi (q : Fin 512) : (∃ k, q = lo k) ∨ ∃ k, q = hi k := by
  by_cases h : q.val < 256
  · exact .inl ⟨⟨q.val, h⟩, rfl⟩
  · exact .inr ⟨⟨q.val - 256, by omega⟩, Fin.ext (by show q.val = 256 + (q.val - 256); omega)⟩

/-- A sum over a tile's rows, half by half. -/
theorem sum_halves (f : Fin 512 → EReal) : ∑ q, f q = ∑ k, f (lo k) + ∑ k, f (hi k) := Fin.sum_univ_add (a := 256) (b := 256) f

/-! ## A tile in four quarters -/

/-- Row `k` of the first quarter of a tile. -/
def at0 (k : Fin 256) : Fin 1024 := ⟨k.val, by omega⟩

/-- Row `k` of the second. -/
def at1 (k : Fin 256) : Fin 1024 := ⟨256 + k.val, by omega⟩

/-- Row `k` of the third. -/
def at2 (k : Fin 256) : Fin 1024 := ⟨512 + k.val, by omega⟩

/-- Row `k` of the fourth. -/
def at3 (k : Fin 256) : Fin 1024 := ⟨768 + k.val, by omega⟩

theorem at0_eq (k : Fin 256) : (at0 k).val = 0 + k.val := (Nat.zero_add _).symm
theorem at1_eq (k : Fin 256) : (at1 k).val = 256 + k.val := rfl
theorem at2_eq (k : Fin 256) : (at2 k).val = 512 + k.val := rfl
theorem at3_eq (k : Fin 256) : (at3 k).val = 768 + k.val := rfl
theorem at0_lt (k : Fin 256) : (at0 k).val < 256 := k.isLt
theorem at1_lt (k : Fin 256) : (at1 k).val < 512 := by have := k.isLt; simp only [at1_eq]; omega
theorem at2_lt (k : Fin 256) : (at2 k).val < 768 := by have := k.isLt; simp only [at2_eq]; omega

/-- Every row of a tile is in one of the quarters. -/
theorem quarter (q : Fin 1024) : (∃ k, q = at0 k) ∨ (∃ k, q = at1 k) ∨ (∃ k, q = at2 k) ∨ ∃ k, q = at3 k := by
  by_cases h1 : q.val < 256
  · exact .inl ⟨⟨q.val, h1⟩, rfl⟩
  by_cases h2 : q.val < 512
  · exact .inr (.inl ⟨⟨q.val - 256, by omega⟩, Fin.ext (by rw [at1_eq]; show q.val = 256 + (q.val - 256); omega)⟩)
  by_cases h3 : q.val < 768
  · exact .inr (.inr (.inl ⟨⟨q.val - 512, by omega⟩, Fin.ext (by rw [at2_eq]; show q.val = 512 + (q.val - 512); omega)⟩))
  · exact .inr (.inr (.inr ⟨⟨q.val - 768, by omega⟩, Fin.ext (by rw [at3_eq]; show q.val = 768 + (q.val - 768); omega)⟩))

/-- A sum over a tile's rows, quarter by quarter. -/
theorem sum_quarters (f : Fin 1024 → EReal) : ∑ q, f q = ∑ k, f (at0 k) + ∑ k, f (at1 k) + ∑ k, f (at2 k) + ∑ k, f (at3 k) := by
  rw [Fin.sum_univ_add (a := 768) (b := 256) f, Fin.sum_univ_add (a := 512) (b := 256) (fun i => f (Fin.castAdd 256 i)),
    Fin.sum_univ_add (a := 256) (b := 256) (fun i => f (Fin.castAdd 256 (Fin.castAdd 256 i)))]
  rfl

end Cert.Norm

end
-- ==== Proof.RowsGrads.lean ====
module

public import proofs.«01_k».proof.Proof.Gen.RowsIdeal.Value
public import proofs.«01_k».proof.Proof.Shards
public import proofs.«01_k».proof.Proof.Norm
public import Idealize.ShloMosaic.Lib.Pipeline.ValueKit
public import Idealize.ShloMosaic.Lib.StableHlo.ReadAt

@[expose] public section

set_option maxRecDepth 16384

noncomputable section

/-! # The rows' gradient, tile by tile

Each point of the launch takes 512 rows: the two hidden gradients times the two weights, summed shard by shard, then through
the rows' norm in two halves of 256 rows. The gradient of the norm's gain is accumulated over the points. -/

namespace Cert.RowsIdeal.Grads

open Cert.Shards Cert.Norm
open Cert.RowsIdeal Cert.RowsIdeal.Gen Idealize.ShloMosaic Idealize.ShloMosaic.TcCoe Idealize.SL.Sem
open Idealize.ShloMosaic.Pipeline (Dat)

section Halves

attribute [local pointwise] k0_pay1 k0_pay2 k0_pay3 k0_pay4 k0_pay5 k0_pay9 k0_pay10 k0_pay11 k0_pay13 k0_pay14 k0_pay15 k0_pay17

variable (r x e : FVec Ideal S256x1024 .f32) (g : FVec Ideal S1x1024 .f32) (k : Fin 256) (d : Fin 1024)

/-- The first half's rows. -/
theorem pay_rows_lo : k0_pay14 r x (k0_pay9 x) (FloatOps.ofBits .f32 0x358637BD#32) g e (ix2 k d)
    = through (fun n => x (ix2 k n)) (fun n => g (ix2 0 n)) (fun n => r (ix2 k n)) (fun n => e (ix2 k n)) d := by
  unfold through rstd
  pointwise

/-- The second half's rows. -/
theorem pay_rows_hi : k0_pay4 r x (k0_pay17 x) g e (ix2 k d)
    = through (fun n => x (ix2 k n)) (fun n => g (ix2 0 n)) (fun n => r (ix2 k n)) (fun n => e (ix2 k n)) d := by
  unfold through rstd
  pointwise

/-- The first half's rows in the narrower format: the same. -/
theorem pay_twin_lo : k0_pay15 r x (k0_pay9 x) (FloatOps.ofBits .f32 0x358637BD#32) g e (ix2 k d)
    = through (fun n => x (ix2 k n)) (fun n => g (ix2 0 n)) (fun n => r (ix2 k n)) (fun n => e (ix2 k n)) d := by
  unfold through rstd
  pointwise

/-- The second half's rows in the narrower format: the same. -/
theorem pay_twin_hi : k0_pay5 r x (k0_pay17 x) g e (ix2 k d)
    = through (fun n => x (ix2 k n)) (fun n => g (ix2 0 n)) (fun n => r (ix2 k n)) (fun n => e (ix2 k n)) d := by
  unfold through rstd
  pointwise

/-- The first half's part of the gain's gradient, added to what is there. -/
theorem pay_gain_lo : k0_pay13 r x (k0_pay9 x) (FloatOps.ofBits .f32 0x358637BD#32) g (ix2 0 d)
    = g (ix2 0 d) + ∑ k : Fin 256, r (ix2 k d) * (x (ix2 k d) * rstd (fun n => x (ix2 k n))) := by
  unfold rstd
  pointwise

/-- The second half's part. -/
theorem pay_gain_hi : k0_pay3 r x (k0_pay17 x) g (ix2 0 d)
    = g (ix2 0 d) + ∑ k : Fin 256, r (ix2 k d) * (x (ix2 k d) * rstd (fun n => x (ix2 k n))) := by
  unfold rstd
  pointwise

/-- The zero stored first. -/
theorem pay_zero (i : S1x1024.Idx) : k0_pay12 (F := Ideal) i = 0 := by
  unfold k0_pay12
  pointwise

end Halves

/-! ## What one point writes -/

section Point

variable (c : Dev nD) (i : grid0.Coords) (arg3 : Memref sig .tc .vmem S4x512x704 .bf16) (harg3 : arg3.IsWhole) (arg4 : Memref sig .tc .vmem S4x704x1024 .bf16) (harg4 : arg4.IsWhole) (arg5 : Memref sig .tc .vmem S4x512x704 .bf16) (harg5 : arg5.IsWhole) (arg6 : Memref sig .tc .vmem S4x704x1024 .bf16) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S512x1024 .bf16) (harg12 : arg12.IsWhole)
  (x0 : Vec Ideal S4x512x704 .bf16) (x1 : Vec Ideal S4x704x1024 .bf16) (x2 : Vec Ideal S4x512x704 .bf16) (x3 : Vec Ideal S4x704x1024 .bf16) (x4 : Vec Ideal S512x1024 .f32) (x5 : Vec Ideal S1x1024 .f32) (x6 : Vec Ideal S512x1024 .f32) (xo8 : Vec Ideal S1x1024 .f32)

/-- One shard's part of the gradient of the normed rows. -/
def shard (j : Fin 4) (k : Fin 512) (d : Fin 1024) : EReal := ∑ r : Fin 704, (x0 (ix3 j k r) : EReal) * x1 (ix3 j r d)

/-- The gradient of the normed rows: both products, shard by shard. -/
def back (k : Fin 512) (d : Fin 1024) : EReal :=
  shard x0 x1 0 k d + shard x0 x1 1 k d + shard x0 x1 2 k d + shard x0 x1 3 k d
    + shard x2 x3 0 k d + shard x2 x3 1 k d + shard x2 x3 2 k d + shard x2 x3 3 k d

/-- The tile's rows of the result. -/
def rows (k : Fin 512) (d : Fin 1024) : EReal :=
  through (fun n => x4 (ix2 k n)) (fun n => x5 (ix2 0 n)) (back x0 x1 x2 x3 k) (fun n => x6 (ix2 k n)) d

/-- The tile's part of the gain's gradient. -/
def gain (d : Fin 1024) : EReal :=
  ∑ k : Fin 512, back x0 x1 x2 x3 k d * ((x4 (ix2 k d) : EReal) * rstd (fun n => x4 (ix2 k n)))

section Products

attribute [local pointwise] k0_pay6 k0_pay7 k0_pay8 k0_pay16

variable (k : Fin 256) (d : Fin 1024)

/-- The products' first half. -/
theorem back_lo : k0_pay8
      (k0_pay6 (View.ld x0 (Rect.unit ![0, 0, 0] ![1, 512, 704] inb_S4x512x704_S1x512x704_0_0_0)) (View.ld x1 (Rect.unit ![0, 0, 0] ![1, 704, 1024] inb_S4x704x1024_S1x704x1024_0_0_0))
        (View.ld x0 (Rect.unit ![1, 0, 0] ![1, 512, 704] inb_S4x512x704_S1x512x704_1_0_0)) (View.ld x1 (Rect.unit ![1, 0, 0] ![1, 704, 1024] inb_S4x704x1024_S1x704x1024_1_0_0))
        (View.ld x0 (Rect.unit ![2, 0, 0] ![1, 512, 704] inb_S4x512x704_S1x512x704_2_0_0)) (View.ld x1 (Rect.unit ![2, 0, 0] ![1, 704, 1024] inb_S4x704x1024_S1x704x1024_2_0_0))
        (View.ld x0 (Rect.unit ![3, 0, 0] ![1, 512, 704] inb_S4x512x704_S1x512x704_3_0_0)) (View.ld x1 (Rect.unit ![3, 0, 0] ![1, 704, 1024] inb_S4x704x1024_S1x704x1024_3_0_0)))
      (View.ld x2 (Rect.unit ![0, 0, 0] ![1, 512, 704] inb_S4x512x704_S1x512x704_0_0_0)) (View.ld x3 (Rect.unit ![0, 0, 0] ![1, 704, 1024] inb_S4x704x1024_S1x704x1024_0_0_0))
      (View.ld x2 (Rect.unit ![1, 0, 0] ![1, 512, 704] inb_S4x512x704_S1x512x704_1_0_0)) (View.ld x3 (Rect.unit ![1, 0, 0] ![1, 704, 1024] inb_S4x704x1024_S1x704x1024_1_0_0))
      (View.ld x2 (Rect.unit ![2, 0, 0] ![1, 512, 704] inb_S4x512x704_S1x512x704_2_0_0)) (View.ld x3 (Rect.unit ![2, 0, 0] ![1, 704, 1024] inb_S4x704x1024_S1x704x1024_2_0_0))
      (View.ld x2 (Rect.unit ![3, 0, 0] ![1, 512, 704] inb_S4x512x704_S1x512x704_3_0_0)) (View.ld x3 (Rect.unit ![3, 0, 0] ![1, 704, 1024] inb_S4x704x1024_S1x704x1024_3_0_0)) (ix2 k d)
    = back x0 x1 x2 x3 (lo k) d := by
  unfold back shard
  pointwise
  rfl

/-- The products' second half. -/
theorem back_hi : k0_pay16
      (k0_pay7
        (k0_pay6 (View.ld x0 (Rect.unit ![0, 0, 0] ![1, 512, 704] inb_S4x512x704_S1x512x704_0_0_0)) (View.ld x1 (Rect.unit ![0, 0, 0] ![1, 704, 1024] inb_S4x704x1024_S1x704x1024_0_0_0))
          (View.ld x0 (Rect.unit ![1, 0, 0] ![1, 512, 704] inb_S4x512x704_S1x512x704_1_0_0)) (View.ld x1 (Rect.unit ![1, 0, 0] ![1, 704, 1024] inb_S4x704x1024_S1x704x1024_1_0_0))
          (View.ld x0 (Rect.unit ![2, 0, 0] ![1, 512, 704] inb_S4x512x704_S1x512x704_2_0_0)) (View.ld x1 (Rect.unit ![2, 0, 0] ![1, 704, 1024] inb_S4x704x1024_S1x704x1024_2_0_0))
          (View.ld x0 (Rect.unit ![3, 0, 0] ![1, 512, 704] inb_S4x512x704_S1x512x704_3_0_0)) (View.ld x1 (Rect.unit ![3, 0, 0] ![1, 704, 1024] inb_S4x704x1024_S1x704x1024_3_0_0)))
        (View.ld x2 (Rect.unit ![0, 0, 0] ![1, 512, 704] inb_S4x512x704_S1x512x704_0_0_0)) (View.ld x3 (Rect.unit ![0, 0, 0] ![1, 704, 1024] inb_S4x704x1024_S1x704x1024_0_0_0))
        (View.ld x2 (Rect.unit ![1, 0, 0] ![1, 512, 704] inb_S4x512x704_S1x512x704_1_0_0)) (View.ld x3 (Rect.unit ![1, 0, 0] ![1, 704, 1024] inb_S4x704x1024_S1x704x1024_1_0_0))
        (View.ld x2 (Rect.unit ![2, 0, 0] ![1, 512, 704] inb_S4x512x704_S1x512x704_2_0_0)) (View.ld x3 (Rect.unit ![2, 0, 0] ![1, 704, 1024] inb_S4x704x1024_S1x704x1024_2_0_0))
        (View.ld x2 (Rect.unit ![3, 0, 0] ![1, 512, 704] inb_S4x512x704_S1x512x704_3_0_0)) (View.ld x3 (Rect.unit ![3, 0, 0] ![1, 704, 1024] inb_S4x704x1024_S1x704x1024_3_0_0))) (ix2 k d)
    = back x0 x1 x2 x3 (hi k) d := by
  unfold back shard
  pointwise
  rfl

end Products

/-- The rows written at the first point. -/
theorem rows_A (hc0 : cond0_0 i) (q : Fin 512) (d : Fin 1024) :
    out0_A_7 c i arg3 harg3 arg4 harg4 arg5 harg5 arg6 harg6 arg7 harg7 arg8 harg8 arg9 harg9 arg10 harg10 arg11 harg11 arg12 harg12 hc0 x0 x1 x2 x3 x4 x5 x6 (ix2 q d) = rows x0 x1 x2 x3 x4 x5 x6 q d := by
  frame_out
  obtain ⟨k, rfl⟩ | ⟨k, rfl⟩ := lo_or_hi q
  · rw [run_miss _ _ _ _ (lo_lt k), run_hit _ _ _ _ k (lo_eq k), pay_rows_lo]
    simp only [back_lo, rows]
    pointwise
    rfl
  · rw [run_hit _ _ _ _ k (hi_eq k), pay_rows_hi]
    simp only [back_hi, rows]
    pointwise
    rfl

/-- The same rows in the narrower format at the first point. -/
theorem twin_A (hc0 : cond0_0 i) (q : Fin 512) (d : Fin 1024) :
    out0_A_9 c i arg3 harg3 arg4 harg4 arg5 harg5 arg6 harg6 arg7 harg7 arg8 harg8 arg9 harg9 arg10 harg10 arg11 harg11 arg12 harg12 hc0 x0 x1 x2 x3 x4 x5 x6 (ix2 q d) = rows x0 x1 x2 x3 x4 x5 x6 q d := by
  frame_out
  obtain ⟨k, rfl⟩ | ⟨k, rfl⟩ := lo_or_hi q
  · rw [run_miss _ _ _ _ (lo_lt k), run_hit _ _ _ _ k (lo_eq k), pay_twin_lo]
    simp only [back_lo, rows]
    pointwise
    rfl
  · rw [run_hit _ _ _ _ k (hi_eq k), pay_twin_hi]
    simp only [back_hi, rows]
    pointwise
    rfl

/-- The gain's gradient accumulated at the first point. -/
theorem gain_A (hc0 : cond0_0 i) (d : Fin 1024) :
    out0_A_8 c i arg3 harg3 arg4 harg4 arg5 harg5 arg6 harg6 arg7 harg7 arg8 harg8 arg9 harg9 arg10 harg10 arg11 harg11 arg12 harg12 hc0 x0 x1 x2 x3 x4 x5 x6 (ix2 0 d) = 0 + gain x0 x1 x2 x3 x4 d := by
  frame_out
  rw [pay_gain_hi, pay_gain_lo, pay_zero, gain, sum_halves, add_assoc]
  simp only [back_lo, back_hi]
  pointwise
  rfl

/-- The rows written at a later point. -/
theorem rows_B (hc0 : ¬cond0_0 i) (q : Fin 512) (d : Fin 1024) :
    out0_B_7 c i arg3 harg3 arg4 harg4 arg5 harg5 arg6 harg6 arg7 harg7 arg8 harg8 arg9 harg9 arg10 harg10 arg11 harg11 arg12 harg12 hc0 x0 x1 x2 x3 x4 x5 x6 xo8 (ix2 q d) = rows x0 x1 x2 x3 x4 x5 x6 q d := by
  frame_out
  obtain ⟨k, rfl⟩ | ⟨k, rfl⟩ := lo_or_hi q
  · rw [run_miss _ _ _ _ (lo_lt k), run_hit _ _ _ _ k (lo_eq k), pay_rows_lo]
    simp only [back_lo, rows]
    pointwise
    rfl
  · rw [run_hit _ _ _ _ k (hi_eq k), pay_rows_hi]
    simp only [back_hi, rows]
    pointwise
    rfl

/-- The same rows in the narrower format at a later point. -/
theorem twin_B (hc0 : ¬cond0_0 i) (q : Fin 512) (d : Fin 1024) :
    out0_B_9 c i arg3 harg3 arg4 harg4 arg5 harg5 arg6 harg6 arg7 harg7 arg8 harg8 arg9 harg9 arg10 harg10 arg11 harg11 arg12 harg12 hc0 x0 x1 x2 x3 x4 x5 x6 xo8 (ix2 q d) = rows x0 x1 x2 x3 x4 x5 x6 q d := by
  frame_out
  obtain ⟨k, rfl⟩ | ⟨k, rfl⟩ := lo_or_hi q
  · rw [run_miss _ _ _ _ (lo_lt k), run_hit _ _ _ _ k (lo_eq k), pay_twin_lo]
    simp only [back_lo, rows]
    pointwise
    rfl
  · rw [run_hit _ _ _ _ k (hi_eq k), pay_twin_hi]
    simp only [back_hi, rows]
    pointwise
    rfl

/-- The gain's gradient accumulated at a later point. -/
theorem gain_B (hc0 : ¬cond0_0 i) (d : Fin 1024) :
    out0_B_8 c i arg3 harg3 arg4 harg4 arg5 harg5 arg6 harg6 arg7 harg7 arg8 harg8 arg9 harg9 arg10 harg10 arg11 harg11 arg12 harg12 hc0 x0 x1 x2 x3 x4 x5 x6 xo8 (ix2 0 d) = xo8 (ix2 0 d) + gain x0 x1 x2 x3 x4 d := by
  frame_out
  rw [pay_gain_hi, pay_gain_lo, gain, sum_halves, add_assoc]
  simp only [back_lo, back_hi]
  pointwise
  rfl

end Point

/-! ## The launch -/

variable (m : (ℓ : Loc nD τ sig) → Buf (Elt Ideal) ℓ) (c : Dev nD)

/-- The first operand: the gradient of the gate's columns. -/
theorem V_dgate : V m c main_v3 = laid (m (c, Proc.tc.devRef main_arg4)) := by
  unfold V
  after_reads_simp
  exact laid_eq _ _ _ _

/-- The second: the gate's weight. -/
theorem V_wgate : V m c main_v6 = turned (m (c, Proc.tc.devRef main_arg2)) := by
  unfold V
  after_reads_simp
  exact turned_eq _ _ _ _

/-- The third: the gradient of the other columns. -/
theorem V_dlin : V m c main_v9 = laid (m (c, Proc.tc.devRef main_arg5)) := by
  unfold V
  after_reads_simp
  exact laid_eq _ _ _ _

/-- The fourth: their weight. -/
theorem V_wlin : V m c main_v12 = turned (m (c, Proc.tc.devRef main_arg3)) := by
  unfold V
  after_reads_simp
  exact turned_eq _ _ _ _

/-- The fifth: the rows. -/
theorem V_x : V m c main_arg0 = m (c, Proc.tc.devRef main_arg0) := by
  unfold V
  after_reads_simp

/-- The sixth: the gain, as one row. -/
theorem V_gain (d : Fin 1024) : (V m c main_v0 : FVec Ideal S1x1024 .f32) (ix2 0 d) = (m (c, Proc.tc.devRef main_arg1) : FVec Ideal S1024 .f32) (ix1 d) := by
  unfold V
  after_reads_simp
  pointwise

/-- The seventh: the gradient of the residual. -/
theorem V_res : V m c main_arg6 = m (c, Proc.tc.devRef main_arg6) := by
  unfold V
  after_reads_simp

/-- The blocks' places. -/
theorem idx0 : ∀ t : Fin cfg0.N, win0_0.index t = ![0, t.val, 0] := (by decide +kernel : ∀ t : Fin grid0.N, win0_0.index t = ![0, t.val, 0])
theorem idx1 : ∀ t : Fin cfg0.N, win0_1.index t = ![0, 0, 0] := (by decide +kernel : ∀ t : Fin grid0.N, win0_1.index t = ![0, 0, 0])
theorem idx2 : ∀ t : Fin cfg0.N, win0_2.index t = ![0, t.val, 0] := (by decide +kernel : ∀ t : Fin grid0.N, win0_2.index t = ![0, t.val, 0])
theorem idx3 : ∀ t : Fin cfg0.N, win0_3.index t = ![0, 0, 0] := (by decide +kernel : ∀ t : Fin grid0.N, win0_3.index t = ![0, 0, 0])
theorem idx4 : ∀ t : Fin cfg0.N, win0_4.index t = ![t.val, 0] := (by decide +kernel : ∀ t : Fin grid0.N, win0_4.index t = ![t.val, 0])
theorem idx5 : ∀ t : Fin cfg0.N, win0_5.index t = ![0, 0] := (by decide +kernel : ∀ t : Fin grid0.N, win0_5.index t = ![0, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem idx8 : ∀ t : Fin cfg0.N, win0_8.index t = ![0, 0] := (by decide +kernel : ∀ t : Fin grid0.N, win0_8.index t = ![0, 0])
theorem idx9 : ∀ t : Fin cfg0.N, win0_9.index t = ![t.val, 0] := (by decide +kernel : ∀ t : Fin grid0.N, win0_9.index t = ![t.val, 0])

section Reads

variable (t : Fin cfg0.N) (j : Fin 4) (k : Fin 512) (r : Fin 704) (d : Fin 1024) (hl : t.val * 512 + k.val < 4096)

/-- A point's block of a hidden gradient holds its 512 rows. -/
theorem read_0 (X : (⟨S4x4096x704, .bf16⟩ : BufTy).Contents (Elt Ideal)) : ((cfg0.win 0).blk t).view.read (Elt Ideal) X (ix3 j k r) = X (ix3 j ⟨t.val * 512 + k.val, hl⟩ r) := by
  blk_ext [idx0 t]

/-- A point's block of a weight is the whole weight. -/
theorem read_1 (X : (⟨S4x704x1024, .bf16⟩ : BufTy).Contents (Elt Ideal)) : ((cfg0.win 1).blk t).view.read (Elt Ideal) X (ix3 j r d) = X (ix3 j r d) := by
  blk_ext [idx1 t]

/-- The same for the other gradient. -/
theorem read_2 (X : (⟨S4x4096x704, .bf16⟩ : BufTy).Contents (Elt Ideal)) : ((cfg0.win 2).blk t).view.read (Elt Ideal) X (ix3 j k r) = X (ix3 j ⟨t.val * 512 + k.val, hl⟩ r) := by
  blk_ext [idx2 t]

/-- The same for the other weight. -/
theorem read_3 (X : (⟨S4x704x1024, .bf16⟩ : BufTy).Contents (Elt Ideal)) : ((cfg0.win 3).blk t).view.read (Elt Ideal) X (ix3 j r d) = X (ix3 j r d) := by
  blk_ext [idx3 t]

/-- A point's block of the rows. -/
theorem read_4 (X : (⟨S4096x1024, .f32⟩ : BufTy).Contents (Elt Ideal)) : ((cfg0.win 4).blk t).view.read (Elt Ideal) X (ix2 k d) = X (ix2 ⟨t.val * 512 + k.val, hl⟩ d) := by
  blk_ext [idx4 t]

/-- A point's block of the gain is the gain. -/
theorem read_5 (X : (⟨S1x1024, .f32⟩ : BufTy).Contents (Elt Ideal)) : ((cfg0.win 5).blk t).view.read (Elt Ideal) X (ix2 0 d) = X (ix2 0 d) := by
  blk_ext [idx5 t]

/-- A point's block of the residual's gradient. -/
theorem read_6 (X : (⟨S4096x1024, .f32⟩ : BufTy).Contents (Elt Ideal)) : ((cfg0.win 6).blk t).view.read (Elt Ideal) X (ix2 k d) = X (ix2 ⟨t.val * 512 + k.val, hl⟩ d) := by
  blk_ext [idx6 t]

end Reads

/-- What a point writes of the rows. -/
theorem out_rows (t : Fin cfg0.N) (q : Fin 512) (d : Fin 1024) :
    (outsAt0 m c t.val t.isLt).1 (ix2 q d) = rows (iblk m c 0 t) (iblk m c 1 t) (iblk m c 2 t) (iblk m c 3 t) (iblk m c 4 t) (iblk m c 5 t) (iblk m c 6 t) q d := by
  by_cases h : t.val % 8 = 0
  · have key := rows_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) ((hcond0_0 t).mpr h) q d
    rw [outsAt0_A m c t h]
    with_reducible exact key
  · have key := rows_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (fun h' => h ((hcond0_0 t).mp h')) q d
    rw [outsAt0_B m c t h]
    with_reducible exact key

/-- What a point writes of the rows in the narrower format. -/
theorem out_twin (t : Fin cfg0.N) (q : Fin 512) (d : Fin 1024) :
    (outsAt0 m c t.val t.isLt).2.2 (ix2 q d) = rows (iblk m c 0 t) (iblk m c 1 t) (iblk m c 2 t) (iblk m c 3 t) (iblk m c 4 t) (iblk m c 5 t) (iblk m c 6 t) q d := by
  by_cases h : t.val % 8 = 0
  · have key := twin_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) ((hcond0_0 t).mpr h) q d
    rw [outsAt0_A m c t h]
    with_reducible exact key
  · have key := twin_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (fun h' => h ((hcond0_0 t).mp h')) q d
    rw [outsAt0_B m c t h]
    with_reducible exact key

/-- The gain's gradient after the first point. -/
theorem acc_first (t : Fin cfg0.N) (h : t.val % 8 = 0) (d : Fin 1024) :
    (outsAt0 m c t.val t.isLt).2.1 (ix2 0 d) = 0 + gain (iblk m c 0 t) (iblk m c 1 t) (iblk m c 2 t) (iblk m c 3 t) (iblk m c 4 t) d := by
  have key := gain_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) ((hcond0_0 t).mpr h) d
  rw [outsAt0_A m c t h]
  with_reducible exact key

/-- The gain's gradient after a later point. -/
theorem acc_next (t : Fin cfg0.N) (h : ¬t.val % 8 = 0) (d : Fin 1024) :
    (outsAt0 m c t.val t.isLt).2.1 (ix2 0 d) = (outsAt0 m c (t.val - 1) (Nat.lt_of_le_of_lt (Nat.sub_le _ _) t.isLt)).2.1 (ix2 0 d) + gain (iblk m c 0 t) (iblk m c 1 t) (iblk m c 2 t) (iblk m c 3 t) (iblk m c 4 t) d := by
  have key := gain_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (fun h' => h ((hcond0_0 t).mp h')) d
  rw [outsAt0_B m c t h]
  with_reducible exact key

/-- After the last point it is the sum of the points' parts. -/
theorem acc_last (t : Fin cfg0.N) (ht : t.val + 1 = cfg0.N) (d : Fin 1024) :
    (outsAt0 m c t.val t.isLt).2.1 (ix2 0 d) = ∑ p : Fin cfg0.N, gain (iblk m c 0 p) (iblk m c 1 p) (iblk m c 2 p) (iblk m c 3 p) (iblk m c 4 p) d := by
  have h := Pipeline.eq_sum_fin_of_reset_step_apply_last (fun n h (z : Fin 1024) => (outsAt0 m c n h).2.1 (ix2 0 z)) 8 (fun _ => (0 : EReal))
    (fun p z => gain (iblk m c 0 p) (iblk m c 1 p) (iblk m c 2 p) (iblk m c 3 p) (iblk m c 4 p) z)
    (fun t h z => acc_first m c t h z) (fun t h z => acc_next m c t h z) (le_of_eq N_0) t ht d
  rwa [zero_add] at h

/-! ## The results -/

/-- The gradient of a normed row: the two products over the hidden columns. -/
def hid (wg wu : FVec Ideal S1024x2816 .f32) (a b : FVec Ideal S4096x2816 .f32) (k : Fin 4096) (d : Fin 1024) : EReal :=
  ∑ l : Fin 2816, (a (ix2 k l) : EReal) * wg (ix2 d l) + ∑ l : Fin 2816, (b (ix2 k l) : EReal) * wu (ix2 d l)

/-- The rows' gradient. -/
def dx (x : FVec Ideal S4096x1024 .f32) (g : FVec Ideal S1024 .f32) (wg wu : FVec Ideal S1024x2816 .f32) (a b : FVec Ideal S4096x2816 .f32) (e : FVec Ideal S4096x1024 .f32)
    (k : Fin 4096) (d : Fin 1024) : EReal :=
  through (fun n => x (ix2 k n)) (fun n => g (ix1 n)) (hid wg wu a b k) (fun n => e (ix2 k n)) d

/-- The gain's gradient. -/
def dgain (x : FVec Ideal S4096x1024 .f32) (wg wu : FVec Ideal S1024x2816 .f32) (a b : FVec Ideal S4096x2816 .f32) (d : Fin 1024) : EReal :=
  ∑ k : Fin 4096, hid wg wu a b k d * ((x (ix2 k d) : EReal) * rstd (fun n => x (ix2 k n)))

/-- The four shards' parts of a product are the whole product. -/
theorem shards_sum (w : FVec Ideal S1024x2816 .f32) (a : FVec Ideal S4096x2816 .f32) (x0 : Vec Ideal S4x512x704 .bf16) (x1 : Vec Ideal S4x704x1024 .bf16)
    (q : Fin 512) (k : Fin 4096) (d : Fin 1024) (h0 : ∀ j r, x0 (ix3 j q r) = laid a (ix3 j k r)) (h1 : ∀ j r, x1 (ix3 j r d) = turned w (ix3 j r d)) :
    shard x0 x1 0 q d + shard x0 x1 1 q d + shard x0 x1 2 q d + shard x0 x1 3 q d = ∑ l : Fin 2816, (a (ix2 k l) : EReal) * w (ix2 d l) := by
  rw [← Fin.sum_univ_four (fun j => shard x0 x1 j q d)]
  unfold shard
  refine Fin.sum_mul_add_congr (S := 4) (fun j r hl => ?_)
  rw [h0, h1]
  rfl

/-- A tile's gradient of a normed row is the step's. -/
theorem back_eq (t : Fin cfg0.N) (q : Fin 512) (hl : t.val * 512 + q.val < 4096) (d : Fin 1024) :
    back (iblk m c 0 t) (iblk m c 1 t) (iblk m c 2 t) (iblk m c 3 t) q d
      = hid (m (c, Proc.tc.devRef main_arg2)) (m (c, Proc.tc.devRef main_arg3)) (m (c, Proc.tc.devRef main_arg4)) (m (c, Proc.tc.devRef main_arg5)) ⟨t.val * 512 + q.val, hl⟩ d := by
  have e0 : ∀ j r, iblk m c 0 t (ix3 j q r) = laid (m (c, Proc.tc.devRef main_arg4)) (ix3 j ⟨t.val * 512 + q.val, hl⟩ r) := fun j r => by
    rw [← V_dgate]; exact read_0 t j q r hl _
  have e1 : ∀ j r, iblk m c 1 t (ix3 j r d) = turned (m (c, Proc.tc.devRef main_arg2)) (ix3 j r d) := fun j r => by
    rw [← V_wgate]; exact read_1 t j r d _
  have e2 : ∀ j r, iblk m c 2 t (ix3 j q r) = laid (m (c, Proc.tc.devRef main_arg5)) (ix3 j ⟨t.val * 512 + q.val, hl⟩ r) := fun j r => by
    rw [← V_dlin]; exact read_2 t j q r hl _
  have e3 : ∀ j r, iblk m c 3 t (ix3 j r d) = turned (m (c, Proc.tc.devRef main_arg3)) (ix3 j r d) := fun j r => by
    rw [← V_wlin]; exact read_3 t j r d _
  unfold hid
  rw [← shards_sum _ _ _ _ q _ d e0 e1, ← shards_sum _ _ _ _ q _ d e2 e3]
  unfold back
  simp only [add_assoc]

/-- A tile's rows are the step's. -/
theorem rows_eq (t : Fin cfg0.N) (q : Fin 512) (hl : t.val * 512 + q.val < 4096) (d : Fin 1024) :
    rows (iblk m c 0 t) (iblk m c 1 t) (iblk m c 2 t) (iblk m c 3 t) (iblk m c 4 t) (iblk m c 5 t) (iblk m c 6 t) q d
      = dx (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) ⟨t.val * 512 + q.val, hl⟩ d := by
  have e4 : ∀ n, iblk m c 4 t (ix2 q n) = (m (c, Proc.tc.devRef main_arg0) : FVec Ideal S4096x1024 .f32) (ix2 ⟨t.val * 512 + q.val, hl⟩ n) := fun n => by
    rw [← V_x m c]; exact read_4 t q n hl _
  have e5 : ∀ n, iblk m c 5 t (ix2 0 n) = (m (c, Proc.tc.devRef main_arg1) : FVec Ideal S1024 .f32) (ix1 n) := fun n => by
    rw [← V_gain m c]; exact read_5 t n _
  have e6 : ∀ n, iblk m c 6 t (ix2 q n) = (m (c, Proc.tc.devRef main_arg6) : FVec Ideal S4096x1024 .f32) (ix2 ⟨t.val * 512 + q.val, hl⟩ n) := fun n => by
    rw [← V_res m c]; exact read_6 t q n hl _
  unfold rows dx
  rw [funext e4, funext e5, funext e6, funext (back_eq m c t q hl)]

/-- The points' parts of the gain's gradient are the whole sum. -/
theorem gains (d : Fin 1024) : ∑ p : Fin cfg0.N, gain (iblk m c 0 p) (iblk m c 1 p) (iblk m c 2 p) (iblk m c 3 p) (iblk m c 4 p) d
    = dgain (m (c, Proc.tc.devRef main_arg0)) (m (c, Proc.tc.devRef main_arg2)) (m (c, Proc.tc.devRef main_arg3)) (m (c, Proc.tc.devRef main_arg4)) (m (c, Proc.tc.devRef main_arg5)) d := by
  unfold gain dgain
  refine Fin.sum_mul_add_congr (S := 8) (fun t q hl => ?_)
  have e4 : ∀ n, iblk m c 4 t (ix2 q n) = (m (c, Proc.tc.devRef main_arg0) : FVec Ideal S4096x1024 .f32) (ix2 ⟨t.val * 512 + q.val, hl⟩ n) := fun n => by
    rw [← V_x m c]; exact read_4 t q n hl _
  rw [funext e4, e4, back_eq m c t q hl]

/-- The launch's first result is the rows' gradient. -/
theorem result_rows : (dats m 0 c).arrAt 7 cfg0.N = (fun i => dx (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (i 0) (i 1) : FVec Ideal S4096x1024 .f32) := by
  refine (dats m 0 c).arrAt_eq_of_covers 7 _ (by decide +kernel) fun t hf y => ?_
  obtain ⟨q, d, rfl⟩ : ∃ (q : Fin 512) (d : Fin 1024), y = ix2 q d := ⟨y 0, y 1, by funext k; fin_cases k <;> rfl⟩
  have hl : t.val * 512 + q.val < 4096 := by have h8 : t.val < 8 := t.isLt.trans_eq N_0; omega
  blk_simp
  have he : (win0_7.blk t).view.emb (ix2 q d) = ix2 ⟨t.val * 512 + q.val, hl⟩ d := by
    blk_ext [idx7 t]
  rw [after0_7, he]
  exact (out_rows m c t q d).trans (rows_eq m c t q hl d)

/-- The third is the same in the narrower format. -/
theorem result_twin : (dats m 0 c).arrAt 9 cfg0.N = (fun i => dx (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (i 0) (i 1) : FVec Ideal S4096x1024 .bf16) := by
  refine (dats m 0 c).arrAt_eq_of_covers 9 _ (by decide +kernel) fun t hf y => ?_
  obtain ⟨q, d, rfl⟩ : ∃ (q : Fin 512) (d : Fin 1024), y = ix2 q d := ⟨y 0, y 1, by funext k; fin_cases k <;> rfl⟩
  have hl : t.val * 512 + q.val < 4096 := by have h8 : t.val < 8 := t.isLt.trans_eq N_0; omega
  blk_simp
  have he : (win0_9.blk t).view.emb (ix2 q d) = ix2 ⟨t.val * 512 + q.val, hl⟩ d := by
    blk_ext [idx9 t]
  rw [after0_9, he]
  exact (out_twin m c t q d).trans (rows_eq m c t q hl d)

/-- The second is the gain's gradient. -/
theorem result_gain : (dats m 0 c).arrAt 8 cfg0.N = (fun i => dgain (m (c, Proc.tc.devRef main_arg0)) (m (c, Proc.tc.devRef main_arg2)) (m (c, Proc.tc.devRef main_arg3)) (m (c, Proc.tc.devRef main_arg4)) (m (c, Proc.tc.devRef main_arg5)) (i 1) : FVec Ideal S1x1024 .f32) := by
  refine (dats m 0 c).arrAt_eq_of_covers 8 _ (by decide +kernel) fun t hf y => ?_
  have h7 : t.val % 8 = 7 := (flush0_8 t).mp hf
  have ht : t.val + 1 = cfg0.N := by have h8 : t.val < 8 := t.isLt.trans_eq N_0; exact (show t.val + 1 = 8 by omega).trans N_0.symm
  obtain ⟨u, d, rfl⟩ : ∃ (u : Fin 1) (d : Fin 1024), y = ix2 u d := ⟨y 0, y 1, by funext k; fin_cases k <;> rfl⟩
  obtain rfl : u = 0 := Subsingleton.elim _ _
  blk_simp
  have he : (win0_8.blk t).view.emb (ix2 0 d) = ix2 0 d := by
    blk_ext [idx8 t]
  rw [after0_8, he]
  exact (acc_last m c t ht d).trans (gains m c d)

end Cert.RowsIdeal.Grads

end
-- ==== Proof.RowsRefs.lean ====
module

public import proofs.«01_k».proof.Proof.RowsGrads
public import proofs.«01_k».proof.Proof.Gen.RowsReferenceIdeal.Read

@[expose] public section

noncomputable section

/-! # The rows' gradient as the reference computes it -/

namespace Cert.RowsRefs

open Cert.RowsIdeal.Grads Cert.Norm Idealize.ShloMosaic

/-! ## The reference, array by array -/

variable (x : FVec Ideal ⟨2, ![4096, 1024]⟩ .f32) (g : FVec Ideal ⟨1, ![1024]⟩ .f32) (wg wu : FVec Ideal ⟨2, ![1024, 2816]⟩ .f32)
  (a b : FVec Ideal ⟨2, ![4096, 2816]⟩ .f32) (e : FVec Ideal ⟨2, ![4096, 1024]⟩ .f32)

open Cert.RowsReferenceIdeal.Read

/-- The mean square of a row. -/
theorem ms_ref (i : (⟨2, ![4096, 1]⟩ : Shape).Idx) : val_main_v6 (F := Ideal) x i = ms (fun n => x (ix2 (i 0) n)) := by
  rw [val_main_v6_apply, val_main_v5_apply, val_main_v4_apply, val_main_v3_apply, val_main_v2_apply, val_main_v1_apply]
  have h : ∀ k, val_main_v0 (F := Ideal) x (idx_main_v1 (idx_main_v2 i) k) = x (ix2 (i 0) k) * x (ix2 (i 0) k) := fun k => by
    have ei : idx_main_v1 (idx_main_v2 i) k = ix2 (i 0) k := by blk_ext []
    rw [val_main_v0_apply, ei]
    rfl
  have hz : ∀ j, val_main_cst (F := Ideal) j = 0 := fun _ => zero_val
  rw [hz, zero_add, Finset.sum_congr rfl fun k _ => h k]
  rfl

/-- The inverse root of a row's mean square. -/
theorem rstd_ref (i : (⟨2, ![4096, 1]⟩ : Shape).Idx) : val_main_v7 (F := Ideal) x i = rstd (fun n => x (ix2 (i 0) n)) := by
  rw [val_main_v7_apply, ms_ref]
  rfl

/-- The gradient of the normed rows. -/
theorem hid_ref (i : (⟨2, ![4096, 1024]⟩ : Shape).Idx) : val_main_v20 (F := Ideal) wg wu a b i = hid wg wu a b (i 0) (i 1) := by
  rw [val_main_v20_apply, val_main_v18_apply, val_main_v19_apply]
  unfold hid
  refine (add_comm _ _).trans ?_
  congr 1 <;> refine Finset.sum_congr rfl fun k _ => ?_ <;> congr 1 <;> blk_ext []

/-- The same times the gain. -/
theorem gained_ref (i : (⟨2, ![4096, 1024]⟩ : Shape).Idx) : val_main_v25 (F := Ideal) g wg wu a b i = hid wg wu a b (i 0) (i 1) * g (ix1 (i 1)) := by
  have ei : idx_main_v13 (idx_main_v24 i) = ix1 (i 1) := by blk_ext []
  rw [val_main_v25_apply, val_main_v24_apply, val_main_v13_apply, hid_ref, ei]
  rfl

/-- What the reference adds twice to a row for its mean square. -/
theorem part_ref (i : (⟨2, ![4096, 1024]⟩ : Shape).Idx) :
    val_main_v37 (F := Ideal) x g wg wu a b i = part (fun n => x (ix2 (i 0) n)) (fun n => g (ix1 n)) (hid wg wu a b (i 0)) := by
  rw [val_main_v37_apply, val_main_v36_apply, Fin.sum_univ_one]
  have hz : ∀ j, val_main_cst_7 (F := Ideal) j = 0 := fun _ => zero_val
  have hz5 : ∀ j, val_main_cst_5 (F := Ideal) j = 0 := fun _ => zero_val
  obtain ⟨j, hj⟩ : ∃ j, j = idx_main_v36 (idx_main_v37 i) 0 := ⟨_, rfl⟩
  have hj0 : (j 0).val = (i 0).val := by rw [hj]
  have h : ∀ k, val_main_v27 (F := Ideal) x g wg wu a b (idx_main_v28 (idx_main_v29 j) k) = x (ix2 (i 0) k) * (hid wg wu a b (i 0) k * g (ix1 k)) := fun k => by
    have ei : idx_main_v28 (idx_main_v29 j) k = ix2 (i 0) k := by blk_ext [hj0]
    rw [val_main_v27_apply, gained_ref, ei]
    rfl
  have e0 : j 0 = i 0 := Fin.ext hj0
  rw [hz, zero_add, ← hj, val_main_v35_apply, val_main_v34_apply, val_main_v33_apply, val_main_v10_apply, val_main_v9_apply, val_main_v8_apply,
    val_main_v29_apply, val_main_v28_apply, hz5, zero_add, Finset.sum_congr rfl fun k _ => h k, rstd_ref, ms_ref, e0]
  rfl

/-- The reference's gradient of the rows, at a row and a column. -/
theorem dx_at (i : (⟨2, ![4096, 1024]⟩ : Shape).Idx) : val_main_v41 (F := Ideal) x g wg wu a b e i = dx x g wg wu a b e (i 0) (i 1) := by
  have e0 : (idx_main_v30 i) 0 = i 0 := rfl
  have ei : i = ix2 (i 0) (i 1) := by blk_ext []
  rw [val_main_v41_apply, val_main_v40_apply, val_main_v39_apply, val_main_v38_apply, val_main_v32_apply, val_main_v31_apply, val_main_v30_apply,
    part_ref, gained_ref, rstd_ref, e0]
  have hx : x i = x (ix2 (i 0) (i 1)) := congrArg x ei
  have he : e i = e (ix2 (i 0) (i 1)) := congrArg e ei
  rw [hx, he]
  exact through_eq (fun n => x (ix2 (i 0) n)) (fun n => g (ix1 n)) (hid wg wu a b (i 0)) (fun n => e (ix2 (i 0) n)) (i 1)

/-- The reference's first result is the launch's. -/
theorem dx_ref : val_main_v41 (F := Ideal) x g wg wu a b e = (fun i => dx x g wg wu a b e (i 0) (i 1) : FVec Ideal ⟨2, ![4096, 1024]⟩ .f32) :=
  funext fun i => dx_at x g wg wu a b e i

/-- So is its third, the same in the narrower format. -/
theorem twin_ref : val_main_v43 (F := Ideal) x g wg wu a b e = (fun i => dx x g wg wu a b e (i 0) (i 1) : FVec Ideal ⟨2, ![4096, 1024]⟩ .bf16) :=
  funext fun i => dx_at x g wg wu a b e i

/-- The reference's gradient of the gain at a column. -/
theorem dgain_at (i : (⟨2, ![1, 1024]⟩ : Shape).Idx) : val_main_v42 (F := Ideal) x wg wu a b i = dgain x wg wu a b (i 1) := by
  rw [val_main_v42_apply, val_main_v26_apply, Fin.sum_univ_one, val_main_v23_apply, val_main_v22_apply]
  have hz : ∀ j, val_main_cst_4 (F := Ideal) j = 0 := fun _ => zero_val
  have hz3 : ∀ j, val_main_cst_3 (F := Ideal) j = 0 := fun _ => zero_val
  rw [hz, hz3, zero_add, zero_add]
  unfold dgain
  refine Finset.sum_congr rfl fun k _ => ?_
  obtain ⟨j, hj⟩ : ∃ j, j = idx_main_v22 (idx_main_v23 (idx_main_v26 (idx_main_v42 i) 0)) k := ⟨_, rfl⟩
  have ei : j = ix2 k (i 1) := by rw [hj]; blk_ext []
  have e0 : (idx_main_v11 j) 0 = k := by rw [ei]; rfl
  rw [← hj, val_main_v21_apply, val_main_v12_apply, val_main_v11_apply, rstd_ref, hid_ref, e0, ei]
  exact mul_comm _ _

/-- The reference's second result is the launch's. -/
theorem dgain_ref : val_main_v42 (F := Ideal) x wg wu a b = (fun i => dgain x wg wu a b (i 1) : FVec Ideal ⟨2, ![1, 1024]⟩ .f32) :=
  funext fun i => dgain_at x wg wu a b i

end Cert.RowsRefs

end
-- ==== Proof.UpVals.lean ====
module

public import proofs.«01_k».proof.Proof.Gen.UpIdeal.Value
public import proofs.«01_k».proof.Proof.Gen.UpReferenceIdeal.Read
public import proofs.«01_k».proof.Proof.ActGrads
public import proofs.«01_k».proof.Proof.Shards
public import Idealize.ShloMosaic.Lib.Pipeline.ValueKit
public import Idealize.ShloMosaic.Lib.StableHlo.ReadAt

@[expose] public section

set_option maxRecDepth 16384

noncomputable section

/-! # The hidden products and the gated activation, block by block

Each point of the launch computes the two hidden products and the activation on 1024 rows and one shard of the hidden columns. -/

namespace Cert.UpIdeal.Vals

open Cert.Shards Cert.ActIdeal.Grads
open Cert.UpIdeal Cert.UpIdeal.Gen Idealize.ShloMosaic Idealize.ShloMosaic.TcCoe Idealize.SL.Sem
open Idealize.ShloMosaic.Pipeline (Dat)

attribute [local pointwise] k0_pay1 k0_pay2 k0_pay3 k0_pay4 k0_pay5 k0_pay6

section Point

variable (x0 : Vec Ideal S1024x1024 .bf16) (x1 x2 : Vec Ideal S1x704x1024 .bf16)

/-- What a point writes of the gate's product. -/
theorem out_gate (k : Fin 1024) (r : Fin 704) : out0_3 x0 x1 x2 (ix3 0 k r) = prod x0 x1 k r := by
  unfold prod
  frame_out
  pointwise

/-- What a point writes of the other product. -/
theorem out_lin (k : Fin 1024) (r : Fin 704) : out0_4 x0 x1 x2 (ix3 0 k r) = prod x0 x2 k r := by
  unfold prod
  frame_out
  pointwise

/-- What a point writes of the activation. -/
theorem out_act (k : Fin 1024) (r : Fin 704) :
    out0_5 x0 x1 x2 (ix3 0 k r) = prod x0 x1 k r * Cert.ActIdeal.Grads.sig (prod x0 x1 k r) * prod x0 x2 k r := by
  unfold Cert.ActIdeal.Grads.sig prod
  rw [← one_val]
  frame_out
  pointwise

end Point

/-! ## The launch -/

variable (m : (ℓ : Loc nD τ Cert.UpIdeal.sig) → Buf (Elt Ideal) ℓ) (c : Dev nD)

/-- The launch's first operand holds the normed rows. -/
theorem V_rows : V m c main_v0 = (truncf .bf16 (m (c, Proc.tc.devRef main_arg0) : FVec Ideal S4096x1024 .f32) bitsLt_bf16_f32 : FVec Ideal S4096x1024 .bf16) := by
  unfold V
  after_reads_simp

/-- The second operand holds the gate's weight. -/
theorem V_gate : V m c main_v3 = turned (m (c, Proc.tc.devRef main_arg1)) := by
  unfold V
  after_reads_simp
  exact turned_eq _ _ _ _

/-- The third operand holds the other weight. -/
theorem V_lin : V m c main_v6 = turned (m (c, Proc.tc.devRef main_arg2)) := by
  unfold V
  after_reads_simp
  exact turned_eq _ _ _ _

/-- The block of rows and the shard a point works on. -/
theorem idx : ∀ t : Fin cfg0.N, ∃ b j : Fin 4, win0_0.index t = ![b.val, 0] ∧ win0_1.index t = ![j.val, 0, 0] ∧ win0_2.index t = ![j.val, 0, 0]
    ∧ win0_3.index t = ![j.val, b.val, 0] ∧ win0_4.index t = ![j.val, b.val, 0] ∧ win0_5.index t = ![j.val, b.val, 0] :=
  (by decide +kernel : ∀ t : Fin grid0.N, ∃ b j : Fin 4, win0_0.index t = ![b.val, 0] ∧ win0_1.index t = ![j.val, 0, 0] ∧ win0_2.index t = ![j.val, 0, 0]
    ∧ win0_3.index t = ![j.val, b.val, 0] ∧ win0_4.index t = ![j.val, b.val, 0] ∧ win0_5.index t = ![j.val, b.val, 0])

section Blocks

variable (t : Fin cfg0.N) (b j : Fin 4)

/-- A block of the rows. -/
theorem read_0 (h : win0_0.index t = ![b.val, 0]) (X : (⟨S4096x1024, .bf16⟩ : BufTy).Contents (Elt Ideal)) (k n : Fin 1024) :
    ((cfg0.win 0).blk t).view.read (Elt Ideal) X (ix2 k n) = X (ix2 (row b k) n) := by
  blk_ext [h, row]

/-- A shard of the gate's weight. -/
theorem read_1 (h : win0_1.index t = ![j.val, 0, 0]) (X : (⟨S4x704x1024, .bf16⟩ : BufTy).Contents (Elt Ideal)) (r : Fin 704) (n : Fin 1024) :
    ((cfg0.win 1).blk t).view.read (Elt Ideal) X (ix3 0 r n) = X (ix3 j r n) := by
  blk_ext [h]

/-- A shard of the other weight. -/
theorem read_2 (h : win0_2.index t = ![j.val, 0, 0]) (X : (⟨S4x704x1024, .bf16⟩ : BufTy).Contents (Elt Ideal)) (r : Fin 704) (n : Fin 1024) :
    ((cfg0.win 2).blk t).view.read (Elt Ideal) X (ix3 0 r n) = X (ix3 j r n) := by
  blk_ext [h]

end Blocks

/-- A hidden product at row `k` and hidden column `q`. -/
def hid (h : FVec Ideal S4096x1024 .f32) (w : FVec Ideal S1024x2816 .f32) (k : Fin 4096) (q : Fin 2816) : EReal :=
  ∑ n : Fin 1024, (h (ix2 k n) : EReal) * w (ix2 n q)

/-- A hidden product, shard by shard. -/
def hids (h : FVec Ideal S4096x1024 .f32) (w : FVec Ideal S1024x2816 .f32) : FVec Ideal S4x4096x704 .bf16 :=
  fun i => hid h w (i 1) (col (i 0) (i 2))

/-- The activation, shard by shard. -/
def acts (h : FVec Ideal S4096x1024 .f32) (wg wu : FVec Ideal S1024x2816 .f32) : FVec Ideal S4x4096x704 .bf16 :=
  fun i => hid h wg (i 1) (col (i 0) (i 2)) * Cert.ActIdeal.Grads.sig (hid h wg (i 1) (col (i 0) (i 2))) * hid h wu (i 1) (col (i 0) (i 2))

/-- The gate's product on a point's block. -/
theorem gate_block (t : Fin cfg0.N) (b j : Fin 4) (h0 : win0_0.index t = ![b.val, 0]) (h1 : win0_1.index t = ![j.val, 0, 0]) (k : Fin 1024) (r : Fin 704) :
    prod (iblk m c 0 t) (iblk m c 1 t) k r = hid (m (c, Proc.tc.devRef main_arg0)) (m (c, Proc.tc.devRef main_arg1)) (row b k) (col j r) := by
  unfold hid prod
  refine Finset.sum_congr rfl fun n _ => ?_
  have e0 : iblk m c 0 t (ix2 k n) = V m c main_v0 (ix2 (row b k) n) := read_0 t b h0 _ k n
  have e1 : iblk m c 1 t (ix3 0 r n) = V m c main_v3 (ix3 j r n) := read_1 t j h1 _ r n
  rw [e0, e1, V_rows, V_gate]
  rfl

/-- The other product on a point's block. -/
theorem lin_block (t : Fin cfg0.N) (b j : Fin 4) (h0 : win0_0.index t = ![b.val, 0]) (h2 : win0_2.index t = ![j.val, 0, 0]) (k : Fin 1024) (r : Fin 704) :
    prod (iblk m c 0 t) (iblk m c 2 t) k r = hid (m (c, Proc.tc.devRef main_arg0)) (m (c, Proc.tc.devRef main_arg2)) (row b k) (col j r) := by
  unfold hid prod
  refine Finset.sum_congr rfl fun n _ => ?_
  have e0 : iblk m c 0 t (ix2 k n) = V m c main_v0 (ix2 (row b k) n) := read_0 t b h0 _ k n
  have e1 : iblk m c 2 t (ix3 0 r n) = V m c main_v6 (ix3 j r n) := read_2 t j h2 _ r n
  rw [e0, e1, V_rows, V_lin]
  rfl

/-- The launch's first result is the gate's product. -/
theorem result_gate : (dats m 0 c).arrAt 3 cfg0.N = hids (m (c, Proc.tc.devRef main_arg0)) (m (c, Proc.tc.devRef main_arg1)) := by
  refine (dats m 0 c).arrAt_eq_of_covers 3 _ (by decide +kernel) fun t hf y => ?_
  obtain ⟨b, j, h0, h1, -, h3, -, -⟩ := idx t
  obtain ⟨z, k, r, rfl⟩ : ∃ (z : Fin 1) (k : Fin 1024) (r : Fin 704), y = ix3 z k r := ⟨y 0, y 1, y 2, by funext q; fin_cases q <;> rfl⟩
  obtain rfl : z = 0 := Subsingleton.elim _ _
  blk_simp
  have he : (win0_3.blk t).view.emb (ix3 0 k r) = ix3 j (row b k) r := by
    blk_ext [h3, row]
  rw [after0_3, he]
  exact (out_gate _ _ _ k r).trans (gate_block m c t b j h0 h1 k r)

/-- The second is the other product. -/
theorem result_lin : (dats m 0 c).arrAt 4 cfg0.N = hids (m (c, Proc.tc.devRef main_arg0)) (m (c, Proc.tc.devRef main_arg2)) := by
  refine (dats m 0 c).arrAt_eq_of_covers 4 _ (by decide +kernel) fun t hf y => ?_
  obtain ⟨b, j, h0, -, h2, -, h4, -⟩ := idx t
  obtain ⟨z, k, r, rfl⟩ : ∃ (z : Fin 1) (k : Fin 1024) (r : Fin 704), y = ix3 z k r := ⟨y 0, y 1, y 2, by funext q; fin_cases q <;> rfl⟩
  obtain rfl : z = 0 := Subsingleton.elim _ _
  blk_simp
  have he : (win0_4.blk t).view.emb (ix3 0 k r) = ix3 j (row b k) r := by
    blk_ext [h4, row]
  rw [after0_4, he]
  exact (out_lin _ _ _ k r).trans (lin_block m c t b j h0 h2 k r)

/-- The third is the activation. -/
theorem result_act : (dats m 0 c).arrAt 5 cfg0.N
    = acts (m (c, Proc.tc.devRef main_arg0)) (m (c, Proc.tc.devRef main_arg1)) (m (c, Proc.tc.devRef main_arg2)) := by
  refine (dats m 0 c).arrAt_eq_of_covers 5 _ (by decide +kernel) fun t hf y => ?_
  obtain ⟨b, j, h0, h1, h2, -, -, h5⟩ := idx t
  obtain ⟨z, k, r, rfl⟩ : ∃ (z : Fin 1) (k : Fin 1024) (r : Fin 704), y = ix3 z k r := ⟨y 0, y 1, y 2, by funext q; fin_cases q <;> rfl⟩
  obtain rfl : z = 0 := Subsingleton.elim _ _
  blk_simp
  have he : (win0_5.blk t).view.emb (ix3 0 k r) = ix3 j (row b k) r := by
    blk_ext [h5, row]
  rw [after0_5, he]
  refine (out_act _ _ _ k r).trans ?_
  rw [gate_block m c t b j h0 h1, lin_block m c t b j h0 h2]
  rfl

/-! ## The reference -/

open Cert.UpReferenceIdeal.Read

variable (h : FVec Ideal S4096x1024 .f32) (wg wu : FVec Ideal S1024x2816 .f32)

/-- The reference's product with the gate's weight. -/
theorem gate_at (i : (⟨2, ![4096, 2816]⟩ : Shape).Idx) : val_main_v0 (F := Ideal) h wg i = hid h wg (i 0) (i 1) := by
  rw [val_main_v0_apply]
  unfold hid
  refine Finset.sum_congr rfl fun k _ => ?_
  congr 1 <;> blk_ext []

/-- The reference's product with the other weight. -/
theorem lin_at (i : (⟨2, ![4096, 2816]⟩ : Shape).Idx) : val_main_v1 (F := Ideal) h wu i = hid h wu (i 0) (i 1) := by
  rw [val_main_v1_apply]
  unfold hid
  refine Finset.sum_congr rfl fun k _ => ?_
  congr 1 <;> blk_ext []

/-- The reference's first result is the launch's. -/
theorem gate_ref : val_main_v4 (F := Ideal) h wg = hids h wg := by
  funext i
  have e : val_main_v4 (F := Ideal) h wg i = val_main_v3 (F := Ideal) h wg i := rfl
  have ei : idx_main_v2 (idx_main_v3 i) = ix2 (i 1) (col (i 0) (i 2)) := by blk_ext [col]
  rw [e, val_main_v3_apply, val_main_v2_apply, gate_at, ei]
  rfl

/-- So is its second. -/
theorem lin_ref : val_main_v7 (F := Ideal) h wu = hids h wu := by
  funext i
  have e : val_main_v7 (F := Ideal) h wu i = val_main_v6 (F := Ideal) h wu i := rfl
  have ei : idx_main_v5 (idx_main_v6 i) = ix2 (i 1) (col (i 0) (i 2)) := by blk_ext [col]
  rw [e, val_main_v6_apply, val_main_v5_apply, lin_at, ei]
  rfl

/-- The reference's activation at a row and a hidden column. -/
theorem act_at (i : (⟨2, ![4096, 2816]⟩ : Shape).Idx) :
    val_main_v9 (F := Ideal) h wg wu i = hid h wg (i 0) (i 1) * Cert.ActIdeal.Grads.sig (hid h wg (i 0) (i 1)) * hid h wu (i 0) (i 1) := by
  rw [val_main_v9_apply, val_main_v8_apply, val_main_call0_v5_apply, val_main_call0_v4_apply, val_main_call0_cst_0_apply, val_main_call0_v3_apply,
    val_main_call0_v2_apply, val_main_call0_cst_apply, val_main_call0_v1_apply, val_main_call0_v0_apply, gate_at, lin_at]
  unfold Cert.ActIdeal.Grads.sig
  rw [zero_sub, ← one_val]
  rfl

/-- So is its third. -/
theorem act_ref : val_main_v12 (F := Ideal) h wg wu = acts h wg wu := by
  funext i
  have e : val_main_v12 (F := Ideal) h wg wu i = val_main_v11 (F := Ideal) h wg wu i := rfl
  have ei : idx_main_v10 (idx_main_v11 i) = ix2 (i 1) (col (i 0) (i 2)) := by blk_ext [col]
  rw [e, val_main_v11_apply, val_main_v10_apply, act_at, ei]
  rfl

end Cert.UpIdeal.Vals

end
-- ==== Proof.DownVals.lean ====
module

public import proofs.«01_k».proof.Proof.Gen.DownIdeal.Value
public import proofs.«01_k».proof.Proof.Gen.ResidualReferenceIdeal.Read
public import proofs.«01_k».proof.Proof.Shards
public import proofs.«01_k».proof.Proof.Norm
public import Idealize.ShloMosaic.Lib.Pipeline.ValueKit
public import Idealize.ShloMosaic.Lib.StableHlo.ReadAt

@[expose] public section

set_option maxRecDepth 16384

noncomputable section

/-! # The second product of the SwiGLU, the residual and the next norm

Each point of the launch takes 512 rows: the activation times the weight, summed shard by shard, plus the residual rows,
and the sum's norm, in two halves of 256 rows. -/

namespace Cert.DownVals

open Cert.Shards Cert.Norm
open Cert.DownIdeal Cert.DownIdeal.Gen Idealize.ShloMosaic Idealize.ShloMosaic.TcCoe Idealize.SL.Sem
open Idealize.ShloMosaic.Pipeline (Dat)

section Halves

attribute [local pointwise] k0_pay3 k0_pay5

variable (k : Fin 256) (d : Fin 1024) (g : FVec Ideal S1x1024 .f32)

/-- The norm of the first half. -/
theorem norm_lo (y : FVec Ideal S256x1024 .f32) : k0_pay3 y g (ix2 k d) = normed (fun n => y (ix2 k n)) (fun n => g (ix2 0 n)) d := by
  unfold normed rstd
  pointwise

/-- The norm of the second half. -/
theorem norm_hi (v : FVec Ideal S512x1024 .f32) (x : FVec Ideal S256x1024 .f32) :
    k0_pay5 v x g (ix2 k d) = normed (fun n => k0_pay4 v x (ix2 k n)) (fun n => g (ix2 0 n)) d := by
  unfold normed rstd
  pointwise

end Halves

section Point

variable (x0 : Vec Ideal S4x512x704 .bf16) (x1 : Vec Ideal S4x704x1024 .bf16) (x2 : Vec Ideal S512x1024 .f32) (x3 : Vec Ideal S1x1024 .f32)

/-- One shard's part of the product. -/
def shard (j : Fin 4) (k : Fin 512) (d : Fin 1024) : EReal := ∑ r : Fin 704, (x0 (ix3 j k r) : EReal) * x1 (ix3 j r d)

/-- The product, shard by shard, plus the residual. -/
def total (k : Fin 512) (d : Fin 1024) : EReal := shard x0 x1 0 k d + shard x0 x1 1 k d + shard x0 x1 2 k d + shard x0 x1 3 k d + x2 (ix2 k d)

section Sums

attribute [local pointwise] k0_pay1 k0_pay2 k0_pay4 k0_pay6 k0_pay7

variable (k : Fin 256) (d : Fin 1024)

/-- The sum's first half. -/
theorem sum_lo : k0_pay7 x0 x1 x2 x3 (ix2 k d)
    = total x0 x1 x2 (lo k) d := by
  unfold total shard
  pointwise
  rfl

/-- The sum's second half. -/
theorem sum_hi : k0_pay4 (k0_pay6 x0 x1 x2 x3) (View.ld x2 r0_10) (ix2 k d)
    = total x0 x1 x2 (hi k) d := by
  unfold total shard
  pointwise
  rfl

end Sums

/-- What a point writes of the sum. -/
theorem out_sum (q : Fin 512) (d : Fin 1024) : out0_4 x0 x1 x2 x3 (ix2 q d) = total x0 x1 x2 q d := by
  frame_out
  obtain ⟨k, rfl⟩ | ⟨k, rfl⟩ := lo_or_hi q
  · rw [run_miss _ _ _ _ (lo_lt k), run_hit _ _ _ _ k (lo_eq k), sum_lo]
  · rw [run_hit _ _ _ _ k (hi_eq k), sum_hi]

/-- What a point writes of the norm. -/
theorem out_norm (q : Fin 512) (d : Fin 1024) : out0_5 x0 x1 x2 x3 (ix2 q d) = normed (total x0 x1 x2 q) (fun n => x3 (ix2 0 n)) d := by
  frame_out
  obtain ⟨k, rfl⟩ | ⟨k, rfl⟩ := lo_or_hi q
  · rw [run_miss _ _ _ _ (lo_lt k), run_hit _ _ _ _ k (lo_eq k), norm_lo]
    simp only [sum_lo]
  · rw [run_hit _ _ _ _ k (hi_eq k), norm_hi]
    simp only [sum_hi]

end Point

/-! ## The launch -/

variable (m : (ℓ : Loc nD τ Cert.DownIdeal.sig) → Buf (Elt Ideal) ℓ) (c : Dev nD)

/-- The first operand: the activation, shard by shard. -/
theorem V_act : V m c main_v3 = laid (m (c, Proc.tc.devRef main_arg1)) := by
  unfold V
  after_reads_simp
  exact laid_eq _ _ _ _

/-- The second: the weight, cut into shards. -/
theorem V_w : V m c main_v5 = cut (m (c, Proc.tc.devRef main_arg2)) := by
  unfold V
  after_reads_simp
  exact cut_eq _ _ _

/-- The third: the residual rows. -/
theorem V_x : V m c main_arg0 = m (c, Proc.tc.devRef main_arg0) := by
  unfold V
  after_reads_simp

/-- The fourth: the gain, as one row. -/
theorem V_gain (d : Fin 1024) : (V m c main_v0 : FVec Ideal S1x1024 .f32) (ix2 0 d) = (m (c, Proc.tc.devRef main_arg3) : FVec Ideal S1024 .f32) (ix1 d) := by
  unfold V
  after_reads_simp
  pointwise

/-- The blocks' places. -/
theorem idx : ∀ t : Fin cfg0.N, ∃ b : Fin 8, win0_0.index t = ![0, b.val, 0] ∧ win0_1.index t = ![0, 0, 0] ∧ win0_2.index t = ![b.val, 0]
    ∧ win0_3.index t = ![0, 0] ∧ win0_4.index t = ![b.val, 0] ∧ win0_5.index t = ![b.val, 0] :=
  (by decide +kernel : ∀ t : Fin grid0.N, ∃ b : Fin 8, win0_0.index t = ![0, b.val, 0] ∧ win0_1.index t = ![0, 0, 0] ∧ win0_2.index t = ![b.val, 0]
    ∧ win0_3.index t = ![0, 0] ∧ win0_4.index t = ![b.val, 0] ∧ win0_5.index t = ![b.val, 0])

section Reads

variable (t : Fin cfg0.N) (b : Fin 8)

/-- The row of the whole array at place `k` of block `b`. -/
def row (b : Fin 8) (k : Fin 512) : Fin 4096 := ⟨b.val * 512 + k.val, by omega⟩

/-- A block of a shard of the activation. -/
theorem read_0 (h : win0_0.index t = ![0, b.val, 0]) (X : (⟨S4x4096x704, .bf16⟩ : BufTy).Contents (Elt Ideal)) (j : Fin 4) (k : Fin 512) (r : Fin 704) :
    ((cfg0.win 0).blk t).view.read (Elt Ideal) X (ix3 j k r) = X (ix3 j (row b k) r) := by
  blk_ext [h, row]

/-- The block of the weight is the whole weight. -/
theorem read_1 (h : win0_1.index t = ![0, 0, 0]) (X : (⟨S4x704x1024, .bf16⟩ : BufTy).Contents (Elt Ideal)) (j : Fin 4) (r : Fin 704) (d : Fin 1024) :
    ((cfg0.win 1).blk t).view.read (Elt Ideal) X (ix3 j r d) = X (ix3 j r d) := by
  blk_ext [h]

/-- A block of the residual rows. -/
theorem read_2 (h : win0_2.index t = ![b.val, 0]) (X : (⟨S4096x1024, .f32⟩ : BufTy).Contents (Elt Ideal)) (k : Fin 512) (d : Fin 1024) :
    ((cfg0.win 2).blk t).view.read (Elt Ideal) X (ix2 k d) = X (ix2 (row b k) d) := by
  blk_ext [h, row]

/-- The block of the gain is the gain. -/
theorem read_3 (h : win0_3.index t = ![0, 0]) (X : (⟨S1x1024, .f32⟩ : BufTy).Contents (Elt Ideal)) (d : Fin 1024) :
    ((cfg0.win 3).blk t).view.read (Elt Ideal) X (ix2 0 d) = X (ix2 0 d) := by
  blk_ext [h]

end Reads

/-- The activation times the weight, plus the residual. -/
def sum (x : FVec Ideal S4096x1024 .f32) (a : FVec Ideal S4096x2816 .f32) (w : FVec Ideal S2816x1024 .f32) (k : Fin 4096) (d : Fin 1024) : EReal :=
  (∑ l : Fin 2816, (a (ix2 k l) : EReal) * w (ix2 l d)) + x (ix2 k d)

/-- A block's sum is the step's. -/
theorem total_eq (t : Fin cfg0.N) (b : Fin 8) (h0 : win0_0.index t = ![0, b.val, 0]) (h1 : win0_1.index t = ![0, 0, 0]) (h2 : win0_2.index t = ![b.val, 0])
    (k : Fin 512) (d : Fin 1024) : total (iblk m c 0 t) (iblk m c 1 t) (iblk m c 2 t) k d = sum (m (c, Proc.tc.devRef main_arg0)) (m (c, Proc.tc.devRef main_arg1)) (m (c, Proc.tc.devRef main_arg2)) (row b k) d := by
  have e0 : ∀ j r, iblk m c 0 t (ix3 j k r) = V m c main_v3 (ix3 j (row b k) r) := fun j r => read_0 t b h0 _ j k r
  have e1 : ∀ j r, iblk m c 1 t (ix3 j r d) = V m c main_v5 (ix3 j r d) := fun j r => read_1 t h1 _ j r d
  have e2 : iblk m c 2 t (ix2 k d) = (m (c, Proc.tc.devRef main_arg0) : FVec Ideal S4096x1024 .f32) (ix2 (row b k) d) := by
    rw [← V_x m c]; exact read_2 t b h2 _ k d
  unfold total sum
  rw [e2, ← Fin.sum_univ_four (fun j => shard (iblk m c 0 t) (iblk m c 1 t) j k d)]
  unfold shard
  congr 1
  refine Fin.sum_mul_add_congr (S := 4) (fun j r hl => ?_)
  rw [e0, e1, V_act, V_w]
  rfl

/-- The launch's first result is the sum. -/
theorem result_sum : (dats m 0 c).arrAt 4 cfg0.N = (fun i => sum (m (c, Proc.tc.devRef main_arg0)) (m (c, Proc.tc.devRef main_arg1)) (m (c, Proc.tc.devRef main_arg2)) (i 0) (i 1) : FVec Ideal S4096x1024 .f32) := by
  refine (dats m 0 c).arrAt_eq_of_covers 4 _ (by decide +kernel) fun t hf y => ?_
  obtain ⟨b, h0, h1, h2, -, h4, -⟩ := idx t
  obtain ⟨q, d, rfl⟩ : ∃ (q : Fin 512) (d : Fin 1024), y = ix2 q d := ⟨y 0, y 1, by funext k; fin_cases k <;> rfl⟩
  blk_simp
  have he : (win0_4.blk t).view.emb (ix2 q d) = ix2 (row b q) d := by
    blk_ext [h4, row]
  rw [after0_4, he]
  exact (out_sum _ _ _ _ q d).trans (total_eq m c t b h0 h1 h2 q d)

/-- The second is its norm. -/
theorem result_norm : (dats m 0 c).arrAt 5 cfg0.N
    = (fun i => normed (sum (m (c, Proc.tc.devRef main_arg0)) (m (c, Proc.tc.devRef main_arg1)) (m (c, Proc.tc.devRef main_arg2)) (i 0)) (fun n => (m (c, Proc.tc.devRef main_arg3) : FVec Ideal S1024 .f32) (ix1 n)) (i 1) : FVec Ideal S4096x1024 .bf16) := by
  refine (dats m 0 c).arrAt_eq_of_covers 5 _ (by decide +kernel) fun t hf y => ?_
  obtain ⟨b, h0, h1, h2, h3, -, h5⟩ := idx t
  obtain ⟨q, d, rfl⟩ : ∃ (q : Fin 512) (d : Fin 1024), y = ix2 q d := ⟨y 0, y 1, by funext k; fin_cases k <;> rfl⟩
  blk_simp
  have he : (win0_5.blk t).view.emb (ix2 q d) = ix2 (row b q) d := by
    blk_ext [h5, row]
  have e3 : ∀ n, iblk m c 3 t (ix2 0 n) = (m (c, Proc.tc.devRef main_arg3) : FVec Ideal S1024 .f32) (ix1 n) := fun n => by
    rw [← V_gain m c]; exact read_3 t h3 _ n
  rw [after0_5, he]
  refine (out_norm _ _ _ _ q d).trans ?_
  rw [funext (total_eq m c t b h0 h1 h2 q), funext e3]
  rfl

/-! ## The reference -/

section Reference

open Cert.ResidualReferenceIdeal.Read

variable (x : FVec Ideal ⟨2, ![4096, 1024]⟩ .f32) (a : FVec Ideal ⟨2, ![4096, 2816]⟩ .f32) (w : FVec Ideal ⟨2, ![2816, 1024]⟩ .f32) (g : FVec Ideal ⟨1, ![1024]⟩ .f32)

/-- The reference's sum at a place. -/
theorem sum_at (i : (⟨2, ![4096, 1024]⟩ : Shape).Idx) : val_main_v1 (F := Ideal) x a w i = sum x a w (i 0) (i 1) := by
  rw [val_main_v1_apply, val_main_v0_apply]
  unfold sum
  refine (add_comm _ _).trans ?_
  congr 1
  · refine Finset.sum_congr rfl fun k _ => ?_
    congr 1 <;> blk_ext []
  · exact congrArg x (by blk_ext [])

/-- The reference's first result is the launch's. -/
theorem sum_ref : val_main_v1 (F := Ideal) x a w = (fun i => sum x a w (i 0) (i 1) : FVec Ideal ⟨2, ![4096, 1024]⟩ .f32) :=
  funext fun i => sum_at x a w i

/-- The inverse root of the mean square of a row of the sum. -/
theorem rstd_ref (i : (⟨2, ![4096, 1]⟩ : Shape).Idx) : val_main_v9 (F := Ideal) x a w i = rstd (sum x a w (i 0)) := by
  rw [val_main_v9_apply, val_main_v8_apply, val_main_v7_apply, val_main_v6_apply, val_main_v5_apply, val_main_v4_apply, val_main_v3_apply]
  have h : ∀ k, val_main_v2 (F := Ideal) x a w (idx_main_v3 (idx_main_v4 i) k) = sum x a w (i 0) k * sum x a w (i 0) k := fun k => by
    have ei : idx_main_v3 (idx_main_v4 i) k = ix2 (i 0) k := by blk_ext []
    rw [val_main_v2_apply, sum_at, ei]
    rfl
  have hz : ∀ j, val_main_cst (F := Ideal) j = 0 := fun _ => zero_val
  rw [hz, zero_add, Finset.sum_congr rfl fun k _ => h k]
  rfl

/-- The reference's second result is the launch's. -/
theorem norm_ref : val_main_v15 (F := Ideal) x a w g = (fun i => normed (sum x a w (i 0)) (fun n => g (ix1 n)) (i 1) : FVec Ideal ⟨2, ![4096, 1024]⟩ .bf16) := by
  funext i
  have ei : idx_main_v12 (idx_main_v13 i) = ix1 (i 1) := by blk_ext []
  have e0 : (idx_main_v10 i) 0 = i 0 := rfl
  have e : val_main_v15 (F := Ideal) x a w g i = val_main_v14 (F := Ideal) x a w g i := rfl
  rw [e, val_main_v14_apply, val_main_v11_apply, val_main_v10_apply, val_main_v13_apply, val_main_v12_apply, sum_at, rstd_ref, e0, ei]
  rfl

end Reference

end Cert.DownVals

end
-- ==== Proof.InGrads.lean ====
module

public import proofs.«01_k».proof.Proof.Gen.InWeightIdeal.Value
public import proofs.«01_k».proof.Proof.Gen.InWeightReferenceIdeal.Read
public import proofs.«01_k».proof.Proof.Shards
public import Idealize.ShloMosaic.Lib.Pipeline.ValueKit
public import Idealize.ShloMosaic.Lib.StableHlo.ReadAt

@[expose] public section

set_option maxRecDepth 16384

noncomputable section

/-! # The gradient of the even layer's first weight

The launch walks the 4096 rows in eight blocks of 512. At each point the product of the block's rows with a shard of the
block's columns is added to the accumulator, shard by shard; the last point writes the accumulator back. -/

namespace Cert.InGrads

open Cert.Shards hiding col
open Cert.InWeightIdeal Cert.InWeightIdeal.Gen Idealize.ShloMosaic Idealize.ShloMosaic.TcCoe Idealize.SL.Sem
open Idealize.ShloMosaic.Pipeline (Dat)

/-- The column at place `d` of shard `j`: the 2560 columns lie in four shards of 640. -/
def col (j : Fin 4) (d : Fin 640) : Fin 2560 := ⟨j.val * 640 + d.val, by omega⟩

/-- The columns of the first shard. -/
theorem col_0 (d : Fin 640) : col 0 d = ⟨d.val, by omega⟩ := Fin.ext (by simp [col])

/-- Of the second. -/
theorem col_1 (d : Fin 640) : col 1 d = ⟨640 + d.val, by omega⟩ := Fin.ext (by simp [col])

/-- Of the third. -/
theorem col_2 (d : Fin 640) : col 2 d = ⟨1280 + d.val, by omega⟩ := Fin.ext (by simp [col])

/-- Of the fourth. -/
theorem col_3 (d : Fin 640) : col 3 d = ⟨1920 + d.val, by omega⟩ := Fin.ext (by simp [col])

/-! ## What one point does to the accumulator -/

section Point

variable (c : Dev nD) (i : grid0.Coords) (arg1 : Memref sig .tc .vmem S512x1024 .bf16) (harg1 : arg1.IsWhole) (arg2 : Memref sig .tc .vmem S512x2560 .bf16) (harg2 : arg2.IsWhole) (arg3 : Memref sig .tc .vmem S4x1024x640 .bf16) (harg3 : arg3.IsWhole) (arg4 : Memref sig .tc .vmem S4x1024x640 .f32) (harg4 : arg4.IsWhole)
  (x0 : Vec Ideal S512x1024 .bf16) (x1 : Vec Ideal S512x2560 .bf16) (xs0 : Vec Ideal S4x1024x640 .f32)

/-- What a block of rows adds to the gradient at row `r` and column `d` of shard `j`. -/
def part (j : Fin 4) (r : Fin 1024) (d : Fin 640) : EReal := ∑ k : Fin 512, (x0 (ix2 k r) : EReal) * x1 (ix2 k (col j d))

/-- The zero stored first, at an index. -/
theorem zero_apply (i : S4x1024x640.Idx) : k0_pay4 (F := Ideal) i = 0 := by
  unfold k0_pay4
  pointwise

attribute [local pointwise] k0_pay1 k0_pay2 k0_pay3 k0_pay5 k0_pay6 k0_pay7

/-- The first point leaves its block's part. -/
theorem first (hc0 : cond0_0 i) (hc1 : ¬cond0_1 i) (j : Fin 4) (r : Fin 1024) (d : Fin 640) :
    sout0_A_0 c i arg1 harg1 arg2 harg2 arg3 harg3 arg4 harg4 hc0 hc1 x0 x1 (ix3 j r d) = 0 + part x0 x1 j r d := by
  frame_out
  unfold part
  obtain rfl | rfl | rfl | rfl : j = 0 ∨ j = 1 ∨ j = 2 ∨ j = 3 := by fin_cases j <;> simp
  · rw [plane_miss _ _ _ _ (by decide), plane_miss _ _ _ _ (by decide), plane_miss _ _ _ _ (by decide), plane_hit _ _ _ _ (by rfl)]
    pointwise
    rw [plane_read _ _ _ 0 (by rfl), View.canon_cons_unit_lit _ _ _ (by decide), zero_apply, zero_add, col_0]
  · rw [plane_miss _ _ _ _ (by decide), plane_miss _ _ _ _ (by decide), plane_hit _ _ _ _ (by rfl)]
    pointwise
    rw [plane_read _ _ _ 1 (by rfl), plane_miss _ _ _ _ (by decide), View.canon_cons_unit_lit _ _ _ (by decide), zero_apply, zero_add, col_1]
  · rw [plane_miss _ _ _ _ (by decide), plane_hit _ _ _ _ (by rfl)]
    pointwise
    rw [plane_read _ _ _ 2 (by rfl), plane_miss _ _ _ _ (by decide), plane_miss _ _ _ _ (by decide), View.canon_cons_unit_lit _ _ _ (by decide), zero_apply, zero_add, col_2]
  · rw [plane_hit _ _ _ _ (by rfl)]
    pointwise
    rw [plane_read _ _ _ 3 (by rfl), plane_miss _ _ _ _ (by decide), plane_miss _ _ _ _ (by decide), plane_miss _ _ _ _ (by decide), View.canon_cons_unit_lit _ _ _ (by decide), zero_apply, zero_add, col_3]

/-- A later point adds its block's part. -/
theorem next (hc0 : ¬cond0_0 i) (hc1 : ¬cond0_1 i) (j : Fin 4) (r : Fin 1024) (d : Fin 640) :
    sout0_B_0 c i arg1 harg1 arg2 harg2 arg3 harg3 arg4 harg4 hc0 hc1 x0 x1 xs0 (ix3 j r d) = xs0 (ix3 j r d) + part x0 x1 j r d := by
  frame_out
  unfold part
  obtain rfl | rfl | rfl | rfl : j = 0 ∨ j = 1 ∨ j = 2 ∨ j = 3 := by fin_cases j <;> simp
  · rw [plane_miss _ _ _ _ (by decide), plane_miss _ _ _ _ (by decide), plane_miss _ _ _ _ (by decide), plane_hit _ _ _ _ (by rfl)]
    pointwise
    rw [col_0]
  · rw [plane_miss _ _ _ _ (by decide), plane_miss _ _ _ _ (by decide), plane_hit _ _ _ _ (by rfl)]
    pointwise
    rw [col_1]
  · rw [plane_miss _ _ _ _ (by decide), plane_hit _ _ _ _ (by rfl)]
    pointwise
    rw [col_2]
  · rw [plane_hit _ _ _ _ (by rfl)]
    pointwise
    rw [col_3]

/-- So does the last. -/
theorem last (hc0 : ¬cond0_0 i) (hc1 : cond0_1 i) (j : Fin 4) (r : Fin 1024) (d : Fin 640) :
    sout0_C_0 c i arg1 harg1 arg2 harg2 arg3 harg3 arg4 harg4 hc0 hc1 x0 x1 xs0 (ix3 j r d) = xs0 (ix3 j r d) + part x0 x1 j r d := by
  frame_out
  unfold part
  obtain rfl | rfl | rfl | rfl : j = 0 ∨ j = 1 ∨ j = 2 ∨ j = 3 := by fin_cases j <;> simp
  · rw [plane_miss _ _ _ _ (by decide), plane_miss _ _ _ _ (by decide), plane_miss _ _ _ _ (by decide), plane_hit _ _ _ _ (by rfl)]
    pointwise
    rw [col_0]
  · rw [plane_miss _ _ _ _ (by decide), plane_miss _ _ _ _ (by decide), plane_hit _ _ _ _ (by rfl)]
    pointwise
    rw [col_1]
  · rw [plane_miss _ _ _ _ (by decide), plane_hit _ _ _ _ (by rfl)]
    pointwise
    rw [col_2]
  · rw [plane_hit _ _ _ _ (by rfl)]
    pointwise
    rw [col_3]

/-- What the last point writes back is what it leaves in the accumulator. -/
theorem written (hc0 : ¬cond0_0 i) (hc1 : cond0_1 i) (z : S4x1024x640.Idx) :
    out0_C_2 c i arg1 harg1 arg2 harg2 arg3 harg3 arg4 harg4 hc0 hc1 x0 x1 xs0 z = sout0_C_0 c i arg1 harg1 arg2 harg2 arg3 harg3 arg4 harg4 hc0 hc1 x0 x1 xs0 z := by
  frame_out
  unfold k0_pay3
  rw [shapeCast_self]
  exact whole_read _ _ _ z

end Point

/-! ## The launch -/

variable (m : (ℓ : Loc nD τ sig) → Buf (Elt Ideal) ℓ) (c : Dev nD)

/-- The launch's first operand is the first argument. -/
theorem V_0 : V m c main_v0 = (truncf .bf16 (m (c, Proc.tc.devRef main_arg0) : FVec Ideal S4096x1024 .f32) bitsLt_bf16_f32 : FVec Ideal S4096x1024 .bf16) := by
  unfold V
  after_reads_simp

/-- Its second is the second. -/
theorem V_1 : V m c main_v1 = (truncf .bf16 (m (c, Proc.tc.devRef main_arg1) : FVec Ideal S4096x2560 .f32) bitsLt_bf16_f32 : FVec Ideal S4096x2560 .bf16) := by
  unfold V
  after_reads_simp

/-- The block of the first side a point works on. -/
theorem idx0 : ∀ t : Fin cfg0.N, win0_0.index t = ![t.val, 0] := (by decide +kernel : ∀ t : Fin grid0.N, win0_0.index t = ![t.val, 0])

/-- The block of the second. -/
theorem idx1 : ∀ t : Fin cfg0.N, win0_1.index t = ![t.val, 0] := (by decide +kernel : ∀ t : Fin grid0.N, win0_1.index t = ![t.val, 0])

/-- The block of the gradient is the whole array at every point. -/
theorem idx2 : ∀ t : Fin cfg0.N, win0_2.index t = ![0, 0, 0] := (by decide +kernel : ∀ t : Fin grid0.N, win0_2.index t = ![0, 0, 0])

/-- The block of the first side at a point holds its 512 rows. -/
theorem read_0 (t : Fin cfg0.N) (X : (⟨S4096x1024, .bf16⟩ : BufTy).Contents (Elt Ideal)) (k : Fin 512) (a : Fin 1024) (hl : t.val * 512 + k.val < 4096) :
    ((cfg0.win 0).blk t).view.read (Elt Ideal) X (ix2 k a) = X (ix2 ⟨t.val * 512 + k.val, hl⟩ a) := by
  blk_ext [idx0 t]

/-- So does the block of the second. -/
theorem read_1 (t : Fin cfg0.N) (X : (⟨S4096x2560, .bf16⟩ : BufTy).Contents (Elt Ideal)) (k : Fin 512) (b : Fin 2560) (hl : t.val * 512 + k.val < 4096) :
    ((cfg0.win 1).blk t).view.read (Elt Ideal) X (ix2 k b) = X (ix2 ⟨t.val * 512 + k.val, hl⟩ b) := by
  blk_ext [idx1 t]

/-- The accumulator after the first point. -/
theorem acc_first (t : Fin cfg0.N) (h : t.val % 8 = 0) (j : Fin 4) (r : Fin 1024) (d : Fin 640) :
    (outsAt0 m c t.val t.isLt).2 (ix3 j r d) = 0 + part (iblk m c 0 t) (iblk m c 1 t) j r d := by
  have h1 : ¬t.val % 8 = 7 := by omega
  have key := first c (grid0.coords t) (ms0_0 t) (hs0_0 t) (ms0_1 t) (hs0_1 t) (ms0_2 t) (hs0_2 t) scM0_0 (Memref.isWhole_whole _) (iblk m c 0 t) (iblk m c 1 t) ((hcond0_0 t).mpr h) (fun h => h1 ((hcond0_1 t).mp h)) j r d
  rw [outsAt0_A m c t h h1]
  with_reducible exact key

/-- The accumulator after a later point, over what the point before left. -/
theorem acc_next (t : Fin cfg0.N) (h : ¬t.val % 8 = 0) (j : Fin 4) (r : Fin 1024) (d : Fin 640) :
    (outsAt0 m c t.val t.isLt).2 (ix3 j r d) = (outsAt0 m c (t.val - 1) (Nat.lt_of_le_of_lt (Nat.sub_le _ _) t.isLt)).2 (ix3 j r d) + part (iblk m c 0 t) (iblk m c 1 t) j r d := by
  by_cases h1 : t.val % 8 = 7
  · have key := last c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h' => h ((hcond0_0 t).mp h')) ((hcond0_1 t).mpr h1) j r d
    rw [outsAt0_C m c t h h1]
    with_reducible exact key
  · have key := next c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h' => h ((hcond0_0 t).mp h')) (fun h => h1 ((hcond0_1 t).mp h)) j r d
    rw [outsAt0_B m c t h h1]
    with_reducible exact key

/-- What the last point writes back is what it leaves in the accumulator. -/
theorem out_last (t : Fin cfg0.N) (h1 : t.val % 8 = 7) (z : S4x1024x640.Idx) : (outsAt0 m c t.val t.isLt).1 z = (outsAt0 m c t.val t.isLt).2 z := by
  have h : ¬t.val % 8 = 0 := by omega
  have key := written c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h' => h ((hcond0_0 t).mp h')) ((hcond0_1 t).mpr h1) z
  rw [outsAt0_C m c t h h1]
  with_reducible exact key

/-- After the last point the accumulator holds the sum of the eight blocks' parts. -/
theorem acc_last (t : Fin cfg0.N) (ht : t.val + 1 = cfg0.N) (j : Fin 4) (r : Fin 1024) (d : Fin 640) :
    (outsAt0 m c t.val t.isLt).2 (ix3 j r d) = ∑ p : Fin cfg0.N, part (iblk m c 0 p) (iblk m c 1 p) j r d := by
  have h := Pipeline.eq_sum_fin_of_reset_step_apply_last (fun n h (z : Fin 4 × Fin 1024 × Fin 640) => (outsAt0 m c n h).2 (ix3 z.1 z.2.1 z.2.2)) 8 (fun _ => (0 : EReal))
    (fun p z => part (iblk m c 0 p) (iblk m c 1 p) z.1 z.2.1 z.2.2)
    (fun t h z => acc_first m c t h z.1 z.2.1 z.2.2) (fun t h z => acc_next m c t h z.1 z.2.1 z.2.2) (le_of_eq N_0) t ht (j, r, d)
  rwa [zero_add] at h

/-- The gradient of the weight, shard by shard: the sum over all rows. -/
def grad (x : FVec Ideal S4096x1024 .f32) (y : FVec Ideal S4096x2560 .f32) : FVec Ideal S4x1024x640 .bf16 :=
  fun i => ∑ k : Fin 4096, (x (ix2 k (i 1)) : EReal) * y (ix2 k (col (i 0) (i 2)))

/-- The eight blocks' parts are the whole sum. -/
theorem parts (j : Fin 4) (r : Fin 1024) (d : Fin 640) :
    ∑ p : Fin cfg0.N, part (iblk m c 0 p) (iblk m c 1 p) j r d = grad (m (c, Proc.tc.devRef main_arg0)) (m (c, Proc.tc.devRef main_arg1)) (ix3 j r d) := by
  unfold part grad
  refine Fin.sum_mul_add_congr (S := 8) (fun p k hl => ?_)
  have e0 : iblk m c 0 p (ix2 k r) = V m c main_v0 (ix2 ⟨p.val * 512 + k.val, hl⟩ r) := read_0 p _ k r hl
  have e1 : iblk m c 1 p (ix2 k (col j d)) = V m c main_v1 (ix2 ⟨p.val * 512 + k.val, hl⟩ (col j d)) := read_1 p _ k (col j d) hl
  rw [e0, e1, V_0, V_1]
  rfl

/-- The launch's result is the weight's gradient. -/
theorem result : (dats m 0 c).arrAt 2 cfg0.N = grad (m (c, Proc.tc.devRef main_arg0)) (m (c, Proc.tc.devRef main_arg1)) := by
  refine (dats m 0 c).arrAt_eq_of_covers 2 _ (by decide +kernel) fun t hf y => ?_
  have h3 : t.val % 8 = 7 := (flush0_2 t).mp hf
  have ht : t.val + 1 = cfg0.N := by have h4 : t.val < 8 := t.isLt.trans_eq N_0; exact (show t.val + 1 = 8 by omega).trans N_0.symm
  obtain ⟨j, r, d, rfl⟩ : ∃ (j : Fin 4) (r : Fin 1024) (d : Fin 640), y = ix3 j r d := ⟨y 0, y 1, y 2, by funext k; fin_cases k <;> rfl⟩
  blk_simp
  have he : (win0_2.blk t).view.emb (ix3 j r d) = ix3 j r d := by
    blk_ext [idx2 t]
  rw [after0_2, he, ← parts, ← acc_last m c t ht]
  exact out_last m c t h3 _

/-- The reference's gradient, of the product of the rows with the weight, is the launch's. -/
theorem ref (x : FVec Ideal S4096x1024 .f32) (y : FVec Ideal S4096x2560 .f32) : Cert.InWeightReferenceIdeal.Read.val_main_v6 (F := Ideal) x y = grad x y := by
  open Cert.InWeightReferenceIdeal.Read in
  funext i
  have e : val_main_v6 (F := Ideal) x y i = val_main_v5 (F := Ideal) x y i := rfl
  rw [e, val_main_v5_apply, val_main_v4_apply, val_main_v3_apply, val_main_v2_apply]
  refine Finset.sum_congr rfl fun k _ => ?_
  rw [mul_comm]
  congr 1 <;> blk_ext [col]

end Cert.InGrads

end
-- ==== Proof.InRowsGrads.lean ====
module

public import proofs.«01_k».proof.Proof.Gen.InRowsIdeal.Value
public import proofs.«01_k».proof.Proof.InGrads
public import proofs.«01_k».proof.Proof.Shards
public import proofs.«01_k».proof.Proof.Norm
public import Idealize.ShloMosaic.Lib.Pipeline.ValueKit
public import Idealize.ShloMosaic.Lib.StableHlo.ReadAt

@[expose] public section

set_option maxRecDepth 16384

noncomputable section

/-! # The even layer's first product backward, tile by tile

Each point of the launch takes 512 rows: the arriving gradient times the weight, summed shard by shard, then through
the rows' norm in two halves of 256 rows. The gradient of the norm's gain is accumulated over the points. -/

namespace Cert.InRows

open Cert.Shards (run_hit run_miss)
open Cert.InGrads (col col_0 col_1 col_2 col_3)
open Cert.Norm
open Cert.InRowsIdeal Cert.InRowsIdeal.Gen Idealize.ShloMosaic Idealize.ShloMosaic.TcCoe Idealize.SL.Sem
open Idealize.ShloMosaic.Pipeline (Dat)

section Halves

attribute [local pointwise] k0_pay1 k0_pay2 k0_pay3 k0_pay4 k0_pay7 k0_pay8 k0_pay9 k0_pay11 k0_pay12 k0_pay14

variable (r x e : FVec Ideal S256x1024 .f32) (g : FVec Ideal S1x1024 .f32) (k : Fin 256) (d : Fin 1024)

/-- The first half's rows. -/
theorem pay_rows_lo : k0_pay12 r x (k0_pay7 x) g e (ix2 k d)
    = through (fun n => x (ix2 k n)) (fun n => g (ix2 0 n)) (fun n => r (ix2 k n)) (fun n => e (ix2 k n)) d := by
  unfold through rstd
  pointwise

/-- The second half's rows. -/
theorem pay_rows_hi : k0_pay4 r x (k0_pay14 x) g e (ix2 k d)
    = through (fun n => x (ix2 k n)) (fun n => g (ix2 0 n)) (fun n => r (ix2 k n)) (fun n => e (ix2 k n)) d := by
  unfold through rstd
  pointwise

/-- The first half's part of the gain's gradient, added to what is there. -/
theorem pay_gain_lo : k0_pay11 r x (k0_pay7 x) g (ix2 0 d)
    = g (ix2 0 d) + ∑ k : Fin 256, r (ix2 k d) * (x (ix2 k d) * rstd (fun n => x (ix2 k n))) := by
  unfold rstd
  pointwise

/-- The second half's part. -/
theorem pay_gain_hi : k0_pay3 r x (k0_pay14 x) g (ix2 0 d)
    = g (ix2 0 d) + ∑ k : Fin 256, r (ix2 k d) * (x (ix2 k d) * rstd (fun n => x (ix2 k n))) := by
  unfold rstd
  pointwise

/-- The zero stored first. -/
theorem pay_zero (i : S1x1024.Idx) : k0_pay10 (F := Ideal) i = 0 := by
  unfold k0_pay10
  pointwise

end Halves

/-! ## What one point writes -/

section Point

variable (c : Dev nD) (i : grid0.Coords) (arg3 : Memref sig .tc .vmem S512x2560 .bf16) (harg3 : arg3.IsWhole) (arg4 : Memref sig .tc .vmem S4x1024x640 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole)
  (x0 : Vec Ideal S512x2560 .bf16) (x1 : Vec Ideal S4x1024x640 .bf16) (x2 : Vec Ideal S512x1024 .f32) (x3 : Vec Ideal S1x1024 .f32) (x4 : Vec Ideal S512x1024 .f32) (xo6 : Vec Ideal S1x1024 .f32)

/-- One shard's part of the gradient of the normed rows. -/
def shard (j : Fin 4) (k : Fin 512) (d : Fin 1024) : EReal := ∑ r : Fin 640, (x0 (ix2 k (col j r)) : EReal) * x1 (ix3 j d r)

/-- The gradient of the normed rows, shard by shard. -/
def back (k : Fin 512) (d : Fin 1024) : EReal := shard x0 x1 0 k d + shard x0 x1 1 k d + shard x0 x1 2 k d + shard x0 x1 3 k d

/-- The tile's rows of the result. -/
def rows (k : Fin 512) (d : Fin 1024) : EReal :=
  through (fun n => x2 (ix2 k n)) (fun n => x3 (ix2 0 n)) (back x0 x1 k) (fun n => x4 (ix2 k n)) d

/-- The tile's part of the gain's gradient. -/
def gain (d : Fin 1024) : EReal :=
  ∑ k : Fin 512, back x0 x1 k d * ((x2 (ix2 k d) : EReal) * rstd (fun n => x2 (ix2 k n)))

section Products

attribute [local pointwise] k0_pay5 k0_pay6 k0_pay13

variable (k : Fin 256) (d : Fin 1024)

/-- The product's first half. -/
theorem back_lo : k0_pay6
        (View.ld x0 (Rect.unit ![0, 0] ![512, 640] inb_S512x2560_S512x640_0_0)) (View.ld x1 (Rect.unit ![0, 0, 0] ![1, 1024, 640] inb_S4x1024x640_S1x1024x640_0_0_0))
        (View.ld x0 (Rect.unit ![0, 640] ![512, 640] inb_S512x2560_S512x640_0_640)) (View.ld x1 (Rect.unit ![1, 0, 0] ![1, 1024, 640] inb_S4x1024x640_S1x1024x640_1_0_0))
        (View.ld x0 (Rect.unit ![0, 1280] ![512, 640] inb_S512x2560_S512x640_0_1280)) (View.ld x1 (Rect.unit ![2, 0, 0] ![1, 1024, 640] inb_S4x1024x640_S1x1024x640_2_0_0))
        (View.ld x0 (Rect.unit ![0, 1920] ![512, 640] inb_S512x2560_S512x640_0_1920)) (View.ld x1 (Rect.unit ![3, 0, 0] ![1, 1024, 640] inb_S4x1024x640_S1x1024x640_3_0_0)) (ix2 k d)
    = back x0 x1 (lo k) d := by
  unfold back shard
  simp only [col_0, col_1, col_2, col_3]
  pointwise
  rfl

/-- The product's second half. -/
theorem back_hi : k0_pay13 (k0_pay5
        (View.ld x0 (Rect.unit ![0, 0] ![512, 640] inb_S512x2560_S512x640_0_0)) (View.ld x1 (Rect.unit ![0, 0, 0] ![1, 1024, 640] inb_S4x1024x640_S1x1024x640_0_0_0))
        (View.ld x0 (Rect.unit ![0, 640] ![512, 640] inb_S512x2560_S512x640_0_640)) (View.ld x1 (Rect.unit ![1, 0, 0] ![1, 1024, 640] inb_S4x1024x640_S1x1024x640_1_0_0))
        (View.ld x0 (Rect.unit ![0, 1280] ![512, 640] inb_S512x2560_S512x640_0_1280)) (View.ld x1 (Rect.unit ![2, 0, 0] ![1, 1024, 640] inb_S4x1024x640_S1x1024x640_2_0_0))
        (View.ld x0 (Rect.unit ![0, 1920] ![512, 640] inb_S512x2560_S512x640_0_1920)) (View.ld x1 (Rect.unit ![3, 0, 0] ![1, 1024, 640] inb_S4x1024x640_S1x1024x640_3_0_0))) (ix2 k d)
    = back x0 x1 (hi k) d := by
  unfold back shard
  simp only [col_0, col_1, col_2, col_3]
  pointwise
  rfl

end Products

/-- The rows written at the first point. -/
theorem rows_A (hc0 : cond0_0 i) (q : Fin 512) (d : Fin 1024) :
    out0_A_5 c i arg3 harg3 arg4 harg4 arg5 harg5 arg6 harg6 arg7 harg7 arg8 harg8 arg9 harg9 hc0 x0 x1 x2 x3 x4 (ix2 q d) = rows x0 x1 x2 x3 x4 q d := by
  frame_out
  obtain ⟨k, rfl⟩ | ⟨k, rfl⟩ := lo_or_hi q
  · rw [run_miss _ _ _ _ (lo_lt k), run_hit _ _ _ _ k (lo_eq k), pay_rows_lo]
    simp only [back_lo, rows]
    pointwise
    rfl
  · rw [run_hit _ _ _ _ k (hi_eq k), pay_rows_hi]
    simp only [back_hi, rows]
    pointwise
    rfl

/-- The gain's gradient accumulated at the first point. -/
theorem gain_A (hc0 : cond0_0 i) (d : Fin 1024) :
    out0_A_6 c i arg3 harg3 arg4 harg4 arg5 harg5 arg6 harg6 arg7 harg7 arg8 harg8 arg9 harg9 hc0 x0 x1 x2 x3 x4 (ix2 0 d) = 0 + gain x0 x1 x2 d := by
  frame_out
  rw [pay_gain_hi, pay_gain_lo, pay_zero, gain, sum_halves, add_assoc]
  simp only [back_lo, back_hi]
  pointwise
  rfl

/-- The rows written at a later point. -/
theorem rows_B (hc0 : ¬cond0_0 i) (q : Fin 512) (d : Fin 1024) :
    out0_B_5 c i arg3 harg3 arg4 harg4 arg5 harg5 arg6 harg6 arg7 harg7 arg8 harg8 arg9 harg9 hc0 x0 x1 x2 x3 x4 xo6 (ix2 q d) = rows x0 x1 x2 x3 x4 q d := by
  frame_out
  obtain ⟨k, rfl⟩ | ⟨k, rfl⟩ := lo_or_hi q
  · rw [run_miss _ _ _ _ (lo_lt k), run_hit _ _ _ _ k (lo_eq k), pay_rows_lo]
    simp only [back_lo, rows]
    pointwise
    rfl
  · rw [run_hit _ _ _ _ k (hi_eq k), pay_rows_hi]
    simp only [back_hi, rows]
    pointwise
    rfl

/-- The gain's gradient accumulated at a later point. -/
theorem gain_B (hc0 : ¬cond0_0 i) (d : Fin 1024) :
    out0_B_6 c i arg3 harg3 arg4 harg4 arg5 harg5 arg6 harg6 arg7 harg7 arg8 harg8 arg9 harg9 hc0 x0 x1 x2 x3 x4 xo6 (ix2 0 d) = xo6 (ix2 0 d) + gain x0 x1 x2 d := by
  frame_out
  rw [pay_gain_hi, pay_gain_lo, gain, sum_halves, add_assoc]
  simp only [back_lo, back_hi]
  pointwise
  rfl

end Point

/-! ## The launch -/

/-- The weight as the launch takes it: shard by shard. -/
def cutCols (w : FVec Ideal S1024x2560 .f32) : FVec Ideal S4x1024x640 .bf16 := fun i => w (ix2 (i 1) (col (i 0) (i 2)))

variable (m : (ℓ : Loc nD τ sig) → Buf (Elt Ideal) ℓ) (c : Dev nD)

/-- The first operand: the arriving gradient. -/
theorem V_d : V m c main_v4 = (truncf .bf16 (m (c, Proc.tc.devRef main_arg3) : FVec Ideal S4096x2560 .f32) bitsLt_bf16_f32 : FVec Ideal S4096x2560 .bf16) := by
  unfold V
  after_reads_simp

/-- The second: the weight. -/
theorem V_w : V m c main_v2 = cutCols (m (c, Proc.tc.devRef main_arg2)) := by
  unfold V
  after_reads_simp
  funext i
  obtain ⟨j, a, r, rfl⟩ : ∃ (j : Fin 4) (a : Fin 1024) (r : Fin 640), i = ix3 j a r := ⟨i 0, i 1, i 2, by funext q; fin_cases q <;> rfl⟩
  pointwise
  rfl

/-- The third: the rows. -/
theorem V_x : V m c main_arg0 = m (c, Proc.tc.devRef main_arg0) := by
  unfold V
  after_reads_simp

/-- The fourth: the gain, as one row. -/
theorem V_gain (d : Fin 1024) : (V m c main_v3 : FVec Ideal S1x1024 .f32) (ix2 0 d) = (m (c, Proc.tc.devRef main_arg1) : FVec Ideal S1024 .f32) (ix1 d) := by
  unfold V
  after_reads_simp
  pointwise

/-- The fifth: the gradient of the residual. -/
theorem V_res : V m c main_arg4 = m (c, Proc.tc.devRef main_arg4) := by
  unfold V
  after_reads_simp

/-- The blocks' places. -/
theorem idx0 : ∀ t : Fin cfg0.N, win0_0.index t = ![t.val, 0] := (by decide +kernel : ∀ t : Fin grid0.N, win0_0.index t = ![t.val, 0])
theorem idx1 : ∀ t : Fin cfg0.N, win0_1.index t = ![0, 0, 0] := (by decide +kernel : ∀ t : Fin grid0.N, win0_1.index t = ![0, 0, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0] := (by decide +kernel : ∀ t : Fin grid0.N, win0_3.index t = ![0, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![0, 0] := (by decide +kernel : ∀ t : Fin grid0.N, win0_6.index t = ![0, 0])

section Reads

variable (t : Fin cfg0.N) (k : Fin 512) (d : Fin 1024) (hl : t.val * 512 + k.val < 4096)

/-- A point's block of the arriving gradient holds its 512 rows. -/
theorem read_0 (X : (⟨S4096x2560, .bf16⟩ : BufTy).Contents (Elt Ideal)) (l : Fin 2560) : ((cfg0.win 0).blk t).view.read (Elt Ideal) X (ix2 k l) = X (ix2 ⟨t.val * 512 + k.val, hl⟩ l) := by
  blk_ext [idx0 t]

/-- A point's block of the weight is the whole weight. -/
theorem read_1 (X : (⟨S4x1024x640, .bf16⟩ : BufTy).Contents (Elt Ideal)) (j : Fin 4) (r : Fin 640) : ((cfg0.win 1).blk t).view.read (Elt Ideal) X (ix3 j d r) = X (ix3 j d r) := by
  blk_ext [idx1 t]

/-- A point's block of the rows. -/
theorem read_2 (X : (⟨S4096x1024, .f32⟩ : BufTy).Contents (Elt Ideal)) : ((cfg0.win 2).blk t).view.read (Elt Ideal) X (ix2 k d) = X (ix2 ⟨t.val * 512 + k.val, hl⟩ d) := by
  blk_ext [idx2 t]

/-- A point's block of the gain is the gain. -/
theorem read_3 (X : (⟨S1x1024, .f32⟩ : BufTy).Contents (Elt Ideal)) : ((cfg0.win 3).blk t).view.read (Elt Ideal) X (ix2 0 d) = X (ix2 0 d) := by
  blk_ext [idx3 t]

/-- A point's block of the residual's gradient. -/
theorem read_4 (X : (⟨S4096x1024, .f32⟩ : BufTy).Contents (Elt Ideal)) : ((cfg0.win 4).blk t).view.read (Elt Ideal) X (ix2 k d) = X (ix2 ⟨t.val * 512 + k.val, hl⟩ d) := by
  blk_ext [idx4 t]

end Reads

/-- What a point writes of the rows. -/
theorem out_rows (t : Fin cfg0.N) (q : Fin 512) (d : Fin 1024) : (outsAt0 m c t.val t.isLt).1 (ix2 q d) = rows (iblk m c 0 t) (iblk m c 1 t) (iblk m c 2 t) (iblk m c 3 t) (iblk m c 4 t) q d := by
  by_cases h : t.val % 8 = 0
  · have key := rows_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) ((hcond0_0 t).mpr h) q d
    rw [outsAt0_A m c t h]
    with_reducible exact key
  · have key := rows_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (outsAt0 m c (t.val - 1) (Nat.lt_of_le_of_lt (Nat.sub_le _ _) t.isLt)).2 (fun h' => h ((hcond0_0 t).mp h')) q d
    rw [outsAt0_B m c t h]
    with_reducible exact key

/-- The gain's gradient after the first point. -/
theorem acc_first (t : Fin cfg0.N) (h : t.val % 8 = 0) (d : Fin 1024) :
    (outsAt0 m c t.val t.isLt).2 (ix2 0 d) = 0 + gain (iblk m c 0 t) (iblk m c 1 t) (iblk m c 2 t) d := by
  have key := gain_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) ((hcond0_0 t).mpr h) d
  rw [outsAt0_A m c t h]
  with_reducible exact key

/-- The gain's gradient after a later point. -/
theorem acc_next (t : Fin cfg0.N) (h : ¬t.val % 8 = 0) (d : Fin 1024) :
    (outsAt0 m c t.val t.isLt).2 (ix2 0 d) = (outsAt0 m c (t.val - 1) (Nat.lt_of_le_of_lt (Nat.sub_le _ _) t.isLt)).2 (ix2 0 d) + gain (iblk m c 0 t) (iblk m c 1 t) (iblk m c 2 t) d := by
  have key := gain_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (outsAt0 m c (t.val - 1) (Nat.lt_of_le_of_lt (Nat.sub_le _ _) t.isLt)).2 (fun h' => h ((hcond0_0 t).mp h')) d
  rw [outsAt0_B m c t h]
  with_reducible exact key

/-- After the last point it is the sum of the points' parts. -/
theorem acc_last (t : Fin cfg0.N) (ht : t.val + 1 = cfg0.N) (d : Fin 1024) :
    (outsAt0 m c t.val t.isLt).2 (ix2 0 d) = ∑ p : Fin cfg0.N, gain (iblk m c 0 p) (iblk m c 1 p) (iblk m c 2 p) d := by
  have h := Pipeline.eq_sum_fin_of_reset_step_apply_last (fun n h (z : Fin 1024) => (outsAt0 m c n h).2 (ix2 0 z)) 8 (fun _ => (0 : EReal))
    (fun p z => gain (iblk m c 0 p) (iblk m c 1 p) (iblk m c 2 p) z)
    (fun t h z => acc_first m c t h z) (fun t h z => acc_next m c t h z) (le_of_eq N_0) t ht d
  rwa [zero_add] at h

/-! ## The results -/

/-- The gradient of a normed row: the arriving row times the transposed weight. -/
def hid (w : FVec Ideal S1024x2560 .f32) (a : FVec Ideal S4096x2560 .f32) (k : Fin 4096) (d : Fin 1024) : EReal := ∑ l : Fin 2560, (a (ix2 k l) : EReal) * w (ix2 d l)

/-- The rows' gradient. -/
def dx (x : FVec Ideal S4096x1024 .f32) (g : FVec Ideal S1024 .f32) (w : FVec Ideal S1024x2560 .f32) (a : FVec Ideal S4096x2560 .f32) (e : FVec Ideal S4096x1024 .f32)
    (k : Fin 4096) (d : Fin 1024) : EReal :=
  through (fun n => x (ix2 k n)) (fun n => g (ix1 n)) (hid w a k) (fun n => e (ix2 k n)) d

/-- The gain's gradient. -/
def dgain (x : FVec Ideal S4096x1024 .f32) (w : FVec Ideal S1024x2560 .f32) (a : FVec Ideal S4096x2560 .f32) (d : Fin 1024) : EReal :=
  ∑ k : Fin 4096, hid w a k d * ((x (ix2 k d) : EReal) * rstd (fun n => x (ix2 k n)))

/-- A tile's gradient of a normed row is the step's. -/
theorem back_eq (t : Fin cfg0.N) (q : Fin 512) (hl : t.val * 512 + q.val < 4096) (d : Fin 1024) :
    back (iblk m c 0 t) (iblk m c 1 t) q d = hid (m (c, Proc.tc.devRef main_arg2)) (m (c, Proc.tc.devRef main_arg3)) ⟨t.val * 512 + q.val, hl⟩ d := by
  have e0 : ∀ l, iblk m c 0 t (ix2 q l) = V m c main_v4 (ix2 ⟨t.val * 512 + q.val, hl⟩ l) := fun l => read_0 t q hl _ l
  have e1 : ∀ j r, iblk m c 1 t (ix3 j d r) = V m c main_v2 (ix3 j d r) := fun j r => read_1 t d _ j r
  unfold back hid
  rw [← Fin.sum_univ_four (fun j => shard (iblk m c 0 t) (iblk m c 1 t) j q d)]
  unfold shard
  refine Fin.sum_mul_add_congr (S := 4) (fun j r hl => ?_)
  rw [e0, e1, V_d, V_w]
  rfl

/-- A tile's rows are the step's. -/
theorem rows_eq (t : Fin cfg0.N) (q : Fin 512) (hl : t.val * 512 + q.val < 4096) (d : Fin 1024) :
    rows (iblk m c 0 t) (iblk m c 1 t) (iblk m c 2 t) (iblk m c 3 t) (iblk m c 4 t) q d = dx (m (c, Proc.tc.devRef main_arg0)) (m (c, Proc.tc.devRef main_arg1)) (m (c, Proc.tc.devRef main_arg2)) (m (c, Proc.tc.devRef main_arg3)) (m (c, Proc.tc.devRef main_arg4)) ⟨t.val * 512 + q.val, hl⟩ d := by
  have e2 : ∀ n, iblk m c 2 t (ix2 q n) = (m (c, Proc.tc.devRef main_arg0) : FVec Ideal S4096x1024 .f32) (ix2 ⟨t.val * 512 + q.val, hl⟩ n) := fun n => by
    rw [← V_x m c]; exact read_2 t q n hl _
  have e3 : ∀ n, iblk m c 3 t (ix2 0 n) = (m (c, Proc.tc.devRef main_arg1) : FVec Ideal S1024 .f32) (ix1 n) := fun n => by
    rw [← V_gain m c]; exact read_3 t n _
  have e4 : ∀ n, iblk m c 4 t (ix2 q n) = (m (c, Proc.tc.devRef main_arg4) : FVec Ideal S4096x1024 .f32) (ix2 ⟨t.val * 512 + q.val, hl⟩ n) := fun n => by
    rw [← V_res m c]; exact read_4 t q n hl _
  unfold rows dx
  rw [funext e2, funext e3, funext e4, funext (back_eq m c t q hl)]

/-- The points' parts of the gain's gradient are the whole sum. -/
theorem gains (d : Fin 1024) : ∑ p : Fin cfg0.N, gain (iblk m c 0 p) (iblk m c 1 p) (iblk m c 2 p) d = dgain (m (c, Proc.tc.devRef main_arg0)) (m (c, Proc.tc.devRef main_arg2)) (m (c, Proc.tc.devRef main_arg3)) d := by
  unfold gain dgain
  refine Fin.sum_mul_add_congr (S := 8) (fun t q hl => ?_)
  have e2 : ∀ n, iblk m c 2 t (ix2 q n) = (m (c, Proc.tc.devRef main_arg0) : FVec Ideal S4096x1024 .f32) (ix2 ⟨t.val * 512 + q.val, hl⟩ n) := fun n => by
    rw [← V_x m c]; exact read_2 t q n hl _
  rw [funext e2, e2, back_eq m c t q hl]

/-- The launch's first result is the rows' gradient. -/
theorem result_rows : (dats m 0 c).arrAt 5 cfg0.N = (fun i => dx (m (c, Proc.tc.devRef main_arg0)) (m (c, Proc.tc.devRef main_arg1)) (m (c, Proc.tc.devRef main_arg2)) (m (c, Proc.tc.devRef main_arg3)) (m (c, Proc.tc.devRef main_arg4)) (i 0) (i 1) : FVec Ideal S4096x1024 .f32) := by
  refine (dats m 0 c).arrAt_eq_of_covers 5 _ (by decide +kernel) fun t hf y => ?_
  obtain ⟨q, d, rfl⟩ : ∃ (q : Fin 512) (d : Fin 1024), y = ix2 q d := ⟨y 0, y 1, by funext k; fin_cases k <;> rfl⟩
  have hl : t.val * 512 + q.val < 4096 := by have h8 : t.val < 8 := t.isLt.trans_eq N_0; omega
  blk_simp
  have he : (win0_5.blk t).view.emb (ix2 q d) = ix2 ⟨t.val * 512 + q.val, hl⟩ d := by
    blk_ext [idx5 t]
  rw [after0_5, he]
  exact (out_rows m c t q d).trans (rows_eq m c t q hl d)

/-- The second is the gain's gradient. -/
theorem result_gain : (dats m 0 c).arrAt 6 cfg0.N = (fun i => dgain (m (c, Proc.tc.devRef main_arg0)) (m (c, Proc.tc.devRef main_arg2)) (m (c, Proc.tc.devRef main_arg3)) (i 1) : FVec Ideal S1x1024 .f32) := by
  refine (dats m 0 c).arrAt_eq_of_covers 6 _ (by decide +kernel) fun t hf y => ?_
  have h7 : t.val % 8 = 7 := (flush0_6 t).mp hf
  have ht : t.val + 1 = cfg0.N := by have h8 : t.val < 8 := t.isLt.trans_eq N_0; exact (show t.val + 1 = 8 by omega).trans N_0.symm
  obtain ⟨u, d, rfl⟩ : ∃ (u : Fin 1) (d : Fin 1024), y = ix2 u d := ⟨y 0, y 1, by funext k; fin_cases k <;> rfl⟩
  obtain rfl : u = 0 := Subsingleton.elim _ _
  blk_simp
  have he : (win0_6.blk t).view.emb (ix2 0 d) = ix2 0 d := by
    blk_ext [idx6 t]
  rw [after0_6, he]
  exact (acc_last m c t ht d).trans (gains m c d)

end Cert.InRows

end
-- ==== Proof.InRowsRefs.lean ====
module

public import proofs.«01_k».proof.Proof.InRowsGrads
public import proofs.«01_k».proof.Proof.Gen.InRowsReferenceIdeal.Read

@[expose] public section

noncomputable section

/-! # The reference of the even layer's first product backward -/

namespace Cert.InRowsRefs

open Cert.InRows Cert.Norm Idealize.ShloMosaic

/-! ## The reference, array by array -/

variable (x : FVec Ideal ⟨2, ![4096, 1024]⟩ .f32) (g : FVec Ideal ⟨1, ![1024]⟩ .f32) (w : FVec Ideal ⟨2, ![1024, 2560]⟩ .f32)
  (a : FVec Ideal ⟨2, ![4096, 2560]⟩ .f32) (e : FVec Ideal ⟨2, ![4096, 1024]⟩ .f32)

open Cert.InRowsReferenceIdeal.Read

/-- The mean square of a row. -/
theorem ms_ref (i : (⟨2, ![4096, 1]⟩ : Shape).Idx) : val_main_v6 (F := Ideal) x i = ms (fun n => x (ix2 (i 0) n)) := by
  rw [val_main_v6_apply, val_main_v5_apply, val_main_v4_apply, val_main_v3_apply, val_main_v2_apply, val_main_v1_apply]
  have h : ∀ k, val_main_v0 (F := Ideal) x (idx_main_v1 (idx_main_v2 i) k) = x (ix2 (i 0) k) * x (ix2 (i 0) k) := fun k => by
    have ei : idx_main_v1 (idx_main_v2 i) k = ix2 (i 0) k := by blk_ext []
    rw [val_main_v0_apply, ei]
    rfl
  have hz : ∀ j, val_main_cst (F := Ideal) j = 0 := fun _ => zero_val
  rw [hz, zero_add, Finset.sum_congr rfl fun k _ => h k]
  rfl

/-- The inverse root of a row's mean square. -/
theorem rstd_ref (i : (⟨2, ![4096, 1]⟩ : Shape).Idx) : val_main_v7 (F := Ideal) x i = rstd (fun n => x (ix2 (i 0) n)) := by
  rw [val_main_v7_apply, ms_ref]
  rfl

/-- The gradient of the normed rows. -/
theorem hid_ref (i : (⟨2, ![4096, 1024]⟩ : Shape).Idx) : val_main_v17 (F := Ideal) w a i = hid w a (i 0) (i 1) := by
  rw [val_main_v17_apply]
  unfold hid
  refine Finset.sum_congr rfl fun k _ => ?_
  congr 1 <;> blk_ext []

/-- The same times the gain. -/
theorem gained_ref (i : (⟨2, ![4096, 1024]⟩ : Shape).Idx) : val_main_v22 (F := Ideal) g w a i = hid w a (i 0) (i 1) * g (ix1 (i 1)) := by
  have ei : idx_main_v13 (idx_main_v21 i) = ix1 (i 1) := by blk_ext []
  rw [val_main_v22_apply, val_main_v21_apply, val_main_v13_apply, hid_ref, ei]
  rfl

/-- What the reference adds twice to a row for its mean square. -/
theorem part_ref (i : (⟨2, ![4096, 1024]⟩ : Shape).Idx) :
    val_main_v34 (F := Ideal) x g w a i = part (fun n => x (ix2 (i 0) n)) (fun n => g (ix1 n)) (hid w a (i 0)) := by
  rw [val_main_v34_apply, val_main_v33_apply, Fin.sum_univ_one]
  have hz : ∀ j, val_main_cst_7 (F := Ideal) j = 0 := fun _ => zero_val
  have hz5 : ∀ j, val_main_cst_5 (F := Ideal) j = 0 := fun _ => zero_val
  obtain ⟨j, hj⟩ : ∃ j, j = idx_main_v33 (idx_main_v34 i) 0 := ⟨_, rfl⟩
  have hj0 : (j 0).val = (i 0).val := by rw [hj]
  have h : ∀ k, val_main_v24 (F := Ideal) x g w a (idx_main_v25 (idx_main_v26 j) k) = x (ix2 (i 0) k) * (hid w a (i 0) k * g (ix1 k)) := fun k => by
    have ei : idx_main_v25 (idx_main_v26 j) k = ix2 (i 0) k := by blk_ext [hj0]
    rw [val_main_v24_apply, gained_ref, ei]
    rfl
  have e0 : j 0 = i 0 := Fin.ext hj0
  rw [hz, zero_add, ← hj, val_main_v32_apply, val_main_v31_apply, val_main_v30_apply, val_main_v10_apply, val_main_v9_apply, val_main_v8_apply,
    val_main_v26_apply, val_main_v25_apply, hz5, zero_add, Finset.sum_congr rfl fun k _ => h k, rstd_ref, ms_ref, e0]
  rfl

/-- The reference's gradient of the rows, at a row and a column. -/
theorem dx_at (i : (⟨2, ![4096, 1024]⟩ : Shape).Idx) : val_main_v38 (F := Ideal) x g w a e i = dx x g w a e (i 0) (i 1) := by
  have e0 : (idx_main_v27 i) 0 = i 0 := rfl
  have ei : i = ix2 (i 0) (i 1) := by blk_ext []
  rw [val_main_v38_apply, val_main_v37_apply, val_main_v36_apply, val_main_v35_apply, val_main_v29_apply, val_main_v28_apply, val_main_v27_apply,
    part_ref, gained_ref, rstd_ref, e0]
  have hx : x i = x (ix2 (i 0) (i 1)) := congrArg x ei
  have he : e i = e (ix2 (i 0) (i 1)) := congrArg e ei
  rw [hx, he]
  exact through_eq (fun n => x (ix2 (i 0) n)) (fun n => g (ix1 n)) (hid w a (i 0)) (fun n => e (ix2 (i 0) n)) (i 1)

/-- The reference's first result is the launch's. -/
theorem dx_ref : val_main_v38 (F := Ideal) x g w a e = (fun i => dx x g w a e (i 0) (i 1) : FVec Ideal ⟨2, ![4096, 1024]⟩ .f32) :=
  funext fun i => dx_at x g w a e i

/-- The reference's gradient of the gain at a column. -/
theorem dgain_at (i : (⟨2, ![1, 1024]⟩ : Shape).Idx) : val_main_v39 (F := Ideal) x w a i = dgain x w a (i 1) := by
  rw [val_main_v39_apply, val_main_v23_apply, Fin.sum_univ_one, val_main_v20_apply, val_main_v19_apply]
  have hz : ∀ j, val_main_cst_4 (F := Ideal) j = 0 := fun _ => zero_val
  have hz3 : ∀ j, val_main_cst_3 (F := Ideal) j = 0 := fun _ => zero_val
  rw [hz, hz3, zero_add, zero_add]
  unfold dgain
  refine Finset.sum_congr rfl fun k _ => ?_
  obtain ⟨j, hj⟩ : ∃ j, j = idx_main_v19 (idx_main_v20 (idx_main_v23 (idx_main_v39 i) 0)) k := ⟨_, rfl⟩
  have ei : j = ix2 k (i 1) := by rw [hj]; blk_ext []
  have e0 : (idx_main_v11 j) 0 = k := by rw [ei]; rfl
  rw [← hj, val_main_v18_apply, val_main_v12_apply, val_main_v11_apply, rstd_ref, hid_ref, e0, ei]
  exact mul_comm _ _

/-- The reference's second result is the launch's. -/
theorem dgain_ref : val_main_v39 (F := Ideal) x w a = (fun i => dgain x w a (i 1) : FVec Ideal ⟨2, ![1, 1024]⟩ .f32) :=
  funext fun i => dgain_at x w a i

end Cert.InRowsRefs

end
-- ==== Proof.OddGrads.lean ====
module

public import proofs.«01_k».proof.Proof.Gen.OddWeightIdeal.Value
public import proofs.«01_k».proof.Proof.Gen.OddWeightReferenceIdeal.Read
public import Idealize.ShloMosaic.Lib.Pipeline.ValueKit
public import Idealize.ShloMosaic.Lib.StableHlo.ReadAt

@[expose] public section

set_option maxRecDepth 16384

noncomputable section

/-! # The gradient of the odd layer's first weight

The launch walks the 4096 rows in eight blocks of 512 and adds the product of each block's two sides to the accumulator;
the last point writes the accumulator back. -/

namespace Cert.OddGrads

open Cert.OddWeightIdeal Cert.OddWeightIdeal.Gen Idealize.ShloMosaic Idealize.ShloMosaic.TcCoe Idealize.SL.Sem
open Idealize.ShloMosaic.Pipeline (Dat)

/-! ## What one point does to the accumulator -/

section Point

variable (c : Dev nD) (i : grid0.Coords) (arg3 : Memref sig .tc .vmem S512x1024 .bf16) (harg3 : arg3.IsWhole) (arg4 : Memref sig .tc .vmem S512x960 .bf16) (harg4 : arg4.IsWhole) (arg5 : Memref sig .tc .vmem S1024x960 .bf16) (harg5 : arg5.IsWhole) (arg6 : Memref sig .tc .vmem S1024x960 .f32) (harg6 : arg6.IsWhole)
  (x0 : Vec Ideal S512x1024 .bf16) (x1 : Vec Ideal S512x960 .bf16) (xs0 : Vec Ideal S1024x960 .f32)

/-- What a block of rows adds to the gradient at row `a` and column `b` of the weight. -/
def part (a : Fin 1024) (b : Fin 960) : EReal := ∑ k : Fin 512, (x0 (ix2 k a) : EReal) * x1 (ix2 k b)

/-- The zero stored first, at an index. -/
theorem zero_apply (i : S1024x960.Idx) : k0_pay1 (F := Ideal) i = 0 := by
  unfold k0_pay1
  pointwise

attribute [local pointwise] k0_pay2 k0_pay3

/-- The first point leaves its block's part. -/
theorem first (hc0 : cond0_0 i) (hc1 : ¬cond0_1 i) (a : Fin 1024) (b : Fin 960) :
    sout0_A_0 c i arg3 harg3 arg4 harg4 arg5 harg5 arg6 harg6 hc0 hc1 x0 x1 (ix2 a b) = 0 + part x0 x1 a b := by
  frame_out
  unfold part
  pointwise
  rw [zero_apply, zero_add]

/-- A later point adds its block's part. -/
theorem next (hc0 : ¬cond0_0 i) (hc1 : ¬cond0_1 i) (a : Fin 1024) (b : Fin 960) :
    sout0_B_0 c i arg3 harg3 arg4 harg4 arg5 harg5 arg6 harg6 hc0 hc1 x0 x1 xs0 (ix2 a b) = xs0 (ix2 a b) + part x0 x1 a b := by
  frame_out
  unfold part
  pointwise

/-- So does the last. -/
theorem last (hc0 : ¬cond0_0 i) (hc1 : cond0_1 i) (a : Fin 1024) (b : Fin 960) :
    sout0_C_0 c i arg3 harg3 arg4 harg4 arg5 harg5 arg6 harg6 hc0 hc1 x0 x1 xs0 (ix2 a b) = xs0 (ix2 a b) + part x0 x1 a b := by
  frame_out
  unfold part
  pointwise

/-- What the last point writes back is what it leaves in the accumulator. -/
theorem written (hc0 : ¬cond0_0 i) (hc1 : cond0_1 i) (a : Fin 1024) (b : Fin 960) :
    out0_C_2 c i arg3 harg3 arg4 harg4 arg5 harg5 arg6 harg6 hc0 hc1 x0 x1 xs0 (ix2 a b) = xs0 (ix2 a b) + part x0 x1 a b := by
  frame_out
  unfold part
  pointwise

end Point

/-! ## The launch -/

variable (m : (ℓ : Loc nD τ sig) → Buf (Elt Ideal) ℓ) (c : Dev nD)

/-- The launch's first operand is the first argument. -/
theorem V_0 : V m c main_v0 = (truncf .bf16 (m (c, Proc.tc.devRef main_arg0) : FVec Ideal S4096x1024 .f32) bitsLt_bf16_f32 : FVec Ideal S4096x1024 .bf16) := by
  unfold V
  after_reads_simp

/-- Its second is the second. -/
theorem V_1 : V m c main_v1 = (truncf .bf16 (m (c, Proc.tc.devRef main_arg1) : FVec Ideal S4096x960 .f32) bitsLt_bf16_f32 : FVec Ideal S4096x960 .bf16) := by
  unfold V
  after_reads_simp

/-- The block of the first side a point works on. -/
theorem idx0 : ∀ t : Fin cfg0.N, win0_0.index t = ![t.val, 0] := (by decide +kernel : ∀ t : Fin grid0.N, win0_0.index t = ![t.val, 0])

/-- The block of the second. -/
theorem idx1 : ∀ t : Fin cfg0.N, win0_1.index t = ![t.val, 0] := (by decide +kernel : ∀ t : Fin grid0.N, win0_1.index t = ![t.val, 0])

/-- The block of the gradient is the whole array at every point. -/
theorem idx2 : ∀ t : Fin cfg0.N, win0_2.index t = ![0, 0] := (by decide +kernel : ∀ t : Fin grid0.N, win0_2.index t = ![0, 0])

/-- The block of the first side at a point holds its 512 rows. -/
theorem read_0 (t : Fin cfg0.N) (X : (⟨S4096x1024, .bf16⟩ : BufTy).Contents (Elt Ideal)) (k : Fin 512) (a : Fin 1024) (hl : t.val * 512 + k.val < 4096) :
    ((cfg0.win 0).blk t).view.read (Elt Ideal) X (ix2 k a) = X (ix2 ⟨t.val * 512 + k.val, hl⟩ a) := by
  blk_ext [idx0 t]

/-- So does the block of the second. -/
theorem read_1 (t : Fin cfg0.N) (X : (⟨S4096x960, .bf16⟩ : BufTy).Contents (Elt Ideal)) (k : Fin 512) (b : Fin 960) (hl : t.val * 512 + k.val < 4096) :
    ((cfg0.win 1).blk t).view.read (Elt Ideal) X (ix2 k b) = X (ix2 ⟨t.val * 512 + k.val, hl⟩ b) := by
  blk_ext [idx1 t]

/-- The accumulator after the first point. -/
theorem acc_first (t : Fin cfg0.N) (h : t.val % 8 = 0) (a : Fin 1024) (b : Fin 960) :
    (outsAt0 m c t.val t.isLt).2 (ix2 a b) = 0 + part (iblk m c 0 t) (iblk m c 1 t) a b := by
  have h1 : ¬t.val % 8 = 7 := by omega
  have key := first c (grid0.coords t) (ms0_0 t) (hs0_0 t) (ms0_1 t) (hs0_1 t) (ms0_2 t) (hs0_2 t) scM0_0 (Memref.isWhole_whole _) (iblk m c 0 t) (iblk m c 1 t) ((hcond0_0 t).mpr h) (fun h => h1 ((hcond0_1 t).mp h)) a b
  rw [outsAt0_A m c t h h1]
  with_reducible exact key

/-- The accumulator after a later point, over what the point before left. -/
theorem acc_next (t : Fin cfg0.N) (h : ¬t.val % 8 = 0) (a : Fin 1024) (b : Fin 960) :
    (outsAt0 m c t.val t.isLt).2 (ix2 a b) = (outsAt0 m c (t.val - 1) (Nat.lt_of_le_of_lt (Nat.sub_le _ _) t.isLt)).2 (ix2 a b) + part (iblk m c 0 t) (iblk m c 1 t) a b := by
  by_cases h1 : t.val % 8 = 7
  · have key := last c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h' => h ((hcond0_0 t).mp h')) ((hcond0_1 t).mpr h1) a b
    rw [outsAt0_C m c t h h1]
    with_reducible exact key
  · have key := next c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h' => h ((hcond0_0 t).mp h')) (fun h => h1 ((hcond0_1 t).mp h)) a b
    rw [outsAt0_B m c t h h1]
    with_reducible exact key

/-- What the last point writes back is what it leaves in the accumulator. -/
theorem out_last (t : Fin cfg0.N) (h1 : t.val % 8 = 7) (a : Fin 1024) (b : Fin 960) : (outsAt0 m c t.val t.isLt).1 (ix2 a b) = (outsAt0 m c t.val t.isLt).2 (ix2 a b) := by
  have h : ¬t.val % 8 = 0 := by omega
  have key := written c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h' => h ((hcond0_0 t).mp h')) ((hcond0_1 t).mpr h1) a b
  rw [acc_next m c t h a b, outsAt0_C m c t h h1]
  with_reducible exact key

/-- After the last point the accumulator holds the sum of the eight blocks' parts. -/
theorem acc_last (t : Fin cfg0.N) (ht : t.val + 1 = cfg0.N) (a : Fin 1024) (b : Fin 960) :
    (outsAt0 m c t.val t.isLt).2 (ix2 a b) = ∑ p : Fin cfg0.N, part (iblk m c 0 p) (iblk m c 1 p) a b := by
  have h := Pipeline.eq_sum_fin_of_reset_step_apply_last (fun n h (z : Fin 1024 × Fin 960) => (outsAt0 m c n h).2 (ix2 z.1 z.2)) 8 (fun _ => (0 : EReal))
    (fun p z => part (iblk m c 0 p) (iblk m c 1 p) z.1 z.2)
    (fun t h z => acc_first m c t h z.1 z.2) (fun t h z => acc_next m c t h z.1 z.2) (le_of_eq N_0) t ht (a, b)
  rwa [zero_add] at h

/-- The gradient of the weight: the sum over all rows. -/
def grad (x : FVec Ideal S4096x1024 .f32) (y : FVec Ideal S4096x960 .f32) : FVec Ideal S1024x960 .bf16 :=
  fun i => ∑ k : Fin 4096, (x (ix2 k (i 0)) : EReal) * y (ix2 k (i 1))

/-- The eight blocks' parts are the whole sum. -/
theorem parts (a : Fin 1024) (b : Fin 960) :
    ∑ p : Fin cfg0.N, part (iblk m c 0 p) (iblk m c 1 p) a b = grad (m (c, Proc.tc.devRef main_arg0)) (m (c, Proc.tc.devRef main_arg1)) (ix2 a b) := by
  unfold part grad
  refine Fin.sum_mul_add_congr (S := 8) (fun p k hl => ?_)
  have e0 : iblk m c 0 p (ix2 k a) = V m c main_v0 (ix2 ⟨p.val * 512 + k.val, hl⟩ a) := read_0 p _ k a hl
  have e1 : iblk m c 1 p (ix2 k b) = V m c main_v1 (ix2 ⟨p.val * 512 + k.val, hl⟩ b) := read_1 p _ k b hl
  rw [e0, e1, V_0, V_1]
  rfl

/-- The launch's result is the weight's gradient. -/
theorem result : (dats m 0 c).arrAt 2 cfg0.N = grad (m (c, Proc.tc.devRef main_arg0)) (m (c, Proc.tc.devRef main_arg1)) := by
  refine (dats m 0 c).arrAt_eq_of_covers 2 _ (by decide +kernel) fun t hf y => ?_
  have h3 : t.val % 8 = 7 := (flush0_2 t).mp hf
  have ht : t.val + 1 = cfg0.N := by have h4 : t.val < 8 := t.isLt.trans_eq N_0; exact (show t.val + 1 = 8 by omega).trans N_0.symm
  obtain ⟨a, b, rfl⟩ : ∃ (a : Fin 1024) (b : Fin 960), y = ix2 a b := ⟨y 0, y 1, by funext k; fin_cases k <;> rfl⟩
  blk_simp
  have he : (win0_2.blk t).view.emb (ix2 a b) = ix2 a b := by
    blk_ext [idx2 t]
  rw [after0_2, he, ← parts, ← acc_last m c t ht]
  exact out_last m c t h3 a b

/-- The reference's gradient, of the product of the rows with the weight, is the launch's. -/
theorem ref (x : FVec Ideal S4096x1024 .f32) (y : FVec Ideal S4096x960 .f32) : Cert.OddWeightReferenceIdeal.Read.val_main_v4 (F := Ideal) x y = grad x y := by
  open Cert.OddWeightReferenceIdeal.Read in
  funext i
  have e : val_main_v4 (F := Ideal) x y i = val_main_v3 (F := Ideal) x y i := rfl
  rw [e, val_main_v3_apply, val_main_v2_apply]
  refine Finset.sum_congr rfl fun k _ => ?_
  rw [mul_comm]
  congr 1 <;> blk_ext []

end Cert.OddGrads

end
-- ==== Proof.OddRowsGrads.lean ====
module

public import proofs.«01_k».proof.Proof.Gen.OddRowsIdeal.Value
public import proofs.«01_k».proof.Proof.Shards
public import proofs.«01_k».proof.Proof.Norm
public import Idealize.ShloMosaic.Lib.Pipeline.ValueKit
public import Idealize.ShloMosaic.Lib.StableHlo.ReadAt

@[expose] public section

set_option maxRecDepth 16384

noncomputable section

/-! # The odd layer's first product backward, tile by tile

Each point of the launch takes 1024 rows: the arriving gradient times the weight, then through the rows' norm in four
groups of 256 rows. The gradient of the norm's gain is accumulated over the points. -/

namespace Cert.OddRows

open Cert.Shards (run_hit run_miss)
open Cert.Norm
open Cert.OddRowsIdeal Cert.OddRowsIdeal.Gen Idealize.ShloMosaic Idealize.ShloMosaic.TcCoe Idealize.SL.Sem
open Idealize.ShloMosaic.Pipeline (Dat)

section Halves

attribute [local pointwise] k0_pay1 k0_pay4 k0_pay5 k0_pay6 k0_pay8 k0_pay9 k0_pay10 k0_pay11 k0_pay13 k0_pay14 k0_pay15 k0_pay16 k0_pay17 k0_pay18 k0_pay19 k0_pay21 k0_pay22 k0_pay23 k0_pay24 k0_pay25 k0_pay26 k0_pay28 k0_pay29 k0_pay30 k0_pay31 k0_pay32

variable (v w : FVec Ideal S1024x960 .bf16) (p : FVec Ideal S1024x1024 .f32) (x e : FVec Ideal S256x1024 .f32) (g : FVec Ideal S1x1024 .f32) (k : Fin 256) (d : Fin 1024)

/-- The first group's rows. -/
theorem pay_rows_0 : k0_pay11 (F := Ideal) (k0_pay5 x) (k0_pay6 x) (k0_pay9 v w g) e (k0_pay10 v w x g) (ix2 k d)
    = through (fun n => x (ix2 k n)) (fun n => g (ix2 0 n)) (fun n => (k0_pay3 v w : FVec Ideal S1024x1024 .f32) (ix2 (at0 k) n)) (fun n => e (ix2 k n)) d := by
  unfold through rstd
  pointwise
  rfl

/-- The first group's part of the gain's gradient, added to what is there. -/
theorem pay_gain_0 : k0_pay8 (F := Ideal) v w x g (ix2 0 d)
    = g (ix2 0 d) + ∑ k : Fin 256, (k0_pay3 v w : FVec Ideal S1024x1024 .f32) (ix2 (at0 k) d) * (x (ix2 k d) * rstd (fun n => x (ix2 k n))) := by
  unfold rstd
  pointwise
  rfl

/-- The second group's rows. -/
theorem pay_rows_1 : k0_pay19 (k0_pay14 x) (k0_pay15 x) (k0_pay17 p g) e (k0_pay18 p x g) (ix2 k d)
    = through (fun n => x (ix2 k n)) (fun n => g (ix2 0 n)) (fun n => p (ix2 (at1 k) n)) (fun n => e (ix2 k n)) d := by
  unfold through rstd
  pointwise
  rfl

/-- The second group's part of the gain's gradient, added to what is there. -/
theorem pay_gain_1 : k0_pay16 p x g (ix2 0 d)
    = g (ix2 0 d) + ∑ k : Fin 256, p (ix2 (at1 k) d) * (x (ix2 k d) * rstd (fun n => x (ix2 k n))) := by
  unfold rstd
  pointwise
  rfl

/-- The third group's rows. -/
theorem pay_rows_2 : k0_pay26 (k0_pay22 x) (k0_pay23 x) (k0_pay25 p g) e (ix2 k d)
    = through (fun n => x (ix2 k n)) (fun n => g (ix2 0 n)) (fun n => p (ix2 (at2 k) n)) (fun n => e (ix2 k n)) d := by
  unfold through rstd
  pointwise
  rfl

/-- The third group's part of the gain's gradient, added to what is there. -/
theorem pay_gain_2 : k0_pay24 p x g (ix2 0 d)
    = g (ix2 0 d) + ∑ k : Fin 256, p (ix2 (at2 k) d) * (x (ix2 k d) * rstd (fun n => x (ix2 k n))) := by
  unfold rstd
  pointwise
  rfl

/-- The last group's rows. -/
theorem pay_rows_3 : k0_pay1 (k0_pay29 x) (k0_pay30 x) (k0_pay32 p g) e (ix2 k d)
    = through (fun n => x (ix2 k n)) (fun n => g (ix2 0 n)) (fun n => p (ix2 (at3 k) n)) (fun n => e (ix2 k n)) d := by
  unfold through rstd
  pointwise
  rfl

/-- The last group's part of the gain's gradient, added to what is there. -/
theorem pay_gain_3 : k0_pay31 p x g (ix2 0 d)
    = g (ix2 0 d) + ∑ k : Fin 256, p (ix2 (at3 k) d) * (x (ix2 k d) * rstd (fun n => x (ix2 k n))) := by
  unfold rstd
  pointwise
  rfl

/-- The zero stored first. -/
theorem pay_zero (i : S1x1024.Idx) : k0_pay7 (F := Ideal) i = 0 := by
  unfold k0_pay7
  pointwise

end Halves

section Tile

variable {e : EltTy} {Val : EltTy → Type} [∀ e, Nonempty (Val e)]

/-- A tile stored group by group holds at each row what its group holds there. -/
theorem tile {W : ℕ} (i0 : ∀ k, (![0, 0] : Fin 2 → ℕ) k + (![256, W] : Fin 2 → ℕ) k ≤ (⟨2, ![1024, W]⟩ : Shape).size k)
    (i1 : ∀ k, (![256, 0] : Fin 2 → ℕ) k + (![256, W] : Fin 2 → ℕ) k ≤ (⟨2, ![1024, W]⟩ : Shape).size k)
    (i2 : ∀ k, (![512, 0] : Fin 2 → ℕ) k + (![256, W] : Fin 2 → ℕ) k ≤ (⟨2, ![1024, W]⟩ : Shape).size k)
    (i3 : ∀ k, (![768, 0] : Fin 2 → ℕ) k + (![256, W] : Fin 2 → ℕ) k ≤ (⟨2, ![1024, W]⟩ : Shape).size k)
    (w0 w1 w2 w3 : (⟨2, ![256, W]⟩ : Shape).Idx → Val e) (f : Fin 1024 → Fin W → Val e) (q : Fin 1024) (d : Fin W)
    (h0 : ∀ k, w0 (ix2 k d) = f (at0 k) d) (h1 : ∀ k, w1 (ix2 k d) = f (at1 k) d) (h2 : ∀ k, w2 (ix2 k d) = f (at2 k) d) (h3 : ∀ k, w3 (ix2 k d) = f (at3 k) d) :
    View.canon [(⟨Rect.unit ![768, 0] ![256, W] i3, w3⟩ : View.Piece Val (⟨2, ![1024, W]⟩ : Shape) e), ⟨Rect.unit ![512, 0] ![256, W] i2, w2⟩,
      ⟨Rect.unit ![256, 0] ![256, W] i1, w1⟩, ⟨Rect.unit ![0, 0] ![256, W] i0, w0⟩] (ix2 q d) = f q d := by
  obtain ⟨k, rfl⟩ | ⟨k, rfl⟩ | ⟨k, rfl⟩ | ⟨k, rfl⟩ := quarter q
  · rw [run_miss _ _ _ _ (lt_trans (at0_lt k) (by decide)), run_miss _ _ _ _ (lt_trans (at0_lt k) (by decide)), run_miss _ _ _ _ (at0_lt k), run_hit _ _ _ _ k (at0_eq k), h0]
  · rw [run_miss _ _ _ _ (lt_trans (at1_lt k) (by decide)), run_miss _ _ _ _ (at1_lt k), run_hit _ _ _ _ k (at1_eq k), h1]
  · rw [run_miss _ _ _ _ (at2_lt k), run_hit _ _ _ _ k (at2_eq k), h2]
  · rw [run_hit _ _ _ _ k (at3_eq k), h3]

end Tile

/-! ## What one point writes -/

section Point

variable (c : Dev nD) (i : grid0.Coords) (arg3 : Memref sig .tc .vmem S1024x960 .bf16) (harg3 : arg3.IsWhole) (arg4 : Memref sig .tc .vmem S1024x960 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1024x1024 .bf16) (harg10 : arg10.IsWhole)
  (x0 x1 : Vec Ideal S1024x960 .bf16) (x2 : Vec Ideal S1024x1024 .f32) (x3 : Vec Ideal S1x1024 .f32) (x4 : Vec Ideal S1024x1024 .f32) (xo6 : Vec Ideal S1x1024 .f32)

/-- The gradient of the normed rows. -/
def back (k d : Fin 1024) : EReal := ∑ l : Fin 960, (x0 (ix2 k l) : EReal) * x1 (ix2 d l)

/-- The tile's rows of the result. -/
def rows (k d : Fin 1024) : EReal :=
  through (fun n => x2 (ix2 k n)) (fun n => x3 (ix2 0 n)) (back x0 x1 k) (fun n => x4 (ix2 k n)) d

/-- The tile's part of the gain's gradient. -/
def gain (d : Fin 1024) : EReal :=
  ∑ k : Fin 1024, back x0 x1 k d * ((x2 (ix2 k d) : EReal) * rstd (fun n => x2 (ix2 k n)))

section Products

attribute [local pointwise] k0_pay3

/-- The product. -/
theorem prod_eq (k d : Fin 1024) : (k0_pay3 x0 x1 : FVec Ideal S1024x1024 .f32) (ix2 k d) = back x0 x1 k d := by
  unfold back
  pointwise

end Products

section Groups

variable (k : Fin 256) (d : Fin 1024)

/-- The first group's rows. -/
theorem row_0 : k0_pay11 (k0_pay5 (View.ld x2 (Rect.unit ![0, 0] ![256, 1024] inb_S1024x1024_S256x1024_0_0))) (k0_pay6 (View.ld x2 (Rect.unit ![0, 0] ![256, 1024] inb_S1024x1024_S256x1024_0_0))) (k0_pay9 x0 x1 x3) (View.ld x4 (Rect.unit ![0, 0] ![256, 1024] inb_S1024x1024_S256x1024_0_0)) (k0_pay10 x0 x1 (View.ld x2 (Rect.unit ![0, 0] ![256, 1024] inb_S1024x1024_S256x1024_0_0)) x3) (ix2 k d)
    = rows x0 x1 x2 x3 x4 (at0 k) d := by
  rw [pay_rows_0]
  simp only [prod_eq, rows]
  pointwise
  rfl

/-- The second group's rows. -/
theorem row_1 : k0_pay19 (k0_pay14 (View.ld x2 (Rect.unit ![256, 0] ![256, 1024] inb_S1024x1024_S256x1024_256_0))) (k0_pay15 (View.ld x2 (Rect.unit ![256, 0] ![256, 1024] inb_S1024x1024_S256x1024_256_0))) (k0_pay17 (k0_pay3 x0 x1) x3) (View.ld x4 (Rect.unit ![256, 0] ![256, 1024] inb_S1024x1024_S256x1024_256_0)) (k0_pay18 (k0_pay3 x0 x1) (View.ld x2 (Rect.unit ![256, 0] ![256, 1024] inb_S1024x1024_S256x1024_256_0)) x3) (ix2 k d)
    = rows x0 x1 x2 x3 x4 (at1 k) d := by
  rw [pay_rows_1]
  simp only [prod_eq, rows]
  pointwise
  rfl

/-- The third group's rows. -/
theorem row_2 : k0_pay26 (k0_pay22 (View.ld x2 (Rect.unit ![512, 0] ![256, 1024] inb_S1024x1024_S256x1024_512_0))) (k0_pay23 (View.ld x2 (Rect.unit ![512, 0] ![256, 1024] inb_S1024x1024_S256x1024_512_0))) (k0_pay25 (k0_pay3 x0 x1) x3) (View.ld x4 (Rect.unit ![512, 0] ![256, 1024] inb_S1024x1024_S256x1024_512_0)) (ix2 k d)
    = rows x0 x1 x2 x3 x4 (at2 k) d := by
  rw [pay_rows_2]
  simp only [prod_eq, rows]
  pointwise
  rfl

/-- The last group's rows. -/
theorem row_3 : k0_pay1 (k0_pay29 (View.ld x2 (Rect.unit ![768, 0] ![256, 1024] inb_S1024x1024_S256x1024_768_0))) (k0_pay30 (View.ld x2 (Rect.unit ![768, 0] ![256, 1024] inb_S1024x1024_S256x1024_768_0))) (k0_pay32 (k0_pay3 x0 x1) x3) (View.ld x4 (Rect.unit ![768, 0] ![256, 1024] inb_S1024x1024_S256x1024_768_0)) (ix2 k d)
    = rows x0 x1 x2 x3 x4 (at3 k) d := by
  rw [pay_rows_3]
  simp only [prod_eq, rows]
  pointwise
  rfl

end Groups

/-- The rows written at the first point. -/
theorem rows_A (hc0 : cond0_0 i) (q : Fin 1024) (d : Fin 1024) :
    out0_A_5 c i arg3 harg3 arg4 harg4 arg5 harg5 arg6 harg6 arg7 harg7 arg8 harg8 arg9 harg9 arg10 harg10 hc0 x0 x1 x2 x3 x4 (ix2 q d) = rows x0 x1 x2 x3 x4 q d := by
  frame_out
  refine tile (Val := Elt Ideal) (e := .f32) _ _ _ _ _ _ _ _ (rows x0 x1 x2 x3 x4) q d (fun k => ?_) (fun k => ?_) (fun k => ?_) (fun k => ?_)
  · exact row_0 x0 x1 x2 x3 x4 k d
  · exact row_1 x0 x1 x2 x3 x4 k d
  · exact row_2 x0 x1 x2 x3 x4 k d
  · exact row_3 x0 x1 x2 x3 x4 k d

/-- The same in the narrower format. -/
theorem twin_A (hc0 : cond0_0 i) (q : Fin 1024) (d : Fin 1024) :
    out0_A_7 c i arg3 harg3 arg4 harg4 arg5 harg5 arg6 harg6 arg7 harg7 arg8 harg8 arg9 harg9 arg10 harg10 hc0 x0 x1 x2 x3 x4 (ix2 q d) = rows x0 x1 x2 x3 x4 q d := by
  frame_out
  refine tile (Val := Elt Ideal) (e := .bf16) _ _ _ _ _ _ _ _ (rows x0 x1 x2 x3 x4) q d (fun k => ?_) (fun k => ?_) (fun k => ?_) (fun k => ?_)
  · exact row_0 x0 x1 x2 x3 x4 k d
  · exact row_1 x0 x1 x2 x3 x4 k d
  · exact row_2 x0 x1 x2 x3 x4 k d
  · exact row_3 x0 x1 x2 x3 x4 k d

/-- The gain gradient accumulated at the first point. -/
theorem gain_A (hc0 : cond0_0 i) (d : Fin 1024) :
    out0_A_6 c i arg3 harg3 arg4 harg4 arg5 harg5 arg6 harg6 arg7 harg7 arg8 harg8 arg9 harg9 arg10 harg10 hc0 x0 x1 x2 x3 x4 (ix2 0 d) = 0 + gain x0 x1 x2 d := by
  frame_out
  rw [pay_gain_3, pay_gain_2, pay_gain_1, pay_gain_0, pay_zero, gain, sum_quarters]
  simp only [prod_eq, add_assoc]
  pointwise
  rfl

/-- The rows written at a later point. -/
theorem rows_B (hc0 : ¬cond0_0 i) (q : Fin 1024) (d : Fin 1024) :
    out0_B_5 c i arg3 harg3 arg4 harg4 arg5 harg5 arg6 harg6 arg7 harg7 arg8 harg8 arg9 harg9 arg10 harg10 hc0 x0 x1 x2 x3 x4 xo6 (ix2 q d) = rows x0 x1 x2 x3 x4 q d := by
  frame_out
  refine tile (Val := Elt Ideal) (e := .f32) _ _ _ _ _ _ _ _ (rows x0 x1 x2 x3 x4) q d (fun k => ?_) (fun k => ?_) (fun k => ?_) (fun k => ?_)
  · exact row_0 x0 x1 x2 x3 x4 k d
  · exact row_1 x0 x1 x2 x3 x4 k d
  · exact row_2 x0 x1 x2 x3 x4 k d
  · exact row_3 x0 x1 x2 x3 x4 k d

/-- The same in the narrower format. -/
theorem twin_B (hc0 : ¬cond0_0 i) (q : Fin 1024) (d : Fin 1024) :
    out0_B_7 c i arg3 harg3 arg4 harg4 arg5 harg5 arg6 harg6 arg7 harg7 arg8 harg8 arg9 harg9 arg10 harg10 hc0 x0 x1 x2 x3 x4 xo6 (ix2 q d) = rows x0 x1 x2 x3 x4 q d := by
  frame_out
  refine tile (Val := Elt Ideal) (e := .bf16) _ _ _ _ _ _ _ _ (rows x0 x1 x2 x3 x4) q d (fun k => ?_) (fun k => ?_) (fun k => ?_) (fun k => ?_)
  · exact row_0 x0 x1 x2 x3 x4 k d
  · exact row_1 x0 x1 x2 x3 x4 k d
  · exact row_2 x0 x1 x2 x3 x4 k d
  · exact row_3 x0 x1 x2 x3 x4 k d

/-- The gain gradient accumulated at a later point. -/
theorem gain_B (hc0 : ¬cond0_0 i) (d : Fin 1024) :
    out0_B_6 c i arg3 harg3 arg4 harg4 arg5 harg5 arg6 harg6 arg7 harg7 arg8 harg8 arg9 harg9 arg10 harg10 hc0 x0 x1 x2 x3 x4 xo6 (ix2 0 d) = xo6 (ix2 0 d) + gain x0 x1 x2 d := by
  frame_out
  rw [pay_gain_3, pay_gain_2, pay_gain_1, pay_gain_0, gain, sum_quarters]
  simp only [prod_eq, add_assoc]
  pointwise
  rfl

end Point

/-! ## The launch -/

variable (m : (ℓ : Loc nD τ sig) → Buf (Elt Ideal) ℓ) (c : Dev nD)

/-- The first operand: the arriving gradient. -/
theorem V_d : V m c main_v0 = (truncf .bf16 (m (c, Proc.tc.devRef main_arg3) : FVec Ideal S4096x960 .f32) bitsLt_bf16_f32 : FVec Ideal S4096x960 .bf16) := by
  unfold V
  after_reads_simp

/-- The second: the weight. -/
theorem V_w : V m c main_v1 = (truncf .bf16 (m (c, Proc.tc.devRef main_arg2) : FVec Ideal S1024x960 .f32) bitsLt_bf16_f32 : FVec Ideal S1024x960 .bf16) := by
  unfold V
  after_reads_simp

/-- The third: the rows. -/
theorem V_x : V m c main_arg0 = m (c, Proc.tc.devRef main_arg0) := by
  unfold V
  after_reads_simp

/-- The fourth: the gain, as one row. -/
theorem V_gain (d : Fin 1024) : (V m c main_v2 : FVec Ideal S1x1024 .f32) (ix2 0 d) = (m (c, Proc.tc.devRef main_arg1) : FVec Ideal S1024 .f32) (ix1 d) := by
  unfold V
  after_reads_simp
  pointwise

/-- The fifth: the gradient of the residual. -/
theorem V_res : V m c main_arg4 = m (c, Proc.tc.devRef main_arg4) := by
  unfold V
  after_reads_simp

/-- The blocks' places. -/
theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0] := (by decide +kernel : ∀ t : Fin grid0.N, win0_3.index t = ![0, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![0, 0] := (by decide +kernel : ∀ t : Fin grid0.N, win0_6.index t = ![0, 0])
theorem idx7 : ∀ t : Fin cfg0.N, win0_7.index t = ![t.val, 0] := (by decide +kernel : ∀ t : Fin grid0.N, win0_7.index t = ![t.val, 0])

section Reads

variable (t : Fin cfg0.N) (k : Fin 1024) (d : Fin 1024) (hl : t.val * 1024 + k.val < 4096)

/-- A point's block of the arriving gradient holds its 1024 rows. -/
theorem read_0 (X : (⟨S4096x960, .bf16⟩ : BufTy).Contents (Elt Ideal)) (l : Fin 960) : ((cfg0.win 0).blk t).view.read (Elt Ideal) X (ix2 k l) = X (ix2 ⟨t.val * 1024 + k.val, hl⟩ l) := by
  blk_ext [idx0 t]

/-- A point's block of the weight is the whole weight. -/
theorem read_1 (X : (⟨S1024x960, .bf16⟩ : BufTy).Contents (Elt Ideal)) (r : Fin 960) : ((cfg0.win 1).blk t).view.read (Elt Ideal) X (ix2 d r) = X (ix2 d r) := by
  blk_ext [idx1 t]

/-- A point's block of the rows. -/
theorem read_2 (X : (⟨S4096x1024, .f32⟩ : BufTy).Contents (Elt Ideal)) : ((cfg0.win 2).blk t).view.read (Elt Ideal) X (ix2 k d) = X (ix2 ⟨t.val * 1024 + k.val, hl⟩ d) := by
  blk_ext [idx2 t]

/-- A point's block of the gain is the gain. -/
theorem read_3 (X : (⟨S1x1024, .f32⟩ : BufTy).Contents (Elt Ideal)) : ((cfg0.win 3).blk t).view.read (Elt Ideal) X (ix2 0 d) = X (ix2 0 d) := by
  blk_ext [idx3 t]

/-- A point's block of the residual's gradient. -/
theorem read_4 (X : (⟨S4096x1024, .f32⟩ : BufTy).Contents (Elt Ideal)) : ((cfg0.win 4).blk t).view.read (Elt Ideal) X (ix2 k d) = X (ix2 ⟨t.val * 1024 + k.val, hl⟩ d) := by
  blk_ext [idx4 t]

end Reads

/-- What a point writes of the rows. -/
theorem out_rows (t : Fin cfg0.N) (q : Fin 1024) (d : Fin 1024) : (outsAt0 m c t.val t.isLt).1 (ix2 q d) = rows (iblk m c 0 t) (iblk m c 1 t) (iblk m c 2 t) (iblk m c 3 t) (iblk m c 4 t) q d := by
  by_cases h : t.val % 4 = 0
  · have key := rows_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) ((hcond0_0 t).mpr h) q d
    rw [outsAt0_A m c t h]
    with_reducible exact key
  · have key := rows_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (outsAt0 m c (t.val - 1) (Nat.lt_of_le_of_lt (Nat.sub_le _ _) t.isLt)).2.1 (fun h' => h ((hcond0_0 t).mp h')) q d
    rw [outsAt0_B m c t h]
    with_reducible exact key

/-- The same in the narrower format. -/
theorem out_twin (t : Fin cfg0.N) (q : Fin 1024) (d : Fin 1024) : (outsAt0 m c t.val t.isLt).2.2 (ix2 q d) = rows (iblk m c 0 t) (iblk m c 1 t) (iblk m c 2 t) (iblk m c 3 t) (iblk m c 4 t) q d := by
  by_cases h : t.val % 4 = 0
  · have key := twin_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) ((hcond0_0 t).mpr h) q d
    rw [outsAt0_A m c t h]
    with_reducible exact key
  · have key := twin_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (outsAt0 m c (t.val - 1) (Nat.lt_of_le_of_lt (Nat.sub_le _ _) t.isLt)).2.1 (fun h' => h ((hcond0_0 t).mp h')) q d
    rw [outsAt0_B m c t h]
    with_reducible exact key

/-- The gain's gradient after the first point. -/
theorem acc_first (t : Fin cfg0.N) (h : t.val % 4 = 0) (d : Fin 1024) :
    (outsAt0 m c t.val t.isLt).2.1 (ix2 0 d) = 0 + gain (iblk m c 0 t) (iblk m c 1 t) (iblk m c 2 t) d := by
  have key := gain_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) ((hcond0_0 t).mpr h) d
  rw [outsAt0_A m c t h]
  with_reducible exact key

/-- The gain's gradient after a later point. -/
theorem acc_next (t : Fin cfg0.N) (h : ¬t.val % 4 = 0) (d : Fin 1024) :
    (outsAt0 m c t.val t.isLt).2.1 (ix2 0 d) = (outsAt0 m c (t.val - 1) (Nat.lt_of_le_of_lt (Nat.sub_le _ _) t.isLt)).2.1 (ix2 0 d) + gain (iblk m c 0 t) (iblk m c 1 t) (iblk m c 2 t) d := by
  have key := gain_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (outsAt0 m c (t.val - 1) (Nat.lt_of_le_of_lt (Nat.sub_le _ _) t.isLt)).2.1 (fun h' => h ((hcond0_0 t).mp h')) d
  rw [outsAt0_B m c t h]
  with_reducible exact key

/-- After the last point it is the sum of the points' parts. -/
theorem acc_last (t : Fin cfg0.N) (ht : t.val + 1 = cfg0.N) (d : Fin 1024) :
    (outsAt0 m c t.val t.isLt).2.1 (ix2 0 d) = ∑ p : Fin cfg0.N, gain (iblk m c 0 p) (iblk m c 1 p) (iblk m c 2 p) d := by
  have h := Pipeline.eq_sum_fin_of_reset_step_apply_last (fun n h (z : Fin 1024) => (outsAt0 m c n h).2.1 (ix2 0 z)) 4 (fun _ => (0 : EReal))
    (fun p z => gain (iblk m c 0 p) (iblk m c 1 p) (iblk m c 2 p) z)
    (fun t h z => acc_first m c t h z) (fun t h z => acc_next m c t h z) (le_of_eq N_0) t ht d
  rwa [zero_add] at h

/-! ## The results -/

/-- The gradient of a normed row: the arriving row times the transposed weight. -/
def hid (w : FVec Ideal S1024x960 .f32) (a : FVec Ideal S4096x960 .f32) (k : Fin 4096) (d : Fin 1024) : EReal := ∑ l : Fin 960, (a (ix2 k l) : EReal) * w (ix2 d l)

/-- The rows' gradient. -/
def dx (x : FVec Ideal S4096x1024 .f32) (g : FVec Ideal S1024 .f32) (w : FVec Ideal S1024x960 .f32) (a : FVec Ideal S4096x960 .f32) (e : FVec Ideal S4096x1024 .f32)
    (k : Fin 4096) (d : Fin 1024) : EReal :=
  through (fun n => x (ix2 k n)) (fun n => g (ix1 n)) (hid w a k) (fun n => e (ix2 k n)) d

/-- The gain's gradient. -/
def dgain (x : FVec Ideal S4096x1024 .f32) (w : FVec Ideal S1024x960 .f32) (a : FVec Ideal S4096x960 .f32) (d : Fin 1024) : EReal :=
  ∑ k : Fin 4096, hid w a k d * ((x (ix2 k d) : EReal) * rstd (fun n => x (ix2 k n)))

/-- A tile's gradient of a normed row is the step's. -/
theorem back_eq (t : Fin cfg0.N) (q : Fin 1024) (hl : t.val * 1024 + q.val < 4096) (d : Fin 1024) :
    back (iblk m c 0 t) (iblk m c 1 t) q d = hid (m (c, Proc.tc.devRef main_arg2)) (m (c, Proc.tc.devRef main_arg3)) ⟨t.val * 1024 + q.val, hl⟩ d := by
  have e0 : ∀ l, iblk m c 0 t (ix2 q l) = V m c main_v0 (ix2 ⟨t.val * 1024 + q.val, hl⟩ l) := fun l => read_0 t q hl _ l
  have e1 : ∀ r, iblk m c 1 t (ix2 d r) = V m c main_v1 (ix2 d r) := fun r => read_1 t d _ r
  unfold back hid
  refine Finset.sum_congr rfl fun l _ => ?_
  rw [e0, e1, V_d, V_w]
  rfl

/-- A tile's rows are the step's. -/
theorem rows_eq (t : Fin cfg0.N) (q : Fin 1024) (hl : t.val * 1024 + q.val < 4096) (d : Fin 1024) :
    rows (iblk m c 0 t) (iblk m c 1 t) (iblk m c 2 t) (iblk m c 3 t) (iblk m c 4 t) q d = dx (m (c, Proc.tc.devRef main_arg0)) (m (c, Proc.tc.devRef main_arg1)) (m (c, Proc.tc.devRef main_arg2)) (m (c, Proc.tc.devRef main_arg3)) (m (c, Proc.tc.devRef main_arg4)) ⟨t.val * 1024 + q.val, hl⟩ d := by
  have e2 : ∀ n, iblk m c 2 t (ix2 q n) = (m (c, Proc.tc.devRef main_arg0) : FVec Ideal S4096x1024 .f32) (ix2 ⟨t.val * 1024 + q.val, hl⟩ n) := fun n => by
    rw [← V_x m c]; exact read_2 t q n hl _
  have e3 : ∀ n, iblk m c 3 t (ix2 0 n) = (m (c, Proc.tc.devRef main_arg1) : FVec Ideal S1024 .f32) (ix1 n) := fun n => by
    rw [← V_gain m c]; exact read_3 t n _
  have e4 : ∀ n, iblk m c 4 t (ix2 q n) = (m (c, Proc.tc.devRef main_arg4) : FVec Ideal S4096x1024 .f32) (ix2 ⟨t.val * 1024 + q.val, hl⟩ n) := fun n => by
    rw [← V_res m c]; exact read_4 t q n hl _
  unfold rows dx
  rw [funext e2, funext e3, funext e4, funext (back_eq m c t q hl)]

/-- The points' parts of the gain's gradient are the whole sum. -/
theorem gains (d : Fin 1024) : ∑ p : Fin cfg0.N, gain (iblk m c 0 p) (iblk m c 1 p) (iblk m c 2 p) d = dgain (m (c, Proc.tc.devRef main_arg0)) (m (c, Proc.tc.devRef main_arg2)) (m (c, Proc.tc.devRef main_arg3)) d := by
  unfold gain dgain
  refine Fin.sum_mul_add_congr (S := 4) (fun t q hl => ?_)
  have e2 : ∀ n, iblk m c 2 t (ix2 q n) = (m (c, Proc.tc.devRef main_arg0) : FVec Ideal S4096x1024 .f32) (ix2 ⟨t.val * 1024 + q.val, hl⟩ n) := fun n => by
    rw [← V_x m c]; exact read_2 t q n hl _
  rw [funext e2, e2, back_eq m c t q hl]

/-- The launch's first result is the rows' gradient. -/
theorem result_rows : (dats m 0 c).arrAt 5 cfg0.N = (fun i => dx (m (c, Proc.tc.devRef main_arg0)) (m (c, Proc.tc.devRef main_arg1)) (m (c, Proc.tc.devRef main_arg2)) (m (c, Proc.tc.devRef main_arg3)) (m (c, Proc.tc.devRef main_arg4)) (i 0) (i 1) : FVec Ideal S4096x1024 .f32) := by
  refine (dats m 0 c).arrAt_eq_of_covers 5 _ (by decide +kernel) fun t hf y => ?_
  obtain ⟨q, d, rfl⟩ : ∃ (q : Fin 1024) (d : Fin 1024), y = ix2 q d := ⟨y 0, y 1, by funext k; fin_cases k <;> rfl⟩
  have hl : t.val * 1024 + q.val < 4096 := by have h4 : t.val < 4 := t.isLt.trans_eq N_0; omega
  blk_simp
  have he : (win0_5.blk t).view.emb (ix2 q d) = ix2 ⟨t.val * 1024 + q.val, hl⟩ d := by
    blk_ext [idx5 t]
  rw [after0_5, he]
  exact (out_rows m c t q d).trans (rows_eq m c t q hl d)

/-- The second is the gain's gradient. -/
theorem result_gain : (dats m 0 c).arrAt 6 cfg0.N = (fun i => dgain (m (c, Proc.tc.devRef main_arg0)) (m (c, Proc.tc.devRef main_arg2)) (m (c, Proc.tc.devRef main_arg3)) (i 1) : FVec Ideal S1x1024 .f32) := by
  refine (dats m 0 c).arrAt_eq_of_covers 6 _ (by decide +kernel) fun t hf y => ?_
  have h3 : t.val % 4 = 3 := (flush0_6 t).mp hf
  have ht : t.val + 1 = cfg0.N := by have h4 : t.val < 4 := t.isLt.trans_eq N_0; exact (show t.val + 1 = 4 by omega).trans N_0.symm
  obtain ⟨u, d, rfl⟩ : ∃ (u : Fin 1) (d : Fin 1024), y = ix2 u d := ⟨y 0, y 1, by funext k; fin_cases k <;> rfl⟩
  obtain rfl : u = 0 := Subsingleton.elim _ _
  blk_simp
  have he : (win0_6.blk t).view.emb (ix2 0 d) = ix2 0 d := by
    blk_ext [idx6 t]
  rw [after0_6, he]
  exact (acc_last m c t ht d).trans (gains m c d)

/-- The third is the rows' gradient in the narrower format. -/
theorem result_twin : (dats m 0 c).arrAt 7 cfg0.N = (fun i => dx (m (c, Proc.tc.devRef main_arg0)) (m (c, Proc.tc.devRef main_arg1)) (m (c, Proc.tc.devRef main_arg2)) (m (c, Proc.tc.devRef main_arg3)) (m (c, Proc.tc.devRef main_arg4)) (i 0) (i 1) : FVec Ideal S4096x1024 .bf16) := by
  refine (dats m 0 c).arrAt_eq_of_covers 7 _ (by decide +kernel) fun t hf y => ?_
  obtain ⟨q, d, rfl⟩ : ∃ (q : Fin 1024) (d : Fin 1024), y = ix2 q d := ⟨y 0, y 1, by funext k; fin_cases k <;> rfl⟩
  have hl : t.val * 1024 + q.val < 4096 := by have h4 : t.val < 4 := t.isLt.trans_eq N_0; omega
  blk_simp
  have he : (win0_7.blk t).view.emb (ix2 q d) = ix2 ⟨t.val * 1024 + q.val, hl⟩ d := by
    blk_ext [idx7 t]
  rw [after0_7, he]
  exact (out_twin m c t q d).trans (rows_eq m c t q hl d)

end Cert.OddRows

end
-- ==== Proof.OddRowsRefs.lean ====
module

public import proofs.«01_k».proof.Proof.OddRowsGrads
public import proofs.«01_k».proof.Proof.Gen.OddRowsReferenceIdeal.Read

@[expose] public section

noncomputable section

/-! # The reference of the odd layer's first product backward -/

namespace Cert.OddRowsRefs

open Cert.OddRows Cert.Norm Idealize.ShloMosaic

/-! ## The reference, array by array -/

variable (x : FVec Ideal ⟨2, ![4096, 1024]⟩ .f32) (g : FVec Ideal ⟨1, ![1024]⟩ .f32) (w : FVec Ideal ⟨2, ![1024, 960]⟩ .f32)
  (a : FVec Ideal ⟨2, ![4096, 960]⟩ .f32) (e : FVec Ideal ⟨2, ![4096, 1024]⟩ .f32)

open Cert.OddRowsReferenceIdeal.Read

/-- The mean square of a row. -/
theorem ms_ref (i : (⟨2, ![4096, 1]⟩ : Shape).Idx) : val_main_v6 (F := Ideal) x i = ms (fun n => x (ix2 (i 0) n)) := by
  rw [val_main_v6_apply, val_main_v5_apply, val_main_v4_apply, val_main_v3_apply, val_main_v2_apply, val_main_v1_apply]
  have h : ∀ k, val_main_v0 (F := Ideal) x (idx_main_v1 (idx_main_v2 i) k) = x (ix2 (i 0) k) * x (ix2 (i 0) k) := fun k => by
    have ei : idx_main_v1 (idx_main_v2 i) k = ix2 (i 0) k := by blk_ext []
    rw [val_main_v0_apply, ei]
    rfl
  have hz : ∀ j, val_main_cst (F := Ideal) j = 0 := fun _ => zero_val
  rw [hz, zero_add, Finset.sum_congr rfl fun k _ => h k]
  rfl

/-- The inverse root of a row's mean square. -/
theorem rstd_ref (i : (⟨2, ![4096, 1]⟩ : Shape).Idx) : val_main_v7 (F := Ideal) x i = rstd (fun n => x (ix2 (i 0) n)) := by
  rw [val_main_v7_apply, ms_ref]
  rfl

/-- The gradient of the normed rows. -/
theorem hid_ref (i : (⟨2, ![4096, 1024]⟩ : Shape).Idx) : val_main_v17 (F := Ideal) w a i = hid w a (i 0) (i 1) := by
  rw [val_main_v17_apply]
  unfold hid
  refine Finset.sum_congr rfl fun k _ => ?_
  congr 1 <;> blk_ext []

/-- The same times the gain. -/
theorem gained_ref (i : (⟨2, ![4096, 1024]⟩ : Shape).Idx) : val_main_v22 (F := Ideal) g w a i = hid w a (i 0) (i 1) * g (ix1 (i 1)) := by
  have ei : idx_main_v13 (idx_main_v21 i) = ix1 (i 1) := by blk_ext []
  rw [val_main_v22_apply, val_main_v21_apply, val_main_v13_apply, hid_ref, ei]
  rfl

/-- What the reference adds twice to a row for its mean square. -/
theorem part_ref (i : (⟨2, ![4096, 1024]⟩ : Shape).Idx) :
    val_main_v34 (F := Ideal) x g w a i = part (fun n => x (ix2 (i 0) n)) (fun n => g (ix1 n)) (hid w a (i 0)) := by
  rw [val_main_v34_apply, val_main_v33_apply, Fin.sum_univ_one]
  have hz : ∀ j, val_main_cst_7 (F := Ideal) j = 0 := fun _ => zero_val
  have hz5 : ∀ j, val_main_cst_5 (F := Ideal) j = 0 := fun _ => zero_val
  obtain ⟨j, hj⟩ : ∃ j, j = idx_main_v33 (idx_main_v34 i) 0 := ⟨_, rfl⟩
  have hj0 : (j 0).val = (i 0).val := by rw [hj]
  have h : ∀ k, val_main_v24 (F := Ideal) x g w a (idx_main_v25 (idx_main_v26 j) k) = x (ix2 (i 0) k) * (hid w a (i 0) k * g (ix1 k)) := fun k => by
    have ei : idx_main_v25 (idx_main_v26 j) k = ix2 (i 0) k := by blk_ext [hj0]
    rw [val_main_v24_apply, gained_ref, ei]
    rfl
  have e0 : j 0 = i 0 := Fin.ext hj0
  rw [hz, zero_add, ← hj, val_main_v32_apply, val_main_v31_apply, val_main_v30_apply, val_main_v10_apply, val_main_v9_apply, val_main_v8_apply,
    val_main_v26_apply, val_main_v25_apply, hz5, zero_add, Finset.sum_congr rfl fun k _ => h k, rstd_ref, ms_ref, e0]
  rfl

/-- The reference's gradient of the rows, at a row and a column. -/
theorem dx_at (i : (⟨2, ![4096, 1024]⟩ : Shape).Idx) : val_main_v38 (F := Ideal) x g w a e i = dx x g w a e (i 0) (i 1) := by
  have e0 : (idx_main_v27 i) 0 = i 0 := rfl
  have ei : i = ix2 (i 0) (i 1) := by blk_ext []
  rw [val_main_v38_apply, val_main_v37_apply, val_main_v36_apply, val_main_v35_apply, val_main_v29_apply, val_main_v28_apply, val_main_v27_apply,
    part_ref, gained_ref, rstd_ref, e0]
  have hx : x i = x (ix2 (i 0) (i 1)) := congrArg x ei
  have he : e i = e (ix2 (i 0) (i 1)) := congrArg e ei
  rw [hx, he]
  exact through_eq (fun n => x (ix2 (i 0) n)) (fun n => g (ix1 n)) (hid w a (i 0)) (fun n => e (ix2 (i 0) n)) (i 1)

/-- The reference's first result is the launch's. -/
theorem dx_ref : val_main_v38 (F := Ideal) x g w a e = (fun i => dx x g w a e (i 0) (i 1) : FVec Ideal ⟨2, ![4096, 1024]⟩ .f32) :=
  funext fun i => dx_at x g w a e i

/-- So is its third, the same in the narrower format. -/
theorem twin_ref : val_main_v40 (F := Ideal) x g w a e = (fun i => dx x g w a e (i 0) (i 1) : FVec Ideal ⟨2, ![4096, 1024]⟩ .bf16) :=
  funext fun i => dx_at x g w a e i

/-- The reference's gradient of the gain at a column. -/
theorem dgain_at (i : (⟨2, ![1, 1024]⟩ : Shape).Idx) : val_main_v39 (F := Ideal) x w a i = dgain x w a (i 1) := by
  rw [val_main_v39_apply, val_main_v23_apply, Fin.sum_univ_one, val_main_v20_apply, val_main_v19_apply]
  have hz : ∀ j, val_main_cst_4 (F := Ideal) j = 0 := fun _ => zero_val
  have hz3 : ∀ j, val_main_cst_3 (F := Ideal) j = 0 := fun _ => zero_val
  rw [hz, hz3, zero_add, zero_add]
  unfold dgain
  refine Finset.sum_congr rfl fun k _ => ?_
  obtain ⟨j, hj⟩ : ∃ j, j = idx_main_v19 (idx_main_v20 (idx_main_v23 (idx_main_v39 i) 0)) k := ⟨_, rfl⟩
  have ei : j = ix2 k (i 1) := by rw [hj]; blk_ext []
  have e0 : (idx_main_v11 j) 0 = k := by rw [ei]; rfl
  rw [← hj, val_main_v18_apply, val_main_v12_apply, val_main_v11_apply, rstd_ref, hid_ref, e0, ei]
  exact mul_comm _ _

/-- The reference's second result is the launch's. -/
theorem dgain_ref : val_main_v39 (F := Ideal) x w a = (fun i => dgain x w a (i 1) : FVec Ideal ⟨2, ![1, 1024]⟩ .f32) :=
  funext fun i => dgain_at x w a i

end Cert.OddRowsRefs

end
-- ==== Proof.OutGrads.lean ====
module

public import proofs.«01_k».proof.Proof.Gen.OutWeightIdeal.Value
public import proofs.«01_k».proof.Proof.Gen.OutWeightReferenceIdeal.Read
public import Idealize.ShloMosaic.Lib.Pipeline.ValueKit
public import Idealize.ShloMosaic.Lib.StableHlo.ReadAt

@[expose] public section

set_option maxRecDepth 16384

noncomputable section

/-! # The gradient of the weight after the mixing

The launch walks the 4096 rows in eight blocks of 512 and adds the product of each block's two sides to the accumulator;
the last point writes the accumulator back. -/

namespace Cert.OutGrads

open Cert.OutWeightIdeal Cert.OutWeightIdeal.Gen Idealize.ShloMosaic Idealize.ShloMosaic.TcCoe Idealize.SL.Sem
open Idealize.ShloMosaic.Pipeline (Dat)

/-! ## What one point does to the accumulator -/

section Point

variable (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole)
  (x0 : Vec Ideal S512x1024 .bf16) (x1 : Vec Ideal S512x1024 .bf16) (xs0 : Vec Ideal S1024x1024 .f32)

/-- What a block of rows adds to the gradient at row `a` and column `b` of the weight. -/
def part (a : Fin 1024) (b : Fin 1024) : EReal := ∑ k : Fin 512, (x0 (ix2 k a) : EReal) * x1 (ix2 k b)

/-- The zero stored first, at an index. -/
theorem zero_apply (i : S1024x1024.Idx) : k0_pay1 (F := Ideal) i = 0 := by
  unfold k0_pay1
  pointwise

attribute [local pointwise] k0_pay2 k0_pay3

/-- The first point leaves its block's part. -/
theorem first (hc0 : cond0_0 i) (hc1 : ¬cond0_1 i) (a : Fin 1024) (b : Fin 1024) :
    sout0_A_0 c i arg3 harg3 arg4 harg4 arg5 harg5 arg6 harg6 hc0 hc1 x0 x1 (ix2 a b) = 0 + part x0 x1 a b := by
  frame_out
  unfold part
  pointwise
  rw [zero_apply, zero_add]

/-- A later point adds its block's part. -/
theorem next (hc0 : ¬cond0_0 i) (hc1 : ¬cond0_1 i) (a : Fin 1024) (b : Fin 1024) :
    sout0_B_0 c i arg3 harg3 arg4 harg4 arg5 harg5 arg6 harg6 hc0 hc1 x0 x1 xs0 (ix2 a b) = xs0 (ix2 a b) + part x0 x1 a b := by
  frame_out
  unfold part
  pointwise

/-- So does the last. -/
theorem last (hc0 : ¬cond0_0 i) (hc1 : cond0_1 i) (a : Fin 1024) (b : Fin 1024) :
    sout0_C_0 c i arg3 harg3 arg4 harg4 arg5 harg5 arg6 harg6 hc0 hc1 x0 x1 xs0 (ix2 a b) = xs0 (ix2 a b) + part x0 x1 a b := by
  frame_out
  unfold part
  pointwise

/-- What the last point writes back is what it leaves in the accumulator. -/
theorem written (hc0 : ¬cond0_0 i) (hc1 : cond0_1 i) (a : Fin 1024) (b : Fin 1024) :
    out0_C_2 c i arg3 harg3 arg4 harg4 arg5 harg5 arg6 harg6 hc0 hc1 x0 x1 xs0 (ix2 a b) = xs0 (ix2 a b) + part x0 x1 a b := by
  frame_out
  unfold part
  pointwise

end Point

/-! ## The launch -/

variable (m : (ℓ : Loc nD τ sig) → Buf (Elt Ideal) ℓ) (c : Dev nD)

/-- The launch's first operand is the first argument. -/
theorem V_0 : V m c main_v0 = (truncf .bf16 (m (c, Proc.tc.devRef main_arg0) : FVec Ideal S4096x1024 .f32) bitsLt_bf16_f32 : FVec Ideal S4096x1024 .bf16) := by
  unfold V
  after_reads_simp

/-- Its second is the second. -/
theorem V_1 : V m c main_v1 = (truncf .bf16 (m (c, Proc.tc.devRef main_arg1) : FVec Ideal S4096x1024 .f32) bitsLt_bf16_f32 : FVec Ideal S4096x1024 .bf16) := by
  unfold V
  after_reads_simp

/-- The block of the first side a point works on. -/
theorem idx0 : ∀ t : Fin cfg0.N, win0_0.index t = ![t.val, 0] := (by decide +kernel : ∀ t : Fin grid0.N, win0_0.index t = ![t.val, 0])

/-- The block of the second. -/
theorem idx1 : ∀ t : Fin cfg0.N, win0_1.index t = ![t.val, 0] := (by decide +kernel : ∀ t : Fin grid0.N, win0_1.index t = ![t.val, 0])

/-- The block of the gradient is the whole array at every point. -/
theorem idx2 : ∀ t : Fin cfg0.N, win0_2.index t = ![0, 0] := (by decide +kernel : ∀ t : Fin grid0.N, win0_2.index t = ![0, 0])

/-- The block of the first side at a point holds its 512 rows. -/
theorem read_0 (t : Fin cfg0.N) (X : (⟨S4096x1024, .bf16⟩ : BufTy).Contents (Elt Ideal)) (k : Fin 512) (a : Fin 1024) (hl : t.val * 512 + k.val < 4096) :
    ((cfg0.win 0).blk t).view.read (Elt Ideal) X (ix2 k a) = X (ix2 ⟨t.val * 512 + k.val, hl⟩ a) := by
  blk_ext [idx0 t]

/-- So does the block of the second. -/
theorem read_1 (t : Fin cfg0.N) (X : (⟨S4096x1024, .bf16⟩ : BufTy).Contents (Elt Ideal)) (k : Fin 512) (b : Fin 1024) (hl : t.val * 512 + k.val < 4096) :
    ((cfg0.win 1).blk t).view.read (Elt Ideal) X (ix2 k b) = X (ix2 ⟨t.val * 512 + k.val, hl⟩ b) := by
  blk_ext [idx1 t]

/-- The accumulator after the first point. -/
theorem acc_first (t : Fin cfg0.N) (h : t.val % 8 = 0) (a : Fin 1024) (b : Fin 1024) :
    (outsAt0 m c t.val t.isLt).2 (ix2 a b) = 0 + part (iblk m c 0 t) (iblk m c 1 t) a b := by
  have h1 : ¬t.val % 8 = 7 := by omega
  have key := first c (grid0.coords t) (ms0_0 t) (hs0_0 t) (ms0_1 t) (hs0_1 t) (ms0_2 t) (hs0_2 t) scM0_0 (Memref.isWhole_whole _) (iblk m c 0 t) (iblk m c 1 t) ((hcond0_0 t).mpr h) (fun h => h1 ((hcond0_1 t).mp h)) a b
  rw [outsAt0_A m c t h h1]
  with_reducible exact key

/-- The accumulator after a later point, over what the point before left. -/
theorem acc_next (t : Fin cfg0.N) (h : ¬t.val % 8 = 0) (a : Fin 1024) (b : Fin 1024) :
    (outsAt0 m c t.val t.isLt).2 (ix2 a b) = (outsAt0 m c (t.val - 1) (Nat.lt_of_le_of_lt (Nat.sub_le _ _) t.isLt)).2 (ix2 a b) + part (iblk m c 0 t) (iblk m c 1 t) a b := by
  by_cases h1 : t.val % 8 = 7
  · have key := last c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h' => h ((hcond0_0 t).mp h')) ((hcond0_1 t).mpr h1) a b
    rw [outsAt0_C m c t h h1]
    with_reducible exact key
  · have key := next c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h' => h ((hcond0_0 t).mp h')) (fun h => h1 ((hcond0_1 t).mp h)) a b
    rw [outsAt0_B m c t h h1]
    with_reducible exact key

/-- What the last point writes back is what it leaves in the accumulator. -/
theorem out_last (t : Fin cfg0.N) (h1 : t.val % 8 = 7) (a : Fin 1024) (b : Fin 1024) : (outsAt0 m c t.val t.isLt).1 (ix2 a b) = (outsAt0 m c t.val t.isLt).2 (ix2 a b) := by
  have h : ¬t.val % 8 = 0 := by omega
  have key := written c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h' => h ((hcond0_0 t).mp h')) ((hcond0_1 t).mpr h1) a b
  rw [acc_next m c t h a b, outsAt0_C m c t h h1]
  with_reducible exact key

/-- After the last point the accumulator holds the sum of the eight blocks' parts. -/
theorem acc_last (t : Fin cfg0.N) (ht : t.val + 1 = cfg0.N) (a : Fin 1024) (b : Fin 1024) :
    (outsAt0 m c t.val t.isLt).2 (ix2 a b) = ∑ p : Fin cfg0.N, part (iblk m c 0 p) (iblk m c 1 p) a b := by
  have h := Pipeline.eq_sum_fin_of_reset_step_apply_last (fun n h (z : Fin 1024 × Fin 1024) => (outsAt0 m c n h).2 (ix2 z.1 z.2)) 8 (fun _ => (0 : EReal))
    (fun p z => part (iblk m c 0 p) (iblk m c 1 p) z.1 z.2)
    (fun t h z => acc_first m c t h z.1 z.2) (fun t h z => acc_next m c t h z.1 z.2) (le_of_eq N_0) t ht (a, b)
  rwa [zero_add] at h

/-- The gradient of the weight: the sum over all rows. -/
def grad (x : FVec Ideal S4096x1024 .f32) (y : FVec Ideal S4096x1024 .f32) : FVec Ideal S1024x1024 .bf16 :=
  fun i => ∑ k : Fin 4096, (x (ix2 k (i 0)) : EReal) * y (ix2 k (i 1))

/-- The eight blocks' parts are the whole sum. -/
theorem parts (a : Fin 1024) (b : Fin 1024) :
    ∑ p : Fin cfg0.N, part (iblk m c 0 p) (iblk m c 1 p) a b = grad (m (c, Proc.tc.devRef main_arg0)) (m (c, Proc.tc.devRef main_arg1)) (ix2 a b) := by
  unfold part grad
  refine Fin.sum_mul_add_congr (S := 8) (fun p k hl => ?_)
  have e0 : iblk m c 0 p (ix2 k a) = V m c main_v0 (ix2 ⟨p.val * 512 + k.val, hl⟩ a) := read_0 p _ k a hl
  have e1 : iblk m c 1 p (ix2 k b) = V m c main_v1 (ix2 ⟨p.val * 512 + k.val, hl⟩ b) := read_1 p _ k b hl
  rw [e0, e1, V_0, V_1]
  rfl

/-- The launch's result is the weight's gradient. -/
theorem result : (dats m 0 c).arrAt 2 cfg0.N = grad (m (c, Proc.tc.devRef main_arg0)) (m (c, Proc.tc.devRef main_arg1)) := by
  refine (dats m 0 c).arrAt_eq_of_covers 2 _ (by decide +kernel) fun t hf y => ?_
  have h3 : t.val % 8 = 7 := (flush0_2 t).mp hf
  have ht : t.val + 1 = cfg0.N := by have h4 : t.val < 8 := t.isLt.trans_eq N_0; exact (show t.val + 1 = 8 by omega).trans N_0.symm
  obtain ⟨a, b, rfl⟩ : ∃ (a : Fin 1024) (b : Fin 1024), y = ix2 a b := ⟨y 0, y 1, by funext k; fin_cases k <;> rfl⟩
  blk_simp
  have he : (win0_2.blk t).view.emb (ix2 a b) = ix2 a b := by
    blk_ext [idx2 t]
  rw [after0_2, he, ← parts, ← acc_last m c t ht]
  exact out_last m c t h3 a b

/-- The reference's gradient, of the product of the rows with the weight, is the launch's. -/
theorem ref (x : FVec Ideal S4096x1024 .f32) (y : FVec Ideal S4096x1024 .f32) : Cert.OutWeightReferenceIdeal.Read.val_main_v4 (F := Ideal) x y = grad x y := by
  open Cert.OutWeightReferenceIdeal.Read in
  funext i
  have e : val_main_v4 (F := Ideal) x y i = val_main_v3 (F := Ideal) x y i := rfl
  rw [e, val_main_v3_apply, val_main_v2_apply]
  refine Finset.sum_congr rfl fun k _ => ?_
  rw [mul_comm]
  congr 1 <;> blk_ext []

end Cert.OutGrads

end
-- ==== Proof.MixGrads.lean ====
module

public import proofs.«01_k».proof.Proof.Gen.OutMixIdeal.Value
public import proofs.«01_k».proof.Proof.Gen.OutMixReferenceIdeal.Read
public import Idealize.ShloMosaic.Lib.Pipeline.ValueKit
public import Idealize.ShloMosaic.Lib.StableHlo.ReadAt

@[expose] public section

set_option maxRecDepth 16384

noncomputable section

/-! # The gradient of the mixer's result

Each point takes 1024 rows of the arriving gradient times the transposed weight. -/

namespace Cert.MixGrads

open Cert.OutMixIdeal Cert.OutMixIdeal.Gen Idealize.ShloMosaic Idealize.ShloMosaic.TcCoe Idealize.SL.Sem
open Idealize.ShloMosaic.Pipeline (Dat)

/-- The gradient at row `k` and column `b`: the arriving row times the weight's row `b`. -/
def entry (w : FVec Ideal S1024x1024 .f32) (ct : FVec Ideal S4096x1024 .f32) (k : Fin 4096) (b : Fin 1024) : EReal := ∑ n : Fin 1024, (ct (ix2 k n) : EReal) * w (ix2 b n)

/-- The gradient of the mixer's result. -/
def grad (w : FVec Ideal S1024x1024 .f32) (ct : FVec Ideal S4096x1024 .f32) : FVec Ideal S4096x1024 .f32 := fun i => entry w ct (i 0) (i 1)

section Point

attribute [local pointwise] k0_pay1

/-- What a point leaves in its block. -/
theorem out_at (x0 x1 : Vec Ideal S1024x1024 .bf16) (k b : Fin 1024) : out0_2 x0 x1 (ix2 k b) = ∑ n : Fin 1024, (x0 (ix2 k n) : EReal) * x1 (ix2 b n) := by
  frame_out
  pointwise

end Point

variable (m : (ℓ : Loc nD τ sig) → Buf (Elt Ideal) ℓ) (c : Dev nD)

/-- The launch's first operand is the arriving gradient. -/
theorem V_0 : V m c main_v0 = (truncf .bf16 (m (c, Proc.tc.devRef main_arg1) : FVec Ideal S4096x1024 .f32) bitsLt_bf16_f32 : FVec Ideal S4096x1024 .bf16) := by
  unfold V
  after_reads_simp

/-- Its second is the weight. -/
theorem V_1 : V m c main_v1 = (truncf .bf16 (m (c, Proc.tc.devRef main_arg0) : FVec Ideal S1024x1024 .f32) bitsLt_bf16_f32 : FVec Ideal S1024x1024 .bf16) := by
  unfold V
  after_reads_simp

/-- The blocks a point works on. -/
theorem idx : ∀ t : Fin cfg0.N, ∃ b : Fin 4, win0_0.index t = ![b.val, 0] ∧ win0_1.index t = ![0, 0] ∧ win0_2.index t = ![b.val, 0] :=
  (by decide +kernel : ∀ t : Fin grid0.N, ∃ b : Fin 4, win0_0.index t = ![b.val, 0] ∧ win0_1.index t = ![0, 0] ∧ win0_2.index t = ![b.val, 0])

/-- The row of the whole array at place `k` of block `b`. -/
def row (b : Fin 4) (k : Fin 1024) : Fin 4096 := ⟨b.val * 1024 + k.val, by omega⟩

/-- A block of the arriving gradient. -/
theorem read_0 (t : Fin cfg0.N) (b : Fin 4) (h : win0_0.index t = ![b.val, 0]) (X : (⟨S4096x1024, .bf16⟩ : BufTy).Contents (Elt Ideal)) (k n : Fin 1024) :
    ((cfg0.win 0).blk t).view.read (Elt Ideal) X (ix2 k n) = X (ix2 (row b k) n) := by
  blk_ext [h, row]

/-- The block of the weight is all of it. -/
theorem read_1 (t : Fin cfg0.N) (h : win0_1.index t = ![0, 0]) (X : (⟨S1024x1024, .bf16⟩ : BufTy).Contents (Elt Ideal)) (r n : Fin 1024) :
    ((cfg0.win 1).blk t).view.read (Elt Ideal) X (ix2 r n) = X (ix2 r n) := by
  blk_ext [h]

/-- The launch's result is the gradient. -/
theorem result : (dats m 0 c).arrAt 2 cfg0.N = grad (m (c, Proc.tc.devRef main_arg0)) (m (c, Proc.tc.devRef main_arg1)) := by
  refine (dats m 0 c).arrAt_eq_of_covers 2 _ (by decide +kernel) fun t hf y => ?_
  obtain ⟨b, h0, h1, h2⟩ := idx t
  obtain ⟨k, r, rfl⟩ : ∃ (k r : Fin 1024), y = ix2 k r := ⟨y 0, y 1, by funext q; fin_cases q <;> rfl⟩
  blk_simp
  have he : (win0_2.blk t).view.emb (ix2 k r) = ix2 (row b k) r := by
    blk_ext [h2, row]
  rw [after0_2, he]
  refine (out_at _ _ k r).trans ?_
  unfold grad entry
  refine Finset.sum_congr rfl fun n _ => ?_
  have e0 : iblk m c 0 t (ix2 k n) = V m c main_v0 (ix2 (row b k) n) := read_0 t b h0 _ k n
  have e1 : iblk m c 1 t (ix2 r n) = V m c main_v1 (ix2 r n) := read_1 t h1 _ r n
  rw [e0, e1, V_0, V_1]
  rfl

/-- The reference's gradient is the launch's. -/
theorem ref (w : FVec Ideal S1024x1024 .f32) (ct : FVec Ideal S4096x1024 .f32) : Cert.OutMixReferenceIdeal.Read.val_main_v2 (F := Ideal) w ct = grad w ct := by
  open Cert.OutMixReferenceIdeal.Read in
  funext i
  rw [val_main_v2_apply]
  unfold grad entry
  refine Finset.sum_congr rfl fun k _ => ?_
  congr 1 <;> blk_ext []

end Cert.MixGrads

end
-- ==== Proof.OutVals.lean ====
module

public import proofs.«01_k».proof.Proof.Gen.OutIdeal.Value
public import proofs.«01_k».proof.Proof.Gen.OutReferenceIdeal.Read
public import proofs.«01_k».proof.Proof.Shards
public import proofs.«01_k».proof.Proof.Norm
public import Idealize.ShloMosaic.Lib.Pipeline.ValueKit
public import Idealize.ShloMosaic.Lib.StableHlo.ReadAt

@[expose] public section

set_option maxRecDepth 16384

noncomputable section

/-! # The attention's output product, the residual and the next norm

Each point of the launch takes 1024 rows: the mixed rows times the weight plus the residual rows, and the sum's norm, in
four groups of 256 rows. -/

namespace Cert.OutVals

open Cert.Shards (run_hit run_miss)
open Cert.Norm
open Cert.OutIdeal Cert.OutIdeal.Gen Idealize.ShloMosaic Idealize.ShloMosaic.TcCoe Idealize.SL.Sem
open Idealize.ShloMosaic.Pipeline (Dat)

section Groups

attribute [local pointwise] k0_pay1 k0_pay4 k0_pay6 k0_pay7 k0_pay9

variable (k : Fin 256) (d : Fin 1024) (g : FVec Ideal S1x1024 .f32) (v w : FVec Ideal S1024x1024 .bf16) (p : FVec Ideal S1024x1024 .f32) (x : FVec Ideal S256x1024 .f32)

/-- The norm of the first group. -/
theorem norm_0 : k0_pay4 (F := Ideal) v w x g (ix2 k d) = normed (fun n => k0_pay3 (F := Ideal) v w x (ix2 k n)) (fun n => g (ix2 0 n)) d := by
  unfold normed rstd
  pointwise

/-- The norm of the second group. -/
theorem norm_1 : k0_pay7 (F := Ideal) (k0_pay5 v w x) (k0_pay6 v w x) (Scalar.ofBits .f32 0x44800000#32) g (ix2 k d) = normed (fun n => k0_pay5 (F := Ideal) v w x (ix2 k n)) (fun n => g (ix2 0 n)) d := by
  unfold normed rstd
  pointwise

/-- The norm of the third group. -/
theorem norm_2 : k0_pay9 p x g (ix2 k d) = normed (fun n => k0_pay8 p x (ix2 k n)) (fun n => g (ix2 0 n)) d := by
  unfold normed rstd
  pointwise

/-- The norm of the last group. -/
theorem norm_3 : k0_pay1 x g (ix2 k d) = normed (fun n => x (ix2 k n)) (fun n => g (ix2 0 n)) d := by
  unfold normed rstd
  pointwise

end Groups

section Point

variable (x0 x1 : Vec Ideal S1024x1024 .bf16) (x2 : Vec Ideal S1024x1024 .f32) (x3 : Vec Ideal S1x1024 .f32)

/-- The product plus the residual. -/
def total (k d : Fin 1024) : EReal := (∑ l : Fin 1024, (x0 (ix2 k l) : EReal) * x1 (ix2 l d)) + x2 (ix2 k d)

section Sums

attribute [local pointwise] k0_pay2 k0_pay3 k0_pay5 k0_pay8 k0_pay10 k0_pay11 k0_pay12

variable (k : Fin 256) (d : Fin 1024)

/-- The sum's first group of rows. -/
theorem sum_0 : k0_pay3 x0 x1 (View.ld x2 r0_1) (ix2 k d) = total x0 x1 x2 (at0 k) d := by
  unfold total
  pointwise
  rfl

/-- Its second. -/
theorem sum_1 : k0_pay5 x0 x1 (View.ld x2 r0_3) (ix2 k d) = total x0 x1 x2 (at1 k) d := by
  unfold total
  pointwise
  rfl

/-- Its third. -/
theorem sum_2 : k0_pay8 (k0_pay11 x0 x1 x2 x3) (View.ld x2 r0_4) (ix2 k d) = total x0 x1 x2 (at2 k) d := by
  unfold total
  pointwise
  rfl

/-- Its fourth. -/
theorem sum_3 : k0_pay12 x0 x1 x2 x3 (ix2 k d) = total x0 x1 x2 (at3 k) d := by
  unfold total
  pointwise
  rfl

end Sums

/-- What a point writes of the sum. -/
theorem out_sum (q d : Fin 1024) : out0_4 x0 x1 x2 x3 (ix2 q d) = total x0 x1 x2 q d := by
  frame_out
  obtain ⟨k, rfl⟩ | ⟨k, rfl⟩ | ⟨k, rfl⟩ | ⟨k, rfl⟩ := quarter q
  · rw [run_miss _ _ _ _ (lt_trans (at0_lt k) (by decide)), run_miss _ _ _ _ (lt_trans (at0_lt k) (by decide)), run_miss _ _ _ _ (at0_lt k), run_hit _ _ _ _ k (at0_eq k), sum_0]
  · rw [run_miss _ _ _ _ (lt_trans (at1_lt k) (by decide)), run_miss _ _ _ _ (at1_lt k), run_hit _ _ _ _ k (at1_eq k), sum_1]
  · rw [run_miss _ _ _ _ (at2_lt k), run_hit _ _ _ _ k (at2_eq k), sum_2]
  · rw [run_hit _ _ _ _ k (at3_eq k), sum_3]

/-- What a point writes of the norm. -/
theorem out_norm (q d : Fin 1024) : out0_5 x0 x1 x2 x3 (ix2 q d) = normed (total x0 x1 x2 q) (fun n => x3 (ix2 0 n)) d := by
  frame_out
  obtain ⟨k, rfl⟩ | ⟨k, rfl⟩ | ⟨k, rfl⟩ | ⟨k, rfl⟩ := quarter q
  · rw [run_miss _ _ _ _ (lt_trans (at0_lt k) (by decide)), run_miss _ _ _ _ (lt_trans (at0_lt k) (by decide)), run_miss _ _ _ _ (at0_lt k), run_hit _ _ _ _ k (at0_eq k), norm_0]
    simp only [sum_0]
  · rw [run_miss _ _ _ _ (lt_trans (at1_lt k) (by decide)), run_miss _ _ _ _ (at1_lt k), run_hit _ _ _ _ k (at1_eq k), norm_1]
    simp only [sum_1]
  · rw [run_miss _ _ _ _ (at2_lt k), run_hit _ _ _ _ k (at2_eq k), norm_2]
    simp only [sum_2]
  · rw [run_hit _ _ _ _ k (at3_eq k), norm_3]
    simp only [sum_3]

end Point

/-! ## The launch -/

variable (m : (ℓ : Loc nD τ Cert.OutIdeal.sig) → Buf (Elt Ideal) ℓ) (c : Dev nD)

/-- The first operand: the mixed rows. -/
theorem V_mix : V m c main_v0 = (truncf .bf16 (m (c, Proc.tc.devRef main_arg1) : FVec Ideal S4096x1024 .f32) bitsLt_bf16_f32 : FVec Ideal S4096x1024 .bf16) := by
  unfold V
  after_reads_simp

/-- The second: the weight. -/
theorem V_w : V m c main_v1 = (truncf .bf16 (m (c, Proc.tc.devRef main_arg2) : FVec Ideal S1024x1024 .f32) bitsLt_bf16_f32 : FVec Ideal S1024x1024 .bf16) := by
  unfold V
  after_reads_simp

/-- The third: the residual rows. -/
theorem V_x : V m c main_arg0 = m (c, Proc.tc.devRef main_arg0) := by
  unfold V
  after_reads_simp

/-- The fourth: the gain, as one row. -/
theorem V_gain (d : Fin 1024) : (V m c main_v2 : FVec Ideal S1x1024 .f32) (ix2 0 d) = (m (c, Proc.tc.devRef main_arg3) : FVec Ideal S1024 .f32) (ix1 d) := by
  unfold V
  after_reads_simp
  pointwise

/-- The blocks' places. -/
theorem idx : ∀ t : Fin cfg0.N, ∃ b : Fin 4, win0_0.index t = ![b.val, 0] ∧ win0_1.index t = ![0, 0] ∧ win0_2.index t = ![b.val, 0]
    ∧ win0_3.index t = ![0, 0] ∧ win0_4.index t = ![b.val, 0] ∧ win0_5.index t = ![b.val, 0] :=
  (by decide +kernel : ∀ t : Fin grid0.N, ∃ b : Fin 4, win0_0.index t = ![b.val, 0] ∧ win0_1.index t = ![0, 0] ∧ win0_2.index t = ![b.val, 0]
    ∧ win0_3.index t = ![0, 0] ∧ win0_4.index t = ![b.val, 0] ∧ win0_5.index t = ![b.val, 0])

section Reads

variable (t : Fin cfg0.N) (b : Fin 4)

/-- The row of the whole array at place `k` of block `b`. -/
def row (b : Fin 4) (k : Fin 1024) : Fin 4096 := ⟨b.val * 1024 + k.val, by omega⟩

/-- A block of the mixed rows. -/
theorem read_0 (h : win0_0.index t = ![b.val, 0]) (X : (⟨S4096x1024, .bf16⟩ : BufTy).Contents (Elt Ideal)) (k l : Fin 1024) :
    ((cfg0.win 0).blk t).view.read (Elt Ideal) X (ix2 k l) = X (ix2 (row b k) l) := by
  blk_ext [h, row]

/-- The block of the weight is the whole weight. -/
theorem read_1 (h : win0_1.index t = ![0, 0]) (X : (⟨S1024x1024, .bf16⟩ : BufTy).Contents (Elt Ideal)) (l d : Fin 1024) :
    ((cfg0.win 1).blk t).view.read (Elt Ideal) X (ix2 l d) = X (ix2 l d) := by
  blk_ext [h]

/-- A block of the residual rows. -/
theorem read_2 (h : win0_2.index t = ![b.val, 0]) (X : (⟨S4096x1024, .f32⟩ : BufTy).Contents (Elt Ideal)) (k : Fin 1024) (d : Fin 1024) :
    ((cfg0.win 2).blk t).view.read (Elt Ideal) X (ix2 k d) = X (ix2 (row b k) d) := by
  blk_ext [h, row]

/-- The block of the gain is the gain. -/
theorem read_3 (h : win0_3.index t = ![0, 0]) (X : (⟨S1x1024, .f32⟩ : BufTy).Contents (Elt Ideal)) (d : Fin 1024) :
    ((cfg0.win 3).blk t).view.read (Elt Ideal) X (ix2 0 d) = X (ix2 0 d) := by
  blk_ext [h]

end Reads

/-- The mixed rows times the weight, plus the residual. -/
def sum (x : FVec Ideal S4096x1024 .f32) (a : FVec Ideal S4096x1024 .f32) (w : FVec Ideal S1024x1024 .f32) (k : Fin 4096) (d : Fin 1024) : EReal :=
  (∑ l : Fin 1024, (a (ix2 k l) : EReal) * w (ix2 l d)) + x (ix2 k d)

/-- A block's sum is the step's. -/
theorem total_eq (t : Fin cfg0.N) (b : Fin 4) (h0 : win0_0.index t = ![b.val, 0]) (h1 : win0_1.index t = ![0, 0]) (h2 : win0_2.index t = ![b.val, 0])
    (k : Fin 1024) (d : Fin 1024) : total (iblk m c 0 t) (iblk m c 1 t) (iblk m c 2 t) k d = sum (m (c, Proc.tc.devRef main_arg0)) (m (c, Proc.tc.devRef main_arg1)) (m (c, Proc.tc.devRef main_arg2)) (row b k) d := by
  have e0 : ∀ l, iblk m c 0 t (ix2 k l) = V m c main_v0 (ix2 (row b k) l) := fun l => read_0 t b h0 _ k l
  have e1 : ∀ l, iblk m c 1 t (ix2 l d) = V m c main_v1 (ix2 l d) := fun l => read_1 t h1 _ l d
  have e2 : iblk m c 2 t (ix2 k d) = (m (c, Proc.tc.devRef main_arg0) : FVec Ideal S4096x1024 .f32) (ix2 (row b k) d) := by
    rw [← V_x m c]; exact read_2 t b h2 _ k d
  unfold total sum
  rw [e2]
  congr 1
  refine Finset.sum_congr rfl fun l _ => ?_
  rw [e0, e1, V_mix, V_w]
  rfl

/-- The launch's first result is the sum. -/
theorem result_sum : (dats m 0 c).arrAt 4 cfg0.N = (fun i => sum (m (c, Proc.tc.devRef main_arg0)) (m (c, Proc.tc.devRef main_arg1)) (m (c, Proc.tc.devRef main_arg2)) (i 0) (i 1) : FVec Ideal S4096x1024 .f32) := by
  refine (dats m 0 c).arrAt_eq_of_covers 4 _ (by decide +kernel) fun t hf y => ?_
  obtain ⟨b, h0, h1, h2, -, h4, -⟩ := idx t
  obtain ⟨q, d, rfl⟩ : ∃ (q : Fin 1024) (d : Fin 1024), y = ix2 q d := ⟨y 0, y 1, by funext k; fin_cases k <;> rfl⟩
  blk_simp
  have he : (win0_4.blk t).view.emb (ix2 q d) = ix2 (row b q) d := by
    blk_ext [h4, row]
  rw [after0_4, he]
  exact (out_sum _ _ _ _ q d).trans (total_eq m c t b h0 h1 h2 q d)

/-- The second is its norm. -/
theorem result_norm : (dats m 0 c).arrAt 5 cfg0.N
    = (fun i => normed (sum (m (c, Proc.tc.devRef main_arg0)) (m (c, Proc.tc.devRef main_arg1)) (m (c, Proc.tc.devRef main_arg2)) (i 0)) (fun n => (m (c, Proc.tc.devRef main_arg3) : FVec Ideal S1024 .f32) (ix1 n)) (i 1) : FVec Ideal S4096x1024 .bf16) := by
  refine (dats m 0 c).arrAt_eq_of_covers 5 _ (by decide +kernel) fun t hf y => ?_
  obtain ⟨b, h0, h1, h2, h3, -, h5⟩ := idx t
  obtain ⟨q, d, rfl⟩ : ∃ (q : Fin 1024) (d : Fin 1024), y = ix2 q d := ⟨y 0, y 1, by funext k; fin_cases k <;> rfl⟩
  blk_simp
  have he : (win0_5.blk t).view.emb (ix2 q d) = ix2 (row b q) d := by
    blk_ext [h5, row]
  have e3 : ∀ n, iblk m c 3 t (ix2 0 n) = (m (c, Proc.tc.devRef main_arg3) : FVec Ideal S1024 .f32) (ix1 n) := fun n => by
    rw [← V_gain m c]; exact read_3 t h3 _ n
  rw [after0_5, he]
  refine (out_norm _ _ _ _ q d).trans ?_
  rw [funext (total_eq m c t b h0 h1 h2 q), funext e3]
  rfl

/-! ## The reference -/

section Reference

open Cert.OutReferenceIdeal.Read

variable (x : FVec Ideal ⟨2, ![4096, 1024]⟩ .f32) (a : FVec Ideal ⟨2, ![4096, 1024]⟩ .f32) (w : FVec Ideal ⟨2, ![1024, 1024]⟩ .f32) (g : FVec Ideal ⟨1, ![1024]⟩ .f32)

/-- The reference's sum at a place. -/
theorem sum_at (i : (⟨2, ![4096, 1024]⟩ : Shape).Idx) : val_main_v1 (F := Ideal) x a w i = sum x a w (i 0) (i 1) := by
  rw [val_main_v1_apply, val_main_v0_apply]
  unfold sum
  refine (add_comm _ _).trans ?_
  congr 1
  · refine Finset.sum_congr rfl fun k _ => ?_
    congr 1 <;> blk_ext []
  · exact congrArg x (by blk_ext [])

/-- The reference's first result is the launch's. -/
theorem sum_ref : val_main_v1 (F := Ideal) x a w = (fun i => sum x a w (i 0) (i 1) : FVec Ideal ⟨2, ![4096, 1024]⟩ .f32) :=
  funext fun i => sum_at x a w i

/-- The inverse root of the mean square of a row of the sum. -/
theorem rstd_ref (i : (⟨2, ![4096, 1]⟩ : Shape).Idx) : val_main_v9 (F := Ideal) x a w i = rstd (sum x a w (i 0)) := by
  rw [val_main_v9_apply, val_main_v8_apply, val_main_v7_apply, val_main_v6_apply, val_main_v5_apply, val_main_v4_apply, val_main_v3_apply]
  have h : ∀ k, val_main_v2 (F := Ideal) x a w (idx_main_v3 (idx_main_v4 i) k) = sum x a w (i 0) k * sum x a w (i 0) k := fun k => by
    have ei : idx_main_v3 (idx_main_v4 i) k = ix2 (i 0) k := by blk_ext []
    rw [val_main_v2_apply, sum_at, ei]
    rfl
  have hz : ∀ j, val_main_cst (F := Ideal) j = 0 := fun _ => zero_val
  rw [hz, zero_add, Finset.sum_congr rfl fun k _ => h k]
  rfl

/-- The reference's second result is the launch's. -/
theorem norm_ref : val_main_v15 (F := Ideal) x a w g = (fun i => normed (sum x a w (i 0)) (fun n => g (ix1 n)) (i 1) : FVec Ideal ⟨2, ![4096, 1024]⟩ .bf16) := by
  funext i
  have ei : idx_main_v12 (idx_main_v13 i) = ix1 (i 1) := by blk_ext []
  have e0 : (idx_main_v10 i) 0 = i 0 := rfl
  have e : val_main_v15 (F := Ideal) x a w g i = val_main_v14 (F := Ideal) x a w g i := rfl
  rw [e, val_main_v14_apply, val_main_v11_apply, val_main_v10_apply, val_main_v13_apply, val_main_v12_apply, sum_at, rstd_ref, e0, ei]
  rfl

end Reference

end Cert.OutVals

end
-- ==== Proof.OddMixGrads.lean ====
module

public import proofs.«01_k».proof.Proof.Gen.OddMixIdeal.Value
public import proofs.«01_k».proof.Proof.Gen.OddMixReferenceIdeal.Read
public import proofs.«01_k».proof.Proof.MixGrads
public import Idealize.ShloMosaic.Lib.Pipeline.ValueKit
public import Idealize.ShloMosaic.Lib.StableHlo.ReadAt

@[expose] public section

set_option maxRecDepth 16384

noncomputable section

/-! # The gradient of the odd layer's mixer

Each point takes 1024 rows of the arriving gradient times the transposed weight. -/

namespace Cert.OddMixGrads

open Cert.MixGrads (entry)
open Cert.OddMixIdeal Cert.OddMixIdeal.Gen Idealize.ShloMosaic Idealize.ShloMosaic.TcCoe Idealize.SL.Sem
open Idealize.ShloMosaic.Pipeline (Dat)

/-- The gradient of the mixer's result. -/
def grad (w : FVec Ideal S1024x1024 .f32) (ct : FVec Ideal S4096x1024 .f32) : FVec Ideal S4096x1024 .bf16 := fun i => entry w ct (i 0) (i 1)

section Point

attribute [local pointwise] k0_pay1

/-- What a point leaves in its block. -/
theorem out_at (x0 x1 : Vec Ideal S1024x1024 .bf16) (k b : Fin 1024) : out0_2 x0 x1 (ix2 k b) = ∑ n : Fin 1024, (x0 (ix2 k n) : EReal) * x1 (ix2 b n) := by
  frame_out
  pointwise

end Point

variable (m : (ℓ : Loc nD τ sig) → Buf (Elt Ideal) ℓ) (c : Dev nD)

/-- The launch's first operand is the arriving gradient. -/
theorem V_0 : V m c main_v0 = (truncf .bf16 (m (c, Proc.tc.devRef main_arg1) : FVec Ideal S4096x1024 .f32) bitsLt_bf16_f32 : FVec Ideal S4096x1024 .bf16) := by
  unfold V
  after_reads_simp

/-- Its second is the weight. -/
theorem V_1 : V m c main_v1 = (truncf .bf16 (m (c, Proc.tc.devRef main_arg0) : FVec Ideal S1024x1024 .f32) bitsLt_bf16_f32 : FVec Ideal S1024x1024 .bf16) := by
  unfold V
  after_reads_simp

/-- The blocks a point works on. -/
theorem idx : ∀ t : Fin cfg0.N, ∃ b : Fin 4, win0_0.index t = ![b.val, 0] ∧ win0_1.index t = ![0, 0] ∧ win0_2.index t = ![b.val, 0] :=
  (by decide +kernel : ∀ t : Fin grid0.N, ∃ b : Fin 4, win0_0.index t = ![b.val, 0] ∧ win0_1.index t = ![0, 0] ∧ win0_2.index t = ![b.val, 0])

/-- The row of the whole array at place `k` of block `b`. -/
def row (b : Fin 4) (k : Fin 1024) : Fin 4096 := ⟨b.val * 1024 + k.val, by omega⟩

/-- A block of the arriving gradient. -/
theorem read_0 (t : Fin cfg0.N) (b : Fin 4) (h : win0_0.index t = ![b.val, 0]) (X : (⟨S4096x1024, .bf16⟩ : BufTy).Contents (Elt Ideal)) (k n : Fin 1024) :
    ((cfg0.win 0).blk t).view.read (Elt Ideal) X (ix2 k n) = X (ix2 (row b k) n) := by
  blk_ext [h, row]

/-- The block of the weight is all of it. -/
theorem read_1 (t : Fin cfg0.N) (h : win0_1.index t = ![0, 0]) (X : (⟨S1024x1024, .bf16⟩ : BufTy).Contents (Elt Ideal)) (r n : Fin 1024) :
    ((cfg0.win 1).blk t).view.read (Elt Ideal) X (ix2 r n) = X (ix2 r n) := by
  blk_ext [h]

/-- The launch's result is the gradient. -/
theorem result : (dats m 0 c).arrAt 2 cfg0.N = grad (m (c, Proc.tc.devRef main_arg0)) (m (c, Proc.tc.devRef main_arg1)) := by
  refine (dats m 0 c).arrAt_eq_of_covers 2 _ (by decide +kernel) fun t hf y => ?_
  obtain ⟨b, h0, h1, h2⟩ := idx t
  obtain ⟨k, r, rfl⟩ : ∃ (k r : Fin 1024), y = ix2 k r := ⟨y 0, y 1, by funext q; fin_cases q <;> rfl⟩
  blk_simp
  have he : (win0_2.blk t).view.emb (ix2 k r) = ix2 (row b k) r := by
    blk_ext [h2, row]
  rw [after0_2, he]
  refine (out_at _ _ k r).trans ?_
  unfold grad entry
  refine Finset.sum_congr rfl fun n _ => ?_
  have e0 : iblk m c 0 t (ix2 k n) = V m c main_v0 (ix2 (row b k) n) := read_0 t b h0 _ k n
  have e1 : iblk m c 1 t (ix2 r n) = V m c main_v1 (ix2 r n) := read_1 t h1 _ r n
  rw [e0, e1, V_0, V_1]
  rfl

/-- The reference's gradient is the launch's. -/
theorem ref (w : FVec Ideal S1024x1024 .f32) (ct : FVec Ideal S4096x1024 .f32) : Cert.OddMixReferenceIdeal.Read.val_main_v3 (F := Ideal) w ct = grad w ct := by
  open Cert.OddMixReferenceIdeal.Read in
  funext i
  have e : val_main_v3 (F := Ideal) w ct i = val_main_v2 (F := Ideal) w ct i := rfl
  rw [e, val_main_v2_apply]
  unfold grad entry
  refine Finset.sum_congr rfl fun k _ => ?_
  congr 1 <;> blk_ext []

end Cert.OddMixGrads

end
-- ==== Proof.EvenInVals.lean ====
module

public import proofs.«01_k».proof.Proof.Gen.EvenInIdeal.Value
public import proofs.«01_k».proof.Proof.Gen.EvenInReferenceIdeal.Read
public import proofs.«01_k».proof.Proof.InRowsGrads
public import Idealize.ShloMosaic.Lib.Pipeline.ValueKit
public import Idealize.ShloMosaic.Lib.StableHlo.ReadAt

@[expose] public section

set_option maxRecDepth 16384

noncomputable section

/-! # The even layer's norm and first product

Each point of the launch takes 512 rows: their norm, and the norm times the weight, one shard of 640 columns after another. -/

namespace Cert.EvenInVals

open Cert.Shards (band_hit band_miss)
open Cert.Norm
open Cert.InGrads (col col_0 col_1 col_2 col_3)
open Cert.InRows (cutCols)
open Cert.EvenInIdeal Cert.EvenInIdeal.Gen Idealize.ShloMosaic Idealize.ShloMosaic.TcCoe Idealize.SL.Sem
open Idealize.ShloMosaic.Pipeline (Dat)

section Point

variable (x0 : Vec Ideal S512x1024 .f32) (x1 : Vec Ideal S1x1024 .f32) (x2 : Vec Ideal S4x1024x640 .bf16)

/-- A row's norm. -/
def norm (k : Fin 512) (n : Fin 1024) : EReal := normed (fun n => x0 (ix2 k n)) (fun n => x1 (ix2 0 n)) n

/-- The norm times one shard of the weight. -/
def prod (j : Fin 4) (k : Fin 512) (r : Fin 640) : EReal := ∑ n : Fin 1024, norm x0 x1 k n * x2 (ix3 j n r)

section Norms

attribute [local pointwise] k0_pay2

/-- What a point writes of the norm. -/
theorem norm_at (k : Fin 512) (n : Fin 1024) : k0_pay2 x0 x1 (ix2 k n) = norm x0 x1 k n := by
  unfold norm normed rstd
  pointwise

end Norms

section Prods

attribute [local pointwise] k0_pay1 k0_pay3 k0_pay4 k0_pay5

variable (k : Fin 512) (r : Fin 640)

/-- The first shard's columns. -/
theorem prod_0 : k0_pay3 x0 x1 (View.ld x2 r0_2) (ix2 k r) = prod x0 x1 x2 0 k r := by
  unfold prod
  simp only [← norm_at]
  pointwise

/-- The second's. -/
theorem prod_1 : k0_pay4 x0 x1 (View.ld x2 r0_4) (ix2 k r) = prod x0 x1 x2 1 k r := by
  unfold prod
  simp only [← norm_at]
  pointwise

/-- The third's. -/
theorem prod_2 : k0_pay5 x0 x1 (View.ld x2 r0_6) (ix2 k r) = prod x0 x1 x2 2 k r := by
  unfold prod
  simp only [← norm_at]
  pointwise

/-- The fourth's. -/
theorem prod_3 : k0_pay1 (k0_pay2 x0 x1) (View.ld x2 r0_8) (ix2 k r) = prod x0 x1 x2 3 k r := by
  unfold prod
  simp only [← norm_at]
  pointwise

end Prods

/-- What a point writes of the product. -/
theorem out_prod (k : Fin 512) (j : Fin 4) (r : Fin 640) : out0_3 x0 x1 x2 (ix2 k (col j r)) = prod x0 x1 x2 j k r := by
  frame_out
  have hr := r.isLt
  fin_cases j
  · rw [band_miss _ _ _ _ _ (by simp [col]; omega), band_miss _ _ _ _ _ (by simp [col]; omega), band_miss _ _ _ _ _ (by simp [col]), band_hit _ _ _ _ _ r (by simp [col])]
    exact prod_0 x0 x1 x2 k r
  · rw [band_miss _ _ _ _ _ (by simp [col]; omega), band_miss _ _ _ _ _ (by simp [col]; omega), band_hit _ _ _ _ _ r (by simp [col])]
    exact prod_1 x0 x1 x2 k r
  · rw [band_miss _ _ _ _ _ (by simp [col]; omega), band_hit _ _ _ _ _ r (by simp [col])]
    exact prod_2 x0 x1 x2 k r
  · rw [band_hit _ _ _ _ _ r (by simp [col])]
    exact prod_3 x0 x1 x2 k r

/-- What a point writes of the norm. -/
theorem out_norm (k : Fin 512) (n : Fin 1024) : out0_4 x0 x1 x2 (ix2 k n) = norm x0 x1 k n := by
  frame_out
  exact norm_at x0 x1 k n

end Point

/-! ## The launch -/

variable (m : (ℓ : Loc nD τ sig) → Buf (Elt Ideal) ℓ) (c : Dev nD)

/-- The first operand: the rows. -/
theorem V_x : V m c main_arg0 = m (c, Proc.tc.devRef main_arg0) := by
  unfold V
  after_reads_simp

/-- The second: the gain, as one row. -/
theorem V_gain (d : Fin 1024) : (V m c main_v3 : FVec Ideal S1x1024 .f32) (ix2 0 d) = (m (c, Proc.tc.devRef main_arg1) : FVec Ideal S1024 .f32) (ix1 d) := by
  unfold V
  after_reads_simp
  pointwise

/-- The third: the weight, shard by shard. -/
theorem V_w : V m c main_v2 = cutCols (m (c, Proc.tc.devRef main_arg2)) := by
  unfold V
  after_reads_simp
  funext i
  obtain ⟨j, a, r, rfl⟩ : ∃ (j : Fin 4) (a : Fin 1024) (r : Fin 640), i = ix3 j a r := ⟨i 0, i 1, i 2, by funext q; fin_cases q <;> rfl⟩
  pointwise
  rfl

/-- The blocks' places. -/
theorem idx : ∀ t : Fin cfg0.N, ∃ b : Fin 8, win0_0.index t = ![b.val, 0] ∧ win0_1.index t = ![0, 0] ∧ win0_2.index t = ![0, 0, 0]
    ∧ win0_3.index t = ![b.val, 0] ∧ win0_4.index t = ![b.val, 0] :=
  (by decide +kernel : ∀ t : Fin grid0.N, ∃ b : Fin 8, win0_0.index t = ![b.val, 0] ∧ win0_1.index t = ![0, 0] ∧ win0_2.index t = ![0, 0, 0]
    ∧ win0_3.index t = ![b.val, 0] ∧ win0_4.index t = ![b.val, 0])

section Reads

variable (t : Fin cfg0.N) (b : Fin 8)

/-- The row of the whole array at place `k` of block `b`. -/
def row (b : Fin 8) (k : Fin 512) : Fin 4096 := ⟨b.val * 512 + k.val, by omega⟩

/-- A block of the rows. -/
theorem read_0 (h : win0_0.index t = ![b.val, 0]) (X : (⟨S4096x1024, .f32⟩ : BufTy).Contents (Elt Ideal)) (k : Fin 512) (n : Fin 1024) :
    ((cfg0.win 0).blk t).view.read (Elt Ideal) X (ix2 k n) = X (ix2 (row b k) n) := by
  blk_ext [h, row]

/-- The block of the gain is the gain. -/
theorem read_1 (h : win0_1.index t = ![0, 0]) (X : (⟨S1x1024, .f32⟩ : BufTy).Contents (Elt Ideal)) (n : Fin 1024) :
    ((cfg0.win 1).blk t).view.read (Elt Ideal) X (ix2 0 n) = X (ix2 0 n) := by
  blk_ext [h]

/-- The block of the weight is the whole weight. -/
theorem read_2 (h : win0_2.index t = ![0, 0, 0]) (X : (⟨S4x1024x640, .bf16⟩ : BufTy).Contents (Elt Ideal)) (j : Fin 4) (n : Fin 1024) (r : Fin 640) :
    ((cfg0.win 2).blk t).view.read (Elt Ideal) X (ix3 j n r) = X (ix3 j n r) := by
  blk_ext [h]

end Reads

/-- The norm of the step's row `k`. -/
def hrow (x : FVec Ideal S4096x1024 .f32) (g : FVec Ideal S1024 .f32) (k : Fin 4096) (n : Fin 1024) : EReal := normed (fun n => x (ix2 k n)) (fun n => g (ix1 n)) n

/-- The product at row `k` and column `d`. -/
def entry (x : FVec Ideal S4096x1024 .f32) (g : FVec Ideal S1024 .f32) (w : FVec Ideal S1024x2560 .f32) (k : Fin 4096) (d : Fin 2560) : EReal := ∑ n : Fin 1024, hrow x g k n * w (ix2 n d)

/-- A block's norm is the step's. -/
theorem norm_eq (t : Fin cfg0.N) (b : Fin 8) (h0 : win0_0.index t = ![b.val, 0]) (h1 : win0_1.index t = ![0, 0]) (k : Fin 512) (n : Fin 1024) :
    norm (iblk m c 0 t) (iblk m c 1 t) k n = hrow (m (c, Proc.tc.devRef main_arg0)) (m (c, Proc.tc.devRef main_arg1)) (row b k) n := by
  have e0 : ∀ n, iblk m c 0 t (ix2 k n) = (m (c, Proc.tc.devRef main_arg0) : FVec Ideal S4096x1024 .f32) (ix2 (row b k) n) := fun n => by
    rw [← V_x m c]; exact read_0 t b h0 _ k n
  have e1 : ∀ n, iblk m c 1 t (ix2 0 n) = (m (c, Proc.tc.devRef main_arg1) : FVec Ideal S1024 .f32) (ix1 n) := fun n => by
    rw [← V_gain m c]; exact read_1 t h1 _ n
  unfold norm hrow
  rw [funext e0, funext e1]

/-- The launch's first result is the product. -/
theorem result_prod : (dats m 0 c).arrAt 3 cfg0.N = (fun i => entry (m (c, Proc.tc.devRef main_arg0)) (m (c, Proc.tc.devRef main_arg1)) (m (c, Proc.tc.devRef main_arg2)) (i 0) (i 1) : FVec Ideal S4096x2560 .f32) := by
  refine (dats m 0 c).arrAt_eq_of_covers 3 _ (by decide +kernel) fun t hf y => ?_
  obtain ⟨b, h0, h1, h2, h3, -⟩ := idx t
  obtain ⟨k, d, rfl⟩ : ∃ (k : Fin 512) (d : Fin 2560), y = ix2 k d := ⟨y 0, y 1, by funext q; fin_cases q <;> rfl⟩
  obtain ⟨j, r, rfl⟩ : ∃ (j : Fin 4) (r : Fin 640), d = col j r := ⟨⟨d.val / 640, by omega⟩, ⟨d.val % 640, by omega⟩, Fin.ext (by simp only [col]; omega)⟩
  blk_simp
  have he : (win0_3.blk t).view.emb (ix2 k (col j r)) = ix2 (row b k) (col j r) := by
    blk_ext [h3, row]
  rw [after0_3, he]
  refine (out_prod _ _ _ k j r).trans ?_
  unfold prod entry
  refine Finset.sum_congr rfl fun n _ => ?_
  have e2 : iblk m c 2 t (ix3 j n r) = V m c main_v2 (ix3 j n r) := read_2 t h2 _ j n r
  rw [norm_eq m c t b h0 h1 k n, e2, V_w]
  rfl

/-- The second is the norm. -/
theorem result_norm : (dats m 0 c).arrAt 4 cfg0.N = (fun i => hrow (m (c, Proc.tc.devRef main_arg0)) (m (c, Proc.tc.devRef main_arg1)) (i 0) (i 1) : FVec Ideal S4096x1024 .bf16) := by
  refine (dats m 0 c).arrAt_eq_of_covers 4 _ (by decide +kernel) fun t hf y => ?_
  obtain ⟨b, h0, h1, -, -, h4⟩ := idx t
  obtain ⟨k, n, rfl⟩ : ∃ (k : Fin 512) (n : Fin 1024), y = ix2 k n := ⟨y 0, y 1, by funext q; fin_cases q <;> rfl⟩
  blk_simp
  have he : (win0_4.blk t).view.emb (ix2 k n) = ix2 (row b k) n := by
    blk_ext [h4, row]
  rw [after0_4, he]
  exact (out_norm _ _ _ k n).trans (norm_eq m c t b h0 h1 k n)

/-! ## The reference -/

section Reference

open Cert.EvenInReferenceIdeal.Read

variable (x : FVec Ideal ⟨2, ![4096, 1024]⟩ .f32) (g : FVec Ideal ⟨1, ![1024]⟩ .f32) (w : FVec Ideal ⟨2, ![1024, 2560]⟩ .f32)

/-- The inverse root of a row's mean square. -/
theorem rstd_ref (i : (⟨2, ![4096, 1]⟩ : Shape).Idx) : val_main_v7 (F := Ideal) x i = rstd (fun n => x (ix2 (i 0) n)) := by
  rw [val_main_v7_apply, val_main_v6_apply, val_main_v5_apply, val_main_v4_apply, val_main_v3_apply, val_main_v2_apply, val_main_v1_apply]
  have h : ∀ k, val_main_v0 (F := Ideal) x (idx_main_v1 (idx_main_v2 i) k) = x (ix2 (i 0) k) * x (ix2 (i 0) k) := fun k => by
    have ei : idx_main_v1 (idx_main_v2 i) k = ix2 (i 0) k := by blk_ext []
    rw [val_main_v0_apply, ei]
    rfl
  have hz : ∀ j, val_main_cst (F := Ideal) j = 0 := fun _ => zero_val
  rw [hz, zero_add, Finset.sum_congr rfl fun k _ => h k]
  rfl

/-- The reference's norm at a place. -/
theorem norm_at_ref (i : (⟨2, ![4096, 1024]⟩ : Shape).Idx) : val_main_v12 (F := Ideal) x g i = hrow x g (i 0) (i 1) := by
  have ei : idx_main_v10 (idx_main_v11 i) = ix1 (i 1) := by blk_ext []
  have e0 : (idx_main_v8 i) 0 = i 0 := rfl
  have hx : x i = x (ix2 (i 0) (i 1)) := congrArg x (by blk_ext [])
  rw [val_main_v12_apply, val_main_v9_apply, val_main_v8_apply, val_main_v11_apply, val_main_v10_apply, rstd_ref, e0, ei, hx]
  rfl

/-- The reference's second result is the launch's. -/
theorem norm_ref : val_main_v14 (F := Ideal) x g = (fun i => hrow x g (i 0) (i 1) : FVec Ideal ⟨2, ![4096, 1024]⟩ .bf16) :=
  funext fun i => norm_at_ref x g i

/-- The reference's first result is the launch's. -/
theorem prod_ref : val_main_v13 (F := Ideal) x g w = (fun i => entry x g w (i 0) (i 1) : FVec Ideal ⟨2, ![4096, 2560]⟩ .f32) := by
  funext i
  rw [val_main_v13_apply]
  unfold entry
  refine Finset.sum_congr rfl fun n _ => ?_
  rw [norm_at_ref]
  congr 1
  exact congrArg w (by blk_ext [])

end Reference

end Cert.EvenInVals

end
-- ==== Proof.OddInVals.lean ====
module

public import proofs.«01_k».proof.Proof.Gen.OddInIdeal.Value
public import proofs.«01_k».proof.Proof.Gen.OddInReferenceIdeal.Read
public import Idealize.ShloMosaic.Lib.Pipeline.ValueKit
public import Idealize.ShloMosaic.Lib.StableHlo.ReadAt

@[expose] public section

set_option maxRecDepth 16384

noncomputable section

/-! # The odd layer's first product

Each point takes 1024 normed rows times the weight, which the host pads from 960 to 1024 columns with zeros. -/

namespace Cert.OddInVals

open Cert.OddInIdeal Cert.OddInIdeal.Gen Idealize.ShloMosaic Idealize.ShloMosaic.TcCoe Idealize.SL.Sem
open Idealize.ShloMosaic.Pipeline (Dat)

/-- The product at row `k` and column `d`; zero beyond the weight's columns. -/
def entry (h : FVec Ideal S4096x1024 .f32) (w : FVec Ideal S1024x960 .f32) (k : Fin 4096) (d : Fin 1024) : EReal :=
  if hd : d.val < 960 then ∑ n : Fin 1024, (h (ix2 k n) : EReal) * w (ix2 n ⟨d.val, hd⟩) else 0

/-- The product. -/
def prod (h : FVec Ideal S4096x1024 .f32) (w : FVec Ideal S1024x960 .f32) : FVec Ideal S4096x1024 .f32 := fun i => entry h w (i 0) (i 1)

/-- The integer zero becomes the number zero. -/
theorem zero_val (t : FTy) : FloatOps.sitofp (F := Ideal) t (0#32) = (0 : EReal) := by simp [FloatOps.sitofp]

section Point

attribute [local pointwise] k0_pay1

/-- What a point leaves in its block. -/
theorem out_at (x0 x1 : Vec Ideal S1024x1024 .bf16) (k b : Fin 1024) : out0_2 x0 x1 (ix2 k b) = ∑ n : Fin 1024, (x0 (ix2 k n) : EReal) * x1 (ix2 n b) := by
  frame_out
  pointwise

end Point

variable (m : (ℓ : Loc nD τ sig) → Buf (Elt Ideal) ℓ) (c : Dev nD)

/-- The launch's first operand holds the normed rows. -/
theorem V_0 : V m c main_v0 = (truncf .bf16 (m (c, Proc.tc.devRef main_arg0) : FVec Ideal S4096x1024 .f32) bitsLt_bf16_f32 : FVec Ideal S4096x1024 .bf16) := by
  unfold V
  after_reads_simp

/-- Its second is the padded weight. -/
theorem V_1 (n d : Fin 1024) : (V m c main_v2 : FVec Ideal S1024x1024 .bf16) (ix2 n d)
    = if hd : d.val < 960 then (m (c, Proc.tc.devRef main_arg1) : FVec Ideal S1024x960 .f32) (ix2 n ⟨d.val, hd⟩) else (0 : EReal) := by
  unfold V
  after_reads_simp
  show (pad S1024x1024 ![0, 0] ![0, 64] ![0, 0] (truncf .bf16 (m (c, Proc.tc.devRef main_arg1) : FVec Ideal S1024x960 .f32) bitsLt_bf16_f32 : FVec Ideal S1024x960 .bf16)
    (sitofp .bf16 (constantI S_ 32 0#32) : FVec Ideal S_ .bf16) pads_S1024x960_S1024x1024_000_0640 h_S_ : FVec Ideal S1024x1024 .bf16) (ix2 n d) = _
  pointwise
  by_cases hd : d.val < 960
  · rw [dif_pos hd, dif_pos hd]
  · rw [dif_neg hd, dif_neg hd, zero_val]

/-- The blocks a point works on. -/
theorem idx : ∀ t : Fin cfg0.N, ∃ b : Fin 4, win0_0.index t = ![b.val, 0] ∧ win0_1.index t = ![0, 0] ∧ win0_2.index t = ![b.val, 0] :=
  (by decide +kernel : ∀ t : Fin grid0.N, ∃ b : Fin 4, win0_0.index t = ![b.val, 0] ∧ win0_1.index t = ![0, 0] ∧ win0_2.index t = ![b.val, 0])

/-- The row of the whole array at place `k` of block `b`. -/
def row (b : Fin 4) (k : Fin 1024) : Fin 4096 := ⟨b.val * 1024 + k.val, by omega⟩

/-- A block of the normed rows. -/
theorem read_0 (t : Fin cfg0.N) (b : Fin 4) (h : win0_0.index t = ![b.val, 0]) (X : (⟨S4096x1024, .bf16⟩ : BufTy).Contents (Elt Ideal)) (k n : Fin 1024) :
    ((cfg0.win 0).blk t).view.read (Elt Ideal) X (ix2 k n) = X (ix2 (row b k) n) := by
  blk_ext [h, row]

/-- The block of the weight is all of it. -/
theorem read_1 (t : Fin cfg0.N) (h : win0_1.index t = ![0, 0]) (X : (⟨S1024x1024, .bf16⟩ : BufTy).Contents (Elt Ideal)) (r n : Fin 1024) :
    ((cfg0.win 1).blk t).view.read (Elt Ideal) X (ix2 r n) = X (ix2 r n) := by
  blk_ext [h]

/-- The launch's result is the product. -/
theorem result : (dats m 0 c).arrAt 2 cfg0.N = prod (m (c, Proc.tc.devRef main_arg0)) (m (c, Proc.tc.devRef main_arg1)) := by
  refine (dats m 0 c).arrAt_eq_of_covers 2 _ (by decide +kernel) fun t hf y => ?_
  obtain ⟨b, h0, h1, h2⟩ := idx t
  obtain ⟨k, d, rfl⟩ : ∃ (k d : Fin 1024), y = ix2 k d := ⟨y 0, y 1, by funext q; fin_cases q <;> rfl⟩
  blk_simp
  have he : (win0_2.blk t).view.emb (ix2 k d) = ix2 (row b k) d := by
    blk_ext [h2, row]
  rw [after0_2, he]
  refine (out_at _ _ k d).trans ?_
  have e0 : ∀ n, iblk m c 0 t (ix2 k n) = (m (c, Proc.tc.devRef main_arg0) : FVec Ideal S4096x1024 .f32) (ix2 (row b k) n) := fun n =>
    (read_0 t b h0 _ k n).trans (congrFun (V_0 m c) _)
  have e1 : ∀ n, iblk m c 1 t (ix2 n d) = _ := fun n => (read_1 t h1 _ n d).trans (V_1 m c n d)
  rw [Finset.sum_congr rfl fun n _ => congrArg₂ (fun a b : EReal => a * b) (e0 n) (e1 n)]
  show _ = entry _ _ (row b k) d
  unfold entry
  by_cases hd : d.val < 960
  · simp only [dif_pos hd]
  · simp only [dif_neg hd, mul_zero, Finset.sum_const_zero]

/-- The reference's product is the launch's. -/
theorem ref (h : FVec Ideal S4096x1024 .f32) (w : FVec Ideal S1024x960 .f32) : Cert.OddInReferenceIdeal.Read.val_main_v1 (F := Ideal) h w = prod h w := by
  open Cert.OddInReferenceIdeal.Read in
  funext i
  obtain ⟨k, d, rfl⟩ : ∃ (k : Fin 4096) (d : Fin 1024), i = ix2 k d := ⟨i 0, i 1, by funext q; fin_cases q <;> rfl⟩
  unfold val_main_v1 prod entry
  pointwise
  by_cases hd : d.val < 960
  · rw [dif_pos hd, dif_pos hd, val_main_v0_apply]
    refine Finset.sum_congr rfl fun n _ => ?_
    congr 1 <;> blk_ext []
  · rw [dif_neg hd, dif_neg hd, val_main_call0_v0_apply, val_main_c_apply, zero_val]

end Cert.OddInVals

end
-- ==== Proof.AttnRow.lean ====
module

public import Idealize.ShloMosaic.Lib.Pipeline.ValueKit
public import proofs.«01_k».proof.Proof.Attn
public import proofs.«01_k».proof.Proof.Norm

@[expose] public section

noncomputable section

/-! # One row of the attention's forward pass, as a tile computes it

A tile of 512 queries meets its own keys (masked) and the keys before it. The values may be any extended reals. -/

namespace Cert.Attn

open Idealize.ShloMosaic

variable (q k : Fin 2048 → Fin 192 → ℝ)

/-- The unscaled product of query `r` and key `c`. -/
def dot (r c : Fin 2048) : ℝ := ∑ d, q r d * k c d

/-- A function of the rows, on the naturals, with extended real values. -/
def extE (f : Fin 2048 → EReal) (i : ℕ) : EReal := if h : i < 2048 then f ⟨i, h⟩ else 0

/-- A sum over a tile's rows, as a sum over a range of row numbers. -/
theorem sum_rowE (f : Fin 2048 → EReal) (a n : ℕ) (h : a + n ≤ 2048) : ∑ j, f (row a n h j) = ∑ i ∈ Finset.range n, extE f (a + i) := by
  rw [← Fin.sum_univ_eq_sum_range (fun i => extE f (a + i)) n]
  refine Finset.sum_congr rfl fun j _ => ?_
  have : a + j.val < 2048 := by omega
  simp only [extE, this, dif_pos, row]

/-- A sum over all rows, as a sum over a range of row numbers. -/
theorem sum_allE (f : Fin 2048 → EReal) : ∑ r, f r = ∑ i ∈ Finset.range 2048, extE f i := by
  rw [← Fin.sum_univ_eq_sum_range (fun i => extE f i) 2048]
  refine Finset.sum_congr rfl fun j _ => ?_
  simp only [extE, j.isLt, dif_pos, Fin.eta]

/-- A tile and the rows before it hold the whole sum when the rows after it are zero. -/
theorem tile_sumE (f : Fin 2048 → EReal) (a : ℕ) (h : a + 512 ≤ 2048) (h' : 0 + a ≤ 2048) (hz : ∀ r : Fin 2048, a + 512 ≤ r.val → f r = 0) :
    ∑ j, f (row a 512 h j) + ∑ j, f (row 0 a h' j) = ∑ r, f r := by
  rw [sum_rowE, sum_rowE, sum_allE]
  obtain ⟨n, hn⟩ : ∃ n, 2048 = (a + 512) + n := ⟨2048 - (a + 512), by omega⟩
  rw [hn, Finset.sum_range_add, Finset.sum_range_add]
  have : ∑ x ∈ Finset.range n, extE f (a + 512 + x) = 0 := by
    refine Finset.sum_eq_zero fun x _ => ?_
    unfold extE; split
    · exact hz _ (by simp)
    · rfl
  rw [this, add_zero, add_comm]; simp only [zero_add]

/-- The largest of a tile's masked products and of the products before it is a real number. -/
theorem tile_max {n : ℕ} (x : Fin 512 → ℝ) (y : Fin n → ℝ) (i : Fin 512) :
    ∃ μ : ℝ, max (Finset.fold max ⊥ (fun j : Fin 512 => if j.val ≤ i.val then (x j : EReal) else ⊥) Finset.univ)
      (Finset.fold max ⊥ (fun j => (y j : EReal)) Finset.univ) = (μ : EReal) := by
  have h1 : max (Finset.fold max ⊥ (fun j : Fin 512 => if j.val ≤ i.val then (x j : EReal) else ⊥) Finset.univ)
      (Finset.fold max ⊥ (fun j => (y j : EReal)) Finset.univ) < ⊤ := by
    rw [max_lt_iff, Finset.fold_max_lt, Finset.fold_max_lt]
    refine ⟨⟨bot_lt_top, fun c _ => ?_⟩, ⟨bot_lt_top, fun c _ => EReal.coe_lt_top _⟩⟩
    split
    · exact EReal.coe_lt_top _
    · exact bot_lt_top
  have h2 : ⊥ < max (Finset.fold max ⊥ (fun j : Fin 512 => if j.val ≤ i.val then (x j : EReal) else ⊥) Finset.univ)
      (Finset.fold max ⊥ (fun j => (y j : EReal)) Finset.univ) := by
    refine lt_of_lt_of_le (EReal.bot_lt_coe (x i)) (le_max_of_le_left ?_)
    rw [Finset.le_fold_max]
    exact Or.inr ⟨i, Finset.mem_univ i, by rw [if_pos le_rfl]⟩
  exact ⟨_, (EReal.coe_toReal h1.ne h2.ne').symm⟩

/-- The same for the first tile, which has no keys before it. -/
theorem tile_max_first (x : Fin 512 → ℝ) (i : Fin 512) :
    ∃ μ : ℝ, Finset.fold max ⊥ (fun j : Fin 512 => if j.val ≤ i.val then (x j : EReal) else ⊥) Finset.univ = (μ : EReal) := by
  obtain ⟨μ, h⟩ := tile_max x (fun j : Fin 0 => j.elim0) i
  exact ⟨μ, by rw [← h]; simp⟩

/-- The power of two of a product less a real, scaled, is the weight times a factor of the row. -/
theorem exp2_dot (r c : Fin 2048) (hc : c.val ≤ r.val) (μ : ℝ) :
    Ideal.exp2 ((((dot q k r c : ℝ) : EReal) - (μ : EReal)) * ((scale * (Real.log 2)⁻¹ : ℝ) : EReal))
      = ((weight q k r c * Real.exp (-(μ * scale)) : ℝ) : EReal) := by
  rw [← EReal.coe_sub, ← EReal.coe_mul, Ideal.exp2_coe]
  congr 1
  rw [Real.rpow_eq_pow, Real.rpow_def_of_pos (by norm_num), weight, if_pos hc, ← Real.exp_add]
  congr 1
  have : Real.log 2 ≠ 0 := (Real.log_pos (by norm_num)).ne'
  unfold score dot
  field_simp
  ring

/-- A masked key's is zero. -/
theorem exp2_none (μ : ℝ) : Ideal.exp2 (((⊥ : EReal) - (μ : EReal)) * ((scale * (Real.log 2)⁻¹ : ℝ) : EReal)) = 0 := by
  have h2 : 0 < Real.log 2 := Real.log_pos (by norm_num)
  have : (0 : ℝ) < scale * (Real.log 2)⁻¹ := by unfold scale; positivity
  rw [EReal.bot_sub, EReal.bot_mul_coe_of_pos this]
  simp

/-- On the diagonal tile the key's weight is what the mask leaves. -/
theorem exp2_diag (a : ℕ) (h : a + 512 ≤ 2048) (i j : Fin 512) (μ : ℝ) :
    Ideal.exp2 (((if j.val ≤ i.val then ((dot q k (row a 512 h i) (row a 512 h j) : ℝ) : EReal) else ⊥) - (μ : EReal)) * ((scale * (Real.log 2)⁻¹ : ℝ) : EReal))
      = ((weight q k (row a 512 h i) (row a 512 h j) * Real.exp (-(μ * scale)) : ℝ) : EReal) := by
  split
  · exact exp2_dot q k _ _ (by simp only [row]; omega) μ
  · rw [exp2_none, weight, if_neg (by simp only [row]; omega), zero_mul, EReal.coe_zero]

/-- A key before the tile is not masked. -/
theorem exp2_before (a : ℕ) (h : a + 512 ≤ 2048) (h' : 0 + a ≤ 2048) (i : Fin 512) (j : Fin a) (μ : ℝ) :
    Ideal.exp2 ((((dot q k (row a 512 h i) (row 0 a h' j) : ℝ) : EReal) - (μ : EReal)) * ((scale * (Real.log 2)⁻¹ : ℝ) : EReal))
      = ((weight q k (row a 512 h i) (row 0 a h' j) * Real.exp (-(μ * scale)) : ℝ) : EReal) :=
  exp2_dot q k _ _ (by simp only [row]; omega) μ

/-- A tile's sums of weights, its own keys' and the earlier keys', are the row's. -/
theorem tile_total (a : ℕ) (h : a + 512 ≤ 2048) (h' : 0 + a ≤ 2048) (i : Fin 512) (t : ℝ) :
    (∑ j, ((weight q k (row a 512 h i) (row a 512 h j) * t : ℝ) : EReal)) + ∑ j, ((weight q k (row a 512 h i) (row 0 a h' j) * t : ℝ) : EReal)
      = ((total q k (row a 512 h i) * t : ℝ) : EReal) := by
  rw [tile_sumE (fun c => ((weight q k (row a 512 h i) c * t : ℝ) : EReal)) a h h' fun c hc => ?_, ← coe_sum, total, Finset.sum_mul]
  rw [weight, if_neg (by simp only [row]; omega), zero_mul, EReal.coe_zero]

/-- A row's weighted sum of the values over the sum of its weights is the sum of the values by probability. -/
theorem row_out (r : Fin 2048) (v : Fin 2048 → EReal) (μ : ℝ) :
    Ideal.div (∑ c, ((weight q k r c * Real.exp (-μ) : ℝ) : EReal) * v c) ((total q k r * Real.exp (-μ) : ℝ) : EReal) = ∑ c, v c * (prob q k r c : EReal) := by
  have hp : 0 < total q k r * Real.exp (-μ) := mul_pos (total_pos q k r) (Real.exp_pos _)
  rw [Ideal.div_coe hp.ne', mul_comm, Norm.mul_sum_real (by positivity)]
  refine Finset.sum_congr rfl fun c _ => ?_
  rw [← mul_assoc, ← EReal.coe_mul, mul_comm]
  congr 2
  have := Real.exp_pos (-μ)
  have := total_pos q k r
  unfold prob
  field_simp

/-- A tile's output: the two weighted sums over the two sums of weights. -/
theorem tile_out (a : ℕ) (h : a + 512 ≤ 2048) (h' : 0 + a ≤ 2048) (i : Fin 512) (v : Fin 2048 → EReal) (μ : ℝ) :
    Ideal.div ((∑ j, ((weight q k (row a 512 h i) (row a 512 h j) * Real.exp (-μ) : ℝ) : EReal) * v (row a 512 h j))
        + ∑ j, ((weight q k (row a 512 h i) (row 0 a h' j) * Real.exp (-μ) : ℝ) : EReal) * v (row 0 a h' j))
      ((∑ j, ((weight q k (row a 512 h i) (row a 512 h j) * Real.exp (-μ) : ℝ) : EReal)) + ∑ j, ((weight q k (row a 512 h i) (row 0 a h' j) * Real.exp (-μ) : ℝ) : EReal))
      = ∑ c, v c * (prob q k (row a 512 h i) c : EReal) := by
  rw [tile_total, tile_sumE (fun c => ((weight q k (row a 512 h i) c * Real.exp (-μ) : ℝ) : EReal) * v c) a h h' fun c hc => ?_, row_out]
  rw [weight, if_neg (by simp only [row]; omega), zero_mul, EReal.coe_zero, zero_mul]

/-- A tile's log-sum. -/
theorem tile_log (a : ℕ) (h : a + 512 ≤ 2048) (h' : 0 + a ≤ 2048) (i : Fin 512) (μ : ℝ) :
    (μ : EReal) * ((scale : ℝ) : EReal) + Ideal.log ((∑ j, ((weight q k (row a 512 h i) (row a 512 h j) * Real.exp (-(μ * scale)) : ℝ) : EReal))
        + ∑ j, ((weight q k (row a 512 h i) (row 0 a h' j) * Real.exp (-(μ * scale)) : ℝ) : EReal))
      = (Real.log (total q k (row a 512 h i)) : EReal) := by
  rw [tile_total, ← EReal.coe_mul, logsum]

end Cert.Attn

end
-- ==== Proof.AttnFwd.lean ====
module

public import proofs.«01_k».proof.Proof.Gen.AttentionIdeal.Value
public import proofs.«01_k».proof.Proof.Body
public import proofs.«01_k».proof.Proof.AttnRow
public import Idealize.ShloMosaic.Lib.Pipeline.ValueKit

@[expose] public section

set_option maxRecDepth 16384

noncomputable section

/-! # The four tiles of the attention's forward launch

A launch point works on one head of one sequence in four tiles of 512 queries. Over real queries and keys a tile stores
the attention's output and its rows' log-sums. -/

namespace Cert.AttnFwd

open Cert.Attn (row)
open Cert.KernelIdeal.Body (select_sge canon3_hit canon3_miss canon2_hit canon2_miss)
open Cert.AttentionIdeal Cert.AttentionIdeal.Gen Idealize.ShloMosaic Idealize.ShloMosaic.TcCoe Idealize.SL.Sem

/-- The scale is one over the root of 192. -/
theorem scale_val : (Named.named κ "scale" 0x3D93CD3A#32 : Ideal .f32) = ((Attn.scale : ℝ) : EReal) :=
  IdealRules.named_const.ideal_named_scalar _ _ _ _ rfl
/-- The scale over the logarithm of two. -/
theorem scale_log2e_val : (Named.named κ "scale_log2e" 0x3DD53B95#32 : Ideal .f32) = ((Attn.scale * (Real.log 2)⁻¹ : ℝ) : EReal) :=
  IdealRules.named_const.ideal_named_scalar _ _ _ _ rfl
/-- The mask is minus infinity. -/
theorem mask_val : (Named.named κ "mask" 0xF149F2CA#32 : Ideal .f32) = (⊥ : EReal) :=
  IdealRules.named_const.ideal_named_scalar _ _ _ _ rfl
/-- The bit pattern of minus infinity is the bottom element. -/
theorem neg_inf_val : Ideal.ofBits .f32 0xFF800000#32 = (⊥ : EReal) := by simp [Ideal.ofBits, Ideal.ieee, -EReal.coe_mul]

/-- Two padded real rows multiply to the real product. -/
theorem pad_prod (f f' : Fin 192 → ℝ) : ∑ d, ((Attn.pad f d : ℝ) : EReal) * ((Attn.pad f' d : ℝ) : EReal) = ((∑ d, f d * f' d : ℝ) : EReal) := by
  simp only [← EReal.coe_mul, ← Attn.coe_sum, Attn.pad_dot]

/-- The host's power of two is the extended reals'. -/
theorem exp2_eq (x : EReal) : FloatOps.exp2 (F := Ideal) (φ := .f32) x = Ideal.exp2 x := rfl

variable (qr kr : Fin 2048 → Fin 192 → ℝ) (v : Fin 2048 → Fin 128 → EReal)

/-- A block holds the padded rows of `f` from row `a`. -/
def Padded {n : ℕ} (x : (⟨3, ![1, n, 256]⟩ : Shape).Idx → EReal) (f : Fin 2048 → Fin 192 → ℝ) (a : ℕ) : Prop :=
  ∃ h : a + n ≤ 2048, ∀ j d, x (ix3 0 j d) = ((Attn.pad (f (row a n h j)) d : ℝ) : EReal)

/-- A block holds the rows of `f` from row `a`. -/
def Rows {n : ℕ} (x : (⟨3, ![1, n, 128]⟩ : Shape).Idx → EReal) (f : Fin 2048 → Fin 128 → EReal) (a : ℕ) : Prop :=
  ∃ h : a + n ≤ 2048, ∀ j d, x (ix3 0 j d) = f (row a n h j) d

section Payloads

attribute [local pointwise]
  k0_pay1 k0_pay2 k0_pay3 k0_pay4 k0_pay5 k0_pay6 k0_pay7 k0_pay8 k0_pay9 k0_pay10 k0_pay11 k0_pay12 k0_pay13 k0_pay14
  k0_pay15 k0_pay16 k0_pay17 k0_pay18 k0_pay19 k0_pay20 k0_pay21 k0_pay22 k0_pay23 k0_pay24 k0_pay25 k0_pay26 k0_pay27
  k0_pay28 k0_pay29 k0_pay30 k0_pay31 k0_pay32 k0_pay33 k0_pay34 k0_pay35 k0_pay36 k0_pay37

variable {qr kr v}

/-- The first tile's output. -/
theorem out_first (q kd : Vec Ideal S1x512x256 .bf16) (vd : Vec Ideal S1x512x128 .bf16) (hq : Padded q qr 0) (hk : Padded kd kr 0) (hv : Rows vd v 0) (i : Fin 512) (d : Fin 128) :
    k0_pay7 q kd vd (ix2 i d) = ∑ c, v c d * ((Attn.prob qr kr (row 0 512 (by norm_num) i) c : ℝ) : EReal) := by
  obtain ⟨h, hq⟩ := hq; obtain ⟨_, hk⟩ := hk; obtain ⟨_, hv⟩ := hv
  pointwise
  simp only [hq, hk, hv, pad_prod, select_sge (n := 512) (by norm_num), neg_inf_val, mask_val, scale_log2e_val, exp2_eq]
  obtain ⟨μ, hμ⟩ := Attn.tile_max_first (fun j => Attn.dot qr kr (row 0 512 h i) (row 0 512 h j)) i
  unfold Attn.dot at hμ
  rw [hμ]
  have e := Attn.exp2_diag qr kr 0 h i
  unfold Attn.dot at e
  simp only [e]
  have key := Attn.tile_out qr kr 0 h (by norm_num) i (fun c => v c d) (μ * Attn.scale)
  simpa using key

/-- The second tile's output. -/
theorem out_second (q kd kb : Vec Ideal S1x512x256 .bf16) (vd vb : Vec Ideal S1x512x128 .bf16) (hq : Padded q qr 512) (hk : Padded kd kr 512) (hkb : Padded kb kr 0)
    (hv : Rows vd v 512) (hvb : Rows vb v 0) (i : Fin 512) (d : Fin 128) :
    k0_pay17 (k0_pay14 q kd kb vd) (k0_pay15 q kd kb) (k0_pay16 q kd kb) vb (ix2 i d) = ∑ c, v c d * ((Attn.prob qr kr (row 512 512 (by norm_num) i) c : ℝ) : EReal) := by
  obtain ⟨h, hq⟩ := hq; obtain ⟨_, hk⟩ := hk; obtain ⟨h', hkb⟩ := hkb; obtain ⟨_, hv⟩ := hv; obtain ⟨_, hvb⟩ := hvb
  pointwise
  simp only [hq, hk, hkb, hv, hvb, pad_prod, select_sge (n := 512) (by norm_num), neg_inf_val, mask_val, scale_log2e_val, exp2_eq]
  obtain ⟨μ, hμ⟩ := Attn.tile_max (fun j => Attn.dot qr kr (row 512 512 h i) (row 512 512 h j)) (fun j => Attn.dot qr kr (row 512 512 h i) (row 0 512 h' j)) i
  unfold Attn.dot at hμ
  rw [hμ]
  have e := Attn.exp2_diag qr kr 512 h i
  have e' := Attn.exp2_before qr kr 512 h h' i
  unfold Attn.dot at e e'
  simp only [e, e']
  exact Attn.tile_out qr kr 512 h h' i (fun c => v c d) (μ * Attn.scale)

/-- The third tile's output. -/
theorem out_third (q kd : Vec Ideal S1x512x256 .bf16) (kb : Vec Ideal S1x1024x256 .bf16) (vd : Vec Ideal S1x512x128 .bf16) (vb : Vec Ideal S1x1024x128 .bf16) (hq : Padded q qr 1024) (hk : Padded kd kr 1024) (hkb : Padded kb kr 0)
    (hv : Rows vd v 1024) (hvb : Rows vb v 0) (i : Fin 512) (d : Fin 128) :
    k0_pay28 (k0_pay20 q kd) (k0_pay21 q kd) (k0_pay22 q kb) (k0_pay23 q kb) vd vb (ix2 i d) = ∑ c, v c d * ((Attn.prob qr kr (row 1024 512 (by norm_num) i) c : ℝ) : EReal) := by
  obtain ⟨h, hq⟩ := hq; obtain ⟨_, hk⟩ := hk; obtain ⟨h', hkb⟩ := hkb; obtain ⟨_, hv⟩ := hv; obtain ⟨_, hvb⟩ := hvb
  pointwise
  simp only [hq, hk, hkb, hv, hvb, pad_prod, select_sge (n := 512) (by norm_num), neg_inf_val, mask_val, scale_log2e_val, exp2_eq]
  obtain ⟨μ, hμ⟩ := Attn.tile_max (fun j => Attn.dot qr kr (row 1024 512 h i) (row 1024 512 h j)) (fun j => Attn.dot qr kr (row 1024 512 h i) (row 0 1024 h' j)) i
  unfold Attn.dot at hμ
  rw [hμ]
  have e := Attn.exp2_diag qr kr 1024 h i
  have e' := Attn.exp2_before qr kr 1024 h h' i
  unfold Attn.dot at e e'
  simp only [e, e']
  exact Attn.tile_out qr kr 1024 h h' i (fun c => v c d) (μ * Attn.scale)

/-- The last tile's output. -/
theorem out_last (q kd : Vec Ideal S1x512x256 .bf16) (kb : Vec Ideal S1x1536x256 .bf16) (vd : Vec Ideal S1x512x128 .bf16) (vb : Vec Ideal S1x1536x128 .bf16) (hq : Padded q qr 1536) (hk : Padded kd kr 1536) (hkb : Padded kb kr 0)
    (hv : Rows vd v 1536) (hvb : Rows vb v 0) (i : Fin 512) (d : Fin 128) :
    k0_pay1 (k0_pay35 q kd kb vd) (k0_pay36 q kd kb) (k0_pay37 q kd kb) vb (ix2 i d) = ∑ c, v c d * ((Attn.prob qr kr (row 1536 512 (by norm_num) i) c : ℝ) : EReal) := by
  obtain ⟨h, hq⟩ := hq; obtain ⟨_, hk⟩ := hk; obtain ⟨h', hkb⟩ := hkb; obtain ⟨_, hv⟩ := hv; obtain ⟨_, hvb⟩ := hvb
  pointwise
  simp only [hq, hk, hkb, hv, hvb, pad_prod, select_sge (n := 512) (by norm_num), neg_inf_val, mask_val, scale_log2e_val, exp2_eq]
  obtain ⟨μ, hμ⟩ := Attn.tile_max (fun j => Attn.dot qr kr (row 1536 512 h i) (row 1536 512 h j)) (fun j => Attn.dot qr kr (row 1536 512 h i) (row 0 1536 h' j)) i
  unfold Attn.dot at hμ
  rw [hμ]
  have e := Attn.exp2_diag qr kr 1536 h i
  have e' := Attn.exp2_before qr kr 1536 h h' i
  unfold Attn.dot at e e'
  simp only [e, e']
  exact Attn.tile_out qr kr 1536 h h' i (fun c => v c d) (μ * Attn.scale)

/-- The first tile's log-sums. -/
theorem log_first (q kd : Vec Ideal S1x512x256 .bf16) (hq : Padded q qr 0) (hk : Padded kd kr 0) (i : Fin 512) (d : Fin 128) :
    k0_pay8 q kd (ix3 0 i d) = ((Real.log (Attn.total qr kr (row 0 512 (by norm_num) i)) : ℝ) : EReal) := by
  obtain ⟨h, hq⟩ := hq; obtain ⟨_, hk⟩ := hk
  pointwise
  simp only [hq, hk, pad_prod, select_sge (n := 512) (by norm_num), neg_inf_val, mask_val, scale_log2e_val, scale_val, exp2_eq]
  obtain ⟨μ, hμ⟩ := Attn.tile_max_first (fun j => Attn.dot qr kr (row 0 512 h i) (row 0 512 h j)) i
  unfold Attn.dot at hμ
  rw [hμ]
  have e := Attn.exp2_diag qr kr 0 h i
  unfold Attn.dot at e
  simp only [e]
  have key := Attn.tile_log qr kr 0 h (by norm_num) i μ
  simpa using key

/-- The second tile's log-sums. -/
theorem log_second (q kd kb : Vec Ideal S1x512x256 .bf16) (hq : Padded q qr 512) (hk : Padded kd kr 512) (hkb : Padded kb kr 0) (i : Fin 512) (d : Fin 128) :
    k0_pay18 (k0_pay12 q kd kb) (k0_pay16 q kd kb) (ix3 0 i d) = ((Real.log (Attn.total qr kr (row 512 512 (by norm_num) i)) : ℝ) : EReal) := by
  obtain ⟨h, hq⟩ := hq; obtain ⟨_, hk⟩ := hk; obtain ⟨h', hkb⟩ := hkb
  pointwise
  simp only [hq, hk, hkb, pad_prod, select_sge (n := 512) (by norm_num), neg_inf_val, mask_val, scale_log2e_val, scale_val, exp2_eq]
  obtain ⟨μ, hμ⟩ := Attn.tile_max (fun j => Attn.dot qr kr (row 512 512 h i) (row 512 512 h j)) (fun j => Attn.dot qr kr (row 512 512 h i) (row 0 512 h' j)) i
  unfold Attn.dot at hμ
  rw [hμ]
  have e := Attn.exp2_diag qr kr 512 h i
  have e' := Attn.exp2_before qr kr 512 h h' i
  unfold Attn.dot at e e'
  simp only [e, e']
  exact Attn.tile_log qr kr 512 h h' i μ

/-- The third tile's log-sums. -/
theorem log_third (q kd : Vec Ideal S1x512x256 .bf16) (kb : Vec Ideal S1x1024x256 .bf16) (hq : Padded q qr 1024) (hk : Padded kd kr 1024) (hkb : Padded kb kr 0) (i : Fin 512) (d : Fin 128) :
    k0_pay29 (k0_pay20 q kd) (k0_pay21 q kd) (k0_pay22 q kb) (k0_pay23 q kb) (ix3 0 i d) = ((Real.log (Attn.total qr kr (row 1024 512 (by norm_num) i)) : ℝ) : EReal) := by
  obtain ⟨h, hq⟩ := hq; obtain ⟨_, hk⟩ := hk; obtain ⟨h', hkb⟩ := hkb
  pointwise
  simp only [hq, hk, hkb, pad_prod, select_sge (n := 512) (by norm_num), neg_inf_val, mask_val, scale_log2e_val, scale_val, exp2_eq]
  obtain ⟨μ, hμ⟩ := Attn.tile_max (fun j => Attn.dot qr kr (row 1024 512 h i) (row 1024 512 h j)) (fun j => Attn.dot qr kr (row 1024 512 h i) (row 0 1024 h' j)) i
  unfold Attn.dot at hμ
  rw [hμ]
  have e := Attn.exp2_diag qr kr 1024 h i
  have e' := Attn.exp2_before qr kr 1024 h h' i
  unfold Attn.dot at e e'
  simp only [e, e']
  exact Attn.tile_log qr kr 1024 h h' i μ

/-- The last tile's log-sums. -/
theorem log_last (q kd : Vec Ideal S1x512x256 .bf16) (kb : Vec Ideal S1x1536x256 .bf16) (hq : Padded q qr 1536) (hk : Padded kd kr 1536) (hkb : Padded kb kr 0) (i : Fin 512) (d : Fin 128) :
    k0_pay2 (k0_pay33 q kd kb) (k0_pay37 q kd kb) (ix3 0 i d) = ((Real.log (Attn.total qr kr (row 1536 512 (by norm_num) i)) : ℝ) : EReal) := by
  obtain ⟨h, hq⟩ := hq; obtain ⟨_, hk⟩ := hk; obtain ⟨h', hkb⟩ := hkb
  pointwise
  simp only [hq, hk, hkb, pad_prod, select_sge (n := 512) (by norm_num), neg_inf_val, mask_val, scale_log2e_val, scale_val, exp2_eq]
  obtain ⟨μ, hμ⟩ := Attn.tile_max (fun j => Attn.dot qr kr (row 1536 512 h i) (row 1536 512 h j)) (fun j => Attn.dot qr kr (row 1536 512 h i) (row 0 1536 h' j)) i
  unfold Attn.dot at hμ
  rw [hμ]
  have e := Attn.exp2_diag qr kr 1536 h i
  have e' := Attn.exp2_before qr kr 1536 h h' i
  unfold Attn.dot at e e'
  simp only [e, e']
  exact Attn.tile_log qr kr 1536 h h' i μ

end Payloads

end Cert.AttnFwd

end
-- ==== Proof.AttnBlock.lean ====
module

public import proofs.«01_k».proof.Proof.AttnFwd

@[expose] public section

set_option maxRecDepth 16384

noncomputable section

/-! # What one point of the attention's forward launch leaves in its blocks -/

namespace Cert.AttnFwd

open Cert.Attn (row exists_row)
open Cert.KernelIdeal.Body (canon3_hit canon3_miss canon2_hit canon2_miss)
open Cert.AttentionIdeal Cert.AttentionIdeal.Gen Idealize.ShloMosaic Idealize.ShloMosaic.TcCoe Idealize.SL.Sem

/-- A load of `n` rows from row `a` of a whole block reads those rows. -/
theorem load_at {e : EltTy} {W : ℕ} (a n : ℕ) (A : Memref sig .tc .vmem (⟨3, ![1, 2048, W]⟩ : Shape) e) (hA : A.IsWhole) (x : Vec Ideal (⟨3, ![1, 2048, W]⟩ : Shape) e)
    (inb : ∀ k, (![0, a, 0] : Fin 3 → ℕ) k + (![1, n, W] : Fin 3 → ℕ) k ≤ (⟨3, ![1, 2048, W]⟩ : Shape).size k) (h : a + n ≤ 2048) (j : Fin n) (d : Fin W) :
    View.readAt (Elt Ideal) A.view (Rect.unit (s := ⟨3, ![1, 2048, W]⟩) ![0, a, 0] ![1, n, W] inb).toLoadRect (hA.unread x) (ix3 0 j d) = x (ix3 0 (row a n h j) d) := by
  rw [View.readAt_eq_ld, Memref.IsWhole.read_unread]
  refine congrArg x ?_
  funext k; apply Fin.ext; rw [LoadRect.idx_apply]; fin_cases k <;> simp [row]

variable (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x128 .bf16) (harg4 : arg4.IsWhole) (arg6 : Memref sig .tc .vmem S2048x128 .bf16) (harg6 : arg6.IsWhole) (arg7 : Memref sig .tc .vmem S1x2048x128 .f32) (harg7 : arg7.IsWhole)
    (x0 : Vec Ideal S1x2048x256 .bf16) (x1 : Vec Ideal S1x2048x256 .bf16) (x2 : Vec Ideal S1x2048x128 .bf16)
variable {qr kr : Fin 2048 → Fin 192 → ℝ} {v : Fin 2048 → Fin 128 → EReal}
variable (h0 : ∀ r d, x0 (ix3 0 r d) = ((Attn.pad (qr r) d : ℝ) : EReal)) (h1 : ∀ r d, x1 (ix3 0 r d) = ((Attn.pad (kr r) d : ℝ) : EReal))
  (h2 : ∀ r d, x2 (ix3 0 r d) = v r d)

/-- A load of padded rows. -/
theorem load_padded {n : ℕ} (a : ℕ) (A : Memref sig .tc .vmem S1x2048x256 .bf16) (hA : A.IsWhole) (x : Vec Ideal S1x2048x256 .bf16) {f : Fin 2048 → Fin 192 → ℝ}
    (hx : ∀ r d, x (ix3 0 r d) = ((Attn.pad (f r) d : ℝ) : EReal)) (h : a + n ≤ 2048)
    (inb : ∀ k, (![0, a, 0] : Fin 3 → ℕ) k + (![1, n, 256] : Fin 3 → ℕ) k ≤ S1x2048x256.size k) :
    Padded (n := n) (View.readAt (Elt Ideal) A.view (Rect.unit (s := S1x2048x256) ![0, a, 0] ![1, n, 256] inb).toLoadRect (hA.unread x)) f a :=
  ⟨h, fun j d => (load_at a n A hA x inb h j d).trans (hx _ _)⟩

/-- A load of the values' rows. -/
theorem load_rows {n : ℕ} (a : ℕ) (A : Memref sig .tc .vmem S1x2048x128 .bf16) (hA : A.IsWhole) (x : Vec Ideal S1x2048x128 .bf16) {f : Fin 2048 → Fin 128 → EReal}
    (hx : ∀ r d, x (ix3 0 r d) = f r d) (h : a + n ≤ 2048)
    (inb : ∀ k, (![0, a, 0] : Fin 3 → ℕ) k + (![1, n, 128] : Fin 3 → ℕ) k ≤ S1x2048x128.size k) :
    Rows (n := n) (View.readAt (Elt Ideal) A.view (Rect.unit (s := S1x2048x128) ![0, a, 0] ![1, n, 128] inb).toLoadRect (hA.unread x)) f a :=
  ⟨h, fun j d => (load_at a n A hA x inb h j d).trans (hx _ _)⟩

include h0 h1 h2 in
/-- The block of the output holds the attention's output. -/
theorem out_block (r : Fin 2048) (d : Fin 128) : out0_A_3 c i arg2 harg2 arg3 harg3 arg4 harg4 arg6 harg6 arg7 harg7 x0 x1 x2 (ix2 r d)
    = ∑ c, v c d * ((Attn.prob qr kr r c : ℝ) : EReal) := by
  unfold out0_A_3
  rw [View.read_writes_eq_canon _ _ _ (cover0_A_3 c i arg2 harg2 arg3 harg3 arg4 harg4 arg6 harg6 arg7 harg7 x0 x1 x2)]
  unfold kernelRun0_A
  dsimp only
  rcases lt_or_ge r.val 512 with hr | hr
  · obtain ⟨j, rfl⟩ := exists_row (a := 0) (n := 512) (by norm_num) r (by omega) (by omega)
    rw [canon2_miss _ _ _ _ _ (by simp only [row]; omega), canon2_miss _ _ _ _ _ (by simp only [row]; omega), canon2_miss _ _ _ _ _ (by simp only [row]; omega), canon2_hit]
    exact out_first _ _ _ (load_padded 0 _ _ _ h0 (by norm_num) _) (load_padded 0 _ _ _ h1 (by norm_num) _) (load_rows 0 _ _ _ h2 (by norm_num) _) j d
  rcases lt_or_ge r.val 1024 with hr' | hr'
  · obtain ⟨j, rfl⟩ := exists_row (a := 512) (n := 512) (by norm_num) r (by omega) (by omega)
    rw [canon2_miss _ _ _ _ _ (by simp only [row]; omega), canon2_miss _ _ _ _ _ (by simp only [row]; omega), canon2_hit]
    exact out_second _ _ _ _ _ (load_padded 512 _ _ _ h0 (by norm_num) _) (load_padded 512 _ _ _ h1 (by norm_num) _) (load_padded 0 _ _ _ h1 (by norm_num) _)
      (load_rows 512 _ _ _ h2 (by norm_num) _) (load_rows 0 _ _ _ h2 (by norm_num) _) j d
  rcases lt_or_ge r.val 1536 with hr'' | hr''
  · obtain ⟨j, rfl⟩ := exists_row (a := 1024) (n := 512) (by norm_num) r (by omega) (by omega)
    rw [canon2_miss _ _ _ _ _ (by simp only [row]; omega), canon2_hit]
    exact out_third _ _ _ _ _ (load_padded 1024 _ _ _ h0 (by norm_num) _) (load_padded 1024 _ _ _ h1 (by norm_num) _) (load_padded 0 _ _ _ h1 (by norm_num) _)
      (load_rows 1024 _ _ _ h2 (by norm_num) _) (load_rows 0 _ _ _ h2 (by norm_num) _) j d
  · obtain ⟨j, rfl⟩ := exists_row (a := 1536) (n := 512) (by norm_num) r (by omega) (by omega)
    rw [canon2_hit]
    exact out_last _ _ _ _ _ (load_padded 1536 _ _ _ h0 (by norm_num) _) (load_padded 1536 _ _ _ h1 (by norm_num) _) (load_padded 0 _ _ _ h1 (by norm_num) _)
      (load_rows 1536 _ _ _ h2 (by norm_num) _) (load_rows 0 _ _ _ h2 (by norm_num) _) j d

include h0 h1 in
/-- The block of the log-sums holds the rows' log-sums in every column. -/
theorem log_block (r : Fin 2048) (d : Fin 128) : out0_A_4 c i arg2 harg2 arg3 harg3 arg4 harg4 arg6 harg6 arg7 harg7 x0 x1 x2 (ix3 0 r d)
    = ((Real.log (Attn.total qr kr r) : ℝ) : EReal) := by
  unfold out0_A_4
  rw [View.read_writes_eq_canon _ _ _ (cover0_A_4 c i arg2 harg2 arg3 harg3 arg4 harg4 arg6 harg6 arg7 harg7 x0 x1 x2)]
  unfold kernelRun0_A
  dsimp only
  rcases lt_or_ge r.val 512 with hr | hr
  · obtain ⟨j, rfl⟩ := exists_row (a := 0) (n := 512) (by norm_num) r (by omega) (by omega)
    rw [canon3_miss _ _ _ _ _ (by simp only [row]; omega), canon3_miss _ _ _ _ _ (by simp only [row]; omega), canon3_miss _ _ _ _ _ (by simp only [row]; omega), canon3_hit]
    exact log_first _ _ (load_padded 0 _ _ _ h0 (by norm_num) _) (load_padded 0 _ _ _ h1 (by norm_num) _) j d
  rcases lt_or_ge r.val 1024 with hr' | hr'
  · obtain ⟨j, rfl⟩ := exists_row (a := 512) (n := 512) (by norm_num) r (by omega) (by omega)
    rw [canon3_miss _ _ _ _ _ (by simp only [row]; omega), canon3_miss _ _ _ _ _ (by simp only [row]; omega), canon3_hit]
    exact log_second _ _ _ (load_padded 512 _ _ _ h0 (by norm_num) _) (load_padded 512 _ _ _ h1 (by norm_num) _) (load_padded 0 _ _ _ h1 (by norm_num) _) j d
  rcases lt_or_ge r.val 1536 with hr'' | hr''
  · obtain ⟨j, rfl⟩ := exists_row (a := 1024) (n := 512) (by norm_num) r (by omega) (by omega)
    rw [canon3_miss _ _ _ _ _ (by simp only [row]; omega), canon3_hit]
    exact log_third _ _ _ (load_padded 1024 _ _ _ h0 (by norm_num) _) (load_padded 1024 _ _ _ h1 (by norm_num) _) (load_padded 0 _ _ _ h1 (by norm_num) _) j d
  · obtain ⟨j, rfl⟩ := exists_row (a := 1536) (n := 512) (by norm_num) r (by omega) (by omega)
    rw [canon3_hit]
    exact log_last _ _ _ (load_padded 1536 _ _ _ h0 (by norm_num) _) (load_padded 1536 _ _ _ h1 (by norm_num) _) (load_padded 0 _ _ _ h1 (by norm_num) _) j d

end Cert.AttnFwd

end
-- ==== Proof.AttnFwdVals.lean ====
module

public import proofs.«01_k».proof.Proof.AttnBlock
public import proofs.«01_k».proof.Proof.HostVal
public import proofs.«01_k».proof.Proof.Finite
public import proofs.«01_k».proof.Proof.Gen.AttentionReferenceIdeal.Read
public import proofs.«01_k».proof.Proof.Gen.Pre_finite_scores
public import Idealize.ShloMosaic.Lib.StableHlo.ReadAt

@[expose] public section

set_option maxRecDepth 16384

noncomputable section

/-! # The attention's forward launch: its two result arrays, and the reference's

The queries and keys are real; the values and the mixer's array are any extended reals. -/

namespace Cert.Pre_finite_scores.Meaning

open Idealize.ShloMosaic Cert.Pre_finite_scores Cert.Pre_finite_scores.Gen Cert.Pre_finite.Meaning

/-- Under the precondition every element of the first two arguments is real. -/
theorem reals (a0 a1 : FVec Ideal S2x2048x6x192 .f32) (a2 : FVec Ideal S2x2048x6x128 .f32) (a3 : FVec Ideal S4096x1024 .f32)
    (h : Cert.Pre_finite_scores.fn (F := Ideal) a0 a1 a2 a3 = fun _ => 1#1) :
    (∃ r : S2x2048x6x192.Idx → ℝ, ∀ i, a0 i = (r i : EReal)) ∧ (∃ r : S2x2048x6x192.Idx → ℝ, ∀ i, a1 i = (r i : EReal)) := by
  have e := congrFun h ix0
  obtain ⟨e0, e1⟩ := and_one e
  have h0 := all_real a0 Facts.bcast_S_S2x2048x6x192 Facts.reducesTo_S2x2048x6x192_S_d0_1_2_3 Facts.h_S_ ix0 e0
  have h1 := all_real a1 Facts.bcast_S_S2x2048x6x192 Facts.reducesTo_S2x2048x6x192_S_d0_1_2_3 Facts.h_S_ ix0 e1
  choose r0 h0 using h0
  choose r1 h1 using h1
  exact ⟨⟨r0, h0⟩, ⟨r1, h1⟩⟩

end Cert.Pre_finite_scores.Meaning

namespace Cert.AttnFwd

open Cert.KernelIdeal.Host (head seqRow headCol headsLaid valuesLaid probs logsumsLaid)
open Cert.AttentionIdeal Cert.AttentionIdeal.Gen Idealize.ShloMosaic Idealize.ShloMosaic.TcCoe Idealize.SL.Sem

/-- One column of the mixer's array that the pool fills. -/
def poolCol (k : Fin 256) : Fin 1024 := ⟨k.val, by omega⟩

/-- An element of a two-axis array of 4096 rows and 1024 columns lies in the pool's columns or in a head's. -/
theorem mix_cases (i : S4096x1024.Idx) : (∃ (n : Fin 4096) (k : Fin 256), i = ix2 n (poolCol k)) ∨ ∃ (b : Fin 2) (r : Fin 2048) (h : Fin 6) (d : Fin 128), i = ix2 (seqRow b r) (headCol h d) := by
  have h0 : (i 0).val < 4096 := (i 0).isLt
  have h1 : (i 1).val < 1024 := (i 1).isLt
  by_cases hc : (i 1).val < 256
  · exact Or.inl ⟨i 0, ⟨(i 1).val, hc⟩, by funext a; fin_cases a <;> rfl⟩
  · refine Or.inr ⟨⟨(i 0).val / 2048, by omega⟩, ⟨(i 0).val % 2048, by omega⟩, ⟨((i 1).val - 256) / 128, by omega⟩, ⟨((i 1).val - 256) % 128, by omega⟩, ?_⟩
    funext a; fin_cases a <;> apply Fin.ext
    · show (i 0).val = 2048 * ((i 0).val / 2048) + (i 0).val % 2048
      omega
    · show (i 1).val = 256 + 128 * (((i 1).val - 256) / 128) + ((i 1).val - 256) % 128
      omega

/-- An element of the log-sums' array lies in a head's rows of a sequence. -/
theorem log_cases (i : S6x4096x128.Idx) : ∃ (h : Fin 6) (b : Fin 2) (r : Fin 2048) (d : Fin 128), i = ix3 h (seqRow b r) d := by
  have h1 : (i 1).val < 4096 := (i 1).isLt
  refine ⟨i 0, ⟨(i 1).val / 2048, by omega⟩, ⟨(i 1).val % 2048, by omega⟩, i 2, ?_⟩
  funext a; fin_cases a
  · rfl
  · apply Fin.ext
    show (i 1).val = 2048 * ((i 1).val / 2048) + (i 1).val % 2048
    omega
  · rfl

section Launch

/-- The launch point of a head of a sequence. -/
theorem idx : ∀ (b : Fin 2) (h : Fin 6), ∃ t : Fin cfg0.N, win0_0.index t = ![h.val, b.val, 0] ∧ win0_1.index t = ![h.val, b.val, 0] ∧ win0_2.index t = ![h.val, b.val, 0]
    ∧ win0_3.index t = ![b.val, 2 + h.val] ∧ win0_4.index t = ![h.val, b.val, 0] ∧ (cfg0.win 3).flush t = true ∧ (cfg0.win 4).flush t = true :=
  (by decide +kernel : ∀ (b : Fin 2) (h : Fin 6), ∃ t : Fin grid0.N, win0_0.index t = ![h.val, b.val, 0] ∧ win0_1.index t = ![h.val, b.val, 0] ∧ win0_2.index t = ![h.val, b.val, 0]
    ∧ win0_3.index t = ![b.val, 2 + h.val] ∧ win0_4.index t = ![h.val, b.val, 0] ∧ win0_3.flush t = true ∧ win0_4.flush t = true)

/-- Every point's output block lies in some head's columns. -/
theorem idx_out : ∀ t : Fin cfg0.N, ∃ (b : Fin 2) (h : Fin 6), win0_3.index t = ![b.val, 2 + h.val] :=
  (by decide +kernel : ∀ t : Fin grid0.N, ∃ (b : Fin 2) (h : Fin 6), win0_3.index t = ![b.val, 2 + h.val])

variable (m : (ℓ : Loc nD τ sig) → Buf (Elt Ideal) ℓ) (c : Dev nD)

/-- The launch's first operand holds the queries. -/
theorem V_queries : V m c main_v3 = headsLaid (m (c, Proc.tc.devRef main_arg0)) := by
  unfold V
  after_reads_simp
  simp -implicitDefEqProofs only [StableHlo.TRef.toBuf, StableHlo.TRef.ofBuf, cast_cast, cast_eq]
  rfl

/-- The launch's second operand holds the keys. -/
theorem V_keys : V m c main_v7 = headsLaid (m (c, Proc.tc.devRef main_arg1)) := by
  unfold V
  after_reads_simp
  simp -implicitDefEqProofs only [StableHlo.TRef.toBuf, StableHlo.TRef.ofBuf, cast_cast, cast_eq]
  rfl

/-- The launch's third operand holds the values. -/
theorem V_values : V m c main_v10 = valuesLaid (m (c, Proc.tc.devRef main_arg2)) := by
  unfold V
  after_reads_simp
  rfl

/-- The output array starts as the mixer's array. -/
theorem V_mix : V m c main_v12_0 = (truncf .bf16 (m (c, Proc.tc.devRef main_arg3) : FVec Ideal S4096x1024 .f32) bitsLt_bf16_f32 : FVec Ideal S4096x1024 .bf16) := by
  unfold V
  after_reads_simp
  rfl

/-- The values as laid out, at a head, a sequence and a position. -/
theorem values_at (va : FVec Ideal S2x2048x6x128 .f32) (b : Fin 2) (h : Fin 6) (r : Fin 2048) (d : Fin 128) : valuesLaid va (ix3 h (seqRow b r) d) = va (ix4 b r h d) := by
  unfold valuesLaid seqRow
  pointwise

variable {qr kr : S2x2048x6x192.Idx → ℝ}
variable {va : FVec Ideal S2x2048x6x128 .f32} (hv : m (c, Proc.tc.devRef main_arg2) = va)
variable (hq : ∀ i, m (c, Proc.tc.devRef main_arg0) i = ((qr i : ℝ) : EReal)) (hk : ∀ i, m (c, Proc.tc.devRef main_arg1) i = ((kr i : ℝ) : EReal))

/-- The block of the queries at a launch point is its head's rows of its sequence. -/
theorem read_0 (t : Fin cfg0.N) (b : Fin 2) (h : Fin 6) (X : (⟨S6x4096x256, .bf16⟩ : BufTy).Contents (Elt Ideal)) (e : win0_0.index t = ![h.val, b.val, 0]) (r : Fin 2048) (d : Fin 256) :
    ((cfg0.win 0).blk t).view.read (Elt Ideal) X (ix3 0 r d) = X (ix3 h (seqRow b r) d) := by
  unfold seqRow
  blk_ext [e]

/-- The block of the keys is too. -/
theorem read_1 (t : Fin cfg0.N) (b : Fin 2) (h : Fin 6) (X : (⟨S6x4096x256, .bf16⟩ : BufTy).Contents (Elt Ideal)) (e : win0_1.index t = ![h.val, b.val, 0]) (r : Fin 2048) (d : Fin 256) :
    ((cfg0.win 1).blk t).view.read (Elt Ideal) X (ix3 0 r d) = X (ix3 h (seqRow b r) d) := by
  unfold seqRow
  blk_ext [e]

/-- The block of the values is too. -/
theorem read_2 (t : Fin cfg0.N) (b : Fin 2) (h : Fin 6) (X : (⟨S6x4096x128, .bf16⟩ : BufTy).Contents (Elt Ideal)) (e : win0_2.index t = ![h.val, b.val, 0]) (r : Fin 2048) (d : Fin 128) :
    ((cfg0.win 2).blk t).view.read (Elt Ideal) X (ix3 0 r d) = X (ix3 h (seqRow b r) d) := by
  unfold seqRow
  blk_ext [e]

include hq in
/-- A point's block of the queries, over the reals. -/
theorem queries_at (t : Fin cfg0.N) (b : Fin 2) (h : Fin 6) (e : win0_0.index t = ![h.val, b.val, 0]) (r : Fin 2048) (d : Fin 256) :
    iblk m c 0 t (ix3 0 r d) = ((Attn.pad (head qr b h r) d : ℝ) : EReal) := by
  rw [← Cert.KernelIdeal.Host.headsLaid_eq hq b h r d, ← V_queries]
  exact read_0 t b h _ e r d

include hk in
/-- A point's block of the keys, over the reals. -/
theorem keys_at (t : Fin cfg0.N) (b : Fin 2) (h : Fin 6) (e : win0_1.index t = ![h.val, b.val, 0]) (r : Fin 2048) (d : Fin 256) :
    iblk m c 1 t (ix3 0 r d) = ((Attn.pad (head kr b h r) d : ℝ) : EReal) := by
  rw [← Cert.KernelIdeal.Host.headsLaid_eq hk b h r d, ← V_keys]
  exact read_1 t b h _ e r d

include hv in
/-- A point's block of the values. -/
theorem vals_at (t : Fin cfg0.N) (b : Fin 2) (h : Fin 6) (e : win0_2.index t = ![h.val, b.val, 0]) (r : Fin 2048) (d : Fin 128) :
    iblk m c 2 t (ix3 0 r d) = va (ix4 b r h d) := by
  have hl : V m c main_v10 = valuesLaid va := (V_values m c).trans (congrArg valuesLaid hv)
  rw [← values_at va, ← hl]
  exact read_2 t b h _ e r d

include hv hq hk in
/-- The output array at a head's columns holds the attention's output. -/
theorem out_at (b : Fin 2) (r : Fin 2048) (h : Fin 6) (d : Fin 128) : ((dats m 0 c).arrAt 3 cfg0.N : FVec Ideal S4096x1024 .bf16) (ix2 (seqRow b r) (headCol h d))
    = ∑ k, va (ix4 b k h d) * ((Attn.prob (head qr b h) (head kr b h) r k : ℝ) : EReal) := by
  obtain ⟨t, e0, e1, e2, e3, e4, f3, f4⟩ := idx b h
  have key := out_block c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)
    (queries_at m c hq t b h e0) (keys_at m c hk t b h e1) (vals_at m c hv t b h e2) r d
  rw [← key]
  have hb := congrFun (Cert.AttentionIdeal.Value.blocks3 m c t f3) (ix2 r d)
  rw [Cert.AttentionIdeal.Value.flushed3_A] at hb
  have he : (win0_3.blk t).view.emb (ix2 r d) = ix2 (seqRow b r) (headCol h d) := by
    unfold seqRow headCol
    blk_ext [e3]
  blk_simp at hb
  rw [he] at hb
  exact hb

include hq hk in
/-- The second array holds the rows' log-sums, the same in every column. -/
theorem log_at (h : Fin 6) (b : Fin 2) (r : Fin 2048) (d : Fin 128) : ((dats m 0 c).arrAt 4 cfg0.N : FVec Ideal S6x4096x128 .f32) (ix3 h (seqRow b r) d)
    = ((Real.log (Attn.total (head qr b h) (head kr b h) r) : ℝ) : EReal) := by
  obtain ⟨t, e0, e1, e2, e3, e4, f3, f4⟩ := idx b h
  have key := log_block c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)
    (queries_at m c hq t b h e0) (keys_at m c hk t b h e1) r d
  rw [← key]
  have hb := congrFun (Cert.AttentionIdeal.Value.blocks4 m c t f4) (ix3 0 r d)
  rw [Cert.AttentionIdeal.Value.flushed4_A] at hb
  have he : (win0_4.blk t).view.emb (ix3 0 r d) = ix3 h (seqRow b r) d := by
    unfold seqRow
    blk_ext [e4]
  blk_simp at hb
  rw [he] at hb
  exact hb

/-- The pool's columns of the output array stay the mixer's array's. -/
theorem mix_at (n : Fin 4096) (k : Fin 256) : ((dats m 0 c).arrAt 3 cfg0.N : FVec Ideal S4096x1024 .bf16) (ix2 n (poolCol k)) = (m (c, Proc.tc.devRef main_arg3) : FVec Ideal S4096x1024 .f32) (ix2 n (poolCol k)) := by
  rw [Cert.AttentionIdeal.Value.entry3 m c (ix2 n (poolCol k)) fun t _ hm => ?_]
  · exact congrFun (V_mix m c) (ix2 n (poolCol k))
  · obtain ⟨b, h, e3⟩ := idx_out t
    obtain ⟨y, _, hy⟩ := Finset.mem_map.mp hm
    obtain ⟨r, d, rfl⟩ : ∃ (r : Fin 2048) (d : Fin 128), y = ix2 r d := ⟨y 0, y 1, by funext k; fin_cases k <;> rfl⟩
    have he : (win0_3.blk t).view.emb (ix2 r d) = ix2 (seqRow b r) (headCol h d) := by
      unfold seqRow headCol
      blk_ext [e3]
    have h1 := congrArg (fun i : S4096x1024.Idx => (i 1).val) (he.symm.trans hy)
    have h2 : 256 + 128 * h.val + d.val = k.val := h1
    omega

end Launch

section Reference

open Cert.AttentionReferenceIdeal.Read

variable (qa ka : FVec Ideal S2x2048x6x192 .f32) (va : FVec Ideal S2x2048x6x128 .f32) (ga : FVec Ideal S4096x1024 .f32)

/-- The reference's probabilities are the attention's. -/
theorem probs_ref : val_main_v27 (F := Ideal) qa ka = probs qa ka := rfl

/-- The reference's second result is the rows' log-sums as laid out. -/
theorem logs_ref : val_main_v25 (F := Ideal) qa ka = logsumsLaid qa ka := rfl

variable {qa ka} {qr kr : S2x2048x6x192.Idx → ℝ} (hq : ∀ i, qa i = (qr i : ℝ)) (hk : ∀ i, ka i = (kr i : ℝ))

include hq hk in
/-- The reference's first result at a head's columns. -/
theorem out_ref (b : Fin 2) (r : Fin 2048) (h : Fin 6) (d : Fin 128) : val_main_v33 (F := Ideal) qa ka va ga (ix2 (seqRow b r) (headCol h d))
    = ∑ k, va (ix4 b k h d) * ((Attn.prob (head qr b h) (head kr b h) r k : ℝ) : EReal) := by
  have e : val_main_v29 (F := Ideal) qa ka va (ix4 b r h d) = ∑ k, va (ix4 b k h d) * ((Attn.prob (head qr b h) (head kr b h) r k : ℝ) : EReal) := by
    rw [val_main_v29_apply, val_main_v28_apply]
    refine Finset.sum_congr rfl fun k _ => ?_
    rw [probs_ref]
    refine congrArg₂ (· * ·) (congrArg va ?_) ((congrArg (probs qa ka) ?_).trans (Cert.KernelIdeal.Host.probs_eq hq hk b h r k))
    · funext a; fin_cases a <;> rfl
    · funext a; fin_cases a <;> rfl
  rw [← e]
  show val_main_v32 (F := Ideal) qa ka va ga (ix2 (seqRow b r) (headCol h d)) = _
  unfold val_main_v32 seqRow headCol
  pointwise
  rw [dif_neg (by omega)]
  unfold val_main_v31
  pointwise
  refine congrArg (val_main_v29 (F := Ideal) qa ka va) ?_
  funext a; fin_cases a <;> apply Fin.ext <;> simp <;> omega

/-- The reference's first result at the pool's columns. -/
theorem mix_ref (n : Fin 4096) (k : Fin 256) : val_main_v33 (F := Ideal) qa ka va ga (ix2 n (poolCol k)) = ga (ix2 n (poolCol k)) := by
  show val_main_v32 (F := Ideal) qa ka va ga (ix2 n (poolCol k)) = _
  unfold val_main_v32 poolCol
  pointwise
  unfold val_main_v30
  pointwise

end Reference

section Results

open Cert.AttentionReferenceIdeal.Read

variable (m : (ℓ : Loc nD τ sig) → Buf (Elt Ideal) ℓ) (c : Dev nD) (qr kr : S2x2048x6x192.Idx → ℝ)
variable (hq : ∀ i, m (c, Proc.tc.devRef main_arg0) i = ((qr i : ℝ) : EReal)) (hk : ∀ i, m (c, Proc.tc.devRef main_arg1) i = ((kr i : ℝ) : EReal))

include hq hk in
/-- The launch's output array is the reference's first result. -/
theorem result_out : ((dats m 0 c).arrAt 3 cfg0.N : FVec Ideal S4096x1024 .bf16)
    = val_main_v33 (F := Ideal) (m (c, Proc.tc.devRef main_arg0)) (m (c, Proc.tc.devRef main_arg1)) (m (c, Proc.tc.devRef main_arg2)) (m (c, Proc.tc.devRef main_arg3)) := by
  funext i
  rcases mix_cases i with ⟨n, k, rfl⟩ | ⟨b, r, h, d, rfl⟩
  · exact (mix_at m c n k).trans (mix_ref (qa := m (c, Proc.tc.devRef main_arg0)) (ka := m (c, Proc.tc.devRef main_arg1)) (m (c, Proc.tc.devRef main_arg2)) _ n k).symm
  · exact (out_at m c rfl hq hk b r h d).trans (out_ref _ (m (c, Proc.tc.devRef main_arg3)) hq hk b r h d).symm

include hq hk in
/-- The launch's log-sums are the reference's second result. -/
theorem result_log : ((dats m 0 c).arrAt 4 cfg0.N : FVec Ideal S6x4096x128 .f32)
    = val_main_v25 (F := Ideal) (m (c, Proc.tc.devRef main_arg0)) (m (c, Proc.tc.devRef main_arg1)) := by
  funext i
  obtain ⟨h, b, r, d, rfl⟩ := log_cases i
  rw [logs_ref]
  exact (log_at m c hq hk h b r d).trans (Cert.KernelIdeal.Host.logsumsLaid_eq hq hk b h r d).symm

end Results

end Cert.AttnFwd

end
-- ==== Proof.LossVals.lean ====
module

public import proofs.«01_k».proof.Proof.Gen.LossIdeal.Value
public import proofs.«01_k».proof.Proof.Gen.LossReferenceIdeal.Read
public import proofs.«01_k».proof.Proof.Shards
public import proofs.«01_k».proof.Proof.Norm
public import Idealize.ShloMosaic.Lib.Pipeline.ValueKit
public import Idealize.ShloMosaic.Lib.StableHlo.ReadAt

@[expose] public section

set_option maxRecDepth 16384

noncomputable section

/-! # The step's last product, the residual and the loss

Each point of the launch takes 512 rows: the activation times the weight, summed shard by shard, plus the residual rows,
minus the target. Of this error it writes the gradient of the loss, and adds the squares to a sum kept over the points. -/

namespace Cert.LossVals

open Cert.Shards Cert.Norm
open Cert.LossIdeal Cert.LossIdeal.Gen Idealize.ShloMosaic Idealize.ShloMosaic.TcCoe Idealize.SL.Sem
open Idealize.ShloMosaic.Pipeline (Dat)

/-- What the launch scales the error by. -/
def scale : EReal := Ideal.ofBits .f32 0x3A800000#32

section Halves

attribute [local pointwise] k0_pay1 k0_pay2 k0_pay5 k0_pay6 k0_pay7 k0_pay8 k0_pay9 k0_pay10 k0_pay11

variable (y x e : FVec Ideal S256x1024 .f32) (v : FVec Ideal S512x1024 .f32) (s : FVec Ideal S8x128 .f32) (k : Fin 256) (d : Fin 1024) (a : Fin 8) (b : Fin 128)

/-- The first half's gradient, from the product, the residual and the target. -/
theorem grad_lo : k0_pay8 y x e (ix2 k d) = (y (ix2 k d) + x (ix2 k d) - e (ix2 k d)) * scale := by
  unfold scale
  pointwise

/-- The same in the narrow format. -/
theorem narrow_lo : k0_pay9 y x e (ix2 k d) = (y (ix2 k d) + x (ix2 k d) - e (ix2 k d)) * scale := by
  unfold scale
  pointwise

/-- The second half's gradient. -/
theorem grad_hi : k0_pay1 (k0_pay10 v x e) (ix2 k d) = (v (ix2 (hi k) d) + x (ix2 k d) - e (ix2 k d)) * scale := by
  unfold scale
  pointwise
  rfl

/-- The same in the narrow format. -/
theorem narrow_hi : k0_pay2 (k0_pay10 v x e) (ix2 k d) = (v (ix2 (hi k) d) + x (ix2 k d) - e (ix2 k d)) * scale := by
  unfold scale
  pointwise
  rfl

/-- The squares of the first half, added to what is there. -/
theorem squares_lo : k0_pay7 y x e s (ix2 a b)
    = s (ix2 a b) + ∑ k : Fin 256, ∑ d : Fin 1024, (y (ix2 k d) + x (ix2 k d) - e (ix2 k d)) * (y (ix2 k d) + x (ix2 k d) - e (ix2 k d)) := by
  pointwise

/-- The squares of the second half. -/
theorem squares_hi : k0_pay11 v x e s (ix2 a b)
    = s (ix2 a b) + ∑ k : Fin 256, ∑ d : Fin 1024, (v (ix2 (hi k) d) + x (ix2 k d) - e (ix2 k d)) * (v (ix2 (hi k) d) + x (ix2 k d) - e (ix2 k d)) := by
  pointwise
  rfl

/-- The zero stored first. -/
theorem zero_at (i : S8x128.Idx) : k0_pay6 (F := Ideal) i = 0 := by
  unfold k0_pay6
  pointwise

end Halves

/-! ## What one point writes -/

section Point

variable (c : Dev nD) (i : grid0.Coords) (arg3 : Memref sig .tc .vmem S4x512x704 .bf16) (harg3 : arg3.IsWhole) (arg4 : Memref sig .tc .vmem S4x704x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S8x128 .f32) (harg8 : arg8.IsWhole) (arg9 : Memref sig .tc .vmem S512x1024 .bf16) (harg9 : arg9.IsWhole)
  (x0 : Vec Ideal S4x512x704 .bf16) (x1 : Vec Ideal S4x704x1024 .bf16) (x2 : Vec Ideal S512x1024 .f32) (x3 : Vec Ideal S512x1024 .f32) (xo5 : Vec Ideal S8x128 .f32)

/-- One shard's part of the product. -/
def shard (j : Fin 4) (k : Fin 512) (d : Fin 1024) : EReal := ∑ r : Fin 704, (x0 (ix3 j k r) : EReal) * x1 (ix3 j r d)

/-- The product, shard by shard. -/
def prod (k : Fin 512) (d : Fin 1024) : EReal := shard x0 x1 0 k d + shard x0 x1 1 k d + shard x0 x1 2 k d + shard x0 x1 3 k d

/-- The tile's error. -/
def err (k : Fin 512) (d : Fin 1024) : EReal := prod x0 x1 k d + (x2 (ix2 k d) : EReal) - x3 (ix2 k d)

/-- The tile's sum of squares. -/
def squares : EReal := ∑ k : Fin 512, ∑ d : Fin 1024, err x0 x1 x2 x3 k d * err x0 x1 x2 x3 k d

section Products

attribute [local pointwise] k0_pay3 k0_pay4

/-- The product. -/
theorem prod_all (k : Fin 512) (d : Fin 1024) : k0_pay3
        (View.ld x0 (Rect.unit ![0, 0, 0] ![1, 512, 704] inb_S4x512x704_S1x512x704_0_0_0)) (View.ld x1 (Rect.unit ![0, 0, 0] ![1, 704, 1024] inb_S4x704x1024_S1x704x1024_0_0_0))
        (View.ld x0 (Rect.unit ![1, 0, 0] ![1, 512, 704] inb_S4x512x704_S1x512x704_1_0_0)) (View.ld x1 (Rect.unit ![1, 0, 0] ![1, 704, 1024] inb_S4x704x1024_S1x704x1024_1_0_0))
        (View.ld x0 (Rect.unit ![2, 0, 0] ![1, 512, 704] inb_S4x512x704_S1x512x704_2_0_0)) (View.ld x1 (Rect.unit ![2, 0, 0] ![1, 704, 1024] inb_S4x704x1024_S1x704x1024_2_0_0))
        (View.ld x0 (Rect.unit ![3, 0, 0] ![1, 512, 704] inb_S4x512x704_S1x512x704_3_0_0)) (View.ld x1 (Rect.unit ![3, 0, 0] ![1, 704, 1024] inb_S4x704x1024_S1x704x1024_3_0_0)) (ix2 k d) = prod x0 x1 k d := by
  unfold prod shard
  pointwise

/-- The product's first half. -/
theorem prod_lo (k : Fin 256) (d : Fin 1024) : k0_pay4
        (View.ld x0 (Rect.unit ![0, 0, 0] ![1, 512, 704] inb_S4x512x704_S1x512x704_0_0_0)) (View.ld x1 (Rect.unit ![0, 0, 0] ![1, 704, 1024] inb_S4x704x1024_S1x704x1024_0_0_0))
        (View.ld x0 (Rect.unit ![1, 0, 0] ![1, 512, 704] inb_S4x512x704_S1x512x704_1_0_0)) (View.ld x1 (Rect.unit ![1, 0, 0] ![1, 704, 1024] inb_S4x704x1024_S1x704x1024_1_0_0))
        (View.ld x0 (Rect.unit ![2, 0, 0] ![1, 512, 704] inb_S4x512x704_S1x512x704_2_0_0)) (View.ld x1 (Rect.unit ![2, 0, 0] ![1, 704, 1024] inb_S4x704x1024_S1x704x1024_2_0_0))
        (View.ld x0 (Rect.unit ![3, 0, 0] ![1, 512, 704] inb_S4x512x704_S1x512x704_3_0_0)) (View.ld x1 (Rect.unit ![3, 0, 0] ![1, 704, 1024] inb_S4x704x1024_S1x704x1024_3_0_0)) (ix2 k d) = prod x0 x1 (lo k) d := by
  unfold prod shard
  pointwise
  rfl

end Products

/-- The gradient written at the first point. -/
theorem dy_A (hc0 : cond0_0 i) (q : Fin 512) (d : Fin 1024) :
    out0_A_4 c i arg3 harg3 arg4 harg4 arg5 harg5 arg6 harg6 arg7 harg7 arg8 harg8 arg9 harg9 hc0 x0 x1 x2 x3 (ix2 q d) = err x0 x1 x2 x3 q d * scale := by
  frame_out
  unfold err
  obtain ⟨k, rfl⟩ | ⟨k, rfl⟩ := lo_or_hi q
  · rw [run_miss _ _ _ _ (lo_lt k), run_hit _ _ _ _ k (lo_eq k), grad_lo]
    simp only [prod_lo]
    pointwise
    rfl
  · rw [run_hit _ _ _ _ k (hi_eq k), grad_hi]
    simp only [prod_all]
    pointwise
    rfl

/-- The narrow gradient written at the first point. -/
theorem narrow_A (hc0 : cond0_0 i) (q : Fin 512) (d : Fin 1024) :
    out0_A_6 c i arg3 harg3 arg4 harg4 arg5 harg5 arg6 harg6 arg7 harg7 arg8 harg8 arg9 harg9 hc0 x0 x1 x2 x3 (ix2 q d) = err x0 x1 x2 x3 q d * scale := by
  frame_out
  unfold err
  obtain ⟨k, rfl⟩ | ⟨k, rfl⟩ := lo_or_hi q
  · rw [run_miss _ _ _ _ (lo_lt k), run_hit _ _ _ _ k (lo_eq k), narrow_lo]
    simp only [prod_lo]
    pointwise
    rfl
  · rw [run_hit _ _ _ _ k (hi_eq k), narrow_hi]
    simp only [prod_all]
    pointwise
    rfl

/-- The squares accumulated at the first point. -/
theorem sq_A (hc0 : cond0_0 i) (a : Fin 8) (b : Fin 128) :
    out0_A_5 c i arg3 harg3 arg4 harg4 arg5 harg5 arg6 harg6 arg7 harg7 arg8 harg8 arg9 harg9 hc0 x0 x1 x2 x3 (ix2 a b) = 0 + squares x0 x1 x2 x3 := by
  frame_out
  rw [squares_hi, squares_lo, zero_at, squares, sum_halves, add_assoc]
  unfold err
  simp only [prod_lo, prod_all]
  pointwise
  rfl

/-- The gradient written at a later point. -/
theorem dy_B (hc0 : ¬cond0_0 i) (q : Fin 512) (d : Fin 1024) :
    out0_B_4 c i arg3 harg3 arg4 harg4 arg5 harg5 arg6 harg6 arg7 harg7 arg8 harg8 arg9 harg9 hc0 x0 x1 x2 x3 xo5 (ix2 q d) = err x0 x1 x2 x3 q d * scale := by
  frame_out
  unfold err
  obtain ⟨k, rfl⟩ | ⟨k, rfl⟩ := lo_or_hi q
  · rw [run_miss _ _ _ _ (lo_lt k), run_hit _ _ _ _ k (lo_eq k), grad_lo]
    simp only [prod_lo]
    pointwise
    rfl
  · rw [run_hit _ _ _ _ k (hi_eq k), grad_hi]
    simp only [prod_all]
    pointwise
    rfl

/-- The narrow gradient written at a later point. -/
theorem narrow_B (hc0 : ¬cond0_0 i) (q : Fin 512) (d : Fin 1024) :
    out0_B_6 c i arg3 harg3 arg4 harg4 arg5 harg5 arg6 harg6 arg7 harg7 arg8 harg8 arg9 harg9 hc0 x0 x1 x2 x3 xo5 (ix2 q d) = err x0 x1 x2 x3 q d * scale := by
  frame_out
  unfold err
  obtain ⟨k, rfl⟩ | ⟨k, rfl⟩ := lo_or_hi q
  · rw [run_miss _ _ _ _ (lo_lt k), run_hit _ _ _ _ k (lo_eq k), narrow_lo]
    simp only [prod_lo]
    pointwise
    rfl
  · rw [run_hit _ _ _ _ k (hi_eq k), narrow_hi]
    simp only [prod_all]
    pointwise
    rfl

/-- The squares accumulated at a later point. -/
theorem sq_B (hc0 : ¬cond0_0 i) (a : Fin 8) (b : Fin 128) :
    out0_B_5 c i arg3 harg3 arg4 harg4 arg5 harg5 arg6 harg6 arg7 harg7 arg8 harg8 arg9 harg9 hc0 x0 x1 x2 x3 xo5 (ix2 a b) = xo5 (ix2 a b) + squares x0 x1 x2 x3 := by
  frame_out
  rw [squares_hi, squares_lo, squares, sum_halves, add_assoc]
  unfold err
  simp only [prod_lo, prod_all]
  pointwise
  rfl

end Point

/-! ## The launch -/

variable (m : (ℓ : Loc nD τ sig) → Buf (Elt Ideal) ℓ) (c : Dev nD)

/-- The first operand: the activation, shard by shard. -/
theorem V_act : V m c main_v2 = laid (m (c, Proc.tc.devRef main_arg1)) := by
  unfold V
  after_reads_simp
  exact laid_eq _ _ _ _

/-- The second: the weight, cut into shards. -/
theorem V_w : V m c main_v4 = cut (m (c, Proc.tc.devRef main_arg2)) := by
  unfold V
  after_reads_simp
  exact cut_eq _ _ _

/-- The third: the residual rows. -/
theorem V_x : V m c main_arg0 = m (c, Proc.tc.devRef main_arg0) := by
  unfold V
  after_reads_simp

/-- The fourth: the target. -/
theorem V_target : V m c main_arg3 = m (c, Proc.tc.devRef main_arg3) := by
  unfold V
  after_reads_simp

/-- The blocks' places. -/
theorem idx0 : ∀ t : Fin cfg0.N, win0_0.index t = ![0, t.val, 0] := (by decide +kernel : ∀ t : Fin grid0.N, win0_0.index t = ![0, t.val, 0])
theorem idx1 : ∀ t : Fin cfg0.N, win0_1.index t = ![0, 0, 0] := (by decide +kernel : ∀ t : Fin grid0.N, win0_1.index t = ![0, 0, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![0, 0] := (by decide +kernel : ∀ t : Fin grid0.N, win0_5.index t = ![0, 0])
theorem idx6 : ∀ t : Fin cfg0.N, win0_6.index t = ![t.val, 0] := (by decide +kernel : ∀ t : Fin grid0.N, win0_6.index t = ![t.val, 0])

section Reads

variable (t : Fin cfg0.N) (k : Fin 512) (d : Fin 1024) (hl : t.val * 512 + k.val < 4096)

/-- A point's block of a shard of the activation holds its 512 rows. -/
theorem read_0 (X : (⟨S4x4096x704, .bf16⟩ : BufTy).Contents (Elt Ideal)) (j : Fin 4) (r : Fin 704) : ((cfg0.win 0).blk t).view.read (Elt Ideal) X (ix3 j k r) = X (ix3 j ⟨t.val * 512 + k.val, hl⟩ r) := by
  blk_ext [idx0 t]

/-- A point's block of the weight is the whole weight. -/
theorem read_1 (X : (⟨S4x704x1024, .bf16⟩ : BufTy).Contents (Elt Ideal)) (j : Fin 4) (r : Fin 704) : ((cfg0.win 1).blk t).view.read (Elt Ideal) X (ix3 j r d) = X (ix3 j r d) := by
  blk_ext [idx1 t]

/-- A point's block of the residual rows. -/
theorem read_2 (X : (⟨S4096x1024, .f32⟩ : BufTy).Contents (Elt Ideal)) : ((cfg0.win 2).blk t).view.read (Elt Ideal) X (ix2 k d) = X (ix2 ⟨t.val * 512 + k.val, hl⟩ d) := by
  blk_ext [idx2 t]

/-- A point's block of the target. -/
theorem read_3 (X : (⟨S4096x1024, .f32⟩ : BufTy).Contents (Elt Ideal)) : ((cfg0.win 3).blk t).view.read (Elt Ideal) X (ix2 k d) = X (ix2 ⟨t.val * 512 + k.val, hl⟩ d) := by
  blk_ext [idx3 t]

end Reads

/-- What a point writes of the gradient. -/
theorem out_dy (t : Fin cfg0.N) (q : Fin 512) (d : Fin 1024) : (outsAt0 m c t.val t.isLt).1 (ix2 q d) = err (iblk m c 0 t) (iblk m c 1 t) (iblk m c 2 t) (iblk m c 3 t) q d * scale := by
  by_cases h : t.val % 8 = 0
  · have key := dy_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) ((hcond0_0 t).mpr h) q d
    rw [outsAt0_A m c t h]
    with_reducible exact key
  · have key := dy_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (outsAt0 m c (t.val - 1) (Nat.lt_of_le_of_lt (Nat.sub_le _ _) t.isLt)).2.1 (fun h' => h ((hcond0_0 t).mp h')) q d
    rw [outsAt0_B m c t h]
    with_reducible exact key

/-- What it writes of it in the narrow format. -/
theorem out_narrow (t : Fin cfg0.N) (q : Fin 512) (d : Fin 1024) : (outsAt0 m c t.val t.isLt).2.2 (ix2 q d) = err (iblk m c 0 t) (iblk m c 1 t) (iblk m c 2 t) (iblk m c 3 t) q d * scale := by
  by_cases h : t.val % 8 = 0
  · have key := narrow_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) ((hcond0_0 t).mpr h) q d
    rw [outsAt0_A m c t h]
    with_reducible exact key
  · have key := narrow_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (outsAt0 m c (t.val - 1) (Nat.lt_of_le_of_lt (Nat.sub_le _ _) t.isLt)).2.1 (fun h' => h ((hcond0_0 t).mp h')) q d
    rw [outsAt0_B m c t h]
    with_reducible exact key

/-- The squares kept after the first point. -/
theorem acc_first (t : Fin cfg0.N) (h : t.val % 8 = 0) (z : Fin 8 × Fin 128) :
    (outsAt0 m c t.val t.isLt).2.1 (ix2 z.1 z.2) = 0 + squares (iblk m c 0 t) (iblk m c 1 t) (iblk m c 2 t) (iblk m c 3 t) := by
  have key := sq_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) ((hcond0_0 t).mpr h) z.1 z.2
  rw [outsAt0_A m c t h]
  with_reducible exact key

/-- The squares kept after a later point. -/
theorem acc_next (t : Fin cfg0.N) (h : ¬t.val % 8 = 0) (z : Fin 8 × Fin 128) :
    (outsAt0 m c t.val t.isLt).2.1 (ix2 z.1 z.2) = (outsAt0 m c (t.val - 1) (Nat.lt_of_le_of_lt (Nat.sub_le _ _) t.isLt)).2.1 (ix2 z.1 z.2) + squares (iblk m c 0 t) (iblk m c 1 t) (iblk m c 2 t) (iblk m c 3 t) := by
  have key := sq_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (outsAt0 m c (t.val - 1) (Nat.lt_of_le_of_lt (Nat.sub_le _ _) t.isLt)).2.1 (fun h' => h ((hcond0_0 t).mp h')) z.1 z.2
  rw [outsAt0_B m c t h]
  with_reducible exact key

/-- After the last point they are the sum of the points' parts. -/
theorem acc_last (t : Fin cfg0.N) (ht : t.val + 1 = cfg0.N) (z : Fin 8 × Fin 128) :
    (outsAt0 m c t.val t.isLt).2.1 (ix2 z.1 z.2) = ∑ p : Fin cfg0.N, squares (iblk m c 0 p) (iblk m c 1 p) (iblk m c 2 p) (iblk m c 3 p) := by
  have h := Pipeline.eq_sum_fin_of_reset_step_apply_last (fun n h (z : Fin 8 × Fin 128) => (outsAt0 m c n h).2.1 (ix2 z.1 z.2)) 8 (fun _ => (0 : EReal))
    (fun p _ => squares (iblk m c 0 p) (iblk m c 1 p) (iblk m c 2 p) (iblk m c 3 p))
    (fun t h z => acc_first m c t h z) (fun t h z => acc_next m c t h z) (le_of_eq N_0) t ht z
  rwa [zero_add] at h

/-! ## The results -/

/-- The step's error: the activation times the weight, plus the residual, minus the target. -/
def diff (x : FVec Ideal S4096x1024 .f32) (a : FVec Ideal S4096x2816 .f32) (w : FVec Ideal S2816x1024 .f32) (e : FVec Ideal S4096x1024 .f32) (k : Fin 4096) (d : Fin 1024) : EReal :=
  (∑ l : Fin 2816, (a (ix2 k l) : EReal) * w (ix2 l d)) + x (ix2 k d) - e (ix2 k d)

/-- The sum of its squares. -/
def total (x : FVec Ideal S4096x1024 .f32) (a : FVec Ideal S4096x2816 .f32) (w : FVec Ideal S2816x1024 .f32) (e : FVec Ideal S4096x1024 .f32) : EReal :=
  ∑ k : Fin 4096, ∑ d : Fin 1024, diff x a w e k d * diff x a w e k d

/-- A tile's error is the step's. -/
theorem err_eq (t : Fin cfg0.N) (q : Fin 512) (hl : t.val * 512 + q.val < 4096) (d : Fin 1024) :
    err (iblk m c 0 t) (iblk m c 1 t) (iblk m c 2 t) (iblk m c 3 t) q d = diff (m (c, Proc.tc.devRef main_arg0)) (m (c, Proc.tc.devRef main_arg1)) (m (c, Proc.tc.devRef main_arg2)) (m (c, Proc.tc.devRef main_arg3)) ⟨t.val * 512 + q.val, hl⟩ d := by
  have e0 : ∀ j r, iblk m c 0 t (ix3 j q r) = V m c main_v2 (ix3 j ⟨t.val * 512 + q.val, hl⟩ r) := fun j r => read_0 t q hl _ j r
  have e1 : ∀ j r, iblk m c 1 t (ix3 j r d) = V m c main_v4 (ix3 j r d) := fun j r => read_1 t d _ j r
  have e2 : iblk m c 2 t (ix2 q d) = (m (c, Proc.tc.devRef main_arg0) : FVec Ideal S4096x1024 .f32) (ix2 ⟨t.val * 512 + q.val, hl⟩ d) := by
    rw [← V_x m c]; exact read_2 t q d hl _
  have e3 : iblk m c 3 t (ix2 q d) = (m (c, Proc.tc.devRef main_arg3) : FVec Ideal S4096x1024 .f32) (ix2 ⟨t.val * 512 + q.val, hl⟩ d) := by
    rw [← V_target m c]; exact read_3 t q d hl _
  unfold err prod diff
  rw [e2, e3, ← Fin.sum_univ_four (fun j => shard (iblk m c 0 t) (iblk m c 1 t) j q d)]
  unfold shard
  congr 2
  refine Fin.sum_mul_add_congr (S := 4) (fun j r hl => ?_)
  rw [e0, e1, V_act, V_w]
  rfl

/-- The points' sums of squares are the whole sum. -/
theorem squares_eq : ∑ p : Fin cfg0.N, squares (iblk m c 0 p) (iblk m c 1 p) (iblk m c 2 p) (iblk m c 3 p) = total (m (c, Proc.tc.devRef main_arg0)) (m (c, Proc.tc.devRef main_arg1)) (m (c, Proc.tc.devRef main_arg2)) (m (c, Proc.tc.devRef main_arg3)) := by
  unfold squares total
  refine Fin.sum_mul_add_congr (S := 8) (fun t q hl => ?_)
  exact Finset.sum_congr rfl fun d _ => by rw [err_eq m c t q hl]

/-- The launch's first result is the scaled error. -/
theorem result_dy : (dats m 0 c).arrAt 4 cfg0.N = (fun i => diff (m (c, Proc.tc.devRef main_arg0)) (m (c, Proc.tc.devRef main_arg1)) (m (c, Proc.tc.devRef main_arg2)) (m (c, Proc.tc.devRef main_arg3)) (i 0) (i 1) * scale : FVec Ideal S4096x1024 .f32) := by
  refine (dats m 0 c).arrAt_eq_of_covers 4 _ (by decide +kernel) fun t hf y => ?_
  obtain ⟨q, d, rfl⟩ : ∃ (q : Fin 512) (d : Fin 1024), y = ix2 q d := ⟨y 0, y 1, by funext k; fin_cases k <;> rfl⟩
  have hl : t.val * 512 + q.val < 4096 := by have h8 : t.val < 8 := t.isLt.trans_eq N_0; omega
  blk_simp
  have he : (win0_4.blk t).view.emb (ix2 q d) = ix2 ⟨t.val * 512 + q.val, hl⟩ d := by
    blk_ext [idx4 t]
  rw [after0_4, he]
  exact (out_dy m c t q d).trans (congrArg (fun e : EReal => e * scale) (err_eq m c t q hl d))

/-- The third is the first in the narrow format. -/
theorem result_narrow : (dats m 0 c).arrAt 6 cfg0.N = (fun i => diff (m (c, Proc.tc.devRef main_arg0)) (m (c, Proc.tc.devRef main_arg1)) (m (c, Proc.tc.devRef main_arg2)) (m (c, Proc.tc.devRef main_arg3)) (i 0) (i 1) * scale : FVec Ideal S4096x1024 .bf16) := by
  refine (dats m 0 c).arrAt_eq_of_covers 6 _ (by decide +kernel) fun t hf y => ?_
  obtain ⟨q, d, rfl⟩ : ∃ (q : Fin 512) (d : Fin 1024), y = ix2 q d := ⟨y 0, y 1, by funext k; fin_cases k <;> rfl⟩
  have hl : t.val * 512 + q.val < 4096 := by have h8 : t.val < 8 := t.isLt.trans_eq N_0; omega
  blk_simp
  have he : (win0_6.blk t).view.emb (ix2 q d) = ix2 ⟨t.val * 512 + q.val, hl⟩ d := by
    blk_ext [idx6 t]
  rw [after0_6, he]
  exact (out_narrow m c t q d).trans (congrArg (fun e : EReal => e * scale) (err_eq m c t q hl d))

/-- The second is the sum of the squared errors, at every place of its block. -/
theorem result_sq : (dats m 0 c).arrAt 5 cfg0.N = (fun _ => total (m (c, Proc.tc.devRef main_arg0)) (m (c, Proc.tc.devRef main_arg1)) (m (c, Proc.tc.devRef main_arg2)) (m (c, Proc.tc.devRef main_arg3)) : FVec Ideal S8x128 .f32) := by
  refine (dats m 0 c).arrAt_eq_of_covers 5 _ (by decide +kernel) fun t hf y => ?_
  have h7 : t.val % 8 = 7 := (flush0_5 t).mp hf
  have ht : t.val + 1 = cfg0.N := by have h8 : t.val < 8 := t.isLt.trans_eq N_0; exact (show t.val + 1 = 8 by omega).trans N_0.symm
  obtain ⟨a, b, rfl⟩ : ∃ (a : Fin 8) (b : Fin 128), y = ix2 a b := ⟨y 0, y 1, by funext k; fin_cases k <;> rfl⟩
  blk_simp
  rw [after0_5]
  exact (acc_last m c t ht (a, b)).trans (squares_eq m c)

/-! ## The reference -/

section Reference

open Cert.LossReferenceIdeal.Read

/-- The launch's scale is one part in 1024. -/
theorem scale_val : scale = ((1 / 1024 : ℝ) : EReal) := by
  unfold scale
  simp [Ideal.ofBits, Ideal.ieee, -EReal.coe_mul]; norm_num

/-- A half. -/
theorem half_val : Ideal.ofBits .f32 0x3F000000#32 = ((1 / 2 : ℝ) : EReal) := by
  simp [Ideal.ofBits, Ideal.ieee, -EReal.coe_mul]; norm_num

/-- One. -/
theorem one_val : Ideal.ofBits .f32 0x3F800000#32 = ((1 : ℝ) : EReal) := by
  simp [Ideal.ofBits, Ideal.ieee, -EReal.coe_mul]; norm_num

/-- Two. -/
theorem two_val : Ideal.ofBits .f32 0x40000000#32 = ((2 : ℝ) : EReal) := by
  simp [Ideal.ofBits, Ideal.ieee, -EReal.coe_mul]; norm_num

variable (x : FVec Ideal ⟨2, ![4096, 1024]⟩ .f32) (a : FVec Ideal ⟨2, ![4096, 2816]⟩ .f32) (w : FVec Ideal ⟨2, ![2816, 1024]⟩ .f32) (e : FVec Ideal ⟨2, ![4096, 1024]⟩ .f32)

/-- The reference's error at a place. -/
theorem diff_at (i : (⟨2, ![4096, 1024]⟩ : Shape).Idx) : val_main_v2 (F := Ideal) x a w e i = diff x a w e (i 0) (i 1) := by
  rw [val_main_v2_apply, val_main_v1_apply, val_main_v0_apply]
  unfold diff
  have h : x i + ∑ k : Fin 2816, a (lidx_main_v0 i k) * w (ridx_main_v0 i k) = (∑ l : Fin 2816, (a (ix2 (i 0) l) : EReal) * w (ix2 l (i 1))) + x (ix2 (i 0) (i 1)) := by
    refine (add_comm _ _).trans ?_
    congr 1
    · refine Finset.sum_congr rfl fun k _ => ?_
      congr 1 <;> blk_ext []
    · exact congrArg x (by blk_ext [])
  exact congrArg₂ (fun p q : EReal => p - q) h (congrArg e (by blk_ext []))

/-- The factor the loss's mean and square leave on the error, but for the two. -/
theorem factor_at (i : (⟨2, ![4096, 1024]⟩ : Shape).Idx) : val_main_v15 (F := Ideal) i = ((1 / 2048 : ℝ) : EReal) := by
  rw [val_main_v15_apply, val_main_v14_apply, val_main_v12_apply, val_main_v11_apply, val_main_v13_apply]
  show Ideal.div (Ideal.ofBits .f32 0x3F000000#32 * Ideal.ofBits .f32 0x3F800000#32) (Ideal.ofBits .f32 0x44800000#32) = _
  rw [half_val, one_val, width_val, Ideal.div_coe (by norm_num), ← EReal.coe_mul, ← EReal.coe_mul]
  norm_num

/-- The reference's gradient is the launch's first result. -/
theorem dy_ref : val_main_v16 (F := Ideal) x a w e = (fun i => diff x a w e (i 0) (i 1) * scale : FVec Ideal ⟨2, ![4096, 1024]⟩ .f32) := by
  funext i
  rw [val_main_v16_apply, factor_at, val_main_v5_apply, val_main_v4_apply, diff_at]
  show ((1 / 2048 : ℝ) : EReal) * (Ideal.ofBits .f32 0x40000000#32 * diff x a w e (i 0) (i 1)) = diff x a w e (i 0) (i 1) * scale
  rw [two_val, scale_val, ← mul_assoc, ← EReal.coe_mul, mul_comm]
  norm_num

/-- In the narrow format it is the third. -/
theorem narrow_ref : val_main_v21 (F := Ideal) x a w e = (fun i => diff x a w e (i 0) (i 1) * scale : FVec Ideal ⟨2, ![4096, 1024]⟩ .bf16) := by
  funext i
  exact congrFun (dy_ref x a w e) i

/-- The reference's sum of squares is the second. -/
theorem sq_ref : val_main_v20 (F := Ideal) x a w e = (fun _ => total x a w e : FVec Ideal ⟨2, ![8, 128]⟩ .f32) := by
  funext i
  have hz : ∀ j, val_main_cst_7 (F := Ideal) j = 0 := fun _ => zero_val
  rw [val_main_v20_apply, val_main_v19_apply, hz, zero_add, sum_idx2]
  unfold total
  refine Finset.sum_congr rfl fun k _ => Finset.sum_congr rfl fun d _ => ?_
  have h : val_main_v17 (F := Ideal) x a w e (ix2 k d) = diff x a w e k d := diff_at x a w e (ix2 k d)
  rw [val_main_v18_apply, h]
  rfl

end Reference

end Cert.LossVals

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.WeightIdeal
public import proofs.«01_k».proof.Proof.Gen.WeightIdeal.Skeleton
public import proofs.«01_k».proof.Proof.Gen.WeightIdeal.Launch
public import proofs.«01_k».proof.Proof.Gen.WeightIdeal.Points
public import proofs.«01_k».proof.Proof.Gen.WeightIdeal.Frame
public import proofs.«01_k».proof.Proof.Gen.WeightIdeal.Value
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActIdeal.Value
public import proofs.«01_k».proof.Proof.Gen.RowsIdeal
public import proofs.«01_k».proof.Proof.Gen.RowsIdeal.Skeleton
public import proofs.«01_k».proof.Proof.Gen.RowsIdeal.Launch
public import proofs.«01_k».proof.Proof.Gen.RowsIdeal.Points
public import proofs.«01_k».proof.Proof.Gen.RowsIdeal.Frame
public import proofs.«01_k».proof.Proof.Gen.RowsIdeal.Value
public import proofs.«01_k».proof.Proof.Gen.Weight
public import proofs.«01_k».proof.Proof.Gen.Weight.Frame
public import proofs.«01_k».proof.Proof.Gen.Act
public import proofs.«01_k».proof.Proof.Gen.Act.Frame
public import proofs.«01_k».proof.Proof.Gen.Rows
public import proofs.«01_k».proof.Proof.Gen.Rows.Frame
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.GateReferenceIdeal
public import proofs.«01_k».proof.Proof.Gen.GateReferenceIdeal.Run
public import proofs.«01_k».proof.Proof.Gen.GateReferenceIdeal.Read
public import proofs.«01_k».proof.Proof.Gen.ActReferenceIdeal
public import proofs.«01_k».proof.Proof.Gen.ActReferenceIdeal.Run
public import proofs.«01_k».proof.Proof.Gen.ActReferenceIdeal.Read
public import proofs.«01_k».proof.Proof.Gen.RowsReferenceIdeal
public import proofs.«01_k».proof.Proof.Gen.RowsReferenceIdeal.Run
public import proofs.«01_k».proof.Proof.Gen.RowsReferenceIdeal.Read
public import proofs.«01_k».proof.Proof.Gen.Pre_finite_act
public import proofs.«01_k».proof.Proof.Gen.Pre_finite_scores
public import proofs.«01_k».proof.Proof.Gen.OddMix
public import proofs.«01_k».proof.Proof.Gen.OddMix.Frame
public import proofs.«01_k».proof.Proof.Gen.OddMixIdeal
public import proofs.«01_k».proof.Proof.Gen.OddMixIdeal.Skeleton
public import proofs.«01_k».proof.Proof.Gen.OddMixIdeal.Launch
public import proofs.«01_k».proof.Proof.Gen.OddMixIdeal.Points
public import proofs.«01_k».proof.Proof.Gen.OddMixIdeal.Frame
public import proofs.«01_k».proof.Proof.Gen.OddMixIdeal.Value
public import proofs.«01_k».proof.Proof.Gen.OddMixReferenceIdeal
public import proofs.«01_k».proof.Proof.Gen.OddMixReferenceIdeal.Run
public import proofs.«01_k».proof.Proof.Gen.OddMixReferenceIdeal.Read
public import proofs.«01_k».proof.Proof.Gen.EvenIn
public import proofs.«01_k».proof.Proof.Gen.EvenIn.Frame
public import proofs.«01_k».proof.Proof.Gen.EvenInIdeal
public import proofs.«01_k».proof.Proof.Gen.EvenInIdeal.Skeleton
public import proofs.«01_k».proof.Proof.Gen.EvenInIdeal.Launch
public import proofs.«01_k».proof.Proof.Gen.EvenInIdeal.Points
public import proofs.«01_k».proof.Proof.Gen.EvenInIdeal.Frame
public import proofs.«01_k».proof.Proof.Gen.EvenInIdeal.Value
public import proofs.«01_k».proof.Proof.Gen.EvenInReferenceIdeal
public import proofs.«01_k».proof.Proof.Gen.EvenInReferenceIdeal.Run
public import proofs.«01_k».proof.Proof.Gen.EvenInReferenceIdeal.Read
public import proofs.«01_k».proof.Proof.Gen.OddIn
public import proofs.«01_k».proof.Proof.Gen.OddIn.Frame
public import proofs.«01_k».proof.Proof.Gen.OddInIdeal
public import proofs.«01_k».proof.Proof.Gen.OddInIdeal.Skeleton
public import proofs.«01_k».proof.Proof.Gen.OddInIdeal.Launch
public import proofs.«01_k».proof.Proof.Gen.OddInIdeal.Points
public import proofs.«01_k».proof.Proof.Gen.OddInIdeal.Frame
public import proofs.«01_k».proof.Proof.Gen.OddInIdeal.Value
public import proofs.«01_k».proof.Proof.Gen.OddInReferenceIdeal
public import proofs.«01_k».proof.Proof.Gen.OddInReferenceIdeal.Run
public import proofs.«01_k».proof.Proof.Gen.OddInReferenceIdeal.Read
public import proofs.«01_k».proof.Proof.Gen.Loss
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.Attention
public import proofs.«01_k».proof.Proof.Gen.Attention.Frame
public import proofs.«01_k».proof.Proof.Gen.AttentionIdeal
public import proofs.«01_k».proof.Proof.Gen.AttentionIdeal.Skeleton
public import proofs.«01_k».proof.Proof.Gen.AttentionIdeal.Launch
public import proofs.«01_k».proof.Proof.Gen.AttentionIdeal.Points
public import proofs.«01_k».proof.Proof.Gen.AttentionIdeal.Frame
public import proofs.«01_k».proof.Proof.Gen.AttentionIdeal.Value
public import proofs.«01_k».proof.Proof.Gen.AttentionReferenceIdeal
public import proofs.«01_k».proof.Proof.Gen.AttentionReferenceIdeal.Run
public import proofs.«01_k».proof.Proof.Gen.AttentionReferenceIdeal.Read
public import proofs.«01_k».proof.Proof.Gen.Up
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.Down
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.ResidualReferenceIdeal
public import proofs.«01_k».proof.Proof.Gen.ResidualReferenceIdeal.Run
public import proofs.«01_k».proof.Proof.Gen.ResidualReferenceIdeal.Read
public import proofs.«01_k».proof.Proof.Gen.InRows
public import proofs.«01_k».proof.Proof.Gen.InRows.Frame
public import proofs.«01_k».proof.Proof.Gen.InRowsIdeal
public import proofs.«01_k».proof.Proof.Gen.InRowsIdeal.Skeleton
public import proofs.«01_k».proof.Proof.Gen.InRowsIdeal.Launch
public import proofs.«01_k».proof.Proof.Gen.InRowsIdeal.Points
public import proofs.«01_k».proof.Proof.Gen.InRowsIdeal.Frame
public import proofs.«01_k».proof.Proof.Gen.InRowsIdeal.Value
public import proofs.«01_k».proof.Proof.Gen.InRowsReferenceIdeal
public import proofs.«01_k».proof.Proof.Gen.InRowsReferenceIdeal.Run
public import proofs.«01_k».proof.Proof.Gen.InRowsReferenceIdeal.Read
public import proofs.«01_k».proof.Proof.Gen.InWeight
public import proofs.«01_k».proof.Proof.Gen.InWeight.Frame
public import proofs.«01_k».proof.Proof.Gen.InWeightIdeal
public import proofs.«01_k».proof.Proof.Gen.InWeightIdeal.Skeleton
public import proofs.«01_k».proof.Proof.Gen.InWeightIdeal.Launch
public import proofs.«01_k».proof.Proof.Gen.InWeightIdeal.Points
public import proofs.«01_k».proof.Proof.Gen.InWeightIdeal.Frame
public import proofs.«01_k».proof.Proof.Gen.InWeightIdeal.Value
public import proofs.«01_k».proof.Proof.Gen.InWeightReferenceIdeal
public import proofs.«01_k».proof.Proof.Gen.InWeightReferenceIdeal.Run
public import proofs.«01_k».proof.Proof.Gen.InWeightReferenceIdeal.Read
public import proofs.«01_k».proof.Proof.Gen.OddRows
public import proofs.«01_k».proof.Proof.Gen.OddRows.Frame
public import proofs.«01_k».proof.Proof.Gen.OddRowsIdeal
public import proofs.«01_k».proof.Proof.Gen.OddRowsIdeal.Skeleton
public import proofs.«01_k».proof.Proof.Gen.OddRowsIdeal.Launch
public import proofs.«01_k».proof.Proof.Gen.OddRowsIdeal.Points
public import proofs.«01_k».proof.Proof.Gen.OddRowsIdeal.Frame
public import proofs.«01_k».proof.Proof.Gen.OddRowsIdeal.Value
public import proofs.«01_k».proof.Proof.Gen.OddRowsReferenceIdeal
public import proofs.«01_k».proof.Proof.Gen.OddRowsReferenceIdeal.Run
public import proofs.«01_k».proof.Proof.Gen.OddRowsReferenceIdeal.Read
public import proofs.«01_k».proof.Proof.Gen.OddWeight
public import proofs.«01_k».proof.Proof.Gen.OddWeight.Frame
public import proofs.«01_k».proof.Proof.Gen.OddWeightIdeal
public import proofs.«01_k».proof.Proof.Gen.OddWeightIdeal.Skeleton
public import proofs.«01_k».proof.Proof.Gen.OddWeightIdeal.Launch
public import proofs.«01_k».proof.Proof.Gen.OddWeightIdeal.Points
public import proofs.«01_k».proof.Proof.Gen.OddWeightIdeal.Frame
public import proofs.«01_k».proof.Proof.Gen.OddWeightIdeal.Value
public import proofs.«01_k».proof.Proof.Gen.OddWeightReferenceIdeal
public import proofs.«01_k».proof.Proof.Gen.OddWeightReferenceIdeal.Run
public import proofs.«01_k».proof.Proof.Gen.OddWeightReferenceIdeal.Read
public import proofs.«01_k».proof.Proof.Gen.OutWeight
public import proofs.«01_k».proof.Proof.Gen.OutWeight.Frame
public import proofs.«01_k».proof.Proof.Gen.OutWeightIdeal
public import proofs.«01_k».proof.Proof.Gen.OutWeightIdeal.Skeleton
public import proofs.«01_k».proof.Proof.Gen.OutWeightIdeal.Launch
public import proofs.«01_k».proof.Proof.Gen.OutWeightIdeal.Points
public import proofs.«01_k».proof.Proof.Gen.OutWeightIdeal.Frame
public import proofs.«01_k».proof.Proof.Gen.OutWeightIdeal.Value
public import proofs.«01_k».proof.Proof.Gen.OutWeightReferenceIdeal
public import proofs.«01_k».proof.Proof.Gen.OutWeightReferenceIdeal.Run
public import proofs.«01_k».proof.Proof.Gen.OutWeightReferenceIdeal.Read
public import proofs.«01_k».proof.Proof.Gen.OutMix
public import proofs.«01_k».proof.Proof.Gen.OutMix.Frame
public import proofs.«01_k».proof.Proof.Gen.OutMixIdeal
public import proofs.«01_k».proof.Proof.Gen.OutMixIdeal.Skeleton
public import proofs.«01_k».proof.Proof.Gen.OutMixIdeal.Launch
public import proofs.«01_k».proof.Proof.Gen.OutMixIdeal.Points
public import proofs.«01_k».proof.Proof.Gen.OutMixIdeal.Frame
public import proofs.«01_k».proof.Proof.Gen.OutMixIdeal.Value
public import proofs.«01_k».proof.Proof.Gen.OutMixReferenceIdeal
public import proofs.«01_k».proof.Proof.Gen.OutMixReferenceIdeal.Run
public import proofs.«01_k».proof.Proof.Gen.OutMixReferenceIdeal.Read
public import proofs.«01_k».proof.Proof.Gen.Out
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Finite
public import proofs.«01_k».proof.Proof.Launch
public import proofs.«01_k».proof.Proof.Grad
public import proofs.«01_k».proof.Proof.Grads
public import proofs.«01_k».proof.Proof.GradRefs
public import proofs.«01_k».proof.Proof.ActGrads
public import proofs.«01_k».proof.Proof.ActRefs
public import proofs.«01_k».proof.Proof.RowsGrads
public import proofs.«01_k».proof.Proof.RowsRefs
public import proofs.«01_k».proof.Proof.UpVals
public import proofs.«01_k».proof.Proof.DownVals
public import proofs.«01_k».proof.Proof.InGrads
public import proofs.«01_k».proof.Proof.InRowsGrads
public import proofs.«01_k».proof.Proof.InRowsRefs
public import proofs.«01_k».proof.Proof.OddGrads
public import proofs.«01_k».proof.Proof.OddRowsGrads
public import proofs.«01_k».proof.Proof.OddRowsRefs
public import proofs.«01_k».proof.Proof.OutGrads
public import proofs.«01_k».proof.Proof.MixGrads
public import proofs.«01_k».proof.Proof.OutVals
public import proofs.«01_k».proof.Proof.OddMixGrads
public import proofs.«01_k».proof.Proof.EvenInVals
public import proofs.«01_k».proof.Proof.OddInVals
public import proofs.«01_k».proof.Proof.AttnFwdVals
public import proofs.«01_k».proof.Proof.LossVals
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The reference ends with its arguments unchanged and every semaphore at zero (it has none). -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The constants that stand for exact numbers are named as the idealization says. -/
theorem constants : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl,
    IdealRules.named_const.statement Cert.KernelIdeal.κ "scale_log2e" .f32 0x3DD53B95#32 (((Real.sqrt 192)⁻¹ * (Real.log 2)⁻¹ : ℝ) : EReal) rfl,
    IdealRules.named_const.statement Cert.KernelIdeal.κ "scale" .f32 0x3D93CD3A#32 (((Real.sqrt 192)⁻¹ : ℝ) : EReal) rfl⟩

/-- The kernel's three result arrays are the reference's, from the same finite arguments. -/
theorem results (m : (ℓ : Loc Cert.KernelIdeal.nD Cert.KernelIdeal.τ Cert.KernelIdeal.sig) → Buf (Elt Ideal) ℓ) (hm : Cert.Pre_KernelIdeal_finite m)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v71 m' c = (Cert.KernelIdeal.Gen.dats m 0 c).arrAt 6 Cert.KernelIdeal.cfg0.N
      ∧ Cert.ReferenceIdeal.Value.res_main_v74 m' c = (Cert.KernelIdeal.Gen.dats m 0 c).arrAt 7 Cert.KernelIdeal.cfg0.N
      ∧ Cert.ReferenceIdeal.Value.res_main_v77 m' c = (Cert.KernelIdeal.Gen.dats m 0 c).arrAt 8 Cert.KernelIdeal.cfg0.N := by
  obtain ⟨⟨qr, hq⟩, ⟨kr, hk⟩, ⟨vr, hv⟩, ⟨gr, hg⟩⟩ := Cert.Pre_finite.Meaning.reals _ _ _ _ (hm c)
  rw [Cert.ReferenceIdeal.Read.val_main_v71_eq m' c, Cert.ReferenceIdeal.Read.val_main_v74_eq m' c, Cert.ReferenceIdeal.Read.val_main_v77_eq m' c, h0, h1, h2, h3]
  exact ⟨(Cert.KernelIdeal.Launch.dq_at m c hq hk hv hg _ (Cert.ReferenceIdeal.Grad.dq_eq hq hk hv hg)).symm,
    (Cert.KernelIdeal.Launch.dk_at m c hq hk hv hg _ (Cert.ReferenceIdeal.Grad.dk_eq hq hk hv hg)).symm,
    (Cert.KernelIdeal.Launch.dv_at m c hq hk hv hg _ (Cert.ReferenceIdeal.Grad.dv_eq hq hk hg)).symm⟩

/-- At exact arithmetic the kernel and the reference, run from the same finite arguments, end with the same results. -/
theorem same_results : Cert.algebraic_KernelIdeal_ReferenceIdeal_pre_finite := by
  intro m g m' g' hm hargs
  refine ⟨fun c => (Cert.KernelIdeal.Gen.dats m 0 c).arrAt 6 Cert.KernelIdeal.cfg0.N, fun c => (Cert.KernelIdeal.Gen.dats m 0 c).arrAt 7 Cert.KernelIdeal.cfg0.N,
    fun c => (Cert.KernelIdeal.Gen.dats m 0 c).arrAt 8 Cert.KernelIdeal.cfg0.N, Cert.KernelIdeal.Value.run_blocks m g, ?_⟩
  refine (θ_run Cert.ReferenceIdeal.defs _ _).mono (fun r h c => ?_) (Cert.ReferenceIdeal.Value.run (F := Ideal) m' g')
  obtain ⟨e0, e1, e2, k⟩ := h c
  obtain ⟨a0, a1, a2, a3⟩ := hargs c
  obtain ⟨r0, r1, r2⟩ := results m hm m' c a0 a1 a2 a3
  exact ⟨e0.trans r0, e1.trans r1, e2.trans r2, k⟩

/-- The reference for the second weight's gradient ends with its arguments unchanged and every semaphore at zero (it has none). -/
theorem frame_Down : Cert.quiescent_DownReferenceIdeal := fun m ρ _ =>
  (θ_run Cert.DownReferenceIdeal.defs _ _).mono (fun r h => ⟨fun c => (h c).2, sem_eq_zero_of_no_sems (by decide) r.2⟩)
    (Cert.DownReferenceIdeal.Value.run (F := Ideal) m ρ)

/-- The reference for the first weights' gradients ends with its arguments unchanged and every semaphore at zero (it has none). -/
theorem frame_Gate : Cert.quiescent_GateReferenceIdeal := fun m ρ _ =>
  (θ_run Cert.GateReferenceIdeal.defs _ _).mono (fun r h => ⟨fun c => (h c).2, sem_eq_zero_of_no_sems (by decide) r.2⟩)
    (Cert.GateReferenceIdeal.Value.run (F := Ideal) m ρ)

/-- The reference for the activation's gradients ends with its arguments unchanged and every semaphore at zero (it has none). -/
theorem frame_Act : Cert.quiescent_ActReferenceIdeal := fun m ρ _ =>
  (θ_run Cert.ActReferenceIdeal.defs _ _).mono (fun r h => ⟨fun c => (h c).2.2, sem_eq_zero_of_no_sems (by decide) r.2⟩)
    (Cert.ActReferenceIdeal.Value.run (F := Ideal) m ρ)

/-- The reference for the rows' gradient ends with its arguments unchanged and every semaphore at zero (it has none). -/
theorem frame_Rows : Cert.quiescent_RowsReferenceIdeal := fun m ρ _ =>
  (θ_run Cert.RowsReferenceIdeal.defs _ _).mono (fun r h => ⟨fun c => (h c).2.2.2, sem_eq_zero_of_no_sems (by decide) r.2⟩)
    (Cert.RowsReferenceIdeal.Value.run (F := Ideal) m ρ)

/-- At exact arithmetic the launch's gradient of the second weight is the reference's. -/
theorem same_down : Cert.algebraic_WeightIdeal_DownReferenceIdeal := by
  intro m g m' g' hm hargs
  refine ⟨fun c => (Cert.WeightIdeal.Gen.dats m 0 c).arrAt 2 Cert.WeightIdeal.cfg0.N, Cert.WeightIdeal.Value.run_blocks m g, ?_⟩
  refine (θ_run Cert.DownReferenceIdeal.defs _ _).mono (fun r h c => ?_) (Cert.DownReferenceIdeal.Value.run (F := Ideal) m' g')
  obtain ⟨e0, k⟩ := h c
  obtain ⟨a0, a1⟩ := hargs c
  rw [Cert.DownReferenceIdeal.Read.val_main_v5_eq, a0, a1] at e0
  exact ⟨e0.trans ((Cert.GradRefs.down _ _).trans (Cert.WeightIdeal.Grads.result m c).symm), k⟩

/-- At exact arithmetic the launch's gradient of a first weight is the reference's. -/
theorem same_gate : Cert.algebraic_WeightIdeal_GateReferenceIdeal := by
  intro m g m' g' hm hargs
  refine ⟨fun c => (Cert.WeightIdeal.Gen.dats m 0 c).arrAt 2 Cert.WeightIdeal.cfg0.N, Cert.WeightIdeal.Value.run_blocks m g, ?_⟩
  refine (θ_run Cert.GateReferenceIdeal.defs _ _).mono (fun r h c => ?_) (Cert.GateReferenceIdeal.Value.run (F := Ideal) m' g')
  obtain ⟨e0, k⟩ := h c
  obtain ⟨a0, a1⟩ := hargs c
  rw [Cert.GateReferenceIdeal.Read.val_main_v6_eq, a0, a1] at e0
  exact ⟨e0.trans ((Cert.GradRefs.gate _ _).trans (Cert.WeightIdeal.Grads.result m c).symm), k⟩

/-- At exact arithmetic the launch's gradients of the activation's two arguments are the reference's, from finite arguments. -/
theorem same_act : Cert.algebraic_ActIdeal_ActReferenceIdeal_pre_finite_act := by
  intro m g m' g' hm hargs
  refine ⟨fun c => (Cert.ActIdeal.Gen.dats m 0 c).arrAt 4 Cert.ActIdeal.cfg0.N, fun c => (Cert.ActIdeal.Gen.dats m 0 c).arrAt 5 Cert.ActIdeal.cfg0.N,
    Cert.ActIdeal.Value.run_blocks m g, ?_⟩
  refine (θ_run Cert.ActReferenceIdeal.defs _ _).mono (fun r h c => ?_) (Cert.ActReferenceIdeal.Value.run (F := Ideal) m' g')
  obtain ⟨e0, e1, k⟩ := h c
  obtain ⟨a0, a1, a2, a3⟩ := hargs c
  obtain ⟨⟨ru, hu⟩, ⟨rw', hw⟩, ⟨rc, hc⟩⟩ := Cert.Pre_finite_act.Meaning.reals _ _ _ _ (hm c)
  rw [Cert.ActReferenceIdeal.Read.val_main_v9_eq, a0, a1, a2, a3] at e0
  rw [Cert.ActReferenceIdeal.Read.val_main_v12_eq, a0, a2, a3] at e1
  exact ⟨e0.trans ((Cert.ActRefs.gate_ref _ _ _ _ ru rw' rc hu hw hc).trans (Cert.ActIdeal.Grads.result_gate m c).symm),
    e1.trans ((Cert.ActRefs.lin_ref _ _ _).trans (Cert.ActIdeal.Grads.result_lin m c).symm), k⟩

/-- At exact arithmetic the launch's gradients of the rows and of the gain are the reference's. -/
theorem same_rows : Cert.algebraic_RowsIdeal_RowsReferenceIdeal := by
  intro m g m' g' hm hargs
  refine ⟨fun c => (Cert.RowsIdeal.Gen.dats m 0 c).arrAt 7 Cert.RowsIdeal.cfg0.N, fun c => (Cert.RowsIdeal.Gen.dats m 0 c).arrAt 8 Cert.RowsIdeal.cfg0.N,
    fun c => (Cert.RowsIdeal.Gen.dats m 0 c).arrAt 9 Cert.RowsIdeal.cfg0.N, Cert.RowsIdeal.Value.run_blocks m g, ?_⟩
  refine (θ_run Cert.RowsReferenceIdeal.defs _ _).mono (fun r h c => ?_) (Cert.RowsReferenceIdeal.Value.run (F := Ideal) m' g')
  obtain ⟨e0, e1, e2, k⟩ := h c
  obtain ⟨a0, a1, a2, a3, a4, a5, a6⟩ := hargs c
  rw [Cert.RowsReferenceIdeal.Read.val_main_v41_eq, a0, a1, a2, a3, a4, a5, a6] at e0
  rw [Cert.RowsReferenceIdeal.Read.val_main_v42_eq, a0, a2, a3, a4, a5] at e1
  rw [Cert.RowsReferenceIdeal.Read.val_main_v43_eq, a0, a1, a2, a3, a4, a5, a6] at e2
  exact ⟨e0.trans ((Cert.RowsRefs.dx_ref _ _ _ _ _ _ _).trans (Cert.RowsIdeal.Grads.result_rows m c).symm),
    e1.trans ((Cert.RowsRefs.dgain_ref _ _ _ _ _).trans (Cert.RowsIdeal.Grads.result_gain m c).symm),
    e2.trans ((Cert.RowsRefs.twin_ref _ _ _ _ _ _ _).trans (Cert.RowsIdeal.Grads.result_twin m c).symm), k⟩

/-- The reference for the first two products ends with its arguments unchanged and every semaphore at zero (it has none). -/
theorem frame_up : Cert.quiescent_UpReferenceIdeal := fun m ρ _ =>
  (θ_run Cert.UpReferenceIdeal.defs _ _).mono (fun r h => ⟨fun c => (h c).2.2.2, sem_eq_zero_of_no_sems (by decide) r.2⟩)
    (Cert.UpReferenceIdeal.Value.run (F := Ideal) m ρ)

/-- At exact arithmetic the two products and the activation are the reference's. -/
theorem same_up : Cert.algebraic_UpIdeal_UpReferenceIdeal := by
  intro m g m' g' hm hargs
  refine ⟨fun c => (Cert.UpIdeal.Gen.dats m 0 c).arrAt 3 Cert.UpIdeal.cfg0.N, fun c => (Cert.UpIdeal.Gen.dats m 0 c).arrAt 4 Cert.UpIdeal.cfg0.N, fun c => (Cert.UpIdeal.Gen.dats m 0 c).arrAt 5 Cert.UpIdeal.cfg0.N,
    Cert.UpIdeal.Value.run_blocks m g, ?_⟩
  refine (θ_run Cert.UpReferenceIdeal.defs _ _).mono (fun r h c => ?_) (Cert.UpReferenceIdeal.Value.run (F := Ideal) m' g')
  obtain ⟨e0, e1, e2, k⟩ := h c
  obtain ⟨a0, a1, a2⟩ := hargs c
  rw [Cert.UpReferenceIdeal.Read.val_main_v4_eq, a0, a1] at e0
  rw [Cert.UpReferenceIdeal.Read.val_main_v7_eq, a0, a2] at e1
  rw [Cert.UpReferenceIdeal.Read.val_main_v12_eq, a0, a1, a2] at e2
  exact ⟨e0.trans ((Cert.UpIdeal.Vals.gate_ref _ _).trans (Cert.UpIdeal.Vals.result_gate m c).symm),
    e1.trans ((Cert.UpIdeal.Vals.lin_ref _ _).trans (Cert.UpIdeal.Vals.result_lin m c).symm),
    e2.trans ((Cert.UpIdeal.Vals.act_ref _ _ _).trans (Cert.UpIdeal.Vals.result_act m c).symm), k⟩

/-- The reference for the second product of the SwiGLU ends with its arguments unchanged and every semaphore at zero (it has none). -/
theorem frame_residual : Cert.quiescent_ResidualReferenceIdeal := fun m ρ _ =>
  (θ_run Cert.ResidualReferenceIdeal.defs _ _).mono (fun r h => ⟨fun c => (h c).2.2, sem_eq_zero_of_no_sems (by decide) r.2⟩)
    (Cert.ResidualReferenceIdeal.Value.run (F := Ideal) m ρ)

/-- At exact arithmetic the residual rows and their norm are the reference's. -/
theorem same_residual : Cert.algebraic_DownIdeal_ResidualReferenceIdeal := by
  intro m g m' g' hm hargs
  refine ⟨fun c => (Cert.DownIdeal.Gen.dats m 0 c).arrAt 4 Cert.DownIdeal.cfg0.N, fun c => (Cert.DownIdeal.Gen.dats m 0 c).arrAt 5 Cert.DownIdeal.cfg0.N,
    Cert.DownIdeal.Value.run_blocks m g, ?_⟩
  refine (θ_run Cert.ResidualReferenceIdeal.defs _ _).mono (fun r h c => ?_) (Cert.ResidualReferenceIdeal.Value.run (F := Ideal) m' g')
  obtain ⟨e0, e1, k⟩ := h c
  obtain ⟨a0, a1, a2, a3⟩ := hargs c
  rw [Cert.ResidualReferenceIdeal.Read.val_main_v1_eq, a0, a1, a2] at e0
  rw [Cert.ResidualReferenceIdeal.Read.val_main_v15_eq, a0, a1, a2, a3] at e1
  exact ⟨e0.trans ((Cert.DownVals.sum_ref _ _ _).trans (Cert.DownVals.result_sum m c).symm),
    e1.trans ((Cert.DownVals.norm_ref _ _ _ _).trans (Cert.DownVals.result_norm m c).symm), k⟩

/-- The reference for the rows of the even layer's first product ends with its arguments unchanged and every semaphore at zero (it has none). -/
theorem frame_in_rows : Cert.quiescent_InRowsReferenceIdeal := fun m ρ _ =>
  (θ_run Cert.InRowsReferenceIdeal.defs _ _).mono (fun r h => ⟨fun c => (h c).2.2, sem_eq_zero_of_no_sems (by decide) r.2⟩)
    (Cert.InRowsReferenceIdeal.Value.run (F := Ideal) m ρ)

/-- At exact arithmetic the gradients of the even layer's rows and of its gain are the reference's. -/
theorem same_in_rows : Cert.algebraic_InRowsIdeal_InRowsReferenceIdeal := by
  intro m g m' g' hm hargs
  refine ⟨fun c => (Cert.InRowsIdeal.Gen.dats m 0 c).arrAt 5 Cert.InRowsIdeal.cfg0.N, fun c => (Cert.InRowsIdeal.Gen.dats m 0 c).arrAt 6 Cert.InRowsIdeal.cfg0.N,
    Cert.InRowsIdeal.Value.run_blocks m g, ?_⟩
  refine (θ_run Cert.InRowsReferenceIdeal.defs _ _).mono (fun r h c => ?_) (Cert.InRowsReferenceIdeal.Value.run (F := Ideal) m' g')
  obtain ⟨e0, e1, k⟩ := h c
  obtain ⟨a0, a1, a2, a3, a4⟩ := hargs c
  rw [Cert.InRowsReferenceIdeal.Read.val_main_v38_eq, a0, a1, a2, a3, a4] at e0
  rw [Cert.InRowsReferenceIdeal.Read.val_main_v39_eq, a0, a2, a3] at e1
  exact ⟨e0.trans ((Cert.InRowsRefs.dx_ref _ _ _ _ _).trans (Cert.InRows.result_rows m c).symm),
    e1.trans ((Cert.InRowsRefs.dgain_ref _ _ _).trans (Cert.InRows.result_gain m c).symm), k⟩

/-- The reference for the even layer's first weight ends with its arguments unchanged and every semaphore at zero (it has none). -/
theorem frame_in_weight : Cert.quiescent_InWeightReferenceIdeal := fun m ρ _ =>
  (θ_run Cert.InWeightReferenceIdeal.defs _ _).mono (fun r h => ⟨fun c => (h c).2, sem_eq_zero_of_no_sems (by decide) r.2⟩)
    (Cert.InWeightReferenceIdeal.Value.run (F := Ideal) m ρ)

/-- At exact arithmetic the gradient of the even layer's first weight is the reference's. -/
theorem same_in_weight : Cert.algebraic_InWeightIdeal_InWeightReferenceIdeal := by
  intro m g m' g' hm hargs
  refine ⟨fun c => (Cert.InWeightIdeal.Gen.dats m 0 c).arrAt 2 Cert.InWeightIdeal.cfg0.N,
    Cert.InWeightIdeal.Value.run_blocks m g, ?_⟩
  refine (θ_run Cert.InWeightReferenceIdeal.defs _ _).mono (fun r h c => ?_) (Cert.InWeightReferenceIdeal.Value.run (F := Ideal) m' g')
  obtain ⟨e0, k⟩ := h c
  obtain ⟨a0, a1⟩ := hargs c
  rw [Cert.InWeightReferenceIdeal.Read.val_main_v6_eq, a0, a1] at e0
  exact ⟨e0.trans ((Cert.InGrads.ref _ _).trans (Cert.InGrads.result m c).symm), k⟩

/-- The reference for the rows of the odd layer's first product ends with its arguments unchanged and every semaphore at zero (it has none). -/
theorem frame_odd_rows : Cert.quiescent_OddRowsReferenceIdeal := fun m ρ _ =>
  (θ_run Cert.OddRowsReferenceIdeal.defs _ _).mono (fun r h => ⟨fun c => (h c).2.2.2, sem_eq_zero_of_no_sems (by decide) r.2⟩)
    (Cert.OddRowsReferenceIdeal.Value.run (F := Ideal) m ρ)

/-- At exact arithmetic the gradients of the odd layer's rows and of its gain are the reference's. -/
theorem same_odd_rows : Cert.algebraic_OddRowsIdeal_OddRowsReferenceIdeal := by
  intro m g m' g' hm hargs
  refine ⟨fun c => (Cert.OddRowsIdeal.Gen.dats m 0 c).arrAt 5 Cert.OddRowsIdeal.cfg0.N, fun c => (Cert.OddRowsIdeal.Gen.dats m 0 c).arrAt 6 Cert.OddRowsIdeal.cfg0.N, fun c => (Cert.OddRowsIdeal.Gen.dats m 0 c).arrAt 7 Cert.OddRowsIdeal.cfg0.N,
    Cert.OddRowsIdeal.Value.run_blocks m g, ?_⟩
  refine (θ_run Cert.OddRowsReferenceIdeal.defs _ _).mono (fun r h c => ?_) (Cert.OddRowsReferenceIdeal.Value.run (F := Ideal) m' g')
  obtain ⟨e0, e1, e2, k⟩ := h c
  obtain ⟨a0, a1, a2, a3, a4⟩ := hargs c
  rw [Cert.OddRowsReferenceIdeal.Read.val_main_v38_eq, a0, a1, a2, a3, a4] at e0
  rw [Cert.OddRowsReferenceIdeal.Read.val_main_v39_eq, a0, a2, a3] at e1
  rw [Cert.OddRowsReferenceIdeal.Read.val_main_v40_eq, a0, a1, a2, a3, a4] at e2
  exact ⟨e0.trans ((Cert.OddRowsRefs.dx_ref _ _ _ _ _).trans (Cert.OddRows.result_rows m c).symm),
    e1.trans ((Cert.OddRowsRefs.dgain_ref _ _ _).trans (Cert.OddRows.result_gain m c).symm),
    e2.trans ((Cert.OddRowsRefs.twin_ref _ _ _ _ _).trans (Cert.OddRows.result_twin m c).symm), k⟩

/-- The reference for the odd layer's first weight ends with its arguments unchanged and every semaphore at zero (it has none). -/
theorem frame_odd_weight : Cert.quiescent_OddWeightReferenceIdeal := fun m ρ _ =>
  (θ_run Cert.OddWeightReferenceIdeal.defs _ _).mono (fun r h => ⟨fun c => (h c).2, sem_eq_zero_of_no_sems (by decide) r.2⟩)
    (Cert.OddWeightReferenceIdeal.Value.run (F := Ideal) m ρ)

/-- At exact arithmetic the gradient of the odd layer's first weight is the reference's. -/
theorem same_odd_weight : Cert.algebraic_OddWeightIdeal_OddWeightReferenceIdeal := by
  intro m g m' g' hm hargs
  refine ⟨fun c => (Cert.OddWeightIdeal.Gen.dats m 0 c).arrAt 2 Cert.OddWeightIdeal.cfg0.N,
    Cert.OddWeightIdeal.Value.run_blocks m g, ?_⟩
  refine (θ_run Cert.OddWeightReferenceIdeal.defs _ _).mono (fun r h c => ?_) (Cert.OddWeightReferenceIdeal.Value.run (F := Ideal) m' g')
  obtain ⟨e0, k⟩ := h c
  obtain ⟨a0, a1⟩ := hargs c
  rw [Cert.OddWeightReferenceIdeal.Read.val_main_v4_eq, a0, a1] at e0
  exact ⟨e0.trans ((Cert.OddGrads.ref _ _).trans (Cert.OddGrads.result m c).symm), k⟩

/-- The reference for the output weight ends with its arguments unchanged and every semaphore at zero (it has none). -/
theorem frame_out_weight : Cert.quiescent_OutWeightReferenceIdeal := fun m ρ _ =>
  (θ_run Cert.OutWeightReferenceIdeal.defs _ _).mono (fun r h => ⟨fun c => (h c).2, sem_eq_zero_of_no_sems (by decide) r.2⟩)
    (Cert.OutWeightReferenceIdeal.Value.run (F := Ideal) m ρ)

/-- At exact arithmetic the gradient of the output weight is the reference's. -/
theorem same_out_weight : Cert.algebraic_OutWeightIdeal_OutWeightReferenceIdeal := by
  intro m g m' g' hm hargs
  refine ⟨fun c => (Cert.OutWeightIdeal.Gen.dats m 0 c).arrAt 2 Cert.OutWeightIdeal.cfg0.N,
    Cert.OutWeightIdeal.Value.run_blocks m g, ?_⟩
  refine (θ_run Cert.OutWeightReferenceIdeal.defs _ _).mono (fun r h c => ?_) (Cert.OutWeightReferenceIdeal.Value.run (F := Ideal) m' g')
  obtain ⟨e0, k⟩ := h c
  obtain ⟨a0, a1⟩ := hargs c
  rw [Cert.OutWeightReferenceIdeal.Read.val_main_v4_eq, a0, a1] at e0
  exact ⟨e0.trans ((Cert.OutGrads.ref _ _).trans (Cert.OutGrads.result m c).symm), k⟩

/-- The reference for the mixed rows ends with its arguments unchanged and every semaphore at zero (it has none). -/
theorem frame_out_mix : Cert.quiescent_OutMixReferenceIdeal := fun m ρ _ =>
  (θ_run Cert.OutMixReferenceIdeal.defs _ _).mono (fun r h => ⟨fun c => (h c).2, sem_eq_zero_of_no_sems (by decide) r.2⟩)
    (Cert.OutMixReferenceIdeal.Value.run (F := Ideal) m ρ)

/-- At exact arithmetic the gradient of the mixed rows is the reference's. -/
theorem same_out_mix : Cert.algebraic_OutMixIdeal_OutMixReferenceIdeal := by
  intro m g m' g' hm hargs
  refine ⟨fun c => (Cert.OutMixIdeal.Gen.dats m 0 c).arrAt 2 Cert.OutMixIdeal.cfg0.N,
    Cert.OutMixIdeal.Value.run_blocks m g, ?_⟩
  refine (θ_run Cert.OutMixReferenceIdeal.defs _ _).mono (fun r h c => ?_) (Cert.OutMixReferenceIdeal.Value.run (F := Ideal) m' g')
  obtain ⟨e0, k⟩ := h c
  obtain ⟨a0, a1⟩ := hargs c
  rw [Cert.OutMixReferenceIdeal.Read.val_main_v2_eq, a0, a1] at e0
  exact ⟨e0.trans ((Cert.MixGrads.ref _ _).trans (Cert.MixGrads.result m c).symm), k⟩

/-- The reference for the output product ends with its arguments unchanged and every semaphore at zero (it has none). -/
theorem frame_out : Cert.quiescent_OutReferenceIdeal := fun m ρ _ =>
  (θ_run Cert.OutReferenceIdeal.defs _ _).mono (fun r h => ⟨fun c => (h c).2.2, sem_eq_zero_of_no_sems (by decide) r.2⟩)
    (Cert.OutReferenceIdeal.Value.run (F := Ideal) m ρ)

/-- At exact arithmetic the residual rows after the output product and their norm are the reference's. -/
theorem same_out : Cert.algebraic_OutIdeal_OutReferenceIdeal := by
  intro m g m' g' hm hargs
  refine ⟨fun c => (Cert.OutIdeal.Gen.dats m 0 c).arrAt 4 Cert.OutIdeal.cfg0.N, fun c => (Cert.OutIdeal.Gen.dats m 0 c).arrAt 5 Cert.OutIdeal.cfg0.N,
    Cert.OutIdeal.Value.run_blocks m g, ?_⟩
  refine (θ_run Cert.OutReferenceIdeal.defs _ _).mono (fun r h c => ?_) (Cert.OutReferenceIdeal.Value.run (F := Ideal) m' g')
  obtain ⟨e0, e1, k⟩ := h c
  obtain ⟨a0, a1, a2, a3⟩ := hargs c
  rw [Cert.OutReferenceIdeal.Read.val_main_v1_eq, a0, a1, a2] at e0
  rw [Cert.OutReferenceIdeal.Read.val_main_v15_eq, a0, a1, a2, a3] at e1
  exact ⟨e0.trans ((Cert.OutVals.sum_ref _ _ _).trans (Cert.OutVals.result_sum m c).symm),
    e1.trans ((Cert.OutVals.norm_ref _ _ _ _).trans (Cert.OutVals.result_norm m c).symm), k⟩

/-- The reference for the odd layer's mixed rows backward ends with its arguments unchanged and every semaphore at zero (it has none). -/
theorem frame_odd_mix : Cert.quiescent_OddMixReferenceIdeal := fun m ρ _ =>
  (θ_run Cert.OddMixReferenceIdeal.defs _ _).mono (fun r h => ⟨fun c => (h c).2, sem_eq_zero_of_no_sems (by decide) r.2⟩)
    (Cert.OddMixReferenceIdeal.Value.run (F := Ideal) m ρ)

/-- At exact arithmetic the gradient of the odd layer's mixed rows is the reference's. -/
theorem same_odd_mix : Cert.algebraic_OddMixIdeal_OddMixReferenceIdeal := by
  intro m g m' g' hm hargs
  refine ⟨fun c => (Cert.OddMixIdeal.Gen.dats m 0 c).arrAt 2 Cert.OddMixIdeal.cfg0.N,
    Cert.OddMixIdeal.Value.run_blocks m g, ?_⟩
  refine (θ_run Cert.OddMixReferenceIdeal.defs _ _).mono (fun r h c => ?_) (Cert.OddMixReferenceIdeal.Value.run (F := Ideal) m' g')
  obtain ⟨e0, k⟩ := h c
  obtain ⟨a0, a1⟩ := hargs c
  rw [Cert.OddMixReferenceIdeal.Read.val_main_v3_eq, a0, a1] at e0
  exact ⟨e0.trans ((Cert.OddMixGrads.ref _ _).trans (Cert.OddMixGrads.result m c).symm), k⟩

/-- The reference for the even layer's first product ends with its arguments unchanged and every semaphore at zero (it has none). -/
theorem frame_even_in : Cert.quiescent_EvenInReferenceIdeal := fun m ρ _ =>
  (θ_run Cert.EvenInReferenceIdeal.defs _ _).mono (fun r h => ⟨fun c => (h c).2.2, sem_eq_zero_of_no_sems (by decide) r.2⟩)
    (Cert.EvenInReferenceIdeal.Value.run (F := Ideal) m ρ)

/-- At exact arithmetic the even layer's first product and the norm it is taken of are the reference's. -/
theorem same_even_in : Cert.algebraic_EvenInIdeal_EvenInReferenceIdeal := by
  intro m g m' g' hm hargs
  refine ⟨fun c => (Cert.EvenInIdeal.Gen.dats m 0 c).arrAt 3 Cert.EvenInIdeal.cfg0.N, fun c => (Cert.EvenInIdeal.Gen.dats m 0 c).arrAt 4 Cert.EvenInIdeal.cfg0.N,
    Cert.EvenInIdeal.Value.run_blocks m g, ?_⟩
  refine (θ_run Cert.EvenInReferenceIdeal.defs _ _).mono (fun r h c => ?_) (Cert.EvenInReferenceIdeal.Value.run (F := Ideal) m' g')
  obtain ⟨e0, e1, k⟩ := h c
  obtain ⟨a0, a1, a2⟩ := hargs c
  rw [Cert.EvenInReferenceIdeal.Read.val_main_v13_eq, a0, a1, a2] at e0
  rw [Cert.EvenInReferenceIdeal.Read.val_main_v14_eq, a0, a1] at e1
  exact ⟨e0.trans ((Cert.EvenInVals.prod_ref _ _ _).trans (Cert.EvenInVals.result_prod m c).symm),
    e1.trans ((Cert.EvenInVals.norm_ref _ _).trans (Cert.EvenInVals.result_norm m c).symm), k⟩

/-- The reference for the odd layer's first product ends with its arguments unchanged and every semaphore at zero (it has none). -/
theorem frame_odd_in : Cert.quiescent_OddInReferenceIdeal := fun m ρ _ =>
  (θ_run Cert.OddInReferenceIdeal.defs _ _).mono (fun r h => ⟨fun c => (h c).2, sem_eq_zero_of_no_sems (by decide) r.2⟩)
    (Cert.OddInReferenceIdeal.Value.run (F := Ideal) m ρ)

/-- At exact arithmetic the odd layer's first product is the reference's. -/
theorem same_odd_in : Cert.algebraic_OddInIdeal_OddInReferenceIdeal := by
  intro m g m' g' hm hargs
  refine ⟨fun c => (Cert.OddInIdeal.Gen.dats m 0 c).arrAt 2 Cert.OddInIdeal.cfg0.N,
    Cert.OddInIdeal.Value.run_blocks m g, ?_⟩
  refine (θ_run Cert.OddInReferenceIdeal.defs _ _).mono (fun r h c => ?_) (Cert.OddInReferenceIdeal.Value.run (F := Ideal) m' g')
  obtain ⟨e0, k⟩ := h c
  obtain ⟨a0, a1⟩ := hargs c
  rw [Cert.OddInReferenceIdeal.Read.val_main_v1_eq, a0, a1] at e0
  exact ⟨e0.trans ((Cert.OddInVals.ref _ _).trans (Cert.OddInVals.result m c).symm), k⟩

/-- The reference for the last product and the loss ends with its arguments unchanged and every semaphore at zero (it has none). -/
theorem frame_loss : Cert.quiescent_LossReferenceIdeal := fun m ρ _ =>
  (θ_run Cert.LossReferenceIdeal.defs _ _).mono (fun r h => ⟨fun c => (h c).2.2.2, sem_eq_zero_of_no_sems (by decide) r.2⟩)
    (Cert.LossReferenceIdeal.Value.run (F := Ideal) m ρ)

/-- At exact arithmetic the gradient of the loss, the sum of squared errors and the gradient in the narrow format are the reference's. -/
theorem same_loss : Cert.algebraic_LossIdeal_LossReferenceIdeal := by
  intro m g m' g' hm hargs
  refine ⟨fun c => (Cert.LossIdeal.Gen.dats m 0 c).arrAt 4 Cert.LossIdeal.cfg0.N, fun c => (Cert.LossIdeal.Gen.dats m 0 c).arrAt 5 Cert.LossIdeal.cfg0.N, fun c => (Cert.LossIdeal.Gen.dats m 0 c).arrAt 6 Cert.LossIdeal.cfg0.N,
    Cert.LossIdeal.Value.run_blocks m g, ?_⟩
  refine (θ_run Cert.LossReferenceIdeal.defs _ _).mono (fun r h c => ?_) (Cert.LossReferenceIdeal.Value.run (F := Ideal) m' g')
  obtain ⟨e0, e1, e2, k⟩ := h c
  obtain ⟨a0, a1, a2, a3⟩ := hargs c
  rw [Cert.LossReferenceIdeal.Read.val_main_v16_eq, a0, a1, a2, a3] at e0
  rw [Cert.LossReferenceIdeal.Read.val_main_v20_eq, a0, a1, a2, a3] at e1
  rw [Cert.LossReferenceIdeal.Read.val_main_v21_eq, a0, a1, a2, a3] at e2
  exact ⟨e0.trans ((Cert.LossVals.dy_ref _ _ _ _).trans (Cert.LossVals.result_dy m c).symm),
    e1.trans ((Cert.LossVals.sq_ref _ _ _ _).trans (Cert.LossVals.result_sq m c).symm),
    e2.trans ((Cert.LossVals.narrow_ref _ _ _ _).trans (Cert.LossVals.result_narrow m c).symm), k⟩

/-- The reference for the attention's forward pass ends with its arguments unchanged and every semaphore at zero (it has none). -/
theorem frame_attention : Cert.quiescent_AttentionReferenceIdeal := fun m ρ _ =>
  (θ_run Cert.AttentionReferenceIdeal.defs _ _).mono (fun r h => ⟨fun c => (h c).2.2, sem_eq_zero_of_no_sems (by decide) r.2⟩)
    (Cert.AttentionReferenceIdeal.Value.run (F := Ideal) m ρ)

/-- The constants of the attention's forward pass that stand for exact numbers are named as the idealization says. -/
theorem constants_attention : Cert.preserves_Attention_AttentionIdeal :=
  ⟨IdealRules.named_const.statement Cert.AttentionIdeal.κ "mask" .f32 0xF149F2CA#32 ⊥ rfl,
    IdealRules.named_const.statement Cert.AttentionIdeal.κ "scale_log2e" .f32 0x3DD53B95#32 (((Real.sqrt 192)⁻¹ * (Real.log 2)⁻¹ : ℝ) : EReal) rfl,
    IdealRules.named_const.statement Cert.AttentionIdeal.κ "scale" .f32 0x3D93CD3A#32 (((Real.sqrt 192)⁻¹ : ℝ) : EReal) rfl⟩

/-- At exact arithmetic the attention's output and log-sums are the reference's, from finite queries and keys. -/
theorem same_attention : Cert.algebraic_AttentionIdeal_AttentionReferenceIdeal_pre_finite_scores := by
  intro m g m' g' hm hargs
  refine ⟨fun c => (Cert.AttentionIdeal.Gen.dats m 0 c).arrAt 3 Cert.AttentionIdeal.cfg0.N, fun c => (Cert.AttentionIdeal.Gen.dats m 0 c).arrAt 4 Cert.AttentionIdeal.cfg0.N,
    Cert.AttentionIdeal.Value.run_blocks m g, ?_⟩
  refine (θ_run Cert.AttentionReferenceIdeal.defs _ _).mono (fun r h c => ?_) (Cert.AttentionReferenceIdeal.Value.run (F := Ideal) m' g')
  obtain ⟨e0, e1, k⟩ := h c
  obtain ⟨a0, a1, a2, a3⟩ := hargs c
  obtain ⟨⟨qr, hq⟩, ⟨kr, hk⟩⟩ := Cert.Pre_finite_scores.Meaning.reals _ _ _ _ (hm c)
  rw [Cert.AttentionReferenceIdeal.Read.val_main_v33_eq, a0, a1, a2, a3] at e0
  rw [Cert.AttentionReferenceIdeal.Read.val_main_v25_eq, a0, a1] at e1
  exact ⟨e0.trans (Cert.AttnFwd.result_out m c qr kr hq hk).symm, e1.trans (Cert.AttnFwd.result_log m c qr kr hq hk).symm, k⟩

/-- Everything that is claimed. -/
theorem claim : Cert.Claim :=
  ⟨Cert.Kernel.Gen.facts, Cert.KernelIdeal.Gen.facts, Cert.ReferenceIdeal.Gen.facts, Cert.Weight.Gen.facts, Cert.WeightIdeal.Gen.facts,
    Cert.DownReferenceIdeal.Gen.facts, Cert.GateReferenceIdeal.Gen.facts, Cert.Act.Gen.facts, Cert.ActIdeal.Gen.facts, Cert.ActReferenceIdeal.Gen.facts,
    Cert.Rows.Gen.facts, Cert.RowsIdeal.Gen.facts, Cert.RowsReferenceIdeal.Gen.facts,
    Cert.Up.Gen.facts, Cert.UpIdeal.Gen.facts, Cert.UpReferenceIdeal.Gen.facts,
    Cert.Down.Gen.facts, Cert.DownIdeal.Gen.facts, Cert.ResidualReferenceIdeal.Gen.facts,
    Cert.InRows.Gen.facts, Cert.InRowsIdeal.Gen.facts, Cert.InRowsReferenceIdeal.Gen.facts,
    Cert.InWeight.Gen.facts, Cert.InWeightIdeal.Gen.facts, Cert.InWeightReferenceIdeal.Gen.facts,
    Cert.OddRows.Gen.facts, Cert.OddRowsIdeal.Gen.facts, Cert.OddRowsReferenceIdeal.Gen.facts,
    Cert.OddWeight.Gen.facts, Cert.OddWeightIdeal.Gen.facts, Cert.OddWeightReferenceIdeal.Gen.facts,
    Cert.OutWeight.Gen.facts, Cert.OutWeightIdeal.Gen.facts, Cert.OutWeightReferenceIdeal.Gen.facts,
    Cert.OutMix.Gen.facts, Cert.OutMixIdeal.Gen.facts, Cert.OutMixReferenceIdeal.Gen.facts,
    Cert.Out.Gen.facts, Cert.OutIdeal.Gen.facts, Cert.OutReferenceIdeal.Gen.facts,
    Cert.OddMix.Gen.facts, Cert.OddMixIdeal.Gen.facts, Cert.OddMixReferenceIdeal.Gen.facts,
    Cert.EvenIn.Gen.facts, Cert.EvenInIdeal.Gen.facts, Cert.EvenInReferenceIdeal.Gen.facts,
    Cert.OddIn.Gen.facts, Cert.OddInIdeal.Gen.facts, Cert.OddInReferenceIdeal.Gen.facts,
    Cert.Loss.Gen.facts, Cert.LossIdeal.Gen.facts, Cert.LossReferenceIdeal.Gen.facts,
    Cert.Attention.Gen.facts, Cert.AttentionIdeal.Gen.facts, Cert.AttentionReferenceIdeal.Gen.facts,
    Cert.Pre_finite.Gen.facts, Cert.Pre_finite_act.Gen.facts, Cert.Pre_finite_scores.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Weight.Gen.frame m ρ, fun m ρ _ => Cert.WeightIdeal.Gen.frame m ρ, frame_Down, frame_Gate,
    fun m ρ _ => Cert.Act.Gen.frame m ρ, fun m ρ _ => Cert.ActIdeal.Gen.frame m ρ, fun m ρ _ => Cert.ActIdeal.Gen.frame m ρ,
    frame_Act, fun m ρ _ => frame_Act m ρ trivial,
    fun m ρ _ => Cert.Rows.Gen.frame m ρ, fun m ρ _ => Cert.RowsIdeal.Gen.frame m ρ, frame_Rows,
    fun m ρ _ => Cert.Up.Gen.frame m ρ, fun m ρ _ => Cert.UpIdeal.Gen.frame m ρ, frame_up,
    fun m ρ _ => Cert.Down.Gen.frame m ρ, fun m ρ _ => Cert.DownIdeal.Gen.frame m ρ, frame_residual,
    fun m ρ _ => Cert.InRows.Gen.frame m ρ, fun m ρ _ => Cert.InRowsIdeal.Gen.frame m ρ, frame_in_rows,
    fun m ρ _ => Cert.InWeight.Gen.frame m ρ, fun m ρ _ => Cert.InWeightIdeal.Gen.frame m ρ, frame_in_weight,
    fun m ρ _ => Cert.OddRows.Gen.frame m ρ, fun m ρ _ => Cert.OddRowsIdeal.Gen.frame m ρ, frame_odd_rows,
    fun m ρ _ => Cert.OddWeight.Gen.frame m ρ, fun m ρ _ => Cert.OddWeightIdeal.Gen.frame m ρ, frame_odd_weight,
    fun m ρ _ => Cert.OutWeight.Gen.frame m ρ, fun m ρ _ => Cert.OutWeightIdeal.Gen.frame m ρ, frame_out_weight,
    fun m ρ _ => Cert.OutMix.Gen.frame m ρ, fun m ρ _ => Cert.OutMixIdeal.Gen.frame m ρ, frame_out_mix,
    fun m ρ _ => Cert.Out.Gen.frame m ρ, fun m ρ _ => Cert.OutIdeal.Gen.frame m ρ, frame_out,
    fun m ρ _ => Cert.OddMix.Gen.frame m ρ, fun m ρ _ => Cert.OddMixIdeal.Gen.frame m ρ, frame_odd_mix,
    fun m ρ _ => Cert.EvenIn.Gen.frame m ρ, fun m ρ _ => Cert.EvenInIdeal.Gen.frame m ρ, frame_even_in,
    fun m ρ _ => Cert.OddIn.Gen.frame m ρ, fun m ρ _ => Cert.OddInIdeal.Gen.frame m ρ, frame_odd_in,
    fun m ρ _ => Cert.Loss.Gen.frame m ρ, fun m ρ _ => Cert.LossIdeal.Gen.frame m ρ, frame_loss,
    fun m ρ _ => Cert.Attention.Gen.frame m ρ, fun m ρ _ => Cert.AttentionIdeal.Gen.frame m ρ, fun m ρ _ => Cert.AttentionIdeal.Gen.frame m ρ,
    frame_attention, fun m ρ _ => frame_attention m ρ trivial,
    constants, same_results, trivial, same_down, same_gate, trivial, same_act, trivial, same_rows,
    trivial, same_up,
    trivial, same_residual,
    trivial, same_in_rows,
    trivial, same_in_weight,
    trivial, same_odd_rows,
    trivial, same_odd_weight,
    trivial, same_out_weight,
    trivial, same_out_mix,
    trivial, same_out,
    trivial, same_odd_mix,
    trivial, same_even_in,
    trivial, same_odd_in,
    trivial, same_loss,
    constants_attention, same_attention⟩

end Cert.Proof

end
